-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_norm_args [hPre_finite_norm_args : Cert.Pre_finite_norm_args.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_norm_args.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).1 = (fun _ => 1#1)
    ∧ (Cert.Pre_finite_norm_args.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.1 = (fun _ => 1#1)
    ∧ (Cert.Pre_finite_norm_args.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_norm_args [hPre_finite_norm_args : Cert.Pre_finite_norm_args.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_norm_args.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).1 = (fun _ => 1#1)
    ∧ (Cert.Pre_finite_norm_args.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.1 = (fun _ => 1#1)
    ∧ (Cert.Pre_finite_norm_args.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_two_norm_args [hPre_finite_two_norm_args : Cert.Pre_finite_two_norm_args.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_two_norm_args.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).1 = (fun _ => 1#1)
    ∧ (Cert.Pre_finite_two_norm_args.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.1 = (fun _ => 1#1)
    ∧ (Cert.Pre_finite_two_norm_args.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.1 = (fun _ => 1#1)
    ∧ (Cert.Pre_finite_two_norm_args.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.1 = (fun _ => 1#1)
    ∧ (Cert.Pre_finite_two_norm_args.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.2.1 = (fun _ => 1#1)
    ∧ (Cert.Pre_finite_two_norm_args.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.2.2.1 = (fun _ => 1#1)
    ∧ (Cert.Pre_finite_two_norm_args.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_two_norm_args [hPre_finite_two_norm_args : Cert.Pre_finite_two_norm_args.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_two_norm_args.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).1 = (fun _ => 1#1)
    ∧ (Cert.Pre_finite_two_norm_args.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.1 = (fun _ => 1#1)
    ∧ (Cert.Pre_finite_two_norm_args.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.1 = (fun _ => 1#1)
    ∧ (Cert.Pre_finite_two_norm_args.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.1 = (fun _ => 1#1)
    ∧ (Cert.Pre_finite_two_norm_args.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.2.1 = (fun _ => 1#1)
    ∧ (Cert.Pre_finite_two_norm_args.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.2.2.1 = (fun _ => 1#1)
    ∧ (Cert.Pre_finite_two_norm_args.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite_norm_args [hKernel12Ideal : Cert.Kernel12Ideal.Facts] [hPre_finite_norm_args : Cert.Pre_finite_norm_args.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_norm_args m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite_norm_args [hReference12Ideal : Cert.Reference12Ideal.Facts] [hPre_finite_norm_args : Cert.Pre_finite_norm_args.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_norm_args m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Kernel13Ideal_pre_finite_two_norm_args [hKernel13Ideal : Cert.Kernel13Ideal.Facts] [hPre_finite_two_norm_args : Cert.Pre_finite_two_norm_args.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_two_norm_args m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Reference13Ideal_pre_finite_two_norm_args [hReference13Ideal : Cert.Reference13Ideal.Facts] [hPre_finite_two_norm_args : Cert.Pre_finite_two_norm_args.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_two_norm_args m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v69) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v13_0)) (v1 : (c : Dev Cert.Kernel9Ideal.nD) → Buf (Elt Ideal) ((c.tc : Thread Cert.Kernel9Ideal.nD Cert.Kernel9Ideal.τ).loc Cert.Kernel9Ideal.main_v13_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13_0) = v0 c
          ∧ r.2.mem ((c.tc : Thread Cert.Kernel9Ideal.nD Cert.Kernel9Ideal.τ).loc Cert.Kernel9Ideal.main_v13_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)) (v2 : (c : Dev Cert.Kernel11Ideal.nD) → Buf (Elt Ideal) ((c.tc : Thread Cert.Kernel11Ideal.nD Cert.Kernel11Ideal.τ).loc Cert.Kernel11Ideal.main_v9)) (v3 : (c : Dev Cert.Kernel11Ideal.nD) → Buf (Elt Ideal) ((c.tc : Thread Cert.Kernel11Ideal.nD Cert.Kernel11Ideal.τ).loc Cert.Kernel11Ideal.main_v8_3)) (v4 : (c : Dev Cert.Kernel11Ideal.nD) → Buf (Elt Ideal) ((c.tc : Thread Cert.Kernel11Ideal.nD Cert.Kernel11Ideal.τ).loc Cert.Kernel11Ideal.main_v8_4)) (v5 : (c : Dev Cert.Kernel11Ideal.nD) → Buf (Elt Ideal) ((c.tc : Thread Cert.Kernel11Ideal.nD Cert.Kernel11Ideal.τ).loc Cert.Kernel11Ideal.main_v8_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_v9) = v2 c
          ∧ r.2.mem ((c.tc : Thread Cert.Kernel11Ideal.nD Cert.Kernel11Ideal.τ).loc Cert.Kernel11Ideal.main_v8_3) = v3 c
          ∧ r.2.mem ((c.tc : Thread Cert.Kernel11Ideal.nD Cert.Kernel11Ideal.τ).loc Cert.Kernel11Ideal.main_v8_4) = v4 c
          ∧ r.2.mem ((c.tc : Thread Cert.Kernel11Ideal.nD Cert.Kernel11Ideal.τ).loc Cert.Kernel11Ideal.main_v8_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v43) = v0 c
          ∧ r.2.mem ((c.tc : Thread Cert.Reference11Ideal.nD Cert.Reference11Ideal.τ).loc Cert.Reference11Ideal.main_v44) = v1 c
          ∧ r.2.mem ((c.tc : Thread Cert.Reference11Ideal.nD Cert.Reference11Ideal.τ).loc Cert.Reference11Ideal.main_v47) = v2 c
          ∧ r.2.mem ((c.tc : Thread Cert.Reference11Ideal.nD Cert.Reference11Ideal.τ).loc Cert.Reference11Ideal.main_v49) = v3 c
          ∧ r.2.mem ((c.tc : Thread Cert.Reference11Ideal.nD Cert.Reference11Ideal.τ).loc Cert.Reference11Ideal.main_v62) = v4 c
          ∧ r.2.mem ((c.tc : Thread Cert.Reference11Ideal.nD Cert.Reference11Ideal.τ).loc Cert.Reference11Ideal.main_v75) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal_pre_finite_norm_args [hKernel12Ideal : Cert.Kernel12Ideal.Facts] [hReference12Ideal : Cert.Reference12Ideal.Facts] [hPre_finite_norm_args : Cert.Pre_finite_norm_args.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_norm_args m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_v35) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_pre_finite_two_norm_args [hKernel13Ideal : Cert.Kernel13Ideal.Facts] [hReference13Ideal : Cert.Reference13Ideal.Facts] [hPre_finite_two_norm_args : Cert.Pre_finite_two_norm_args.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_two_norm_args m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v73) = v0 c
          ∧ r.2.mem ((c.tc : Thread Cert.Reference13Ideal.nD Cert.Reference13Ideal.τ).loc Cert.Reference13Ideal.main_v75) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_args : Cert.Pre_finite_args.Facts) (hPre_finite_norm_args : Cert.Pre_finite_norm_args.Facts) (hPre_finite_two_norm_args : Cert.Pre_finite_two_norm_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_norm_args (hKernel12Ideal := hKernel12Ideal) (hPre_finite_norm_args := hPre_finite_norm_args)
    ∧ quiescent_Reference12Ideal (hReference12Ideal := hReference12Ideal)
    ∧ quiescent_Reference12Ideal_pre_finite_norm_args (hReference12Ideal := hReference12Ideal) (hPre_finite_norm_args := hPre_finite_norm_args)
    ∧ quiescent_Kernel13 (hKernel13 := hKernel13)
    ∧ quiescent_Kernel13Ideal (hKernel13Ideal := hKernel13Ideal)
    ∧ quiescent_Kernel13Ideal_pre_finite_two_norm_args (hKernel13Ideal := hKernel13Ideal) (hPre_finite_two_norm_args := hPre_finite_two_norm_args)
    ∧ quiescent_Reference13Ideal (hReference13Ideal := hReference13Ideal)
    ∧ quiescent_Reference13Ideal_pre_finite_two_norm_args (hReference13Ideal := hReference13Ideal) (hPre_finite_two_norm_args := hPre_finite_two_norm_args)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_norm_args (hKernel12Ideal := hKernel12Ideal) (hReference12Ideal := hReference12Ideal) (hPre_finite_norm_args := hPre_finite_norm_args)
    ∧ preserves_Kernel13_Kernel13Ideal
    ∧ algebraic_Kernel13Ideal_Reference13Ideal_pre_finite_two_norm_args (hKernel13Ideal := hKernel13Ideal) (hReference13Ideal := hReference13Ideal) (hPre_finite_two_norm_args := hPre_finite_two_norm_args)
-- ==== Pre_finite_args.lean ====
abbrev S4096x5632 : Shape := ⟨2, ![4096, 5632]⟩
abbrev S5632 : Shape := ⟨1, ![5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  bcast_S_S5632 : S_.BroadcastsInDim S5632 (![] : Fin 0 → Fin S5632.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S5632 .f32) (main_arg2 : FVec F S2816x1024 .f32) (main_arg3 : FVec F S4096x1024 .f32) : IVec S4096x5632 1 × IVec S5632 1 × IVec S2816x1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S5632 .f32 := Host.absf main_arg1
  let main_cst_0 : FVec F S_ .f32 := constant S_ .f32 0x7F800000#32
  let main_v4 : FVec F S5632 .f32 := broadcastInDim S5632 ![] bcast_S_S5632 main_cst_0
  let main_v5 : IVec S5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_norm_args.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1x1024 .f32) (main_arg2 : FVec F S4096x1024 .f32) (main_arg3 : FVec F S4096x1024 .f32) : IVec S4096x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_two_norm_args.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn_part1 {F : FTy → Type} [FloatOps F] (main_arg7 : FVec F S1024x1024 .f32) (main_v2 : IVec S4096x1024 1) (main_v5 : IVec S1x1024 1) (main_v8 : IVec S1x1024 1) (main_v11 : IVec S4096x1024 1) (main_v14 : IVec S4096x1024 1) (main_v17 : IVec S1024x1024 1) : IVec S4096x1024 1 × IVec S1x1024 1 × IVec S1x1024 1 × IVec S4096x1024 1 × IVec S4096x1024 1 × IVec S1024x1024 1 × IVec S1024x1024 1 :=
  let main_v18 : FVec F S1024x1024 .f32 := Host.absf main_arg7
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S4096x1024 .f32) (main_arg1 : FVec F S1x1024 .f32) (main_arg2 : FVec F S1x1024 .f32) (main_arg3 : FVec F S4096x1024 .f32) (main_arg4 : FVec F S4096x1024 .f32) (main_arg5 : FVec F S4096x1024 .f32) (main_arg6 : FVec F S1024x1024 .f32) (main_arg7 : FVec F S1024x1024 .f32) : IVec S4096x1024 1 × IVec S1x1024 1 × IVec S1x1024 1 × IVec S4096x1024 1 × IVec S4096x1024 1 × IVec S1024x1024 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1024x1024 .f32 := Host.absf main_arg6
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg7 main_v2 main_v5 main_v8 main_v11 main_v14 main_v17
-- ==== Kernel.lean ====
abbrev S4096x5632 : Shape := ⟨2, ![4096, 5632]⟩
abbrev S5632 : Shape := ⟨1, ![5632]⟩
abbrev S2816x1024 : Shape := ⟨2, ![2816, 1024]⟩
abbrev S4096x1024 : Shape := ⟨2, ![4096, 1024]⟩
abbrev S1x5632 : Shape := ⟨2, ![1, 5632]⟩
abbrev S4096x2x4x704 : Shape := ⟨4, ![4096, 2, 4, 704]⟩
abbrev S2x4x4096x704 : Shape := ⟨4, ![2, 4, 4096, 704]⟩
abbrev S4x2x4096x704 : Shape := ⟨4, ![4, 2, 4096, 704]⟩
abbrev S4x2x8x704 : Shape := ⟨4, ![4, 2, 8, 704]⟩
abbrev S2x1x1024x704 : Shape := ⟨4, ![2, 1, 1024, 704]⟩
abbrev S704x1024 : Shape := ⟨2, ![704, 1024]⟩
abbrev S1024x1024 : Shape := ⟨2, ![1024, 1024]⟩
abbrev S1x2x1024x704 : Shape := ⟨4, ![1, 2, 1024, 704]⟩
abbrev S1x2x8x704 : Shape := ⟨4, ![1, 2, 8, 704]⟩
abbrev S2x8x704 : Shape := ⟨3, ![2, 8, 704]⟩
abbrev S1x1x1024x704 : Shape := ⟨4, ![1, 1, 1024, 704]⟩
abbrev S1024x704 : Shape := ⟨2, ![1024, 704]⟩
abbrev S1x1x1x704 : Shape := ⟨4, ![1, 1, 1, 704]⟩
abbrev S1x704 : Shape := ⟨2, ![1, 704]⟩
abbrev S704 : Shape := ⟨1, ![704]⟩

abbrev nBuf : Space → Nat
  | .hbm => 13
  | .vmem => 12
  | .smem => 0
  | _ => 0

abbrev bufTy : (tb : Table) → Fin (tcTables nBuf tb) → BufTy
  | .hbm, ⟨0, _⟩ => ⟨S4096x5632, .f32⟩
  | .hbm, ⟨1, _⟩ => ⟨S5632, .f32⟩
  | .hbm, ⟨2, _⟩ => ⟨S2816x1024, .f32⟩
  | .hbm, ⟨3, _⟩ => ⟨S4096x1024, .f32⟩
  | .hbm, ⟨4, _⟩ => ⟨S1x5632, .f32⟩
  | .hbm, ⟨5, _⟩ => ⟨S4096x5632, .f32⟩
  | .hbm, ⟨6, _⟩ => ⟨S4096x5632, .f32⟩
  | .hbm, ⟨7, _⟩ => ⟨S4096x2x4x704, .f32⟩
  | .hbm, ⟨8, _⟩ => ⟨S2x4x4096x704, .f32⟩
  | .hbm, ⟨9, _⟩ => ⟨S2816x1024, .bf16⟩
  | .hbm, ⟨10, _⟩ => ⟨S4x2x4096x704, .bf16⟩
  | .hbm, ⟨11, _⟩ => ⟨S2816x1024, .f32⟩
  | .hbm, ⟨12, _⟩ => ⟨S4x2x8x704, .f32⟩
  | .local _ .vmem, ⟨0, _⟩ => ⟨S2x1x1024x704, .f32⟩
  | .local _ .vmem, ⟨1, _⟩ => ⟨S2x1x1024x704, .f32⟩
  | .local _ .vmem, ⟨2, _⟩ => ⟨S704x1024, .bf16⟩
  | .local _ .vmem, ⟨3, _⟩ => ⟨S704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x2x1024x704, .bf16⟩
  | .local _ .vmem, ⟨7, _⟩ => ⟨S1x2x1024x704, .bf16⟩
  | .local _ .vmem, ⟨8, _⟩ => ⟨S704x1024, .f32⟩
  | .local _ .vmem, ⟨9, _⟩ => ⟨S704x1024, .f32⟩
  | .local _ .vmem, ⟨10, _⟩ => ⟨S1x2x8x704, .f32⟩
  | .local _ .vmem, ⟨11, _⟩ => ⟨S1x2x8x704, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x1x1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x8x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4096x5632 : Shape := ⟨2, ![4096, 5632]⟩
abbrev S5632 : Shape := ⟨1, ![5632]⟩
abbrev S2816x1024 : Shape := ⟨2, ![2816, 1024]⟩
abbrev S4096x1024 : Shape := ⟨2, ![4096, 1024]⟩
abbrev S1x5632 : Shape := ⟨2, ![1, 5632]⟩
abbrev S4096x2816 : Shape := ⟨2, ![4096, 2816]⟩
abbrev S_ : Shape := ⟨0, ![]⟩
abbrev S1024x2816 : Shape := ⟨2, ![1024, 2816]⟩
abbrev S4096x2x4x704 : Shape := ⟨4, ![4096, 2, 4, 704]⟩
abbrev S4x2x4096x704 : Shape := ⟨4, ![4, 2, 4096, 704]⟩
abbrev S2x4x704 : Shape := ⟨3, ![2, 4, 704]⟩
abbrev S4x2x704 : Shape := ⟨3, ![4, 2, 704]⟩
abbrev S4x2x1x704 : Shape := ⟨4, ![4, 2, 1, 704]⟩
abbrev S4x2x8x704 : Shape := ⟨4, ![4, 2, 8, 704]⟩

abbrev nBuf : Space → Nat
  | .hbm => 48
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632, .f32⟩
  | .hbm, ⟨2, _⟩ => ⟨S2816x1024, .f32⟩
  | .hbm, ⟨3, _⟩ => ⟨S4096x1024, .f32⟩
  | .hbm, ⟨4, _⟩ => ⟨S1x5632, .f32⟩
  | .hbm, ⟨5, _⟩ => ⟨S4096x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S1024x2816, .f32⟩
  | .hbm, ⟨25, _⟩ => ⟨S2816x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x5632, .f32⟩
  | .hbm, ⟨34, _⟩ => ⟨S_, .f32⟩
  | .hbm, ⟨35, _⟩ => ⟨S5632, .f32⟩
  | .hbm, ⟨36, _⟩ => ⟨S1x5632, .f32⟩
  | .hbm, ⟨37, _⟩ => ⟨S_, .f32⟩
  | .hbm, ⟨38, _⟩ => ⟨S5632, .f32⟩
  | .hbm, ⟨39, _⟩ => ⟨S4096x2x4x704, .f32⟩
  | .hbm, ⟨40, _⟩ => ⟨S4x2x4096x704, .f32⟩
  | .hbm, ⟨41, _⟩ => ⟨S4x2x4096x704, .bf16⟩
  | .hbm, ⟨42, _⟩ => ⟨S2x4x704, .f32⟩
  | .hbm, ⟨43, _⟩ => ⟨S4x2x704, .f32⟩
  | .hbm, ⟨44, _⟩ => ⟨S4x2x1x704, .f32⟩
  | .hbm, ⟨45, _⟩ => ⟨S_, .i32⟩
  | .hbm, ⟨46, _⟩ => ⟨S_, .f32⟩
  | .hbm, ⟨47, _⟩ => ⟨S4x2x8x704, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c : Ref sig .tc := ⟨.hbm, 45, rfl⟩
abbrev main_call2_v0 : Ref sig .tc := ⟨.hbm, 46, rfl⟩
abbrev main_v24 : Ref sig .tc := ⟨.hbm, 47, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S3x5632 : Shape := ⟨2, ![3, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S4096x2x4x704 : Shape := ⟨4, ![4096, 2, 4, 704]⟩
abbrev S4x2x4096x704 : Shape := ⟨4, ![4, 2, 4096, 704]⟩
abbrev S3x8x704 : Shape := ⟨3, ![3, 8, 704]⟩
abbrev S8x3x704 : Shape := ⟨3, ![8, 3, 704]⟩
abbrev S_ : Shape := ⟨0, ![]⟩
abbrev S8x8x704 : Shape := ⟨3, ![8, 8, 704]⟩
abbrev S1024x8x704 : Shape := ⟨3, ![1024, 8, 704]⟩
abbrev S8x1024x704 : Shape := ⟨3, ![8, 1024, 704]⟩
abbrev S1x1x2048x704 : Shape := ⟨4, ![1, 1, 2048, 704]⟩
abbrev S1x1x16x704 : Shape := ⟨4, ![1, 1, 16, 704]⟩
abbrev S1x2048x704 : Shape := ⟨3, ![1, 2048, 704]⟩
abbrev S1x8x704 : Shape := ⟨3, ![1, 8, 704]⟩
abbrev S1x1024x704 : Shape := ⟨3, ![1, 1024, 704]⟩
abbrev S2048x1024 : Shape := ⟨2, ![2048, 1024]⟩
abbrev S8x704 : Shape := ⟨2, ![8, 704]⟩
abbrev S1x1x272x704 : Shape := ⟨4, ![1, 1, 272, 704]⟩
abbrev S272x704 : Shape := ⟨2, ![272, 704]⟩
abbrev S256x704 : Shape := ⟨2, ![256, 704]⟩
abbrev S1x704 : Shape := ⟨2, ![1, 704]⟩
abbrev S1x256x704 : Shape := ⟨3, ![1, 256, 704]⟩
abbrev S256x1024 : Shape := ⟨2, ![256, 1024]⟩
abbrev S1024x704 : Shape := ⟨2, ![1024, 704]⟩
abbrev S704 : Shape := ⟨1, ![704]⟩
abbrev S1x1x256x704 : Shape := ⟨4, ![1, 1, 256, 704]⟩
abbrev S16x704 : Shape := ⟨2, ![16, 704]⟩
abbrev S1x1x704 : Shape := ⟨3, ![1, 1, 704]⟩

abbrev nBuf : Space → Nat
  | .hbm => 22
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S4096x5632, .f32⟩
  | .hbm, ⟨4, _⟩ => ⟨S4096x5632, .f32⟩
  | .hbm, ⟨5, _⟩ => ⟨S4096x8x704, .f32⟩
  | .hbm, ⟨6, _⟩ => ⟨S8x4096x704, .f32⟩
  | .hbm, ⟨7, _⟩ => ⟨S8x4096x704, .bf16⟩
  | .hbm, ⟨8, _⟩ => ⟨S4096x2x4x704, .f32⟩
  | .hbm, ⟨9, _⟩ => ⟨S4x2x4096x704, .f32⟩
  | .hbm, ⟨10, _⟩ => ⟨S4x2x4096x704, .bf16⟩
  | .hbm, ⟨11, _⟩ => ⟨S3x8x704, .f32⟩
  | .hbm, ⟨12, _⟩ => ⟨S8x3x704, .f32⟩
  | .hbm, ⟨13, _⟩ => ⟨S_, .i32⟩
  | .hbm, ⟨14, _⟩ => ⟨S_, .f32⟩
  | .hbm, ⟨15, _⟩ => ⟨S8x8x704, .f32⟩
  | .hbm, ⟨16, _⟩ => ⟨S1024x8x704, .f32⟩
  | .hbm, ⟨17, _⟩ => ⟨S8x1024x704, .f32⟩
  | .hbm, ⟨18, _⟩ => ⟨S8x1024x704, .bf16⟩
  | .hbm, ⟨19, _⟩ => ⟨S8x4096x704, .bf16⟩
  | .hbm, ⟨20, _⟩ => ⟨S4096x1024, .f32⟩
  | .hbm, ⟨21, _⟩ => ⟨S8x8x704, .f32⟩
  | .local _ .vmem, ⟨0, _⟩ => ⟨S1x1x2048x704, .bf16⟩
  | .local _ .vmem, ⟨1, _⟩ => ⟨S1x1x2048x704, .bf16⟩
  | .local _ .vmem, ⟨2, _⟩ => ⟨S1x1x16x704, .bf16⟩
  | .local _ .vmem, ⟨3, _⟩ => ⟨S1x1x16x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x8x704, .f32⟩
  | .local _ .vmem, ⟨7, _⟩ => ⟨S1x8x704, .f32⟩
  | .local _ .vmem, ⟨8, _⟩ => ⟨S1x1024x704, .bf16⟩
  | .local _ .vmem, ⟨9, _⟩ => ⟨S1x1024x704, .bf16⟩
  | .local _ .vmem, ⟨10, _⟩ => ⟨S1x2048x704, .bf16⟩
  | .local _ .vmem, ⟨11, _⟩ => ⟨S1x2048x704, .bf16⟩
  | .local _ .vmem, ⟨12, _⟩ => ⟨S2048x1024, .f32⟩
  | .local _ .vmem, ⟨13, _⟩ => ⟨S2048x1024, .f32⟩
  | .local _ .vmem, ⟨14, _⟩ => ⟨S8x8x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![2, 8], ![false, false]⟩

def k0_off1 (i : grid0.Coords) : Fin 3 → Nat :=
  let arg1 : BitVec 32 := BitVec.ofNat 32 (i 1).val
  let v375 : Index := Scalar.indexCast arg1
  let c0_186 : Index := 0#32
  let c0_187 : Index := 0#32
  ![v375.toNat, 0, 0]
def k0_off2 (i : grid0.Coords) : Fin 3 → Nat :=
  let arg1 : BitVec 32 := BitVec.ofNat 32 (i 1).val
  let v382 : Index := Scalar.indexCast arg1
  let c1 : Index := 1#32
  let c0_190 : Index := 0#32
  ![v382.toNat, 1, 0]
def k0_off3 (i : grid0.Coords) : Fin 3 → Nat :=
  let arg1 : BitVec 32 := BitVec.ofNat 32 (i 1).val
  let v389 : Index := Scalar.indexCast arg1
  let c2 : Index := 2#32
  let c0_193 : Index := 0#32
  ![v389.toNat, 2, 0]
def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg0.toNat, c0_i32_10.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi arg0 c1_i32_10
  let c128_i32 : BitVec 32 := 128#32
  let v28 : BitVec 32 := Scalar.muli v27 c128_i32
  let c255_i32 : BitVec 32 := 255#32
  let v29 : BitVec 32 := Scalar.minsi v28 c255_i32
  let c0_i32_11 : BitVec 32 := 0#32
  let c0_i32_12 : BitVec 32 := 0#32
  ![v9.toNat, v26.toNat, v29.toNat, c0_i32_11.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x8x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S4096x1024 : Shape := ⟨2, ![4096, 1024]⟩
abbrev S1024x5632 : Shape := ⟨2, ![1024, 5632]⟩
abbrev S3x5632 : Shape := ⟨2, ![3, 5632]⟩
abbrev S4096x5632 : Shape := ⟨2, ![4096, 5632]⟩
abbrev S_ : Shape := ⟨0, ![]⟩
abbrev S1x5632 : Shape := ⟨2, ![1, 5632]⟩
abbrev S4095x5632 : Shape := ⟨2, ![4095, 5632]⟩
abbrev S4094x5632 : Shape := ⟨2, ![4094, 5632]⟩
abbrev S5632 : Shape := ⟨1, ![5632]⟩
abbrev S4096x8x704 : Shape := ⟨3, ![4096, 8, 704]⟩
abbrev S8x4096x704 : Shape := ⟨3, ![8, 4096, 704]⟩
abbrev S3x8x704 : Shape := ⟨3, ![3, 8, 704]⟩
abbrev S8x3x704 : Shape := ⟨3, ![8, 3, 704]⟩
abbrev S8x8x704 : Shape := ⟨3, ![8, 8, 704]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S4096x5632, .f32⟩
  | .hbm, ⟨4, _⟩ => ⟨S4096x5632, .f32⟩
  | .hbm, ⟨5, _⟩ => ⟨S_, .f32⟩
  | .hbm, ⟨6, _⟩ => ⟨S1x5632, .f32⟩
  | .hbm, ⟨7, _⟩ => ⟨S4095x5632, .f32⟩
  | .hbm, ⟨8, _⟩ => ⟨S4096x5632, .f32⟩
  | .hbm, ⟨9, _⟩ => ⟨S_, .f32⟩
  | .hbm, ⟨10, _⟩ => ⟨S1x5632, .f32⟩
  | .hbm, ⟨11, _⟩ => ⟨S4094x5632, .f32⟩
  | .hbm, ⟨12, _⟩ => ⟨S4096x5632, .f32⟩
  | .hbm, ⟨13, _⟩ => ⟨S_, .f32⟩
  | .hbm, ⟨14, _⟩ => ⟨S1x5632, .f32⟩
  | .hbm, ⟨15, _⟩ => ⟨S_, .f32⟩
  | .hbm, ⟨16, _⟩ => ⟨S1x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S5632, .f32⟩
  | .hbm, ⟨41, _⟩ => ⟨S1x5632, .f32⟩
  | .hbm, ⟨42, _⟩ => ⟨S_, .f32⟩
  | .hbm, ⟨43, _⟩ => ⟨S5632, .f32⟩
  | .hbm, ⟨44, _⟩ => ⟨S1x5632, .f32⟩
  | .hbm, ⟨45, _⟩ => ⟨S_, .f32⟩
  | .hbm, ⟨46, _⟩ => ⟨S3x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S_, .f32⟩
  | .hbm, ⟨51, _⟩ => ⟨S5632, .f32⟩
  | .hbm, ⟨52, _⟩ => ⟨S1x5632, .f32⟩
  | .hbm, ⟨53, _⟩ => ⟨S_, .f32⟩
  | .hbm, ⟨54, _⟩ => ⟨S5632, .f32⟩
  | .hbm, ⟨55, _⟩ => ⟨S1x5632, .f32⟩
  | .hbm, ⟨56, _⟩ => ⟨S_, .f32⟩
  | .hbm, ⟨57, _⟩ => ⟨S3x5632, .f32⟩
  | .hbm, ⟨58, _⟩ => ⟨S3x5632, .f32⟩
  | .hbm, ⟨59, _⟩ => ⟨S4096x5632, .f32⟩
  | .hbm, ⟨60, _⟩ => ⟨S4096x5632, .f32⟩
  | .hbm, ⟨61, _⟩ => ⟨S4096x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S_, .f32⟩
  | .hbm, ⟨69, _⟩ => ⟨S3x5632, .f32⟩
  | .hbm, ⟨70, _⟩ => ⟨S3x5632, .f32⟩
  | .hbm, ⟨71, _⟩ => ⟨S1x5632, .f32⟩
  | .hbm, ⟨72, _⟩ => ⟨S1x5632, .f32⟩
  | .hbm, ⟨73, _⟩ => ⟨S4094x5632, .f32⟩
  | .hbm, ⟨74, _⟩ => ⟨S_, .f32⟩
  | .hbm, ⟨75, _⟩ => ⟨S4096x5632, .f32⟩
  | .hbm, ⟨76, _⟩ => ⟨S4096x5632, .f32⟩
  | .hbm, ⟨77, _⟩ => ⟨S1x5632, .f32⟩
  | .hbm, ⟨78, _⟩ => ⟨S4095x5632, .f32⟩
  | .hbm, ⟨79, _⟩ => ⟨S_, .f32⟩
  | .hbm, ⟨80, _⟩ => ⟨S4096x5632, .f32⟩
  | .hbm, ⟨81, _⟩ => ⟨S4096x5632, .f32⟩
  | .hbm, ⟨82, _⟩ => ⟨S4096x1024, .f32⟩
  | .hbm, ⟨83, _⟩ => ⟨S4096x8x704, .f32⟩
  | .hbm, ⟨84, _⟩ => ⟨S8x4096x704, .f32⟩
  | .hbm, ⟨85, _⟩ => ⟨S8x4096x704, .bf16⟩
  | .hbm, ⟨86, _⟩ => ⟨S3x8x704, .f32⟩
  | .hbm, ⟨87, _⟩ => ⟨S8x3x704, .f32⟩
  | .hbm, ⟨88, _⟩ => ⟨S_, .i32⟩
  | .hbm, ⟨89, _⟩ => ⟨S_, .f32⟩
  | .hbm, ⟨90, _⟩ => ⟨S8x8x704, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c : Ref sig .tc := ⟨.hbm, 88, rfl⟩
abbrev main_call0_v0 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x8x704, .f32⟩
  | .hbm, ⟨3, _⟩ => ⟨S8x4096x704, .f32⟩
  | .hbm, ⟨4, _⟩ => ⟨S4096x1024, .bf16⟩
  | .hbm, ⟨5, _⟩ => ⟨S8x4096x704, .bf16⟩
  | .hbm, ⟨6, _⟩ => ⟨S8x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .f32⟩
  | .local _ .vmem, ⟨4, _⟩ => ⟨S1x704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x704x1024 : Shape := ⟨3, ![8, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x8x704, .f32⟩
  | .hbm, ⟨8, _⟩ => ⟨S8x704x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .local _ .vmem, ⟨0, _⟩ => ⟨S4096x1024, .bf16⟩
  | .local _ .vmem, ⟨1, _⟩ => ⟨S4096x256, .f32⟩
  | .local _ .vmem, ⟨2, _⟩ => ⟨S4096x256, .f32⟩
  | .local _ .vmem, ⟨3, _⟩ => ⟨S1024x256, .f32⟩
  | .local _ .vmem, ⟨4, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference6Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1024x2048, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference7Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S4096x1024 : Shape := ⟨2, ![4096, 1024]⟩
abbrev S4096x2048 : Shape := ⟨2, ![4096, 2048]⟩
abbrev S8x1024x256 : Shape := ⟨3, ![8, 1024, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S8x1024x256, .f32⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .f32⟩
  | .local _ .vmem, ⟨4, _⟩ => ⟨S1x1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference8Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S1024x512 : Shape := ⟨2, ![1024, 512]⟩
abbrev S1024x1024 : Shape := ⟨2, ![1024, 1024]⟩
abbrev S1024x256 : Shape := ⟨2, ![1024, 256]⟩
abbrev S1024x4x1x64 : Shape := ⟨4, ![1024, 4, 1, 64]⟩
abbrev S1024x4x2x64 : Shape := ⟨4, ![1024, 4, 2, 64]⟩

abbrev nBuf : Space → Nat
  | .hbm => 19
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x1024, .f32⟩
  | .hbm, ⟨3, _⟩ => ⟨S1024x1024, .f32⟩
  | .hbm, ⟨4, _⟩ => ⟨S1024x512, .bf16⟩
  | .hbm, ⟨5, _⟩ => ⟨S1024x256, .bf16⟩
  | .hbm, ⟨6, _⟩ => ⟨S1024x4x1x64, .bf16⟩
  | .hbm, ⟨7, _⟩ => ⟨S1024x4x2x64, .bf16⟩
  | .hbm, ⟨8, _⟩ => ⟨S1024x512, .bf16⟩
  | .hbm, ⟨9, _⟩ => ⟨S1024x256, .bf16⟩
  | .hbm, ⟨10, _⟩ => ⟨S1024x4x1x64, .bf16⟩
  | .hbm, ⟨11, _⟩ => ⟨S1024x4x2x64, .bf16⟩
  | .hbm, ⟨12, _⟩ => ⟨S1024x512, .bf16⟩
  | .hbm, ⟨13, _⟩ => ⟨S1024x1024, .bf16⟩
  | .hbm, ⟨14, _⟩ => ⟨S4096x1024, .bf16⟩
  | .hbm, ⟨15, _⟩ => ⟨S4096x1024, .bf16⟩
  | .hbm, ⟨16, _⟩ => ⟨S1024x1024, .bf16⟩
  | .hbm, ⟨17, _⟩ => ⟨S4096x1024, .f32⟩
  | .hbm, ⟨18, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S4096x1024 : Shape := ⟨2, ![4096, 1024]⟩
abbrev S1024x512 : Shape := ⟨2, ![1024, 512]⟩
abbrev S1024x1024 : Shape := ⟨2, ![1024, 1024]⟩
abbrev S4096x512 : Shape := ⟨2, ![4096, 512]⟩
abbrev S4096x8x1x64 : Shape := ⟨4, ![4096, 8, 1, 64]⟩
abbrev S4096x8x2x64 : Shape := ⟨4, ![4096, 8, 2, 64]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x1024, .f32⟩
  | .hbm, ⟨3, _⟩ => ⟨S1024x1024, .f32⟩
  | .hbm, ⟨4, _⟩ => ⟨S4096x512, .f32⟩
  | .hbm, ⟨5, _⟩ => ⟨S4096x8x1x64, .f32⟩
  | .hbm, ⟨6, _⟩ => ⟨S4096x8x2x64, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference10Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩
abbrev S_ : Shape := ⟨0, ![]⟩
abbrev S8x8x704 : Shape := ⟨3, ![8, 8, 704]⟩
abbrev S8x1x704 : Shape := ⟨3, ![8, 1, 704]⟩
abbrev S2x4x4096x704 : Shape := ⟨4, ![2, 4, 4096, 704]⟩
abbrev S512x1024 : Shape := ⟨2, ![512, 1024]⟩
abbrev S16x1024 : Shape := ⟨2, ![16, 1024]⟩
abbrev S1x1024x704 : Shape := ⟨3, ![1, 1024, 704]⟩
abbrev S1x8x704 : Shape := ⟨3, ![1, 8, 704]⟩
abbrev S1x1x704 : Shape := ⟨3, ![1, 1, 704]⟩
abbrev S704x1024 : Shape := ⟨2, ![704, 1024]⟩
abbrev S2x1x512x704 : Shape := ⟨4, ![2, 1, 512, 704]⟩
abbrev S528x1024 : Shape := ⟨2, ![528, 1024]⟩
abbrev S528 : Shape := ⟨1, ![528]⟩
abbrev S528x1 : Shape := ⟨2, ![528, 1]⟩
abbrev S1024x704 : Shape := ⟨2, ![1024, 704]⟩
abbrev S528x704 : Shape := ⟨2, ![528, 704]⟩
abbrev S512x704 : Shape := ⟨2, ![512, 704]⟩
abbrev S1x1x512x704 : Shape := ⟨4, ![1, 1, 512, 704]⟩
abbrev S8x704 : Shape := ⟨2, ![8, 704]⟩
abbrev S1x704 : Shape := ⟨2, ![1, 704]⟩
abbrev S512 : Shape := ⟨1, ![512]⟩
abbrev S512x1 : Shape := ⟨2, ![512, 1]⟩
abbrev S8x4096x704 : Shape := ⟨3, ![8, 4096, 704]⟩

abbrev nBuf : Space → Nat
  | .hbm => 25
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S1024x8x704, .f32⟩
  | .hbm, ⟨9, _⟩ => ⟨S8x1024x704, .f32⟩
  | .hbm, ⟨10, _⟩ => ⟨S8x1024x704, .bf16⟩
  | .hbm, ⟨11, _⟩ => ⟨S3x8x704, .f32⟩
  | .hbm, ⟨12, _⟩ => ⟨S8x3x704, .f32⟩
  | .hbm, ⟨13, _⟩ => ⟨S_, .i32⟩
  | .hbm, ⟨14, _⟩ => ⟨S_, .f32⟩
  | .hbm, ⟨15, _⟩ => ⟨S8x8x704, .f32⟩
  | .hbm, ⟨16, _⟩ => ⟨S8x1x704, .f32⟩
  | .hbm, ⟨17, _⟩ => ⟨S2816x1024, .bf16⟩
  | .hbm, ⟨18, _⟩ => ⟨S4096x1024, .f32⟩
  | .hbm, ⟨19, _⟩ => ⟨S4096x1024, .bf16⟩
  | .hbm, ⟨20, _⟩ => ⟨S2x4x4096x704, .bf16⟩
  | .hbm, ⟨21, _⟩ => ⟨S2x4x4096x704, .f32⟩
  | .hbm, ⟨22, _⟩ => ⟨S4096x1024, .bf16⟩
  | .hbm, ⟨23, _⟩ => ⟨S4096x1024, .bf16⟩
  | .hbm, ⟨24, _⟩ => ⟨S8x4096x704, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x8x704, .f32⟩
  | .local _ .vmem, ⟨10, _⟩ => ⟨S1x8x704, .f32⟩
  | .local _ .vmem, ⟨11, _⟩ => ⟨S1x1x704, .f32⟩
  | .local _ .vmem, ⟨12, _⟩ => ⟨S1x1x704, .f32⟩
  | .local _ .vmem, ⟨13, _⟩ => ⟨S1x8x704, .f32⟩
  | .local _ .vmem, ⟨14, _⟩ => ⟨S1x8x704, .f32⟩
  | .local _ .vmem, ⟨15, _⟩ => ⟨S1x1x704, .f32⟩
  | .local _ .vmem, ⟨16, _⟩ => ⟨S1x1x704, .f32⟩
  | .local _ .vmem, ⟨17, _⟩ => ⟨S704x1024, .bf16⟩
  | .local _ .vmem, ⟨18, _⟩ => ⟨S704x1024, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S2x1x512x704, .bf16⟩
  | .local _ .vmem, ⟨26, _⟩ => ⟨S2x1x512x704, .bf16⟩
  | .local _ .vmem, ⟨27, _⟩ => ⟨S2x1x512x704, .f32⟩
  | .local _ .vmem, ⟨28, _⟩ => ⟨S2x1x512x704, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S528x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v89 : BitVec 1 := Scalar.cmpi .eq arg1 c3_i32
  let v90 : BitVec 32 := Scalar.extui v89
  let c0_i32_48 : BitVec 32 := 0#32
  let v91 : BitVec 1 := Scalar.cmpi .ne v90 c0_i32_48
  v91

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S2x1x512x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2x1x512x704 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference11Ideal.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1x5632 : Shape := ⟨2, ![1, 5632]⟩
abbrev S4095x5632 : Shape := ⟨2, ![4095, 5632]⟩
abbrev S4094x5632 : Shape := ⟨2, ![4094, 5632]⟩
abbrev S4096x2816 : Shape := ⟨2, ![4096, 2816]⟩
abbrev S4096x8x704 : Shape := ⟨3, ![4096, 8, 704]⟩
abbrev S8x4096x704 : Shape := ⟨3, ![8, 4096, 704]⟩
abbrev S4096x2x4x704 : Shape := ⟨4, ![4096, 2, 4, 704]⟩
abbrev S2x4x4096x704 : Shape := ⟨4, ![2, 4, 4096, 704]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x5632, .f32⟩
  | .hbm, ⟨24, _⟩ => ⟨S_, .f32⟩
  | .hbm, ⟨25, _⟩ => ⟨S1x5632, .f32⟩
  | .hbm, ⟨26, _⟩ => ⟨S4095x5632, .f32⟩
  | .hbm, ⟨27, _⟩ => ⟨S4096x5632, .f32⟩
  | .hbm, ⟨28, _⟩ => ⟨S4094x5632, .f32⟩
  | .hbm, ⟨29, _⟩ => ⟨S4096x5632, .f32⟩
  | .hbm, ⟨30, _⟩ => ⟨S1x5632, .f32⟩
  | .hbm, ⟨31, _⟩ => ⟨S5632, .f32⟩
  | .hbm, ⟨32, _⟩ => ⟨S1x5632, .f32⟩
  | .hbm, ⟨33, _⟩ => ⟨S4096x5632, .f32⟩
  | .hbm, ⟨34, _⟩ => ⟨S4096x5632, .f32⟩
  | .hbm, ⟨35, _⟩ => ⟨S1x5632, .f32⟩
  | .hbm, ⟨36, _⟩ => ⟨S5632, .f32⟩
  | .hbm, ⟨37, _⟩ => ⟨S1x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S1x5632, .f32⟩
  | .hbm, ⟨48, _⟩ => ⟨S4096x5632, .f32⟩
  | .hbm, ⟨49, _⟩ => ⟨S4096x5632, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S_, .f32⟩
  | .hbm, ⟨55, _⟩ => ⟨S4096x2816, .f32⟩
  | .hbm, ⟨56, _⟩ => ⟨S4096x2816, .f32⟩
  | .hbm, ⟨57, _⟩ => ⟨S_, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x1024, .f32⟩
  | .hbm, ⟨63, _⟩ => ⟨S4096x1024, .f32⟩
  | .hbm, ⟨64, _⟩ => ⟨S4096x1024, .bf16⟩
  | .hbm, ⟨65, _⟩ => ⟨S4096x8x704, .f32⟩
  | .hbm, ⟨66, _⟩ => ⟨S8x4096x704, .f32⟩
  | .hbm, ⟨67, _⟩ => ⟨S8x4096x704, .bf16⟩
  | .hbm, ⟨68, _⟩ => ⟨S4096x2x4x704, .f32⟩
  | .hbm, ⟨69, _⟩ => ⟨S2x4x4096x704, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .bf16⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S4096x1, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_v51 : Ref sig .tc := ⟨.hbm, 72, rfl⟩
abbrev main_v52 : Ref sig .tc := ⟨.hbm, 73, rfl⟩
abbrev main_cst_4 : Ref sig .tc := ⟨.hbm, 74, rfl⟩
abbrev main_v53 : Ref sig .tc := ⟨.hbm, 75, rfl⟩
abbrev main_v54 : Ref sig .tc := ⟨.hbm, 76, rfl⟩
abbrev main_cst_5 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_6 : Ref sig .tc := ⟨.hbm, 87, rfl⟩
abbrev main_v64 : Ref sig .tc := ⟨.hbm, 88, rfl⟩
abbrev main_v65 : Ref sig .tc := ⟨.hbm, 89, rfl⟩
abbrev main_cst_7 : Ref sig .tc := ⟨.hbm, 90, rfl⟩
abbrev main_v66 : Ref sig .tc := ⟨.hbm, 91, rfl⟩
abbrev main_v67 : Ref sig .tc := ⟨.hbm, 92, rfl⟩
abbrev main_cst_8 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .i32⟩
  | .hbm, ⟨48, _⟩ => ⟨S_, .f32⟩
  | .hbm, ⟨49, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S1024x1024 : Shape := ⟨2, ![1024, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .bf16⟩
  | .hbm, ⟨9, _⟩ => ⟨S4096x1024, .bf16⟩
  | .hbm, ⟨10, _⟩ => ⟨S1024x1024, .bf16⟩
  | .hbm, ⟨11, _⟩ => ⟨S1024x1024, .bf16⟩
  | .hbm, ⟨12, _⟩ => ⟨S4096x1024, .f32⟩
  | .hbm, ⟨13, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference13Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S2x1024 : Shape := ⟨2, ![2, 1024]⟩
abbrev S8x1024 : Shape := ⟨2, ![8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1024x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S2x1024, .f32⟩
  | .hbm, ⟨99, _⟩ => ⟨S_, .i32⟩
  | .hbm, ⟨100, _⟩ => ⟨S_, .f32⟩
  | .hbm, ⟨101, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c : Ref sig .tc := ⟨.hbm, 99, rfl⟩
abbrev main_call0_v0 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Proof.Stores.lean ====
module

public import Idealize.ShloMosaic.Lib.Pipeline.ValueKit
public import Idealize.ShloMosaic.Lib.Pointwise
public import Idealize.ShloMosaic.Lib.WritesUnit

/-! What a list of stores into rectangles leaves at an index. -/

@[expose] public section

set_option maxRecDepth 16384

noncomputable section

namespace Cert.Proof.Stores

open Idealize.ShloMosaic Idealize.ShloMosaic.TcCoe Idealize.SL.Sem

section Stores

variable {S : Shape} {φ : EltTy} {off size : Fin S.rank → ℕ}

/-- What a list of stores leaves at an index inside the newest store's rectangle. -/
theorem newest_of_mem (inb : ∀ a, off a + size a ≤ S.size a) (q : (Rect.unit off size inb).shape.Idx → Elt Ideal φ)
    (L : List (View.Piece (Elt Ideal) S φ)) (y : S.Idx) (x : (Rect.unit off size inb).shape.Idx)
    (hx : ∀ a, (y a).val = off a + (x a).val) : View.canon ((⟨Rect.unit off size inb, q⟩ : View.Piece (Elt Ideal) S φ) :: L) y = q x := by
  have hy : (Rect.unit off size inb).emb x = y := funext fun a => Fin.ext ((Rect.idx_unit_val off size inb x a).trans (hx a).symm)
  rw [← hy, View.canon_cons_emb]

/-- What a list of stores leaves at an index outside the newest store's rectangle: what the earlier ones left. -/
theorem newest_of_not_mem (inb : ∀ a, off a + size a ≤ S.size a) (q : (Rect.unit off size inb).shape.Idx → Elt Ideal φ)
    (L : List (View.Piece (Elt Ideal) S φ)) (y : S.Idx) (a : Fin S.rank) (ha : (y a).val < off a ∨ off a + size a ≤ (y a).val) :
    View.canon ((⟨Rect.unit off size inb, q⟩ : View.Piece (Elt Ideal) S φ) :: L) y = View.canon L y := by
  refine View.canon_cons_of_not_mem _ _ fun h => ?_
  rw [Rect.mem_set_unit] at h
  have := h a
  omega

end Stores

end Cert.Proof.Stores

end
-- ==== Proof.ActBlocks.lean ====
module

public import proofs.«01_k».proof.Proof.Gen.KernelIdeal.Frame
public import proofs.«01_k».proof.Proof.Stores
public import Idealize.ShloMosaic.Lib.Pipeline.ValueKit
public import Idealize.ShloMosaic.Lib.Pointwise
public import Idealize.ShloMosaic.Lib.Claim
public import Idealize.ShloMosaic.Lib.WritesUnit

@[expose] public section

set_option maxRecDepth 16384

noncomputable section

namespace Cert.KernelIdeal.Act

open Idealize.ShloMosaic Idealize.ShloMosaic.TcCoe Idealize.SL.Sem
open Idealize.ShloMosaic.Pipeline (Dat)
open Cert.KernelIdeal Cert.KernelIdeal.Gen Cert.Proof.Stores

/-- The logistic function of the gate. -/
def sg (x : EReal) : EReal := Ideal.div 1 (1 + Ideal.exp (0 - x))

/-- The gate's gradient from the gradient `d` of the product, the up half `u` and the gate `x`. -/
def dgate (d u x : EReal) : EReal := d * u * (sg x * (1 + x * (1 - sg x)))

/-- The up half's gradient from the gradient `d` of the product and the gate `x`. -/
def dup (d x : EReal) : EReal := d * (x * sg x)

/-- The gradient of the gated product at row `r`, column `b` of a block: the cotangent's row against the weight's row. -/
def dact (w : Vec Ideal S704x1024 .bf16) (g : Vec Ideal S1024x1024 .f32) (r : Fin 1024) (b : Fin 704) : EReal :=
  ∑ k : Fin 1024, g (ix2 r k) * w (ix2 b k)

/-- The gradient of half `h` (gate, up) at row `r`, column `b` of a block. -/
def dhalf (p : Vec Ideal S2x1x1024x704 .f32) (w : Vec Ideal S704x1024 .bf16) (g : Vec Ideal S1024x1024 .f32)
    (h : Fin 2) (r : Fin 1024) (b : Fin 704) : EReal :=
  if h = 0 then dgate (dact w g r b) (p (ix4 1 0 r b)) (p (ix4 0 0 r b)) else dup (dact w g r b) (p (ix4 0 0 r b))

/-- The weight's gradient which one block of rows adds, at row `a`, column `b`. -/
def dwterm (p : Vec Ideal S2x1x1024x704 .f32) (g : Vec Ideal S1024x1024 .f32) (a : Fin 704) (b : Fin 1024) : EReal :=
  ∑ r : Fin 1024, p (ix4 0 0 r a) * sg (p (ix4 0 0 r a)) * p (ix4 1 0 r a) * g (ix2 r b)

/-- What one block of rows adds to the bias gradient: a column sum in row 0, nothing in the seven padding rows. -/
def dbterm (p : Vec Ideal S2x1x1024x704 .f32) (w : Vec Ideal S704x1024 .bf16) (g : Vec Ideal S1024x1024 .f32)
    (h : Fin 2) (s : Fin 8) (b : Fin 704) : EReal :=
  if s = 0 then ∑ r : Fin 1024, dhalf p w g h r b else 0

section Payloads

variable (v3 v5 : Vec Ideal S1x1x1024x704 .f32) (v15 : Vec Ideal S1024x1024 .f32) (v17 : Vec Ideal S704x1024 .bf16)

/-- The weight gradient's store at an index. -/
theorem pay9_at (v20 : Vec Ideal S704x1024 .f32) (a : Fin 704) (b : Fin 1024) :
    k0_pay9 v3 v5 v15 v20 (ix2 a b) = v20 (ix2 a b)
      + ∑ r : Fin 1024, v3 (ix4 0 0 r a) * sg (v3 (ix4 0 0 r a)) * v5 (ix4 0 0 r a) * v15 (ix2 r b) := by
  pointwise [k0_pay9, k0_pay6, k0_pay5, k0_pay4, k0_pay3, k0_pay7, sg]

/-- The gate gradient's store at an index. -/
theorem pay14_at (a : Fin 1024) (b : Fin 704) :
    k0_pay14 (k0_pay5 v3) (k0_pay11 v5 v15 v17) (k0_pay12 v3) (ix4 0 0 a b)
      = dgate (dact v17 v15 a b) (v5 (ix4 0 0 a b)) (v3 (ix4 0 0 a b)) := by
  pointwise [k0_pay14, k0_pay13, k0_pay12, k0_pay11, k0_pay8, k0_pay6, k0_pay5, k0_pay4, k0_pay3, k0_pay7, sg, dgate, dact]

/-- The gate's bias row at an index. -/
theorem pay15_at (v40 : Vec Ideal S1x1x1x704 .f32) (b : Fin 704) :
    k0_pay15 (k0_pay5 v3) (k0_pay11 v5 v15 v17) (k0_pay12 v3) v40 (ix4 0 0 0 b)
      = v40 (ix4 0 0 0 b) + ∑ r : Fin 1024, dgate (dact v17 v15 r b) (v5 (ix4 0 0 r b)) (v3 (ix4 0 0 r b)) := by
  pointwise [k0_pay15, k0_pay13, k0_pay12, k0_pay11, k0_pay8, k0_pay6, k0_pay5, k0_pay4, k0_pay3, k0_pay7, sg, dgate, dact]

/-- The up gradient's store at an index. -/
theorem pay16_at (a : Fin 1024) (b : Fin 704) :
    k0_pay16 (k0_pay10 v3 v15 v17) (ix4 0 0 a b) = dup (dact v17 v15 a b) (v3 (ix4 0 0 a b)) := by
  pointwise [k0_pay16, k0_pay10, k0_pay8, k0_pay6, k0_pay5, k0_pay4, k0_pay3, k0_pay7, sg, dup, dact]

/-- The up half's bias row at an index. -/
theorem pay17_at (v52 : Vec Ideal S1x1x1x704 .f32) (b : Fin 704) :
    k0_pay17 (k0_pay10 v3 v15 v17) v52 (ix4 0 0 0 b)
      = v52 (ix4 0 0 0 b) + ∑ r : Fin 1024, dup (dact v17 v15 r b) (v3 (ix4 0 0 r b)) := by
  pointwise [k0_pay17, k0_pay10, k0_pay8, k0_pay6, k0_pay5, k0_pay4, k0_pay3, k0_pay7, sg, dup, dact]

end Payloads

/-- The rectangle of the gate half of a block. -/
abbrev rgate : Rect S2x1x1024x704 := Rect.unit ![0, 0, 0, 0] ![1, 1, 1024, 704] inb_S2x1x1024x704_S1x1x1024x704_0_0_0_0

/-- The rectangle of the up half of a block. -/
abbrev rup : Rect S2x1x1024x704 := Rect.unit ![1, 0, 0, 0] ![1, 1, 1024, 704] inb_S2x1x1024x704_S1x1x1024x704_1_0_0_0

section Blocks

variable (p : Vec Ideal S2x1x1024x704 .f32) (w : Vec Ideal S704x1024 .bf16) (g : Vec Ideal S1024x1024 .f32)

/-- The load of the gate half of a block. -/
theorem ld_gate (r : Fin 1024) (b : Fin 704) : View.ld p rgate (ix4 0 0 r b) = p (ix4 0 0 r b) :=
  View.ld_unit_apply_of p _ _ _ _ _ fun a => by fin_cases a <;> simp

/-- The load of the up half of a block. -/
theorem ld_up (r : Fin 1024) (b : Fin 704) : View.ld p rup (ix4 0 0 r b) = p (ix4 1 0 r b) :=
  View.ld_unit_apply_of p _ _ _ _ _ fun a => by fin_cases a <;> simp

/-- The weight gradient's store over a block. -/
theorem blk9 (v20 : Vec Ideal S704x1024 .f32) (a : Fin 704) (b : Fin 1024) :
    k0_pay9 (View.ld p rgate) (View.ld p rup) g v20 (ix2 a b) = v20 (ix2 a b) + dwterm p g a b := by
  rw [pay9_at]
  exact congrArg (_ + ·) (Finset.sum_congr rfl fun r _ => by rw [ld_gate, ld_up])

/-- The gate gradient's store over a block. -/
theorem blk14 (r : Fin 1024) (b : Fin 704) :
    k0_pay14 (k0_pay5 (View.ld p rgate)) (k0_pay11 (View.ld p rup) g w) (k0_pay12 (View.ld p rgate)) (ix4 0 0 r b)
      = dhalf p w g 0 r b := by
  rw [pay14_at, ld_gate, ld_up]; rfl

/-- The up gradient's store over a block. -/
theorem blk16 (r : Fin 1024) (b : Fin 704) :
    k0_pay16 (k0_pay10 (View.ld p rgate) g w) (ix4 0 0 r b) = dhalf p w g 1 r b := by
  rw [pay16_at, ld_gate]; rfl

/-- A padding row receives nothing. -/
theorem dbterm_pad (h : Fin 2) {s : Fin 8} (hs : s ≠ 0) (b : Fin 704) : dbterm p w g h s b = 0 := if_neg hs

/-- Row 0 receives the column sum. -/
theorem dbterm_row (h : Fin 2) (b : Fin 704) : dbterm p w g h 0 b = ∑ r : Fin 1024, dhalf p w g h r b := if_pos rfl

/-- The gate's bias row over a block. -/
theorem blk15 (v40 : Vec Ideal S1x1x1x704 .f32) (b : Fin 704) :
    k0_pay15 (k0_pay5 (View.ld p rgate)) (k0_pay11 (View.ld p rup) g w) (k0_pay12 (View.ld p rgate)) v40 (ix4 0 0 0 b)
      = v40 (ix4 0 0 0 b) + dbterm p w g 0 0 b := by
  rw [pay15_at, dbterm_row]
  exact congrArg (_ + ·) (Finset.sum_congr rfl fun r _ => by rw [ld_gate, ld_up]; rfl)

/-- The up half's bias row over a block. -/
theorem blk17 (v52 : Vec Ideal S1x1x1x704 .f32) (b : Fin 704) :
    k0_pay17 (k0_pay10 (View.ld p rgate) g w) v52 (ix4 0 0 0 b) = v52 (ix4 0 0 0 b) + dbterm p w g 1 0 b := by
  rw [pay17_at, dbterm_row]
  exact congrArg (_ + ·) (Finset.sum_congr rfl fun r _ => by rw [ld_gate]; rfl)

end Blocks

variable (m : (ℓ : Loc nD τ sig) → Buf (Elt Ideal) ℓ)

/-- The gradient block that a point leaves. -/
theorem out3 (c : Dev nD) (t : Fin cfg0.N) (h : Fin 2) (r : Fin 1024) (b : Fin 704) :
    (outsAt0 m c t.val t.isLt).1 (ix4 0 h r b) = dhalf (iblk m c 0 t) (iblk m c 1 t) (iblk m c 2 t) h r b := by
  by_cases ht : t.val % 4 = 0
  · rw [outsAt0_A m c t ht]; frame_out
    canon_tiles x e
    · obtain rfl : x = ix4 0 0 r b := by idx_ext
      obtain rfl : h = 1 := by simp at e1; ext; omega
      exact blk16 (iblk m c 0 t) (iblk m c 1 t) (iblk m c 2 t) r b
    · obtain rfl : x = ix4 0 0 r b := by idx_ext
      obtain rfl : h = 0 := by simp at e1; ext; omega
      exact blk14 (iblk m c 0 t) (iblk m c 1 t) (iblk m c 2 t) r b
  · rw [outsAt0_B m c t ht]; frame_out
    canon_tiles x e
    · obtain rfl : x = ix4 0 0 r b := by idx_ext
      obtain rfl : h = 1 := by simp at e1; ext; omega
      exact blk16 (iblk m c 0 t) (iblk m c 1 t) (iblk m c 2 t) r b
    · obtain rfl : x = ix4 0 0 r b := by idx_ext
      obtain rfl : h = 0 := by simp at e1; ext; omega
      exact blk14 (iblk m c 0 t) (iblk m c 1 t) (iblk m c 2 t) r b

/-- The first point of a run stores the first term of the weight gradient. -/
theorem out4_A (c : Dev nD) (t : Fin cfg0.N) (ht : t.val % 4 = 0) (a : Fin 704) (b : Fin 1024) :
    (outsAt0 m c t.val t.isLt).2.1 (ix2 a b) = 0 + dwterm (iblk m c 0 t) (iblk m c 2 t) a b := by
  rw [outsAt0_A m c t ht]; frame_out
  exact (blk9 (iblk m c 0 t) (iblk m c 2 t) _ a b).trans (congrArg (· + _) (by pointwise [k0_pay1]))

/-- Every later point of a run adds its term. -/
theorem out4_B (c : Dev nD) (t : Fin cfg0.N) (ht : ¬t.val % 4 = 0) (a : Fin 704) (b : Fin 1024) :
    (outsAt0 m c t.val t.isLt).2.1 (ix2 a b)
      = (outsAt0 m c (t.val - 1) (Nat.lt_of_le_of_lt (Nat.sub_le _ _) t.isLt)).2.1 (ix2 a b)
        + dwterm (iblk m c 0 t) (iblk m c 2 t) a b := by
  rw [outsAt0_B m c t ht]; frame_out
  exact blk9 (iblk m c 0 t) (iblk m c 2 t) _ a b

/-- The first point of a run stores the first term of the bias gradient. -/
theorem out5_A (c : Dev nD) (t : Fin cfg0.N) (ht : t.val % 4 = 0) (h : Fin 2) (s : Fin 8) (b : Fin 704) :
    (outsAt0 m c t.val t.isLt).2.2 (ix4 0 h s b) = 0 + dbterm (iblk m c 0 t) (iblk m c 1 t) (iblk m c 2 t) h s b := by
  rw [outsAt0_A m c t ht]; frame_out
  by_cases hs : s = 0
  · subst hs
    obtain rfl | rfl : h = 0 ∨ h = 1 := by omega
    · refine (newest_of_not_mem _ _ _ _ 1 (by simp)).trans ?_
      refine (newest_of_mem _ _ _ _ (ix4 0 0 0 b) (by intro a; fin_cases a <;> simp)).trans ?_
      refine (blk15 (iblk m c 0 t) (iblk m c 1 t) (iblk m c 2 t) _ b).trans (congrArg (· + _) ?_)
      rw [View.readCov_eq_canon']
      refine (newest_of_mem _ _ _ _ (ix4 0 0 0 b) (by intro a; fin_cases a <;> simp)).trans ?_
      pointwise [k0_pay2]
    · refine (newest_of_mem _ _ _ _ (ix4 0 0 0 b) (by intro a; fin_cases a <;> simp)).trans ?_
      refine (blk17 (iblk m c 0 t) (iblk m c 1 t) (iblk m c 2 t) _ b).trans (congrArg (· + _) ?_)
      rw [View.readCov_eq_canon']
      refine (newest_of_not_mem _ _ _ _ 1 (by simp)).trans ?_
      refine (newest_of_mem _ _ _ _ (ix4 0 1 0 b) (by intro a; fin_cases a <;> simp)).trans ?_
      pointwise [k0_pay2]
  · have hs' : 1 ≤ s.val := by omega
    rw [dbterm_pad _ _ _ h hs]
    refine (newest_of_not_mem _ _ _ _ 2 (by simpa using hs')).trans ?_
    refine (newest_of_not_mem _ _ _ _ 2 (by simpa using hs')).trans ?_
    refine (newest_of_mem _ _ _ _ (ix4 0 h s b) (by intro a; fin_cases a <;> simp)).trans ?_
    pointwise [k0_pay2]

/-- Every later point of a run adds its term. -/
theorem out5_B (c : Dev nD) (t : Fin cfg0.N) (ht : ¬t.val % 4 = 0) (h : Fin 2) (s : Fin 8) (b : Fin 704) :
    (outsAt0 m c t.val t.isLt).2.2 (ix4 0 h s b)
      = (outsAt0 m c (t.val - 1) (Nat.lt_of_le_of_lt (Nat.sub_le _ _) t.isLt)).2.2 (ix4 0 h s b)
        + dbterm (iblk m c 0 t) (iblk m c 1 t) (iblk m c 2 t) h s b := by
  rw [outsAt0_B m c t ht]; frame_out
  by_cases hs : s = 0
  · subst hs
    obtain rfl | rfl : h = 0 ∨ h = 1 := by omega
    · refine (View.read_writes_cons_unit_of_not_mem _ _ _ _ _ _ rfl 1 (by simp)).trans ?_
      refine (View.read_writes_cons_unit_of_mem _ _ _ _ _ _ (ix4 0 0 0 b) rfl (by intro a; fin_cases a <;> simp)).trans ?_
      refine (blk15 (iblk m c 0 t) (iblk m c 1 t) (iblk m c 2 t) _ b).trans (congrArg (· + _) ?_)
      exact View.ld_unit_apply_of _ _ _ _ _ _ fun a => by fin_cases a <;> simp
    · refine (View.read_writes_cons_unit_of_mem _ _ _ _ _ _ (ix4 0 0 0 b) rfl (by intro a; fin_cases a <;> simp)).trans ?_
      refine (blk17 (iblk m c 0 t) (iblk m c 1 t) (iblk m c 2 t) _ b).trans (congrArg (· + _) ?_)
      exact View.ld_unit_apply_of _ _ _ _ _ _ fun a => by fin_cases a <;> simp
  · have hs' : 1 ≤ s.val := by omega
    rw [dbterm_pad _ _ _ h hs, add_zero]
    refine (View.read_writes_cons_unit_of_not_mem _ _ _ _ _ _ rfl 2 (by simpa using hs')).trans ?_
    refine (View.read_writes_cons_unit_of_not_mem _ _ _ _ _ _ rfl 2 (by simpa using hs')).trans ?_
    exact congrFun (Memref.IsWhole.read_unread _ _) _

end Cert.KernelIdeal.Act
end
-- ==== Proof.ActArrays.lean ====
module

public import proofs.«01_k».proof.Proof.ActBlocks

@[expose] public section

set_option maxRecDepth 16384

noncomputable section

namespace Cert.KernelIdeal.Act

open Idealize.ShloMosaic Idealize.ShloMosaic.TcCoe Idealize.SL.Sem
open Idealize.ShloMosaic.Pipeline (Dat)
open Cert.KernelIdeal Cert.KernelIdeal.Gen

/-- The block numbers of every window at a grid point: feature shard first, row block second. -/
theorem idx : ∀ t : Fin cfg0.N, win0_0.index t = ![0, t.val / 4, t.val % 4, 0] ∧ win0_1.index t = ![t.val / 4, 0]
    ∧ win0_2.index t = ![t.val % 4, 0] ∧ win0_3.index t = ![t.val / 4, 0, t.val % 4, 0]
    ∧ win0_4.index t = ![t.val / 4, 0] ∧ win0_5.index t = ![t.val / 4, 0, 0, 0] :=
  (by decide +kernel : ∀ t : Fin grid0.N, _)

section Whole

variable (P : Vec Ideal S2x4x4096x704 .f32) (W : Vec Ideal S2816x1024 .bf16) (C : Vec Ideal S4096x1024 .f32)

/-- The gradient of the gated product at shard `c`, row `r`, column `b`. -/
def dactA (c : Fin 4) (r : Fin 4096) (b : Fin 704) : EReal :=
  ∑ k : Fin 1024, C (ix2 r k) * W (ix2 ⟨c.val * 704 + b.val, by omega⟩ k)

/-- The gradient of half `h` at shard `c`, row `r`, column `b`. -/
def dhalfA (c : Fin 4) (h : Fin 2) (r : Fin 4096) (b : Fin 704) : EReal :=
  if h = 0 then dgate (dactA W C c r b) (P (ix4 1 c r b)) (P (ix4 0 c r b)) else dup (dactA W C c r b) (P (ix4 0 c r b))

/-- What row `r` adds to the weight's gradient at shard `c`, row `a` of the shard, column `b`. -/
def dwrow (c : Fin 4) (a : Fin 704) (b : Fin 1024) (r : Fin 4096) : EReal :=
  P (ix4 0 c r a) * sg (P (ix4 0 c r a)) * P (ix4 1 c r a) * C (ix2 r b)

/-- The weight's gradient at shard `c`, row `a` of the shard, column `b`. -/
def dwA (c : Fin 4) (a : Fin 704) (b : Fin 1024) : EReal := ∑ r : Fin 4096, dwrow P C c a b r

/-- The bias gradient with its padding rows. -/
def dbA (c : Fin 4) (h : Fin 2) (s : Fin 8) (b : Fin 704) : EReal :=
  if s = 0 then ∑ r : Fin 4096, dhalfA P W C c h r b else 0

end Whole

variable (m : (ℓ : Loc nD τ sig) → Buf (Elt Ideal) ℓ)

/-- The shard of a grid point. -/
def shard (t : Fin cfg0.N) : Fin 4 := ⟨t.val / 4, by have := lt_of_lt_of_eq t.isLt N_0; omega⟩

/-- The row that a grid point's block holds at its row `r`. -/
def rowOf (t : Fin cfg0.N) (r : Fin 1024) : Fin 4096 := ⟨t.val % 4 * 1024 + r.val, by omega⟩

/-- The saved activations under a point's block. -/
theorem read0 (c : Dev nD) (t : Fin cfg0.N) (h : Fin 2) (r : Fin 1024) (b : Fin 704) :
    iblk m c 0 t (ix4 h 0 r b) = V m c main_v4 (ix4 h (shard t) (rowOf t r) b) := by
  blk_ext [iblk, idx t, shard, rowOf]

/-- The weight under a point's block. -/
theorem read1 (c : Dev nD) (t : Fin cfg0.N) (a : Fin 704) (k : Fin 1024) :
    iblk m c 1 t (ix2 a k) = V m c main_v5 (ix2 ⟨(shard t).val * 704 + a.val, by have := (shard t).isLt; omega⟩ k) := by
  blk_ext [iblk, idx t, shard, rowOf]

/-- The cotangent under a point's block. -/
theorem read2 (c : Dev nD) (t : Fin cfg0.N) (r k : Fin 1024) :
    iblk m c 2 t (ix2 r k) = V m c main_arg3 (ix2 (rowOf t r) k) := by
  blk_ext [iblk, idx t, shard, rowOf]

/-- The block gradients are the array gradients at the point's shard and rows. -/
theorem dhalf_blk (c : Dev nD) (t : Fin cfg0.N) (h : Fin 2) (r : Fin 1024) (b : Fin 704) :
    dhalf (iblk m c 0 t) (iblk m c 1 t) (iblk m c 2 t) h r b
      = dhalfA (V m c main_v4) (V m c main_v5) (V m c main_arg3) (shard t) h (rowOf t r) b := by
  have hd : dact (iblk m c 1 t) (iblk m c 2 t) r b = dactA (V m c main_v5) (V m c main_arg3) (shard t) (rowOf t r) b :=
    Finset.sum_congr rfl fun k _ => congrArg₂ (· * ·) (read2 m c t r k) (read1 m c t b k)
  unfold dhalf dhalfA
  rw [hd]
  have e0 := read0 m c t 0 r b
  have e1 := read0 m c t 1 r b
  rw [e0, e1]

/-- A point's weight term over the arrays. -/
theorem dwterm_blk (c : Dev nD) (t : Fin cfg0.N) (a : Fin 704) (b : Fin 1024) :
    dwterm (iblk m c 0 t) (iblk m c 2 t) a b
      = ∑ r : Fin 1024, dwrow (V m c main_v4) (V m c main_arg3) (shard t) a b (rowOf t r) := by
  refine Finset.sum_congr rfl fun r _ => ?_
  have e0 := read0 m c t 0 r a
  have e1 := read0 m c t 1 r a
  have e2 := read2 m c t r b
  rw [e0, e1, e2]
  rfl

/-- A point's bias term over the arrays. -/
theorem dbterm_blk (c : Dev nD) (t : Fin cfg0.N) (h : Fin 2) (b : Fin 704) :
    dbterm (iblk m c 0 t) (iblk m c 1 t) (iblk m c 2 t) h 0 b
      = ∑ r : Fin 1024, dhalfA (V m c main_v4) (V m c main_v5) (V m c main_arg3) (shard t) h (rowOf t r) b :=
  (dbterm_row _ _ _ h b).trans (Finset.sum_congr rfl fun r _ => dhalf_blk m c t h r b)

/-- The array of gradients that the call leaves. -/
theorem final3 (c : Dev nD) : (dats m 0 c).arrAt 3 cfg0.N
    = fun i : S4x2x4096x704.Idx => dhalfA (V m c main_v4) (V m c main_v5) (V m c main_arg3) (i 0) (i 1) (i 2) (i 3) := by
  refine (dats m 0 c).arrAt_eq_of_covers 3 _ (by decide +kernel) fun t hf y => ?_
  blk_simp
  rw [after0_3]
  idx_vars y
  obtain rfl : y0 = 0 := by omega
  refine (out3 m c t y1 y2 y3).trans ((dhalf_blk m c t y1 y2 y3).trans ?_)
  have e : (win0_3.blk t).view.emb (ix4 0 y1 y2 y3) = ix4 (shard t) y1 (rowOf t y2) y3 := by
    blk_ext [idx t, shard, rowOf]
  rw [e]; rfl

/-- The shard of a weight row. -/
def shardOf (i : Fin 2816) : Fin 4 := ⟨i.val / 704, by omega⟩

/-- The place of a weight row in its shard. -/
def inShard (i : Fin 2816) : Fin 704 := ⟨i.val % 704, by omega⟩

/-- A run's row blocks make up all the rows. -/
theorem sum_rows (t : Fin cfg0.N) (hr : t.val % 4 = 3) (f : Fin 4 → Fin 4096 → EReal) :
    (∑ s : Fin 4, ∑ r : Fin 1024, f (shard ⟨_, Pipeline.run_point_lt_of_flush t hr s⟩)
        (rowOf ⟨_, Pipeline.run_point_lt_of_flush t hr s⟩ r)) = ∑ r : Fin 4096, f (shard t) r := by
  refine Fin.sum_mul_add_congr fun s k hl => ?_
  congr 1
  · apply Fin.ext; simp only [shard]; omega
  · apply Fin.ext; simp only [rowOf]; omega

/-- The weight gradient that the call leaves. -/
theorem final4 (c : Dev nD) : (dats m 0 c).arrAt 4 cfg0.N
    = fun i : S2816x1024.Idx => dwA (V m c main_v4) (V m c main_arg3) (shardOf (i 0)) (inShard (i 0)) (i 1) := by
  refine (dats m 0 c).arrAt_eq_of_covers 4 _ (by decide +kernel) fun t hf y => ?_
  blk_simp
  rw [after0_4]
  idx_vars y
  have hr := (flush0_4 t).mp hf
  refine (Pipeline.eq_sum_fin_of_reset_step_apply_of_flush (fun n h => (outsAt0 m c n h).2.1) 4 (fun _ => 0)
    (fun t j => dwterm (iblk m c 0 t) (iblk m c 2 t) (j 0) (j 1))
    (fun t h j => by idx_vars j; exact out4_A m c t h j0 j1) (fun t h j => by idx_vars j; exact out4_B m c t h j0 j1)
    t hr _).trans ((zero_add _).trans ?_)
  refine (Finset.sum_congr rfl fun s _ => dwterm_blk m c ⟨_, Pipeline.run_point_lt_of_flush t hr s⟩ y0 y1).trans ?_
  refine (sum_rows t hr fun q r => dwrow (V m c main_v4) (V m c main_arg3) q y0 y1 r).trans ?_
  have e : (win0_4.blk t).view.emb (ix2 y0 y1)
      = ix2 ⟨(shard t).val * 704 + y0.val, by have := (shard t).isLt; omega⟩ y1 := by
    blk_ext [idx t, shard]
  rw [e]
  have h1 : shardOf ⟨(shard t).val * 704 + y0.val, by have := (shard t).isLt; omega⟩ = shard t :=
    Fin.ext (by simp only [shardOf]; omega)
  have h2 : inShard ⟨(shard t).val * 704 + y0.val, by have := (shard t).isLt; omega⟩ = y0 :=
    Fin.ext (by simp only [inShard]; omega)
  show _ = dwA _ _ (shardOf ⟨(shard t).val * 704 + y0.val, _⟩) (inShard ⟨(shard t).val * 704 + y0.val, _⟩) y1
  rw [h1, h2]; rfl

/-- The bias gradient that the call leaves. -/
theorem final5 (c : Dev nD) : (dats m 0 c).arrAt 5 cfg0.N
    = fun i : S4x2x8x704.Idx => dbA (V m c main_v4) (V m c main_v5) (V m c main_arg3) (i 0) (i 1) (i 2) (i 3) := by
  refine (dats m 0 c).arrAt_eq_of_covers 5 _ (by decide +kernel) fun t hf y => ?_
  blk_simp
  rw [after0_5]
  idx_vars y
  obtain rfl : y0 = 0 := by omega
  have hr := (flush0_5 t).mp hf
  refine (Pipeline.eq_sum_fin_of_reset_step_apply_of_flush (fun n h => (outsAt0 m c n h).2.2) 4 (fun _ => 0)
    (fun t j => dbterm (iblk m c 0 t) (iblk m c 1 t) (iblk m c 2 t) (j 1) (j 2) (j 3))
    (fun t h j => by idx_vars j; obtain rfl : j0 = 0 := by omega
                     exact out5_A m c t h j1 j2 j3)
    (fun t h j => by idx_vars j; obtain rfl : j0 = 0 := by omega
                     exact out5_B m c t h j1 j2 j3)
    t hr _).trans ((zero_add _).trans ?_)
  have e : (win0_5.blk t).view.emb (ix4 0 y1 y2 y3) = ix4 (shard t) y1 y2 y3 := by
    blk_ext [idx t, shard]
  rw [e]
  show (∑ s : Fin 4, dbterm _ _ _ y1 y2 y3) = dbA _ _ _ (shard t) y1 y2 y3
  by_cases hs : y2 = 0
  · subst hs
    refine (Finset.sum_congr rfl fun s _ => dbterm_blk m c ⟨_, Pipeline.run_point_lt_of_flush t hr s⟩ y1 y3).trans ?_
    refine (sum_rows t hr fun q r => dhalfA (V m c main_v4) (V m c main_v5) (V m c main_arg3) q y1 r y3).trans ?_
    exact (if_pos rfl).symm
  · exact (Finset.sum_eq_zero fun s _ => dbterm_pad _ _ _ y1 hs y3).trans (if_neg hs).symm

end Cert.KernelIdeal.Act
end
-- ==== Proof.ActRef.lean ====
module

public import proofs.«01_k».proof.Proof.Gen.ReferenceIdeal
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Act

open Idealize.ShloMosaic Idealize.ShloMosaic.TcCoe Idealize.SL.Sem
open Cert.ReferenceIdeal Cert.ReferenceIdeal.Gen

variable (Y : FVec Ideal S4096x5632 .f32) (B : FVec Ideal S5632 .f32) (W : FVec Ideal S2816x1024 .f32) (C : FVec Ideal S4096x1024 .f32)

/-- The pre-activation with its bias. -/
def hu : FVec Ideal S4096x5632 .f32 :=
  addf Y (broadcastInDim S4096x5632 ![0, 1] bcast_S1x5632_S4096x5632_0_1 (broadcastInDim S1x5632 ![1] bcast_S5632_S1x5632_1 B))

/-- The gate half. -/
def gate : FVec Ideal S4096x2816 .f32 := extractStridedSlice S4096x2816 ![0, 0] (hu Y B) slices_S4096x5632_S4096x2816_0_0

/-- The up half. -/
def up : FVec Ideal S4096x2816 .f32 := extractStridedSlice S4096x2816 ![0, 2816] (hu Y B) slices_S4096x5632_S4096x2816_0_2816

/-- All ones. -/
def one : FVec Ideal S4096x2816 .f32 := broadcastInDim S4096x2816 ![] bcast_S_S4096x2816 (constant S_ .f32 0x3F800000#32)

/-- The logistic function of the gate half. -/
def sig : FVec Ideal S4096x2816 .f32 := Host.divf one (addf one (Host.exp (Host.negf (gate Y B))))

/-- The gradient of the gated product. -/
def dact : FVec Ideal S4096x2816 .f32 := Host.dotGeneral dot_S4096x1024_S2816x1024_S4096x2816_1_1_0_0_n_n none C W

/-- The gradient of the pre-activation: the gate half beside the up half. -/
def dhu : FVec Ideal S4096x5632 .f32 :=
  concatenate S4096x5632 1
    [⟨S4096x2816, addf (mulf (mulf (dact W C) (up Y B)) (sig Y B))
        (mulf (mulf (gate Y B) (mulf (dact W C) (up Y B))) (mulf (sig Y B) (subf one (sig Y B))))⟩,
      ⟨S4096x2816, mulf (mulf (gate Y B) (sig Y B)) (dact W C)⟩] concatenates_S4096x2816_S4096x2816_S4096x5632_d1

/-- The first result: the gradient in the kernel's layout. -/
def out0 : FVec Ideal S4x2x4096x704 .bf16 :=
  truncf .bf16 (transpose S4x2x4096x704 [2, 1, 0, 3] (shapeCast _ (dhu Y B W C) shapeCasts_S4096x5632_S4096x2x4x704)
    transposes_S4096x2x4x704_S4x2x4096x704_2_1_0_3) bitsLt_bf16_f32

/-- The second result: the weight's gradient. -/
def out1 : FVec Ideal S2816x1024 .f32 :=
  transpose S2816x1024 [1, 0] (Host.dotGeneral dot_S4096x1024_S4096x2816_S1024x2816_0_0_1_1_n_n none C
    (mulf (mulf (gate Y B) (sig Y B)) (up Y B))) transposes_S1024x2816_S2816x1024_1_0

/-- The third result: the bias gradient, padded. -/
def out2 : FVec Ideal S4x2x8x704 .f32 :=
  pad S4x2x8x704 ![0, 0, 0, 0] ![0, 0, 7, 0] ![0, 0, 0, 0] (broadcastInDim S4x2x1x704 ![0, 1, 3] bcast_S4x2x704_S4x2x1x704_0_1_3
    (transpose S4x2x704 [1, 0, 2] (shapeCast _ (Host.reduceAdd (shapeCast _ (Host.reduceAdd (dhu Y B W C)
      (constant S_ .f32 0x00000000#32) reducesTo_S4096x5632_S5632_d0 h_S_) shapeCasts_S5632_S1x5632)
      (constant S_ .f32 0x00000000#32) reducesTo_S1x5632_S5632_d0 h_S_) shapeCasts_S5632_S2x4x704) transposes_S2x4x704_S4x2x704_1_0_2))
    (sitofp .f32 (constantI S_ 32 0#32)) pads_S4x2x1x704_S4x2x8x704_000_000_070_000 h_S_

/-- The pre-activation at an index. -/
theorem hu_at (r : Fin 4096) (k : Fin 5632) : hu Y B (ix2 r k) = Y (ix2 r k) + B (ix1 k) := by
  pointwise [hu]

/-- The gate half at an index. -/
theorem gate_at (r : Fin 4096) (k : Fin 2816) : gate Y B (ix2 r k) = hu Y B (ix2 r ⟨k.val, by omega⟩) := by
  pointwise [gate]

/-- The up half at an index. -/
theorem up_at (r : Fin 4096) (k : Fin 2816) : up Y B (ix2 r k) = hu Y B (ix2 r ⟨2816 + k.val, by omega⟩) := by
  pointwise [up]

/-- The logistic function at an index. -/
theorem sig_at (r : Fin 4096) (k : Fin 2816) :
    sig Y B (ix2 r k) = Ideal.div 1 (1 + Ideal.exp (-hu Y B (ix2 r ⟨k.val, by omega⟩))) := by
  pointwise [sig, one, gate_at]

/-- The gradient of the gated product at an index. -/
theorem dact_at (r : Fin 4096) (k : Fin 2816) : dact W C (ix2 r k) = ∑ j : Fin 1024, C (ix2 r j) * W (ix2 k j) := by
  pointwise [dact]

/-- The gate half of the gradient. -/
theorem dhu_gate (r : Fin 4096) (k : Fin 2816) : dhu Y B W C (ix2 r ⟨k.val, by omega⟩)
    = dact W C (ix2 r k) * up Y B (ix2 r k) * sig Y B (ix2 r k)
      + gate Y B (ix2 r k) * (dact W C (ix2 r k) * up Y B (ix2 r k)) * (sig Y B (ix2 r k) * (1 - sig Y B (ix2 r k))) := by
  pointwise [dhu, one]

/-- The up half of the gradient. -/
theorem dhu_up (r : Fin 4096) (k : Fin 2816) : dhu Y B W C (ix2 r ⟨2816 + k.val, by omega⟩)
    = gate Y B (ix2 r k) * sig Y B (ix2 r k) * dact W C (ix2 r k) := by
  pointwise [dhu, one]

/-- The first result at an index. -/
theorem out0_at (c : Fin 4) (h : Fin 2) (r : Fin 4096) (b : Fin 704) :
    out0 Y B W C (ix4 c h r b) = dhu Y B W C (ix2 r ⟨h.val * 2816 + c.val * 704 + b.val, by omega⟩) := by
  pointwise [out0]

/-- The second result at an index. -/
theorem out1_at (r : Fin 2816) (k : Fin 1024) : out1 Y B C (ix2 r k)
    = ∑ x : Fin 4096, C (ix2 x k) * (gate Y B (ix2 x r) * sig Y B (ix2 x r) * up Y B (ix2 x r)) := by
  pointwise [out1]

/-- The third result in row 0: the column sum. -/
theorem out2_row (c : Fin 4) (h : Fin 2) (b : Fin 704) : out2 Y B W C (ix4 c h 0 b)
    = ∑ x : Fin 4096, dhu Y B W C (ix2 x ⟨h.val * 2816 + c.val * 704 + b.val, by omega⟩) := by
  pointwise [out2]
  simp

/-- The third result in the padding rows. -/
theorem out2_pad (c : Fin 4) (h : Fin 2) (s : Fin 8) (hs : s ≠ 0) (b : Fin 704) : out2 Y B W C (ix4 c h s b) = 0 := by
  pointwise [out2]
  rw [dif_neg (by omega)]
  simp [FloatOps.sitofp]

end Cert.ReferenceIdeal.Act
end
-- ==== Proof.Reals.lean ====
module

public import Idealize.ShloMosaic.Lib.Pointwise
public import Idealize.ShloMosaic.Lib.Claim

@[expose] public section

set_option maxRecDepth 16384

noncomputable section

namespace Cert.Reals

open Idealize.ShloMosaic

/-- A value whose absolute value is below infinity is a real. -/
theorem real_of_abs_lt (x : EReal)
    (h : BitVec.ofBool (decide ((FloatOps.absf (F := Ideal) (φ := .f32) x : EReal) < Ideal.ofBits .f32 2139095040#32)) = 1#1) :
    ∃ r : ℝ, x = r := by
  have htop : Ideal.ofBits .f32 2139095040#32 = ⊤ := by simp [Ideal.ofBits, Ideal.ieee]
  rw [htop] at h
  have hlt : (FloatOps.absf (F := Ideal) (φ := .f32) x : EReal) < ⊤ := by
    by_contra hn
    simp [hn] at h
  change max x (-x) < ⊤ at hlt
  induction x using EReal.rec with
  | bot => simp at hlt
  | top => simp at hlt
  | coe r => exact ⟨r, rfl⟩

/-- A finite sum of reals is a real. -/
theorem real_sum {ι : Type} (s : Finset ι) (f : ι → EReal) (h : ∀ i, ∃ r : ℝ, f i = r) : ∃ r : ℝ, ∑ i ∈ s, f i = r := by
  classical
  induction s using Finset.induction_on with
  | empty => exact ⟨0, by simp⟩
  | insert a s ha ih =>
    obtain ⟨p, hp⟩ := h a
    obtain ⟨q, hq⟩ := ih
    exact ⟨p + q, by rw [Finset.sum_insert ha, hp, hq, EReal.coe_add]⟩

/-- The logistic function of a real is a real. -/
theorem logistic_coe (x : ℝ) : Ideal.div 1 (1 + Ideal.exp (-(x : EReal))) = ((1 / (1 + Real.exp (-x)) : ℝ) : EReal) := by
  have h : (1 : ℝ) + Real.exp (-x) ≠ 0 := by positivity
  rw [← EReal.coe_neg, Ideal.exp_coe, ← EReal.coe_one, ← EReal.coe_add, Ideal.div_coe h, EReal.coe_one, one_mul]

end Cert.Reals
end
-- ==== Proof.ActClaim.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.ActArrays
public import proofs.«01_k».proof.Proof.ActRef
public import proofs.«01_k».proof.Proof.Reals

@[expose] public section

set_option maxRecDepth 16384

noncomputable section

namespace Cert.Proof.Act

open Idealize.ShloMosaic Idealize.ShloMosaic.TcCoe Idealize.SL.Sem

/-- The broadcasts in the finiteness predicate have the shapes they state. -/
instance facts_pre : Cert.Pre_finite_args.Facts where
  bcast_S_S4096x5632 := by decide
  bcast_S_S5632 := by decide
  bcast_S_S2816x1024 := by decide
  bcast_S_S4096x1024 := by decide

/-- The program runs, leaves its arguments and ends quiescent. -/
theorem quiescent_K : Cert.quiescent_Kernel := fun m g _ => Cert.Kernel.Gen.frame m g

/-- So does its idealization. -/
theorem quiescent_KI : Cert.quiescent_KernelIdeal := fun m g _ => Cert.KernelIdeal.Gen.frame m g

/-- In particular on finite arguments. -/
theorem quiescent_KI_pre : Cert.quiescent_KernelIdeal_pre_finite_args := fun m g _ => Cert.KernelIdeal.Gen.frame m g

/-- The reference runs, leaves its arguments and ends quiescent: it declares no semaphore. -/
theorem quiescent_R : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run m g)

/-- In particular on finite arguments. -/
theorem quiescent_R_pre : Cert.quiescent_ReferenceIdeal_pre_finite_args := fun m g _ => quiescent_R m g trivial

/-- The idealization rewrites nothing. -/
theorem preserves : Cert.preserves_Kernel_KernelIdeal := trivial

section Elementwise

open Cert.KernelIdeal.Act Cert.Reals
open Cert.ReferenceIdeal.Act (hu gate up sig gate_at up_at sig_at dact_at dhu_gate dhu_up out0_at out1_at out2_row out2_pad)

/-- The column of the pre-activation that half `h`, shard `q`, feature `b` names. -/
def col (h : Fin 2) (q : Fin 4) (b : Fin 704) : Fin 5632 := ⟨h.val * 2816 + q.val * 704 + b.val, by omega⟩

/-- The feature that shard `q`, place `b` names. -/
def feat (q : Fin 4) (b : Fin 704) : Fin 2816 := ⟨q.val * 704 + b.val, by omega⟩

/-- The two spellings of the gate's gradient agree on reals. -/
theorem dgate_eq (d u x : ℝ) : dgate d u x
    = (d : EReal) * u * Ideal.div 1 (1 + Ideal.exp (-(x : EReal)))
      + x * (d * u) * (Ideal.div 1 (1 + Ideal.exp (-(x : EReal))) * (1 - Ideal.div 1 (1 + Ideal.exp (-(x : EReal))))) := by
  unfold dgate sg
  rw [zero_sub, logistic_coe]
  generalize (1 / (1 + Real.exp (-x)) : ℝ) = s
  norm_cast
  ring

variable (P : Vec Ideal Cert.KernelIdeal.S2x4x4096x704 .f32) (W' : Vec Ideal Cert.KernelIdeal.S2816x1024 .bf16)
  (C' : Vec Ideal Cert.KernelIdeal.S4096x1024 .f32)
  (Y : FVec Ideal Cert.ReferenceIdeal.S4096x5632 .f32) (B : FVec Ideal Cert.ReferenceIdeal.S5632 .f32)
  (W : FVec Ideal Cert.ReferenceIdeal.S2816x1024 .f32) (C : FVec Ideal Cert.ReferenceIdeal.S4096x1024 .f32)
  (hP : ∀ h q r b, P (ix4 h q r b) = hu Y B (ix2 r (col h q b)))
  (hW : ∀ i k, W' (ix2 i k) = W (ix2 i k)) (hC : ∀ i k, C' (ix2 i k) = C (ix2 i k))

include hW hC in
/-- The gradient of the gated product is the reference's. -/
theorem dactA_eq (q : Fin 4) (r : Fin 4096) (b : Fin 704) :
    dactA W' C' q r b = Cert.ReferenceIdeal.Act.dact W C (ix2 r (feat q b)) := by
  rw [dact_at]
  exact Finset.sum_congr rfl fun k _ => congrArg₂ (· * ·) (hC _ _) (hW _ _)

include hP in
/-- The gate the kernel reads is the reference's. -/
theorem gate_eq (q : Fin 4) (r : Fin 4096) (b : Fin 704) : P (ix4 0 q r b) = gate Y B (ix2 r (feat q b)) := by
  rw [hP, gate_at]
  exact congrArg (fun k => hu Y B (ix2 r k)) (Fin.ext (by simp only [col, feat, Fin.val_zero]; omega))

include hP in
/-- The up half the kernel reads is the reference's. -/
theorem up_eq (q : Fin 4) (r : Fin 4096) (b : Fin 704) : P (ix4 1 q r b) = up Y B (ix2 r (feat q b)) := by
  rw [hP, up_at]
  exact congrArg (fun k => hu Y B (ix2 r k)) (Fin.ext (by simp only [col, feat, Fin.val_one]; omega))

include hP in
/-- The logistic function the kernel computes is the reference's. -/
theorem sg_eq (q : Fin 4) (r : Fin 4096) (b : Fin 704) : sg (P (ix4 0 q r b)) = sig Y B (ix2 r (feat q b)) := by
  rw [gate_eq P Y B hP, sig_at, gate_at]
  unfold sg
  rw [zero_sub]

include hP hW hC in
/-- The gradient of the pre-activation is the reference's, on finite arguments. -/
theorem dhalfA_eq (hY : ∀ i k, ∃ s : ℝ, Y (ix2 i k) = s) (hB : ∀ k, ∃ s : ℝ, B (ix1 k) = s)
    (hWf : ∀ i k, ∃ s : ℝ, W (ix2 i k) = s) (hCf : ∀ i k, ∃ s : ℝ, C (ix2 i k) = s)
    (q : Fin 4) (h : Fin 2) (r : Fin 4096) (b : Fin 704) :
    dhalfA P W' C' q h r b = Cert.ReferenceIdeal.Act.dhu Y B W C (ix2 r (col h q b)) := by
  have hhu : ∀ k, ∃ s : ℝ, hu Y B (ix2 r k) = s := fun k => by
    obtain ⟨y, hy⟩ := hY r k
    obtain ⟨b, hb⟩ := hB k
    exact ⟨y + b, by rw [Cert.ReferenceIdeal.Act.hu_at, hy, hb, EReal.coe_add]⟩
  unfold dhalfA
  rw [dactA_eq W' C' W C hW hC]
  obtain rfl | rfl : h = 0 ∨ h = 1 := by omega
  · have e : col 0 q b = ⟨(feat q b).val, by have := (feat q b).isLt; omega⟩ := Fin.ext (by simp [col, feat])
    rw [if_pos rfl, e, dhu_gate, gate_eq P Y B hP, up_eq P Y B hP, sig_at, gate_at, up_at]
    obtain ⟨x, hx⟩ := hhu ⟨(feat q b).val, by have := (feat q b).isLt; omega⟩
    obtain ⟨u, hu'⟩ := hhu ⟨2816 + (feat q b).val, by have := (feat q b).isLt; omega⟩
    obtain ⟨d, hd⟩ : ∃ d : ℝ, Cert.ReferenceIdeal.Act.dact W C (ix2 r (feat q b)) = d := by
      rw [dact_at]
      refine real_sum _ _ fun j => ?_
      obtain ⟨s, hs⟩ := hCf r j
      obtain ⟨t, ht⟩ := hWf (feat q b) j
      exact ⟨s * t, by rw [hs, ht, EReal.coe_mul]⟩
    rw [hx, hu', hd]
    exact dgate_eq d u x
  · have e : col 1 q b = ⟨2816 + (feat q b).val, by have := (feat q b).isLt; omega⟩ :=
      Fin.ext (by simp [col, feat]; omega)
    rw [if_neg (by decide), e, dhu_up]
    unfold dup
    rw [sg_eq P Y B hP, gate_eq P Y B hP, mul_comm]

include hP hC in
/-- The weight's gradient is the reference's. -/
theorem dwA_eq (i : Fin 2816) (k : Fin 1024) :
    dwA P C' (shardOf i) (inShard i) k = Cert.ReferenceIdeal.Act.out1 Y B C (ix2 i k) := by
  have e : feat (shardOf i) (inShard i) = i := Fin.ext (by simp only [feat, shardOf, inShard]; omega)
  rw [out1_at]
  refine Finset.sum_congr rfl fun r _ => ?_
  unfold dwrow
  rw [sg_eq P Y B hP, gate_eq P Y B hP, up_eq P Y B hP, hC, e, mul_comm]

end Elementwise

section Arguments

open Cert.KernelIdeal

variable (m : (ℓ : Loc nD τ sig) → Buf (Elt Ideal) ℓ) (c : Dev nD)

/-- The saved pre-activation that the call reads is the argument with its bias, re-laid out. -/
theorem operand0 (h : Fin 2) (q : Fin 4) (r : Fin 4096) (b : Fin 704) :
    Gen.V m c main_v4 (ix4 h q r b)
      = Cert.ReferenceIdeal.Act.hu (m ((c.tc : Thread nD τ).loc main_arg0)) (m ((c.tc : Thread nD τ).loc main_arg1)) (ix2 r (col h q b)) := by
  refine Eq.trans ?_ (Cert.ReferenceIdeal.Act.hu_at _ _ _ _).symm
  entry_read
  pointwise
  rfl

/-- The weight that the call reads is the argument. -/
theorem operand1 (i : Fin 2816) (k : Fin 1024) :
    Gen.V m c main_v5 (ix2 i k) = m ((c.tc : Thread nD τ).loc main_arg2) (ix2 i k) := by
  entry_read
  pointwise

/-- The cotangent that the call reads is the argument. -/
theorem operand2 (i : Fin 4096) (k : Fin 1024) :
    Gen.V m c main_arg3 (ix2 i k) = m ((c.tc : Thread nD τ).loc main_arg3) (ix2 i k) := rfl

variable (h : Cert.Pre_KernelIdeal_finite_args m)
include h

/-- Every element of the first argument is a real. -/
theorem finite0 (i : Fin 4096) (j : Fin 5632) : ∃ r : ℝ, m ((c.tc : Thread nD τ).loc main_arg0) (ix2 i j) = (r : EReal) := by
  have h0 := congrFun (h c).1 (ix2 i j)
  pointwise [Cert.Pre_finite_args.fn] at h0
  exact Cert.Reals.real_of_abs_lt _ h0

/-- Every element of the second argument is a real. -/
theorem finite1 (j : Fin 5632) : ∃ r : ℝ, m ((c.tc : Thread nD τ).loc main_arg1) (ix1 j) = (r : EReal) := by
  have h0 := congrFun (h c).2.1 (ix1 j)
  pointwise [Cert.Pre_finite_args.fn] at h0
  exact Cert.Reals.real_of_abs_lt _ h0

/-- Every element of the third argument is a real. -/
theorem finite2 (i : Fin 2816) (j : Fin 1024) : ∃ r : ℝ, m ((c.tc : Thread nD τ).loc main_arg2) (ix2 i j) = (r : EReal) := by
  have h0 := congrFun (h c).2.2.1 (ix2 i j)
  pointwise [Cert.Pre_finite_args.fn] at h0
  exact Cert.Reals.real_of_abs_lt _ h0

/-- Every element of the fourth argument is a real. -/
theorem finite3 (i : Fin 4096) (j : Fin 1024) : ∃ r : ℝ, m ((c.tc : Thread nD τ).loc main_arg3) (ix2 i j) = (r : EReal) := by
  have h0 := congrFun (h c).2.2.2 (ix2 i j)
  pointwise [Cert.Pre_finite_args.fn] at h0
  exact Cert.Reals.real_of_abs_lt _ h0

/-- The call's first result over the arguments. -/
theorem result0 : Cert.ReferenceIdeal.Act.out0 (m ((c.tc : Thread nD τ).loc main_arg0)) (m ((c.tc : Thread nD τ).loc main_arg1))
    (m ((c.tc : Thread nD τ).loc main_arg2)) (m ((c.tc : Thread nD τ).loc main_arg3)) = (Gen.dats m 0 c).arrAt 3 cfg0.N := by
  rw [Cert.KernelIdeal.Act.final3]
  funext i
  idx_vars i
  rw [Cert.ReferenceIdeal.Act.out0_at]
  exact (dhalfA_eq _ _ _ _ _ _ _ (operand0 m c) (operand1 m c) (operand2 m c) (finite0 m c h) (finite1 m c h) (finite2 m c h) (finite3 m c h) i0 i1 i2 i3).symm

/-- The call's second result over the arguments. -/
theorem result1 : Cert.ReferenceIdeal.Act.out1 (m ((c.tc : Thread nD τ).loc main_arg0)) (m ((c.tc : Thread nD τ).loc main_arg1))
    (m ((c.tc : Thread nD τ).loc main_arg3)) = (Gen.dats m 0 c).arrAt 4 cfg0.N := by
  rw [Cert.KernelIdeal.Act.final4]
  funext i
  idx_vars i
  exact (dwA_eq _ _ _ _ _ (operand0 m c) (operand2 m c) i0 i1).symm

/-- The call's third result over the arguments. -/
theorem result2 : Cert.ReferenceIdeal.Act.out2 (m ((c.tc : Thread nD τ).loc main_arg0)) (m ((c.tc : Thread nD τ).loc main_arg1))
    (m ((c.tc : Thread nD τ).loc main_arg2)) (m ((c.tc : Thread nD τ).loc main_arg3)) = (Gen.dats m 0 c).arrAt 5 cfg0.N := by
  rw [Cert.KernelIdeal.Act.final5]
  funext i
  idx_vars i
  by_cases hs : i2 = 0
  · subst hs
    rw [Cert.ReferenceIdeal.Act.out2_row]
    refine Eq.trans ?_ (if_pos rfl).symm
    exact Finset.sum_congr rfl fun x _ => (dhalfA_eq _ _ _ _ _ _ _ (operand0 m c) (operand1 m c) (operand2 m c) (finite0 m c h) (finite1 m c h) (finite2 m c h) (finite3 m c h) i0 i1 x i3).symm
  · rw [Cert.ReferenceIdeal.Act.out2_pad _ _ _ _ _ _ _ hs]
    exact (if_neg hs).symm

end Arguments

/-- The kernel and the reference end with equal results on finite arguments. -/
theorem algebraic : Cert.algebraic_KernelIdeal_ReferenceIdeal_pre_finite_args := by
  pair_intro
  · run_from Cert.KernelIdeal.Gen.run_main m g
  · run_from Cert.ReferenceIdeal.Value.run m' g'
    · rw [(hagree c).2.2.2]; exact result0 m c hpre
    · exact result1 m c hpre
    · unfold Cert.ReferenceIdeal.Value.res_main_v24
      rw [(hagree c).1, (hagree c).2.1, (hagree c).2.2.1, (hagree c).2.2.2]
      exact result2 m c hpre

end Cert.Proof.Act
end
-- ==== Proof.ConvIdealSetup.lean ====
module

public import proofs.«01_k».proof.Proof.Gen.Kernel2Ideal.Frame
public import proofs.«01_k».proof.Proof.Gen.Kernel2Ideal.Skeleton

/-! The convolution's gradient, idealized: branch conditions and buffers. -/

@[expose] public section

set_option maxRecDepth 16384

noncomputable section

namespace Cert.Kernel2Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Branch condition 0 of the body, from the grid coordinates. -/
abbrev cond0_0 (i : grid0.Coords) : Prop := (Scalar.cmpi .ne (Scalar.extui (Scalar.cmpi .eq (BitVec.ofNat 32 (i 1).val) 0#32)) 0#32) = 1#1
/-- At which grid points branch condition 0 holds. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- Branch condition 1 of the body, from the grid coordinates. -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
/-- At which grid points branch condition 1 holds. -/
theorem hcond0_1 : ∀ t : Fin cfg0.N, cond0_1 (grid0.coords t) ↔ t.val % 16 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 16 = 0)

/-- The view through which output 5's contents are stated. -/
abbrev VO0_5 : View sig .tc .vmem S1x2048x704 .bf16 := (Memref.whole cc0_stg5_0 : Memref sig .tc .vmem S1x2048x704 .bf16).view
/-- The view through which output 6's contents are stated. -/
abbrev VO0_6 : View sig .tc .vmem S2048x1024 .f32 := (Memref.whole cc0_stg6_0 : Memref sig .tc .vmem S2048x1024 .f32).view
/-- The view through which output 7's contents are stated. -/
abbrev VO0_7 : View sig .tc .vmem S8x8x704 .f32 := (Memref.whole cc0_stg7_0 : Memref sig .tc .vmem S8x8x704 .f32).view
/-- Window 0's staging buffer at a grid point. -/
abbrev ms0_0 (t : Fin cfg0.N) : Memref sig .tc .vmem S1x1x2048x704 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x16x704 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x704 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x704 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x704 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x704 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x8x704 .f32 := win0_7.stage (cfg0.slots t 7)
abbrev hs0_7 (t : Fin cfg0.N) : (ms0_7 t).IsWhole := hstage0_7 ((cfg0.slots t 7).cast nbuf0_7)

end Cert.Kernel2Ideal.Body

end
-- ==== Proof.ConvIdealRunA.lean ====
module

public import proofs.«01_k».proof.Proof.ConvIdealSetup

/-! The convolution's gradient, idealized: the body at the points of case A. -/

@[expose] public section

set_option maxRecDepth 16384

noncomputable section

namespace Cert.Kernel2Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A: from the inputs' blocks the body runs to its end, leaves the inputs as they were and writes the pieces found here into each output. -/
noncomputable def kernelRun0_A (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : cond0_1 i)
    (x0 : Vec F S1x1x2048x704 .bf16) (x1 : Vec F S1x1x16x704 .bf16) (x2 : Vec F S1x2048x704 .bf16) (x3 : Vec F S1x8x704 .f32) (x4 : Vec F S1x1024x704 .bf16) :
    Σ' (L5 : List (View.Piece (Elt F) S1x2048x704 .bf16)), Σ' (L6 : List (View.Piece (Elt F) S2048x1024 .f32)), { L7 : List (View.Piece (Elt F) S8x8x704 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_ffn0_bwd_in i arg2 harg2 arg3 harg3 arg4 harg4 arg5 harg5 arg6 harg6 arg7 harg7 arg8 harg8 arg9 harg9) K } := by
  refine ⟨?_, ?_, ?_, fun E K => ?run⟩
  case run =>
    simp only [cc0_ffn0_bwd_in_eq_skeleton]; unfold cc0_ffn0_bwd_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.Kernel2Ideal.Body

end
-- ==== Proof.ConvIdealRunB.lean ====
module

public import proofs.«01_k».proof.Proof.ConvIdealRunA

/-! The convolution's gradient, idealized: the body at the points of case B. -/

@[expose] public section

set_option maxRecDepth 16384

noncomputable section

namespace Cert.Kernel2Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B: from the inputs' blocks the body runs to its end, leaves the inputs as they were and writes the pieces found here into each output. -/
noncomputable def kernelRun0_B (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : ¬cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo6 : Vec F S2048x1024 .f32) (xo7 : Vec F S8x8x704 .f32) :
    Σ' (L5 : List (View.Piece (Elt F) S1x2048x704 .bf16)), Σ' (L6 : List (View.Piece (Elt F) S2048x1024 .f32)), { L7 : List (View.Piece (Elt F) S8x8x704 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xo7) L7)) -∗ K ⟨⟩))
          ⊢ wp frame (wpE (defs₀ (F := F)) Variants.none c none) E (cc0_ffn0_bwd_in i arg2 harg2 arg3 harg3 arg4 harg4 arg5 harg5 arg6 harg6 arg7 harg7 arg8 harg8 arg9 harg9) K } := by
  refine ⟨?_, ?_, ?_, fun E K => ?run⟩
  case run =>
    simp only [cc0_ffn0_bwd_in_eq_skeleton]; unfold cc0_ffn0_bwd_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexact H7

end Cert.Kernel2Ideal.Body

end
-- ==== Proof.ConvIdealRunC.lean ====
module

public import proofs.«01_k».proof.Proof.ConvIdealRunB

/-! The convolution's gradient, idealized: the body at the points of case C. -/

@[expose] public section

set_option maxRecDepth 16384

noncomputable section

namespace Cert.Kernel2Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C: from the inputs' blocks the body runs to its end, leaves the inputs as they were and writes the pieces found here into each output. -/
noncomputable def kernelRun0_C (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo7 : Vec F S8x8x704 .f32) :
    Σ' (L5 : List (View.Piece (Elt F) S1x2048x704 .bf16)), Σ' (L6 : List (View.Piece (Elt F) S2048x1024 .f32)), { L7 : List (View.Piece (Elt F) S8x8x704 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xo7) L7)) -∗ K ⟨⟩))
          ⊢ wp frame (wpE (defs₀ (F := F)) Variants.none c none) E (cc0_ffn0_bwd_in i arg2 harg2 arg3 harg3 arg4 harg4 arg5 harg5 arg6 harg6 arg7 harg7 arg8 harg8 arg9 harg9) K } := by
  refine ⟨?_, ?_, ?_, fun E K => ?run⟩
  case run =>
    simp only [cc0_ffn0_bwd_in_eq_skeleton]; unfold cc0_ffn0_bwd_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexact H7

end Cert.Kernel2Ideal.Body

end
-- ==== Proof.ConvIdealFrame.lean ====
module

public import proofs.«01_k».proof.Proof.ConvIdealRunC
public import Idealize.ShloMosaic.Lib.Claim

/-! The convolution's gradient, idealized: the run and the frame. -/

@[expose] public section

set_option maxRecDepth 16384

noncomputable section

namespace Cert.Kernel2Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In case A the stores into output 5 cover its block. -/
theorem cover0_A_5 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : cond0_1 i)
    (x0 : Vec F S1x1x2048x704 .bf16) (x1 : Vec F S1x1x16x704 .bf16) (x2 : Vec F S1x2048x704 .bf16) (x3 : Vec F S1x8x704 .f32) (x4 : Vec F S1x1024x704 .bf16) (y : S1x2048x704.Idx) :
    ∃ pc ∈ (kernelRun0_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).1 S1x256x704.size (by sl_kernel_rfl) y

/-- What case A leaves in output 5's buffer. -/
def out0_A_5 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : cond0_1 i)
    (x0 : Vec F S1x1x2048x704 .bf16) (x1 : Vec F S1x1x16x704 .bf16) (x2 : Vec F S1x2048x704 .bf16) (x3 : Vec F S1x8x704 .f32) (x4 : Vec F S1x1024x704 .bf16) : Vec F S1x2048x704 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)

/-- In case A the stores into output 6 cover its block. -/
theorem cover0_A_6 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : cond0_1 i)
    (x0 : Vec F S1x1x2048x704 .bf16) (x1 : Vec F S1x1x16x704 .bf16) (x2 : Vec F S1x2048x704 .bf16) (x3 : Vec F S1x8x704 .f32) (x4 : Vec F S1x1024x704 .bf16) (y : S2048x1024.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledBy (kernelRun0_A c i arg2 harg2 arg3 harg3 arg4 harg4 arg5 harg5 arg6 harg6 arg7 harg7 arg8 harg8 arg9 harg9 hc0 hc1 x0 x1 x2 x3 x4).2.1 ![256, 1024] (by sl_kernel_rfl) y

/-- What case A leaves in output 6's buffer. -/
def out0_A_6 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : cond0_1 i)
    (x0 : Vec F S1x1x2048x704 .bf16) (x1 : Vec F S1x1x16x704 .bf16) (x2 : Vec F S1x2048x704 .bf16) (x3 : Vec F S1x8x704 .f32) (x4 : Vec F S1x1024x704 .bf16) : Vec F S2048x1024 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4).2.1)

/-- In case A the stores into output 7 cover its block. -/
theorem cover0_A_7 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : cond0_1 i)
    (x0 : Vec F S1x1x2048x704 .bf16) (x1 : Vec F S1x1x16x704 .bf16) (x2 : Vec F S1x2048x704 .bf16) (x3 : Vec F S1x8x704 .f32) (x4 : Vec F S1x1024x704 .bf16) (y : S8x8x704.Idx) :
    ∃ pc ∈ (kernelRun0_A c i arg2 harg2 arg3 harg3 arg4 harg4 arg5 harg5 arg6 harg6 arg7 harg7 arg8 harg8 arg9 harg9 hc0 hc1 x0 x1 x2 x3 x4).2.2.1, y ∈ pc.1.set :=
  View.cover_of_wholeMem (kernelRun0_A c i arg2 harg2 arg3 harg3 arg4 harg4 arg5 harg5 arg6 harg6 arg7 harg7 arg8 harg8 arg9 harg9 hc0 hc1 x0 x1 x2 x3 x4).2.2.1 (by sl_whole_mem) y

/-- What case A leaves in output 7's buffer. -/
def out0_A_7 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : cond0_1 i)
    (x0 : Vec F S1x1x2048x704 .bf16) (x1 : Vec F S1x1x16x704 .bf16) (x2 : Vec F S1x2048x704 .bf16) (x3 : Vec F S1x8x704 .f32) (x4 : Vec F S1x1024x704 .bf16) : Vec F S8x8x704 .f32 :=
  VO0_7.read (Elt F) (VO0_7.writes (Elt F) VO0_7.junk (kernelRun0_A c i arg2 harg2 arg3 harg3 arg4 harg4 arg5 harg5 arg6 harg6 arg7 harg7 arg8 harg8 arg9 harg9 hc0 hc1 x0 x1 x2 x3 x4).2.2.1)

/-- In case B the stores into output 5 cover its block. -/
theorem cover0_B_5 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : ¬cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo6 : Vec F S2048x1024 .f32) (xo7 : Vec F S8x8x704 .f32) (y : S1x2048x704.Idx) :
    ∃ pc ∈ (kernelRun0_B c i arg2 harg2 arg3 harg3 arg4 harg4 arg5 harg5 arg6 harg6 arg7 harg7 arg8 harg8 arg9 harg9 hc0 hc1 x0 x1 x2 x3 x4 xo6 xo7).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xo6 xo7).1 S1x256x704.size (by sl_kernel_rfl) y

/-- What case B leaves in output 5's buffer. -/
def out0_B_5 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : ¬cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo6 : Vec F S2048x1024 .f32) (xo7 : Vec F S8x8x704 .f32) : Vec F S1x2048x704 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xo6 xo7).1)

/-- In case B the stores into output 6 cover its block. -/
theorem cover0_B_6 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : ¬cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo6 : Vec F S2048x1024 .f32) (xo7 : Vec F S8x8x704 .f32) (y : S2048x1024.Idx) :
    ∃ pc ∈ (kernelRun0_B c i arg2 harg2 arg3 harg3 arg4 harg4 arg5 harg5 arg6 harg6 arg7 harg7 arg8 harg8 arg9 harg9 hc0 hc1 x0 x1 x2 x3 x4 xo6 xo7).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xo6 xo7).2.1 S256x1024.size (by sl_kernel_rfl) y

/-- What case B leaves in output 6's buffer. -/
def out0_B_6 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : ¬cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo6 : Vec F S2048x1024 .f32) (xo7 : Vec F S8x8x704 .f32) : Vec F S2048x1024 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 xo6 xo7).2.1)

/-- What case B leaves in output 7's buffer. -/
def out0_B_7 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : ¬cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo6 : Vec F S2048x1024 .f32) (xo7 : Vec F S8x8x704 .f32) : Vec F S8x8x704 .f32 :=
  arg9.view.read (Elt F) (arg9.view.writes (Elt F) (harg9.unread xo7) (kernelRun0_B c i arg2 harg2 arg3 harg3 arg4 harg4 arg5 harg5 arg6 harg6 arg7 harg7 arg8 harg8 arg9 harg9 hc0 hc1 x0 x1 x2 x3 x4 xo6 xo7).2.2.1)

/-- In case C the stores into output 5 cover its block. -/
theorem cover0_C_5 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo7 : Vec F S8x8x704 .f32) (y : S1x2048x704.Idx) :
    ∃ pc ∈ (kernelRun0_C c i arg2 harg2 arg3 harg3 arg4 harg4 arg5 harg5 arg6 harg6 arg7 harg7 arg8 harg8 arg9 harg9 hc0 hc1 x0 x1 x2 x3 x4 xo7).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xo7).1 S1x256x704.size (by sl_kernel_rfl) y

/-- What case C leaves in output 5's buffer. -/
def out0_C_5 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo7 : Vec F S8x8x704 .f32) : Vec F S1x2048x704 .bf16 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xo7).1)

/-- In case C the stores into output 6 cover its block. -/
theorem cover0_C_6 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo7 : Vec F S8x8x704 .f32) (y : S2048x1024.Idx) :
    ∃ pc ∈ (kernelRun0_C c i arg2 harg2 arg3 harg3 arg4 harg4 arg5 harg5 arg6 harg6 arg7 harg7 arg8 harg8 arg9 harg9 hc0 hc1 x0 x1 x2 x3 x4 xo7).2.1, y ∈ pc.1.set :=
  View.cover_of_tiledBy (kernelRun0_C c i arg2 harg2 arg3 harg3 arg4 harg4 arg5 harg5 arg6 harg6 arg7 harg7 arg8 harg8 arg9 harg9 hc0 hc1 x0 x1 x2 x3 x4 xo7).2.1 ![256, 1024] (by sl_kernel_rfl) y

/-- What case C leaves in output 6's buffer. -/
def out0_C_6 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo7 : Vec F S8x8x704 .f32) : Vec F S2048x1024 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 xo7).2.1)

/-- What case C leaves in output 7's buffer. -/
def out0_C_7 (c : Dev nD) (i : grid0.Coords) (arg2 : Memref sig .tc .vmem S1x1x2048x704 .bf16) (harg2 : arg2.IsWhole) (arg3 : Memref sig .tc .vmem S1x1x16x704 .bf16) (harg3 : arg3.IsWhole) (arg4 : Memref sig .tc .vmem S1x2048x704 .bf16) (harg4 : arg4.IsWhole) (arg5 : Memref sig .tc .vmem S1x8x704 .f32) (harg5 : arg5.IsWhole) (arg6 : Memref sig .tc .vmem S1x1024x704 .bf16) (harg6 : arg6.IsWhole) (arg7 : Memref sig .tc .vmem S1x2048x704 .bf16) (harg7 : arg7.IsWhole) (arg8 : Memref sig .tc .vmem S2048x1024 .f32) (harg8 : arg8.IsWhole) (arg9 : Memref sig .tc .vmem S8x8x704 .f32) (harg9 : arg9.IsWhole) (hc0 : cond0_0 i) (hc1 : ¬cond0_1 i)
    (x0 : Vec F S1x1x2048x704 .bf16) (x1 : Vec F S1x1x16x704 .bf16) (x2 : Vec F S1x2048x704 .bf16) (x3 : Vec F S1x8x704 .f32) (x4 : Vec F S1x1024x704 .bf16) (xo7 : Vec F S8x8x704 .f32) : Vec F S8x8x704 .f32 :=
  arg9.view.read (Elt F) (arg9.view.writes (Elt F) (harg9.unread xo7) (kernelRun0_C c i arg2 harg2 arg3 harg3 arg4 harg4 arg5 harg5 arg6 harg6 arg7 harg7 arg8 harg8 arg9 harg9 hc0 hc1 x0 x1 x2 x3 x4 xo7).2.2.1)

/-- What the outputs' buffers hold after the body at each grid point, by recursion on the point. -/
def outsAt0 (c : Dev nD) : (n : ℕ) → n < cfg0.N → Vec F S1x2048x704 .bf16 × Vec F S2048x1024 .f32 × Vec F S8x8x704 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 16 = 0 then
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)
    else
      if h1 : (n + 1) % 16 = 0 then
        False.elim (by have hN : n + 1 < 16 := lt_of_lt_of_eq hn (show cfg0.N = 16 from N_0); omega)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)

/-- The outputs' contents after a point of case A. -/
theorem outsAt0_A (c : Dev nD) (t : Fin cfg0.N) (h0 : t.val % 8 = 0) (h1 : t.val % 16 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans rfl)

/-- The outputs' contents after a point of case B. -/
theorem outsAt0_B (c : Dev nD) (t : Fin cfg0.N) (h0 : ¬t.val % 8 = 0) (h1 : ¬t.val % 16 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The outputs' contents after a point of case C. -/
theorem outsAt0_C (c : Dev nD) (t : Fin cfg0.N) (h0 : t.val % 8 = 0) (h1 : ¬t.val % 16 = 0) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h1); exact absurd (Nat.zero_mod _) h1)
  | succ n => exact (dif_pos h0).trans ((dif_neg h1).trans rfl)

/-- The proof data: arrays as the call finds them, inputs' blocks, outputs as `outsAt0` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2
  Φ _ := Pipeline.ΦA spec0 c
  q w := Pipeline.shareOf spec0 w
  owed _ := 0

/-- The arrays of the proof data are those the call finds. -/
theorem A_eq (c : Dev nD) (w : Fin cfg0.W) : (dats m 0 c).A w = V m c (Pipeline.arrRef spec0 w) := by
  dsimp only [dats]

/-- Window 0's buffer after the body at a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2 := by dsimp only [dats]

/-- Window 0's buffer before the body at a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 6's buffer holds what the point before left. -/
theorem before0_6_B (c : Dev nD) (t : Fin cfg0.N) (h0 : ¬t.val % 8 = 0) (h1 : ¬t.val % 16 = 0) (d) :
    (dats m 0 c).before 6 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]
/-- At a point of case B output 7's buffer holds what the point before left. -/
theorem before0_7_B (c : Dev nD) (t : Fin cfg0.N) (h0 : ¬t.val % 8 = 0) (h1 : ¬t.val % 16 = 0) (d) :
    (dats m 0 c).before 7 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case C output 7's buffer holds what the point before left. -/
theorem before0_7_C (c : Dev nD) (t : Fin cfg0.N) (h0 : t.val % 8 = 0) (h1 : ¬t.val % 16 = 0) (d) :
    (dats m 0 c).before 7 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 2400000 in
/-- The body at any point takes its precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 16 := lt_of_lt_of_eq t.isLt (show cfg0.N = 16 from N_0)
  by_cases h0 : t.val % 8 = 0
  · by_cases h1 : t.val % 16 = 0
    · rw [outsAt0_A m c t h0 h1]
      unfold out0_A_5 out0_A_6 out0_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ ((hcond0_0 t).mpr h0) ((hcond0_1 t).mpr h1) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iintro ⟨H0, H1, H2, H3, H4, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _)
    · rw [outsAt0_C m c t h0 h1]
      simp only [before0_7_C m c t h0 h1]
      unfold out0_C_5 out0_C_6 out0_C_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      iintro ⟨H0, H1, H2, H3, H4, ⟨%e5, H5⟩, ⟨%e6, H6⟩, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _)
      unfold owns; iexists _; isplitr
      swap; · iexact H7
      ipureintro; rfl
  · by_cases h1 : t.val % 16 = 0
    · exfalso; omega
    · rw [outsAt0_B m c t h0 h1]
      simp only [before0_6_B m c t h0 h1, before0_7_B m c t h0 h1]
      unfold out0_B_5 out0_B_6 out0_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      iintro ⟨H0, H1, H2, H3, H4, ⟨%e5, H5⟩, ⟨%e6, H6⟩, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _)
      unfold owns; iexists _; isplitr
      swap; · iexact H7
      ipureintro; rfl

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends with the arrays the proof data gives and with all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends with the arrays the proof data gives. -/
theorem run_main : θ_run defs (onTc (τ := τ) (main (F := F))) (s₀ m ρ) (Pipeline.FramePost cfgs (dats m) 0 (V m)) :=
  (θ_run defs _ _).mono (fun _ h => h.1) (run_main_quiescent m ρ)

/-- Every execution leaves the argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every execution leaves the argument arrays unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel2Ideal.Body

end
-- ==== Proof.ConvPay.lean ====
module

public import proofs.«01_k».proof.Proof.ConvIdealFrame
public import Idealize.ShloMosaic.Lib.Pipeline.ValueKit
public import Idealize.ShloMosaic.Lib.Pointwise
public import Idealize.ShloMosaic.Lib.Claim
public import Idealize.ShloMosaic.Lib.WritesUnit

/-! The convolution's gradient: what each stored value of the body is, entry by entry. -/

@[expose] public section

set_option maxRecDepth 16384

noncomputable section

namespace Cert.Kernel2Ideal.Conv

open Idealize.ShloMosaic Idealize.ShloMosaic.TcCoe Idealize.SL.Sem
open Idealize.ShloMosaic.Pipeline (Dat)
open Cert.Kernel2Ideal Cert.Kernel2Ideal.Gen

/-- The gradient at one entry: the three taps of the filter against three consecutive rows, the farthest row first. -/
def cv (w0 w1 w2 d2 d1 d0 : EReal) : EReal := w0 * d2 + w1 * d1 + w2 * d0

/-- The filter's rows. -/
theorem pay7_at (v : Vec Ideal S1x8x704 .f32) (k : Fin 8) (b : Fin 704) : k0_pay7 v (ix2 k b) = v (ix3 0 k b) := by
  pointwise [k0_pay7]

/-- The factor of the halo rows. -/
theorem pay6_at (i : grid0.Coords) : (k0_pay6 i : Ideal .f32) = if (i 0).val = 1 then 0 else 1 := by
  unfold k0_pay6
  have h : (i 0).val < 2 := (i 0).isLt
  interval_cases (i 0).val <;> simp [Scalar.cmpi, Scalar.select] <;> first | decide | rfl

/-- The zero fill of the product's block. -/
theorem pay4_at (x : S2048x1024.Idx) : (k0_pay4 : FVec Ideal S2048x1024 .f32) x = 0 := by
  pointwise [k0_pay4]

/-- The zero fill of the filter gradient's block. -/
theorem pay5_at (x : S8x8x704.Idx) : (k0_pay5 : FVec Ideal S8x8x704 .f32) x = 0 := by
  pointwise [k0_pay5]

/-- A window's rows, 2 further on. -/
theorem pay9_at (v : Vec Ideal S1x1x272x704 .bf16) (r : Fin 256) (b : Fin 704) :
    k0_pay9 v (ix2 r b) = v (ix4 0 0 ⟨r.val + 2, by omega⟩ b) := by
  pointwise [k0_pay9, k0_pay8]
  exact congrArg (fun n => v (ix4 0 0 n b)) (Fin.ext (by show _ = _; simp only []; omega))

/-- A window's rows, 1 further on. -/
theorem pay10_at (v : Vec Ideal S1x1x272x704 .bf16) (r : Fin 256) (b : Fin 704) :
    k0_pay10 v (ix2 r b) = v (ix4 0 0 ⟨r.val + 1, by omega⟩ b) := by
  pointwise [k0_pay10, k0_pay8]
  exact congrArg (fun n => v (ix4 0 0 n b)) (Fin.ext (by show _ = _; simp only []; omega))

/-- A window's rows, 0 further on. -/
theorem pay11_at (v : Vec Ideal S1x1x272x704 .bf16) (r : Fin 256) (b : Fin 704) :
    k0_pay11 v (ix2 r b) = v (ix4 0 0 ⟨r.val, by omega⟩ b) := by
  pointwise [k0_pay11, k0_pay8]

/-- A window's rows, 2 further on. -/
theorem pay20_at (v : Vec Ideal S1x1x272x704 .bf16) (r : Fin 256) (b : Fin 704) :
    k0_pay20 v (ix2 r b) = v (ix4 0 0 ⟨r.val + 2, by omega⟩ b) := by
  pointwise [k0_pay20, k0_pay19]
  exact congrArg (fun n => v (ix4 0 0 n b)) (Fin.ext (by show _ = _; simp only []; omega))

/-- A window's rows, 1 further on. -/
theorem pay21_at (v : Vec Ideal S1x1x272x704 .bf16) (r : Fin 256) (b : Fin 704) :
    k0_pay21 v (ix2 r b) = v (ix4 0 0 ⟨r.val + 1, by omega⟩ b) := by
  pointwise [k0_pay21, k0_pay19]
  exact congrArg (fun n => v (ix4 0 0 n b)) (Fin.ext (by show _ = _; simp only []; omega))

/-- A window's rows, 0 further on. -/
theorem pay22_at (v : Vec Ideal S1x1x272x704 .bf16) (r : Fin 256) (b : Fin 704) :
    k0_pay22 v (ix2 r b) = v (ix4 0 0 ⟨r.val, by omega⟩ b) := by
  pointwise [k0_pay22, k0_pay19]

/-- A window's rows, 2 further on. -/
theorem pay31_at (v : Vec Ideal S1x1x272x704 .bf16) (r : Fin 256) (b : Fin 704) :
    k0_pay31 v (ix2 r b) = v (ix4 0 0 ⟨r.val + 2, by omega⟩ b) := by
  pointwise [k0_pay31, k0_pay30]
  exact congrArg (fun n => v (ix4 0 0 n b)) (Fin.ext (by show _ = _; simp only []; omega))

/-- A window's rows, 1 further on. -/
theorem pay32_at (v : Vec Ideal S1x1x272x704 .bf16) (r : Fin 256) (b : Fin 704) :
    k0_pay32 v (ix2 r b) = v (ix4 0 0 ⟨r.val + 1, by omega⟩ b) := by
  pointwise [k0_pay32, k0_pay30]
  exact congrArg (fun n => v (ix4 0 0 n b)) (Fin.ext (by show _ = _; simp only []; omega))

/-- A window's rows, 0 further on. -/
theorem pay33_at (v : Vec Ideal S1x1x272x704 .bf16) (r : Fin 256) (b : Fin 704) :
    k0_pay33 v (ix2 r b) = v (ix4 0 0 ⟨r.val, by omega⟩ b) := by
  pointwise [k0_pay33, k0_pay30]

/-- A window's rows, 2 further on. -/
theorem pay58_at (v : Vec Ideal S1x1x272x704 .bf16) (r : Fin 256) (b : Fin 704) :
    k0_pay58 v (ix2 r b) = v (ix4 0 0 ⟨r.val + 2, by omega⟩ b) := by
  pointwise [k0_pay58, k0_pay57]
  exact congrArg (fun n => v (ix4 0 0 n b)) (Fin.ext (by show _ = _; simp only []; omega))

/-- A window's rows, 1 further on. -/
theorem pay59_at (v : Vec Ideal S1x1x272x704 .bf16) (r : Fin 256) (b : Fin 704) :
    k0_pay59 v (ix2 r b) = v (ix4 0 0 ⟨r.val + 1, by omega⟩ b) := by
  pointwise [k0_pay59, k0_pay57]
  exact congrArg (fun n => v (ix4 0 0 n b)) (Fin.ext (by show _ = _; simp only []; omega))

/-- A window's rows, 0 further on. -/
theorem pay60_at (v : Vec Ideal S1x1x272x704 .bf16) (r : Fin 256) (b : Fin 704) :
    k0_pay60 v (ix2 r b) = v (ix4 0 0 ⟨r.val, by omega⟩ b) := by
  pointwise [k0_pay60, k0_pay57]

/-- A window's rows, 2 further on. -/
theorem pay70_at (v : Vec Ideal S1x1x272x704 .bf16) (r : Fin 256) (b : Fin 704) :
    k0_pay70 v (ix2 r b) = v (ix4 0 0 ⟨r.val + 2, by omega⟩ b) := by
  pointwise [k0_pay70, k0_pay69]
  exact congrArg (fun n => v (ix4 0 0 n b)) (Fin.ext (by show _ = _; simp only []; omega))

/-- A window's rows, 1 further on. -/
theorem pay71_at (v : Vec Ideal S1x1x272x704 .bf16) (r : Fin 256) (b : Fin 704) :
    k0_pay71 v (ix2 r b) = v (ix4 0 0 ⟨r.val + 1, by omega⟩ b) := by
  pointwise [k0_pay71, k0_pay69]
  exact congrArg (fun n => v (ix4 0 0 n b)) (Fin.ext (by show _ = _; simp only []; omega))

/-- A window's rows, 0 further on. -/
theorem pay72_at (v : Vec Ideal S1x1x272x704 .bf16) (r : Fin 256) (b : Fin 704) :
    k0_pay72 v (ix2 r b) = v (ix4 0 0 ⟨r.val, by omega⟩ b) := by
  pointwise [k0_pay72, k0_pay69]

/-- A window's rows, 2 further on. -/
theorem pay81_at (v : Vec Ideal S1x1x272x704 .bf16) (r : Fin 256) (b : Fin 704) :
    k0_pay81 v (ix2 r b) = v (ix4 0 0 ⟨r.val + 2, by omega⟩ b) := by
  pointwise [k0_pay81, k0_pay80]
  exact congrArg (fun n => v (ix4 0 0 n b)) (Fin.ext (by show _ = _; simp only []; omega))

/-- A window's rows, 1 further on. -/
theorem pay82_at (v : Vec Ideal S1x1x272x704 .bf16) (r : Fin 256) (b : Fin 704) :
    k0_pay82 v (ix2 r b) = v (ix4 0 0 ⟨r.val + 1, by omega⟩ b) := by
  pointwise [k0_pay82, k0_pay80]
  exact congrArg (fun n => v (ix4 0 0 n b)) (Fin.ext (by show _ = _; simp only []; omega))

/-- A window's rows, 0 further on. -/
theorem pay83_at (v : Vec Ideal S1x1x272x704 .bf16) (r : Fin 256) (b : Fin 704) :
    k0_pay83 v (ix2 r b) = v (ix4 0 0 ⟨r.val, by omega⟩ b) := by
  pointwise [k0_pay83, k0_pay80]

/-- A window's rows, 2 further on. -/
theorem pay44_at (v : FVec Ideal S272x704 .bf16) (r : Fin 256) (b : Fin 704) :
    k0_pay44 v (ix2 r b) = v (ix2 ⟨r.val + 2, by omega⟩ b) := by
  pointwise [k0_pay44, k0_pay43]
  exact congrArg (fun n => v (ix2 n b)) (Fin.ext (by show _ = _; simp only []; omega))

/-- A window's rows, 1 further on. -/
theorem pay45_at (v : FVec Ideal S272x704 .bf16) (r : Fin 256) (b : Fin 704) :
    k0_pay45 v (ix2 r b) = v (ix2 ⟨r.val + 1, by omega⟩ b) := by
  pointwise [k0_pay45, k0_pay43]
  exact congrArg (fun n => v (ix2 n b)) (Fin.ext (by show _ = _; simp only []; omega))

/-- A window's rows, 0 further on. -/
theorem pay46_at (v : FVec Ideal S272x704 .bf16) (r : Fin 256) (b : Fin 704) :
    k0_pay46 v (ix2 r b) = v (ix2 ⟨r.val, by omega⟩ b) := by
  pointwise [k0_pay46, k0_pay43]

/-- The fourth window, read flat. -/
theorem pay42_at (v : Vec Ideal S1x1x272x704 .bf16) (r : Fin 272) (b : Fin 704) : k0_pay42 v (ix2 r b) = v (ix4 0 0 r b) := by
  pointwise [k0_pay42]

/-- The last window: the block's last rows, then the halo rows times their factor. -/
theorem pay91_at (k : Ideal .f32) (v : Vec Ideal S1x1x256x704 .bf16) (h : Vec Ideal S1x1x16x704 .bf16) (r : Fin 272) (b : Fin 704) :
    k0_pay91 k v h (ix2 r b) = if h' : r.val < 256 then v (ix4 0 0 ⟨r.val, by omega⟩ b) else h (ix4 0 0 ⟨r.val - 256, by omega⟩ b) * k := by
  pointwise [k0_pay91]

/-- The last window's rows, 2 further on. -/
theorem pay92_at (k : Ideal .f32) (v : Vec Ideal S1x1x256x704 .bf16) (h : Vec Ideal S1x1x16x704 .bf16) (r : Fin 256) (b : Fin 704) :
    k0_pay92 k v h (ix2 r b) = k0_pay91 k v h (ix2 ⟨r.val + 2, by omega⟩ b) := by
  pointwise [k0_pay92]
  exact congrArg (fun n => k0_pay91 k v h (ix2 n b)) (Fin.ext (by show _ = _; simp only []; omega))

/-- The last window's rows, 1 further on. -/
theorem pay93_at (k : Ideal .f32) (v : Vec Ideal S1x1x256x704 .bf16) (h : Vec Ideal S1x1x16x704 .bf16) (r : Fin 256) (b : Fin 704) :
    k0_pay93 k v h (ix2 r b) = k0_pay91 k v h (ix2 ⟨r.val + 1, by omega⟩ b) := by
  pointwise [k0_pay93]
  exact congrArg (fun n => k0_pay91 k v h (ix2 n b)) (Fin.ext (by show _ = _; simp only []; omega))

/-- The last window's rows, 0 further on. -/
theorem pay94_at (k : Ideal .f32) (v : Vec Ideal S1x1x256x704 .bf16) (h : Vec Ideal S1x1x16x704 .bf16) (r : Fin 256) (b : Fin 704) :
    k0_pay94 k v h (ix2 r b) = k0_pay91 k v h (ix2 ⟨r.val, by omega⟩ b) := by
  pointwise [k0_pay94]

/-- The gradient's rows of one window. -/
theorem pay23_at (w : FVec Ideal S8x704 .f32) (v : Vec Ideal S1x1x272x704 .bf16) (r : Fin 256) (b : Fin 704) :
    k0_pay23 w v (ix2 r b) = cv (w (ix2 0 b)) (w (ix2 1 b)) (w (ix2 2 b)) (v (ix4 0 0 ⟨r.val + 2, by omega⟩ b)) (v (ix4 0 0 ⟨r.val + 1, by omega⟩ b)) (v (ix4 0 0 ⟨r.val, by omega⟩ b)) := by
  rw [← pay20_at v, ← pay21_at v, ← pay22_at v]
  pointwise [k0_pay23, cv]

/-- The gradient's rows of one window. -/
theorem pay61_at (w : FVec Ideal S8x704 .f32) (v : Vec Ideal S1x1x272x704 .bf16) (r : Fin 256) (b : Fin 704) :
    k0_pay61 w v (ix2 r b) = cv (w (ix2 0 b)) (w (ix2 1 b)) (w (ix2 2 b)) (v (ix4 0 0 ⟨r.val + 2, by omega⟩ b)) (v (ix4 0 0 ⟨r.val + 1, by omega⟩ b)) (v (ix4 0 0 ⟨r.val, by omega⟩ b)) := by
  rw [← pay58_at v, ← pay59_at v, ← pay60_at v]
  pointwise [k0_pay61, cv]

/-- The gradient's rows of one window. -/
theorem pay73_at (w : FVec Ideal S8x704 .f32) (v : Vec Ideal S1x1x272x704 .bf16) (r : Fin 256) (b : Fin 704) :
    k0_pay73 w v (ix2 r b) = cv (w (ix2 0 b)) (w (ix2 1 b)) (w (ix2 2 b)) (v (ix4 0 0 ⟨r.val + 2, by omega⟩ b)) (v (ix4 0 0 ⟨r.val + 1, by omega⟩ b)) (v (ix4 0 0 ⟨r.val, by omega⟩ b)) := by
  rw [← pay70_at v, ← pay71_at v, ← pay72_at v]
  pointwise [k0_pay73, cv]

/-- The gradient's rows of one window. -/
theorem pay84_at (w : FVec Ideal S8x704 .f32) (v : Vec Ideal S1x1x272x704 .bf16) (r : Fin 256) (b : Fin 704) :
    k0_pay84 w v (ix2 r b) = cv (w (ix2 0 b)) (w (ix2 1 b)) (w (ix2 2 b)) (v (ix4 0 0 ⟨r.val + 2, by omega⟩ b)) (v (ix4 0 0 ⟨r.val + 1, by omega⟩ b)) (v (ix4 0 0 ⟨r.val, by omega⟩ b)) := by
  rw [← pay81_at v, ← pay82_at v, ← pay83_at v]
  pointwise [k0_pay84, cv]

/-- The gradient's rows of the first window. -/
theorem pay12_at (x : Vec Ideal S1x8x704 .f32) (v : Vec Ideal S1x1x272x704 .bf16) (r : Fin 256) (b : Fin 704) :
    k0_pay12 x v (ix2 r b) = cv (k0_pay7 x (ix2 0 b)) (k0_pay7 x (ix2 1 b)) (k0_pay7 x (ix2 2 b)) (v (ix4 0 0 ⟨r.val + 2, by omega⟩ b)) (v (ix4 0 0 ⟨r.val + 1, by omega⟩ b)) (v (ix4 0 0 ⟨r.val, by omega⟩ b)) := by
  rw [← pay9_at v, ← pay10_at v, ← pay11_at v]
  pointwise [k0_pay12, cv]

/-- The gradient's rows of the fourth window. -/
theorem pay47_at (w : FVec Ideal S8x704 .f32) (v : FVec Ideal S272x704 .bf16) (r : Fin 256) (b : Fin 704) :
    k0_pay47 w v (ix2 r b) = cv (w (ix2 0 b)) (w (ix2 1 b)) (w (ix2 2 b)) (v (ix2 ⟨r.val + 2, by omega⟩ b)) (v (ix2 ⟨r.val + 1, by omega⟩ b)) (v (ix2 ⟨r.val, by omega⟩ b)) := by
  rw [← pay44_at v, ← pay45_at v, ← pay46_at v]
  pointwise [k0_pay47, cv]

/-- The gradient's rows from the taps. -/
theorem pay35_at (w : FVec Ideal S8x704 .f32) (t2 t1 t0 : FVec Ideal S256x704 .f32) (r : Fin 256) (b : Fin 704) :
    k0_pay35 w t2 t1 t0 (k0_pay34 w) (ix2 r b) = cv (w (ix2 0 b)) (w (ix2 1 b)) (w (ix2 2 b)) (t2 (ix2 r b)) (t1 (ix2 r b)) (t0 (ix2 r b)) := by
  pointwise [k0_pay35, k0_pay34, cv]

/-- The gradient's rows from the taps. -/
theorem pay96_at (w : FVec Ideal S8x704 .f32) (t2 t1 t0 : FVec Ideal S256x704 .f32) (r : Fin 256) (b : Fin 704) :
    k0_pay96 w t2 t1 t0 (k0_pay95 w) (ix2 r b) = cv (w (ix2 0 b)) (w (ix2 1 b)) (w (ix2 2 b)) (t2 (ix2 r b)) (t1 (ix2 r b)) (t0 (ix2 r b)) := by
  pointwise [k0_pay96, k0_pay95, cv]

/-- The stored gradient is the gradient's rows. -/
theorem pay13_at (x : Vec Ideal S1x8x704 .f32) (v : Vec Ideal S1x1x272x704 .bf16) (r : Fin 256) (b : Fin 704) : k0_pay13 x v (ix3 0 r b) = k0_pay12 x v (ix2 r b) := by
  pointwise [k0_pay13]

/-- The stored gradient is the gradient's rows. -/
theorem pay36_at (w : FVec Ideal S8x704 .f32) (t2 t1 t0 t : FVec Ideal S256x704 .f32) (r : Fin 256) (b : Fin 704) : k0_pay36 w t2 t1 t0 t (ix3 0 r b) = k0_pay35 w t2 t1 t0 t (ix2 r b) := by
  pointwise [k0_pay36]

/-- The stored gradient is the gradient's rows. -/
theorem pay97_at (w : FVec Ideal S8x704 .f32) (t2 t1 t0 t : FVec Ideal S256x704 .f32) (r : Fin 256) (b : Fin 704) : k0_pay97 w t2 t1 t0 t (ix3 0 r b) = k0_pay96 w t2 t1 t0 t (ix2 r b) := by
  pointwise [k0_pay97]

/-- The stored gradient is the gradient's rows. -/
theorem pay48_at (w : FVec Ideal S8x704 .f32) (v : FVec Ideal S272x704 .bf16) (r : Fin 256) (b : Fin 704) : k0_pay48 w v (ix3 0 r b) = k0_pay47 w v (ix2 r b) := by
  pointwise [k0_pay48]

/-- The stored gradient is the gradient's rows. -/
theorem pay62_at (w : FVec Ideal S8x704 .f32) (v : Vec Ideal S1x1x272x704 .bf16) (r : Fin 256) (b : Fin 704) : k0_pay62 w v (ix3 0 r b) = k0_pay61 w v (ix2 r b) := by
  pointwise [k0_pay62]

/-- The stored gradient is the gradient's rows. -/
theorem pay74_at (w : FVec Ideal S8x704 .f32) (v : Vec Ideal S1x1x272x704 .bf16) (r : Fin 256) (b : Fin 704) : k0_pay74 w v (ix3 0 r b) = k0_pay73 w v (ix2 r b) := by
  pointwise [k0_pay74]

/-- The stored gradient is the gradient's rows. -/
theorem pay85_at (w : FVec Ideal S8x704 .f32) (v : Vec Ideal S1x1x272x704 .bf16) (r : Fin 256) (b : Fin 704) : k0_pay85 w v (ix3 0 r b) = k0_pay84 w v (ix2 r b) := by
  pointwise [k0_pay85]

/-- The stored gradient is the gradient's rows. -/
theorem pay24_at (d : FVec Ideal S256x704 .bf16) (r : Fin 256) (b : Fin 704) : k0_pay24 d (ix3 0 r b) = d (ix2 r b) := by
  pointwise [k0_pay24]

/-- The product's rows: the gradient's rows against the weight's rows, added to what was there. -/
theorem pay14_at (d : FVec Ideal S256x704 .bf16) (p : Vec Ideal S256x1024 .f32) (q : Vec Ideal S1x1024x704 .bf16) (r : Fin 256) (j : Fin 1024) :
    k0_pay14 d p q (ix2 r j) = p (ix2 r j) + ∑ b : Fin 704, d (ix2 r b) * q (ix3 0 j b) := by
  pointwise [k0_pay14]

/-- The product's rows: the gradient's rows against the weight's rows, added to what was there. -/
theorem pay25_at (d : FVec Ideal S256x704 .bf16) (p : Vec Ideal S256x1024 .f32) (q : Vec Ideal S1x1024x704 .bf16) (r : Fin 256) (j : Fin 1024) :
    k0_pay25 d p q (ix2 r j) = p (ix2 r j) + ∑ b : Fin 704, d (ix2 r b) * q (ix3 0 j b) := by
  pointwise [k0_pay25]

/-- The product's rows: the gradient's rows against the weight's rows, added to what was there. -/
theorem pay86_at (d : FVec Ideal S256x704 .bf16) (p : Vec Ideal S256x1024 .f32) (q : Vec Ideal S1x1024x704 .bf16) (r : Fin 256) (j : Fin 1024) :
    k0_pay86 d p q (ix2 r j) = p (ix2 r j) + ∑ b : Fin 704, d (ix2 r b) * q (ix3 0 j b) := by
  pointwise [k0_pay86]

/-- The product's rows: the gradient's rows against the weight's rows, added to what was there. -/
theorem pay37_at (w : FVec Ideal S8x704 .f32) (t2 t1 t0 t : FVec Ideal S256x704 .f32) (p : Vec Ideal S256x1024 .f32) (q : Vec Ideal S1x1024x704 .bf16) (r : Fin 256) (j : Fin 1024) :
    k0_pay37 w t2 t1 t0 t p q (ix2 r j) = p (ix2 r j) + ∑ b : Fin 704, k0_pay35 w t2 t1 t0 t (ix2 r b) * q (ix3 0 j b) := by
  pointwise [k0_pay37]

/-- The product's rows: the gradient's rows against the weight's rows, added to what was there. -/
theorem pay98_at (w : FVec Ideal S8x704 .f32) (t2 t1 t0 t : FVec Ideal S256x704 .f32) (p : Vec Ideal S256x1024 .f32) (q : Vec Ideal S1x1024x704 .bf16) (r : Fin 256) (j : Fin 1024) :
    k0_pay98 w t2 t1 t0 t p q (ix2 r j) = p (ix2 r j) + ∑ b : Fin 704, k0_pay96 w t2 t1 t0 t (ix2 r b) * q (ix3 0 j b) := by
  pointwise [k0_pay98]

/-- The product's rows: the gradient's rows against the weight's rows, added to what was there. -/
theorem pay49_at (w : FVec Ideal S8x704 .f32) (v : FVec Ideal S272x704 .bf16) (p : Vec Ideal S256x1024 .f32) (q : Vec Ideal S1x1024x704 .bf16) (r : Fin 256) (j : Fin 1024) :
    k0_pay49 w v p q (ix2 r j) = p (ix2 r j) + ∑ b : Fin 704, k0_pay47 w v (ix2 r b) * q (ix3 0 j b) := by
  pointwise [k0_pay49]

/-- The product's rows: the gradient's rows against the weight's rows, added to what was there. -/
theorem pay63_at (w : FVec Ideal S8x704 .f32) (v : Vec Ideal S1x1x272x704 .bf16) (p : Vec Ideal S256x1024 .f32) (q : Vec Ideal S1x1024x704 .bf16) (r : Fin 256) (j : Fin 1024) :
    k0_pay63 w v p q (ix2 r j) = p (ix2 r j) + ∑ b : Fin 704, k0_pay61 w v (ix2 r b) * q (ix3 0 j b) := by
  pointwise [k0_pay63]

/-- The product's rows: the gradient's rows against the weight's rows, added to what was there. -/
theorem pay75_at (w : FVec Ideal S8x704 .f32) (v : Vec Ideal S1x1x272x704 .bf16) (p : Vec Ideal S256x1024 .f32) (q : Vec Ideal S1x1024x704 .bf16) (r : Fin 256) (j : Fin 1024) :
    k0_pay75 w v p q (ix2 r j) = p (ix2 r j) + ∑ b : Fin 704, k0_pay73 w v (ix2 r b) * q (ix3 0 j b) := by
  pointwise [k0_pay75]

/-- A tap's column sum against the inputs. -/
theorem pay16_at (t : FVec Ideal S256x704 .f32) (a : Vec Ideal S1x256x704 .bf16) (b : Fin 704) :
    k0_pay16 t a (ix2 0 b) = ∑ r : Fin 256, t (ix2 r b) * a (ix3 0 r b) := by
  pointwise [k0_pay16, k0_pay15]

/-- A tap's column sum against the inputs. -/
theorem pay17_at (t : FVec Ideal S256x704 .f32) (a : Vec Ideal S1x256x704 .bf16) (b : Fin 704) :
    k0_pay17 t a (ix2 0 b) = ∑ r : Fin 256, t (ix2 r b) * a (ix3 0 r b) := by
  pointwise [k0_pay17, k0_pay15]

/-- A tap's column sum against the inputs. -/
theorem pay18_at (t : FVec Ideal S256x704 .f32) (a : Vec Ideal S1x256x704 .bf16) (b : Fin 704) :
    k0_pay18 t a (ix2 0 b) = ∑ r : Fin 256, t (ix2 r b) * a (ix3 0 r b) := by
  pointwise [k0_pay18, k0_pay15]

/-- A tap's column sum against the inputs, added to the sum so far. -/
theorem pay27_at (s : FVec Ideal S1x704 .f32) (t : FVec Ideal S256x704 .f32) (a : Vec Ideal S1x256x704 .bf16) (b : Fin 704) :
    k0_pay27 s t a (ix2 0 b) = s (ix2 0 b) + ∑ r : Fin 256, t (ix2 r b) * a (ix3 0 r b) := by
  pointwise [k0_pay27, k0_pay26]

/-- A tap's column sum against the inputs, added to the sum so far. -/
theorem pay28_at (s : FVec Ideal S1x704 .f32) (t : FVec Ideal S256x704 .f32) (a : Vec Ideal S1x256x704 .bf16) (b : Fin 704) :
    k0_pay28 s t a (ix2 0 b) = s (ix2 0 b) + ∑ r : Fin 256, t (ix2 r b) * a (ix3 0 r b) := by
  pointwise [k0_pay28, k0_pay26]

/-- A tap's column sum against the inputs, added to the sum so far. -/
theorem pay29_at (s : FVec Ideal S1x704 .f32) (t : FVec Ideal S256x704 .f32) (a : Vec Ideal S1x256x704 .bf16) (b : Fin 704) :
    k0_pay29 s t a (ix2 0 b) = s (ix2 0 b) + ∑ r : Fin 256, t (ix2 r b) * a (ix3 0 r b) := by
  pointwise [k0_pay29, k0_pay26]

/-- A tap's column sum against the inputs, added to the sum so far. -/
theorem pay39_at (s : FVec Ideal S1x704 .f32) (t : FVec Ideal S256x704 .f32) (a : Vec Ideal S1x256x704 .bf16) (b : Fin 704) :
    k0_pay39 s t a (ix2 0 b) = s (ix2 0 b) + ∑ r : Fin 256, t (ix2 r b) * a (ix3 0 r b) := by
  pointwise [k0_pay39, k0_pay38]

/-- A tap's column sum against the inputs, added to the sum so far. -/
theorem pay40_at (s : FVec Ideal S1x704 .f32) (t : FVec Ideal S256x704 .f32) (a : Vec Ideal S1x256x704 .bf16) (b : Fin 704) :
    k0_pay40 s t a (ix2 0 b) = s (ix2 0 b) + ∑ r : Fin 256, t (ix2 r b) * a (ix3 0 r b) := by
  pointwise [k0_pay40, k0_pay38]

/-- A tap's column sum against the inputs, added to the sum so far. -/
theorem pay41_at (s : FVec Ideal S1x704 .f32) (t : FVec Ideal S256x704 .f32) (a : Vec Ideal S1x256x704 .bf16) (b : Fin 704) :
    k0_pay41 s t a (ix2 0 b) = s (ix2 0 b) + ∑ r : Fin 256, t (ix2 r b) * a (ix3 0 r b) := by
  pointwise [k0_pay41, k0_pay38]

/-- A tap's column sum against the inputs, added to the sum so far. -/
theorem pay77_at (s : FVec Ideal S1x704 .f32) (t : FVec Ideal S256x704 .f32) (a : Vec Ideal S1x256x704 .bf16) (b : Fin 704) :
    k0_pay77 s t a (ix2 0 b) = s (ix2 0 b) + ∑ r : Fin 256, t (ix2 r b) * a (ix3 0 r b) := by
  pointwise [k0_pay77, k0_pay76]

/-- A tap's column sum against the inputs, added to the sum so far. -/
theorem pay78_at (s : FVec Ideal S1x704 .f32) (t : FVec Ideal S256x704 .f32) (a : Vec Ideal S1x256x704 .bf16) (b : Fin 704) :
    k0_pay78 s t a (ix2 0 b) = s (ix2 0 b) + ∑ r : Fin 256, t (ix2 r b) * a (ix3 0 r b) := by
  pointwise [k0_pay78, k0_pay76]

/-- A tap's column sum against the inputs, added to the sum so far. -/
theorem pay79_at (s : FVec Ideal S1x704 .f32) (t : FVec Ideal S256x704 .f32) (a : Vec Ideal S1x256x704 .bf16) (b : Fin 704) :
    k0_pay79 s t a (ix2 0 b) = s (ix2 0 b) + ∑ r : Fin 256, t (ix2 r b) * a (ix3 0 r b) := by
  pointwise [k0_pay79, k0_pay76]

/-- A tap's column sum against the inputs, added to the sum so far. -/
theorem pay88_at (s : FVec Ideal S1x704 .f32) (t : FVec Ideal S256x704 .f32) (a : Vec Ideal S1x256x704 .bf16) (b : Fin 704) :
    k0_pay88 s t a (ix2 0 b) = s (ix2 0 b) + ∑ r : Fin 256, t (ix2 r b) * a (ix3 0 r b) := by
  pointwise [k0_pay88, k0_pay87]

/-- A tap's column sum against the inputs, added to the sum so far. -/
theorem pay89_at (s : FVec Ideal S1x704 .f32) (t : FVec Ideal S256x704 .f32) (a : Vec Ideal S1x256x704 .bf16) (b : Fin 704) :
    k0_pay89 s t a (ix2 0 b) = s (ix2 0 b) + ∑ r : Fin 256, t (ix2 r b) * a (ix3 0 r b) := by
  pointwise [k0_pay89, k0_pay87]

/-- A tap's column sum against the inputs, added to the sum so far. -/
theorem pay90_at (s : FVec Ideal S1x704 .f32) (t : FVec Ideal S256x704 .f32) (a : Vec Ideal S1x256x704 .bf16) (b : Fin 704) :
    k0_pay90 s t a (ix2 0 b) = s (ix2 0 b) + ∑ r : Fin 256, t (ix2 r b) * a (ix3 0 r b) := by
  pointwise [k0_pay90, k0_pay87]

/-- A tap's column sum against the inputs, added to the sum so far. -/
theorem pay100_at (s : FVec Ideal S1x704 .f32) (t : FVec Ideal S256x704 .f32) (a : Vec Ideal S1x256x704 .bf16) (b : Fin 704) :
    k0_pay100 s t a (ix2 0 b) = s (ix2 0 b) + ∑ r : Fin 256, t (ix2 r b) * a (ix3 0 r b) := by
  pointwise [k0_pay100, k0_pay99]

/-- A tap's column sum against the inputs, added to the sum so far. -/
theorem pay101_at (s : FVec Ideal S1x704 .f32) (t : FVec Ideal S256x704 .f32) (a : Vec Ideal S1x256x704 .bf16) (b : Fin 704) :
    k0_pay101 s t a (ix2 0 b) = s (ix2 0 b) + ∑ r : Fin 256, t (ix2 r b) * a (ix3 0 r b) := by
  pointwise [k0_pay101, k0_pay99]

/-- A tap's column sum against the inputs. -/
theorem pay51_at (v : FVec Ideal S272x704 .bf16) (a : Vec Ideal S1x256x704 .bf16) (b : Fin 704) :
    k0_pay51 v a (ix2 0 b) = ∑ r : Fin 256, k0_pay44 v (ix2 r b) * a (ix3 0 r b) := by
  pointwise [k0_pay51, k0_pay50]

/-- A tap's column sum against the inputs. -/
theorem pay52_at (v : FVec Ideal S272x704 .bf16) (a : Vec Ideal S1x256x704 .bf16) (b : Fin 704) :
    k0_pay52 v a (ix2 0 b) = ∑ r : Fin 256, k0_pay45 v (ix2 r b) * a (ix3 0 r b) := by
  pointwise [k0_pay52, k0_pay50]

/-- A tap's column sum against the inputs. -/
theorem pay53_at (v : FVec Ideal S272x704 .bf16) (a : Vec Ideal S1x256x704 .bf16) (b : Fin 704) :
    k0_pay53 v a (ix1 b) = ∑ r : Fin 256, k0_pay46 v (ix2 r b) * a (ix3 0 r b) := by
  pointwise [k0_pay53, k0_pay50]

/-- Two sums added. -/
theorem pay54_at (s t : FVec Ideal S1x704 .f32) (b : Fin 704) : k0_pay54 s t (ix2 0 b) = s (ix2 0 b) + t (ix2 0 b) := by
  pointwise [k0_pay54]

/-- Two sums added. -/
theorem pay55_at (s t : FVec Ideal S1x704 .f32) (b : Fin 704) : k0_pay55 s t (ix2 0 b) = s (ix2 0 b) + t (ix2 0 b) := by
  pointwise [k0_pay55]

/-- Two sums added. -/
theorem pay56_at (s : FVec Ideal S1x704 .f32) (t : FVec Ideal S704 .f32) (b : Fin 704) : k0_pay56 s t (ix2 0 b) = s (ix2 0 b) + t (ix1 b) := by
  pointwise [k0_pay56]

/-- The inputs, read flat. -/
theorem pay64_at (a : Vec Ideal S1x256x704 .bf16) (r : Fin 256) (b : Fin 704) : k0_pay64 a (ix2 r b) = a (ix3 0 r b) := by
  pointwise [k0_pay64]

/-- A tap times the inputs. -/
theorem pay65_at (v : Vec Ideal S1x1x272x704 .bf16) (a : Vec Ideal S1x256x704 .bf16) (r : Fin 256) (b : Fin 704) :
    k0_pay65 v a (ix2 r b) = k0_pay58 v (ix2 r b) * a (ix3 0 r b) := by
  pointwise [k0_pay65, k0_pay64]

/-- A column sum added to the sum so far. -/
theorem pay66_at (s : FVec Ideal S1x704 .f32) (t : FVec Ideal S256x704 .f32) (b : Fin 704) :
    k0_pay66 s t (ix2 0 b) = s (ix2 0 b) + ∑ r : Fin 256, t (ix2 r b) := by
  pointwise [k0_pay66]

/-- A tap's column sum against the inputs, added to the sum so far. -/
theorem pay67_at (s : FVec Ideal S1x704 .f32) (t a : FVec Ideal S256x704 .f32) (b : Fin 704) :
    k0_pay67 s t a (ix2 0 b) = s (ix2 0 b) + ∑ r : Fin 256, t (ix2 r b) * a (ix2 r b) := by
  pointwise [k0_pay67]

/-- A tap's column sum against the inputs, added to the sum so far. -/
theorem pay68_at (s : FVec Ideal S1x704 .f32) (t a : FVec Ideal S256x704 .f32) (b : Fin 704) :
    k0_pay68 s t a (ix2 0 b) = s (ix2 0 b) + ∑ r : Fin 256, t (ix2 r b) * a (ix2 r b) := by
  pointwise [k0_pay68]

/-- The last sum of the first tap. -/
theorem pay103_at (s : FVec Ideal S1x704 .f32) (t : FVec Ideal S256x704 .f32) (a : Vec Ideal S1x256x704 .bf16) (b : Fin 704) :
    k0_pay103 s t a (ix3 0 0 b) = s (ix2 0 b) + ∑ r : Fin 256, t (ix2 r b) * a (ix3 0 r b) := by
  pointwise [k0_pay103, k0_pay99]

/-- The first tap's row of the filter gradient. -/
theorem pay1_at (p : FVec Ideal S1x1x704 .f32) (s : FVec Ideal S1x1x704 .f32) (b : Fin 704) :
    k0_pay1 (k0_pay102 p) s (ix3 0 0 b) = p (ix3 0 0 b) + s (ix3 0 0 b) := by
  pointwise [k0_pay1, k0_pay102]

/-- The second tap's row of the filter gradient. -/
theorem pay2_at (s : FVec Ideal S1x704 .f32) (p : Vec Ideal S1x1x704 .f32) (b : Fin 704) :
    k0_pay2 s p (ix3 0 0 b) = p (ix3 0 0 b) + s (ix2 0 b) := by
  pointwise [k0_pay2]

/-- The third tap's row of the filter gradient. -/
theorem pay3_at (s : FVec Ideal S1x704 .f32) (p : Vec Ideal S1x1x704 .f32) (b : Fin 704) :
    k0_pay3 s p (ix3 0 0 b) = p (ix3 0 0 b) + s (ix2 0 b) := by
  pointwise [k0_pay3]

end Cert.Kernel2Ideal.Conv

end
-- ==== Proof.ConvBlocks.lean ====
module

public import proofs.«01_k».proof.Proof.ConvPay

/-! The convolution's gradient: what the body leaves in a block of each result, from the blocks it reads. -/

@[expose] public section

set_option maxRecDepth 16384

noncomputable section

namespace Cert.Kernel2Ideal.Conv

open Idealize.ShloMosaic Idealize.ShloMosaic.TcCoe Idealize.SL.Sem
open Idealize.ShloMosaic.Pipeline (Dat)
open Cert.Kernel2Ideal Cert.Kernel2Ideal.Gen Cert.Kernel2Ideal.Body

section Blocks

variable (kp : EReal) (x0 : Vec Ideal S1x1x2048x704 .bf16) (x1 : Vec Ideal S1x1x16x704 .bf16)
  (x2 : Vec Ideal S1x2048x704 .bf16) (x3 : Vec Ideal S1x8x704 .f32) (x4 : Vec Ideal S1x1024x704 .bf16)

/-- Row `n` of a block's cotangent, which goes on with the halo rows times their factor. -/
def row (n : ℕ) (b : Fin 704) : EReal :=
  if h : n < 2048 then x0 (ix4 0 0 ⟨n, h⟩ b) else if h' : n - 2048 < 16 then x1 (ix4 0 0 ⟨n - 2048, h'⟩ b) * kp else 0

/-- Row `n` of the gradient's block. -/
def grad (n : ℕ) (b : Fin 704) : EReal :=
  cv (x3 (ix3 0 0 b)) (x3 (ix3 0 1 b)) (x3 (ix3 0 2 b)) (row kp x0 x1 (n + 2) b) (row kp x0 x1 (n + 1) b) (row kp x0 x1 n b)

/-- Row `n` of what a block adds to the product. -/
def prodRow (n : ℕ) (j : Fin 1024) : EReal := ∑ b : Fin 704, grad kp x0 x1 x3 n b * x4 (ix3 0 j b)

/-- Row `n` of the inputs' block. -/
def inRow (n : ℕ) (b : Fin 704) : EReal := if h : n < 2048 then x2 (ix3 0 ⟨n, h⟩ b) else 0

/-- What rows `[n0, n0 + 256)` add to the filter's gradient at the tap which looks `d` rows further on. -/
def tapPart (d n0 : ℕ) (b : Fin 704) : EReal :=
  ∑ r : Fin 256, row kp x0 x1 (n0 + r.val + d) b * inRow x2 (n0 + r.val) b

/-- What a block adds to the filter's gradient at the tap which looks `d` rows further on. -/
def tapSum (d : ℕ) (b : Fin 704) : EReal :=
  ∑ n ∈ Finset.range 2048, row kp x0 x1 (n + d) b * inRow x2 n b

/-- The block's sum is the sum of its eight parts, in the body's order. -/
theorem tapSum_eq (d : ℕ) (b : Fin 704) :
    tapSum kp x0 x1 x2 d b = tapPart kp x0 x1 x2 d 0 b + tapPart kp x0 x1 x2 d 256 b + tapPart kp x0 x1 x2 d 512 b
      + tapPart kp x0 x1 x2 d 768 b + tapPart kp x0 x1 x2 d 1024 b + tapPart kp x0 x1 x2 d 1280 b
      + tapPart kp x0 x1 x2 d 1536 b + tapPart kp x0 x1 x2 d 1792 b := by
  have key : ∀ n : ℕ, ∑ x ∈ Finset.range (n + 256), row kp x0 x1 (x + d) b * inRow x2 x b
      = ∑ x ∈ Finset.range n, row kp x0 x1 (x + d) b * inRow x2 x b + tapPart kp x0 x1 x2 d n b := fun n => by
    rw [Finset.sum_range_add, tapPart, Finset.sum_range (n := 256)]
  exact ((key 1792).trans (congrArg (· + _) ((key 1536).trans (congrArg (· + _) ((key 1280).trans (congrArg (· + _) ((key 1024).trans (congrArg (· + _) ((key 768).trans (congrArg (· + _) ((key 512).trans (congrArg (· + _) ((key 256).trans (congrArg (· + _) ((key 0).trans ((congrArg (· + _) (Finset.sum_range_zero _)).trans (zero_add _)))))))))))))))))

/-- The load of window 0 of the cotangent. -/
theorem ld_win0 (r : Fin 272) (b : Fin 704) :
    View.ld x0 (Rect.unit ![0, 0, 0, 0] S1x1x272x704.size inb_S1x1x2048x704_S1x1x272x704_0_0_0_0) (ix4 0 0 r b)
      = row kp x0 x1 (0 + r.val) b := by
  rw [row, dif_pos (by omega)]
  exact View.ld_unit_apply_of x0 _ _ _ _ _ fun a => by fin_cases a <;> simp

/-- The load of window 1 of the cotangent. -/
theorem ld_win1 (r : Fin 272) (b : Fin 704) :
    View.ld x0 (Rect.unit ![0, 0, 256, 0] S1x1x272x704.size inb_S1x1x2048x704_S1x1x272x704_0_0_256_0) (ix4 0 0 r b)
      = row kp x0 x1 (256 + r.val) b := by
  rw [row, dif_pos (by omega)]
  exact View.ld_unit_apply_of x0 _ _ _ _ _ fun a => by fin_cases a <;> simp

/-- The load of window 2 of the cotangent. -/
theorem ld_win2 (r : Fin 272) (b : Fin 704) :
    View.ld x0 (Rect.unit ![0, 0, 512, 0] S1x1x272x704.size inb_S1x1x2048x704_S1x1x272x704_0_0_512_0) (ix4 0 0 r b)
      = row kp x0 x1 (512 + r.val) b := by
  rw [row, dif_pos (by omega)]
  exact View.ld_unit_apply_of x0 _ _ _ _ _ fun a => by fin_cases a <;> simp

/-- The load of window 3 of the cotangent. -/
theorem ld_win3 (r : Fin 272) (b : Fin 704) :
    View.ld x0 (Rect.unit ![0, 0, 768, 0] S1x1x272x704.size inb_S1x1x2048x704_S1x1x272x704_0_0_768_0) (ix4 0 0 r b)
      = row kp x0 x1 (768 + r.val) b := by
  rw [row, dif_pos (by omega)]
  exact View.ld_unit_apply_of x0 _ _ _ _ _ fun a => by fin_cases a <;> simp

/-- The load of window 4 of the cotangent. -/
theorem ld_win4 (r : Fin 272) (b : Fin 704) :
    View.ld x0 (Rect.unit ![0, 0, 1024, 0] S1x1x272x704.size inb_S1x1x2048x704_S1x1x272x704_0_0_1024_0) (ix4 0 0 r b)
      = row kp x0 x1 (1024 + r.val) b := by
  rw [row, dif_pos (by omega)]
  exact View.ld_unit_apply_of x0 _ _ _ _ _ fun a => by fin_cases a <;> simp

/-- The load of window 5 of the cotangent. -/
theorem ld_win5 (r : Fin 272) (b : Fin 704) :
    View.ld x0 (Rect.unit ![0, 0, 1280, 0] S1x1x272x704.size inb_S1x1x2048x704_S1x1x272x704_0_0_1280_0) (ix4 0 0 r b)
      = row kp x0 x1 (1280 + r.val) b := by
  rw [row, dif_pos (by omega)]
  exact View.ld_unit_apply_of x0 _ _ _ _ _ fun a => by fin_cases a <;> simp

/-- The load of window 6 of the cotangent. -/
theorem ld_win6 (r : Fin 272) (b : Fin 704) :
    View.ld x0 (Rect.unit ![0, 0, 1536, 0] S1x1x272x704.size inb_S1x1x2048x704_S1x1x272x704_0_0_1536_0) (ix4 0 0 r b)
      = row kp x0 x1 (1536 + r.val) b := by
  rw [row, dif_pos (by omega)]
  exact View.ld_unit_apply_of x0 _ _ _ _ _ fun a => by fin_cases a <;> simp

/-- The load of rows [0, 256) of the inputs. -/
theorem ld_in0 (r : Fin 256) (b : Fin 704) :
    View.ld x2 (Rect.unit ![0, 0, 0] S1x256x704.size inb_S1x2048x704_S1x256x704_0_0_0) (ix3 0 r b)
      = inRow x2 (0 + r.val) b := by
  rw [inRow, dif_pos (by omega)]
  exact View.ld_unit_apply_of x2 _ _ _ _ _ fun a => by fin_cases a <;> simp

/-- The load of rows [256, 512) of the inputs. -/
theorem ld_in1 (r : Fin 256) (b : Fin 704) :
    View.ld x2 (Rect.unit ![0, 256, 0] S1x256x704.size inb_S1x2048x704_S1x256x704_0_256_0) (ix3 0 r b)
      = inRow x2 (256 + r.val) b := by
  rw [inRow, dif_pos (by omega)]
  exact View.ld_unit_apply_of x2 _ _ _ _ _ fun a => by fin_cases a <;> simp

/-- The load of rows [512, 768) of the inputs. -/
theorem ld_in2 (r : Fin 256) (b : Fin 704) :
    View.ld x2 (Rect.unit ![0, 512, 0] S1x256x704.size inb_S1x2048x704_S1x256x704_0_512_0) (ix3 0 r b)
      = inRow x2 (512 + r.val) b := by
  rw [inRow, dif_pos (by omega)]
  exact View.ld_unit_apply_of x2 _ _ _ _ _ fun a => by fin_cases a <;> simp

/-- The load of rows [768, 1024) of the inputs. -/
theorem ld_in3 (r : Fin 256) (b : Fin 704) :
    View.ld x2 (Rect.unit ![0, 768, 0] S1x256x704.size inb_S1x2048x704_S1x256x704_0_768_0) (ix3 0 r b)
      = inRow x2 (768 + r.val) b := by
  rw [inRow, dif_pos (by omega)]
  exact View.ld_unit_apply_of x2 _ _ _ _ _ fun a => by fin_cases a <;> simp

/-- The load of rows [1024, 1280) of the inputs. -/
theorem ld_in4 (r : Fin 256) (b : Fin 704) :
    View.ld x2 (Rect.unit ![0, 1024, 0] S1x256x704.size inb_S1x2048x704_S1x256x704_0_1024_0) (ix3 0 r b)
      = inRow x2 (1024 + r.val) b := by
  rw [inRow, dif_pos (by omega)]
  exact View.ld_unit_apply_of x2 _ _ _ _ _ fun a => by fin_cases a <;> simp

/-- The load of rows [1280, 1536) of the inputs. -/
theorem ld_in5 (r : Fin 256) (b : Fin 704) :
    View.ld x2 (Rect.unit ![0, 1280, 0] S1x256x704.size inb_S1x2048x704_S1x256x704_0_1280_0) (ix3 0 r b)
      = inRow x2 (1280 + r.val) b := by
  rw [inRow, dif_pos (by omega)]
  exact View.ld_unit_apply_of x2 _ _ _ _ _ fun a => by fin_cases a <;> simp

/-- The load of rows [1536, 1792) of the inputs. -/
theorem ld_in6 (r : Fin 256) (b : Fin 704) :
    View.ld x2 (Rect.unit ![0, 1536, 0] S1x256x704.size inb_S1x2048x704_S1x256x704_0_1536_0) (ix3 0 r b)
      = inRow x2 (1536 + r.val) b := by
  rw [inRow, dif_pos (by omega)]
  exact View.ld_unit_apply_of x2 _ _ _ _ _ fun a => by fin_cases a <;> simp

/-- The load of rows [1792, 2048) of the inputs. -/
theorem ld_in7 (r : Fin 256) (b : Fin 704) :
    View.ld x2 (Rect.unit ![0, 1792, 0] S1x256x704.size inb_S1x2048x704_S1x256x704_0_1792_0) (ix3 0 r b)
      = inRow x2 (1792 + r.val) b := by
  rw [inRow, dif_pos (by omega)]
  exact View.ld_unit_apply_of x2 _ _ _ _ _ fun a => by fin_cases a <;> simp

/-- The last window: the last rows of the block and the halo. -/
theorem ld_win7 (r : Fin 272) (b : Fin 704) :
    k0_pay91 (kp : Ideal .f32) (View.ld x0 (Rect.unit ![0, 0, 1792, 0] S1x1x256x704.size inb_S1x1x2048x704_S1x1x256x704_0_0_1792_0)) x1 (ix2 r b)
      = row kp x0 x1 (1792 + r.val) b := by
  rw [pay91_at, row]
  by_cases h : r.val < 256
  · rw [dif_pos h, dif_pos (by omega)]
    exact View.ld_unit_apply_of x0 _ _ _ _ _ fun a => by fin_cases a <;> simp
  · rw [dif_neg h, dif_neg (by omega), dif_pos (by omega)]
    exact congrArg (fun n => x1 (ix4 0 0 n b) * kp) (Fin.ext (by show _ = _; simp only []; omega))

/-- Window 0's tap that looks 2 rows further on. -/
theorem tap0_2 (r : Fin 256) (b : Fin 704) :
    (k0_pay9 (View.ld x0 (Rect.unit ![0, 0, 0, 0] S1x1x272x704.size inb_S1x1x2048x704_S1x1x272x704_0_0_0_0))) (ix2 r b) = row kp x0 x1 (0 + r.val + 2) b := by
  rw [pay9_at, ld_win0 kp x0 x1]
  rfl

/-- Window 0's tap that looks 1 rows further on. -/
theorem tap0_1 (r : Fin 256) (b : Fin 704) :
    (k0_pay10 (View.ld x0 (Rect.unit ![0, 0, 0, 0] S1x1x272x704.size inb_S1x1x2048x704_S1x1x272x704_0_0_0_0))) (ix2 r b) = row kp x0 x1 (0 + r.val + 1) b := by
  rw [pay10_at, ld_win0 kp x0 x1]
  rfl

/-- Window 0's tap that looks 0 rows further on. -/
theorem tap0_0 (r : Fin 256) (b : Fin 704) :
    (k0_pay11 (View.ld x0 (Rect.unit ![0, 0, 0, 0] S1x1x272x704.size inb_S1x1x2048x704_S1x1x272x704_0_0_0_0))) (ix2 r b) = row kp x0 x1 (0 + r.val) b := by
  rw [pay11_at, ld_win0 kp x0 x1]

/-- Window 1's tap that looks 2 rows further on. -/
theorem tap1_2 (r : Fin 256) (b : Fin 704) :
    (k0_pay20 (View.ld x0 (Rect.unit ![0, 0, 256, 0] S1x1x272x704.size inb_S1x1x2048x704_S1x1x272x704_0_0_256_0))) (ix2 r b) = row kp x0 x1 (256 + r.val + 2) b := by
  rw [pay20_at, ld_win1 kp x0 x1]
  rfl

/-- Window 1's tap that looks 1 rows further on. -/
theorem tap1_1 (r : Fin 256) (b : Fin 704) :
    (k0_pay21 (View.ld x0 (Rect.unit ![0, 0, 256, 0] S1x1x272x704.size inb_S1x1x2048x704_S1x1x272x704_0_0_256_0))) (ix2 r b) = row kp x0 x1 (256 + r.val + 1) b := by
  rw [pay21_at, ld_win1 kp x0 x1]
  rfl

/-- Window 1's tap that looks 0 rows further on. -/
theorem tap1_0 (r : Fin 256) (b : Fin 704) :
    (k0_pay22 (View.ld x0 (Rect.unit ![0, 0, 256, 0] S1x1x272x704.size inb_S1x1x2048x704_S1x1x272x704_0_0_256_0))) (ix2 r b) = row kp x0 x1 (256 + r.val) b := by
  rw [pay22_at, ld_win1 kp x0 x1]

/-- Window 2's tap that looks 2 rows further on. -/
theorem tap2_2 (r : Fin 256) (b : Fin 704) :
    (k0_pay31 (View.ld x0 (Rect.unit ![0, 0, 512, 0] S1x1x272x704.size inb_S1x1x2048x704_S1x1x272x704_0_0_512_0))) (ix2 r b) = row kp x0 x1 (512 + r.val + 2) b := by
  rw [pay31_at, ld_win2 kp x0 x1]
  rfl

/-- Window 2's tap that looks 1 rows further on. -/
theorem tap2_1 (r : Fin 256) (b : Fin 704) :
    (k0_pay32 (View.ld x0 (Rect.unit ![0, 0, 512, 0] S1x1x272x704.size inb_S1x1x2048x704_S1x1x272x704_0_0_512_0))) (ix2 r b) = row kp x0 x1 (512 + r.val + 1) b := by
  rw [pay32_at, ld_win2 kp x0 x1]
  rfl

/-- Window 2's tap that looks 0 rows further on. -/
theorem tap2_0 (r : Fin 256) (b : Fin 704) :
    (k0_pay33 (View.ld x0 (Rect.unit ![0, 0, 512, 0] S1x1x272x704.size inb_S1x1x2048x704_S1x1x272x704_0_0_512_0))) (ix2 r b) = row kp x0 x1 (512 + r.val) b := by
  rw [pay33_at, ld_win2 kp x0 x1]

/-- Window 3's tap that looks 2 rows further on. -/
theorem tap3_2 (r : Fin 256) (b : Fin 704) :
    (k0_pay44 (k0_pay42 (View.ld x0 (Rect.unit ![0, 0, 768, 0] S1x1x272x704.size inb_S1x1x2048x704_S1x1x272x704_0_0_768_0)))) (ix2 r b) = row kp x0 x1 (768 + r.val + 2) b := by
  rw [pay44_at, pay42_at, ld_win3 kp x0 x1]
  rfl

/-- Window 3's tap that looks 1 rows further on. -/
theorem tap3_1 (r : Fin 256) (b : Fin 704) :
    (k0_pay45 (k0_pay42 (View.ld x0 (Rect.unit ![0, 0, 768, 0] S1x1x272x704.size inb_S1x1x2048x704_S1x1x272x704_0_0_768_0)))) (ix2 r b) = row kp x0 x1 (768 + r.val + 1) b := by
  rw [pay45_at, pay42_at, ld_win3 kp x0 x1]
  rfl

/-- Window 3's tap that looks 0 rows further on. -/
theorem tap3_0 (r : Fin 256) (b : Fin 704) :
    (k0_pay46 (k0_pay42 (View.ld x0 (Rect.unit ![0, 0, 768, 0] S1x1x272x704.size inb_S1x1x2048x704_S1x1x272x704_0_0_768_0)))) (ix2 r b) = row kp x0 x1 (768 + r.val) b := by
  rw [pay46_at, pay42_at, ld_win3 kp x0 x1]

/-- Window 4's tap that looks 2 rows further on. -/
theorem tap4_2 (r : Fin 256) (b : Fin 704) :
    (k0_pay58 (View.ld x0 (Rect.unit ![0, 0, 1024, 0] S1x1x272x704.size inb_S1x1x2048x704_S1x1x272x704_0_0_1024_0))) (ix2 r b) = row kp x0 x1 (1024 + r.val + 2) b := by
  rw [pay58_at, ld_win4 kp x0 x1]
  rfl

/-- Window 4's tap that looks 1 rows further on. -/
theorem tap4_1 (r : Fin 256) (b : Fin 704) :
    (k0_pay59 (View.ld x0 (Rect.unit ![0, 0, 1024, 0] S1x1x272x704.size inb_S1x1x2048x704_S1x1x272x704_0_0_1024_0))) (ix2 r b) = row kp x0 x1 (1024 + r.val + 1) b := by
  rw [pay59_at, ld_win4 kp x0 x1]
  rfl

/-- Window 4's tap that looks 0 rows further on. -/
theorem tap4_0 (r : Fin 256) (b : Fin 704) :
    (k0_pay60 (View.ld x0 (Rect.unit ![0, 0, 1024, 0] S1x1x272x704.size inb_S1x1x2048x704_S1x1x272x704_0_0_1024_0))) (ix2 r b) = row kp x0 x1 (1024 + r.val) b := by
  rw [pay60_at, ld_win4 kp x0 x1]

/-- Window 5's tap that looks 2 rows further on. -/
theorem tap5_2 (r : Fin 256) (b : Fin 704) :
    (k0_pay70 (View.ld x0 (Rect.unit ![0, 0, 1280, 0] S1x1x272x704.size inb_S1x1x2048x704_S1x1x272x704_0_0_1280_0))) (ix2 r b) = row kp x0 x1 (1280 + r.val + 2) b := by
  rw [pay70_at, ld_win5 kp x0 x1]
  rfl

/-- Window 5's tap that looks 1 rows further on. -/
theorem tap5_1 (r : Fin 256) (b : Fin 704) :
    (k0_pay71 (View.ld x0 (Rect.unit ![0, 0, 1280, 0] S1x1x272x704.size inb_S1x1x2048x704_S1x1x272x704_0_0_1280_0))) (ix2 r b) = row kp x0 x1 (1280 + r.val + 1) b := by
  rw [pay71_at, ld_win5 kp x0 x1]
  rfl

/-- Window 5's tap that looks 0 rows further on. -/
theorem tap5_0 (r : Fin 256) (b : Fin 704) :
    (k0_pay72 (View.ld x0 (Rect.unit ![0, 0, 1280, 0] S1x1x272x704.size inb_S1x1x2048x704_S1x1x272x704_0_0_1280_0))) (ix2 r b) = row kp x0 x1 (1280 + r.val) b := by
  rw [pay72_at, ld_win5 kp x0 x1]

/-- Window 6's tap that looks 2 rows further on. -/
theorem tap6_2 (r : Fin 256) (b : Fin 704) :
    (k0_pay81 (View.ld x0 (Rect.unit ![0, 0, 1536, 0] S1x1x272x704.size inb_S1x1x2048x704_S1x1x272x704_0_0_1536_0))) (ix2 r b) = row kp x0 x1 (1536 + r.val + 2) b := by
  rw [pay81_at, ld_win6 kp x0 x1]
  rfl

/-- Window 6's tap that looks 1 rows further on. -/
theorem tap6_1 (r : Fin 256) (b : Fin 704) :
    (k0_pay82 (View.ld x0 (Rect.unit ![0, 0, 1536, 0] S1x1x272x704.size inb_S1x1x2048x704_S1x1x272x704_0_0_1536_0))) (ix2 r b) = row kp x0 x1 (1536 + r.val + 1) b := by
  rw [pay82_at, ld_win6 kp x0 x1]
  rfl

/-- Window 6's tap that looks 0 rows further on. -/
theorem tap6_0 (r : Fin 256) (b : Fin 704) :
    (k0_pay83 (View.ld x0 (Rect.unit ![0, 0, 1536, 0] S1x1x272x704.size inb_S1x1x2048x704_S1x1x272x704_0_0_1536_0))) (ix2 r b) = row kp x0 x1 (1536 + r.val) b := by
  rw [pay83_at, ld_win6 kp x0 x1]

/-- Window 7's tap that looks 2 rows further on. -/
theorem tap7_2 (r : Fin 256) (b : Fin 704) :
    (k0_pay92 (kp : Ideal .f32) (View.ld x0 (Rect.unit ![0, 0, 1792, 0] S1x1x256x704.size inb_S1x1x2048x704_S1x1x256x704_0_0_1792_0)) x1) (ix2 r b) = row kp x0 x1 (1792 + r.val + 2) b := by
  rw [pay92_at, ld_win7]
  rfl

/-- Window 7's tap that looks 1 rows further on. -/
theorem tap7_1 (r : Fin 256) (b : Fin 704) :
    (k0_pay93 (kp : Ideal .f32) (View.ld x0 (Rect.unit ![0, 0, 1792, 0] S1x1x256x704.size inb_S1x1x2048x704_S1x1x256x704_0_0_1792_0)) x1) (ix2 r b) = row kp x0 x1 (1792 + r.val + 1) b := by
  rw [pay93_at, ld_win7]
  rfl

/-- Window 7's tap that looks 0 rows further on. -/
theorem tap7_0 (r : Fin 256) (b : Fin 704) :
    (k0_pay94 (kp : Ideal .f32) (View.ld x0 (Rect.unit ![0, 0, 1792, 0] S1x1x256x704.size inb_S1x1x2048x704_S1x1x256x704_0_0_1792_0)) x1) (ix2 r b) = row kp x0 x1 (1792 + r.val) b := by
  rw [pay94_at, ld_win7]

/-- Window 0's rows of the gradient. -/
theorem grad0 (r : Fin 256) (b : Fin 704) :
    k0_pay12 x3 (View.ld x0 (Rect.unit ![0, 0, 0, 0] S1x1x272x704.size inb_S1x1x2048x704_S1x1x272x704_0_0_0_0)) (ix2 r b) = grad kp x0 x1 x3 (0 + r.val) b := by
  rw [pay12_at, ld_win0 kp x0 x1, ld_win0 kp x0 x1, ld_win0 kp x0 x1, pay7_at, pay7_at, pay7_at]
  rfl

/-- Window 1's rows of the gradient. -/
theorem grad1 (r : Fin 256) (b : Fin 704) :
    k0_pay23 (k0_pay7 x3) (View.ld x0 (Rect.unit ![0, 0, 256, 0] S1x1x272x704.size inb_S1x1x2048x704_S1x1x272x704_0_0_256_0)) (ix2 r b) = grad kp x0 x1 x3 (256 + r.val) b := by
  rw [pay23_at, ld_win1 kp x0 x1, ld_win1 kp x0 x1, ld_win1 kp x0 x1, pay7_at, pay7_at, pay7_at]
  rfl

/-- Window 2's rows of the gradient. -/
theorem grad2 (r : Fin 256) (b : Fin 704) :
    k0_pay35 (k0_pay7 x3) (k0_pay31 (View.ld x0 (Rect.unit ![0, 0, 512, 0] S1x1x272x704.size inb_S1x1x2048x704_S1x1x272x704_0_0_512_0))) (k0_pay32 (View.ld x0 (Rect.unit ![0, 0, 512, 0] S1x1x272x704.size inb_S1x1x2048x704_S1x1x272x704_0_0_512_0))) (k0_pay33 (View.ld x0 (Rect.unit ![0, 0, 512, 0] S1x1x272x704.size inb_S1x1x2048x704_S1x1x272x704_0_0_512_0))) (k0_pay34 (k0_pay7 x3)) (ix2 r b) = grad kp x0 x1 x3 (512 + r.val) b := by
  rw [pay35_at, tap2_2 kp x0 x1, tap2_1 kp x0 x1, tap2_0 kp x0 x1, pay7_at, pay7_at, pay7_at]
  rfl

/-- Window 3's rows of the gradient. -/
theorem grad3 (r : Fin 256) (b : Fin 704) :
    k0_pay47 (k0_pay7 x3) (k0_pay42 (View.ld x0 (Rect.unit ![0, 0, 768, 0] S1x1x272x704.size inb_S1x1x2048x704_S1x1x272x704_0_0_768_0))) (ix2 r b) = grad kp x0 x1 x3 (768 + r.val) b := by
  rw [pay47_at, pay42_at, pay42_at, pay42_at, ld_win3 kp x0 x1, ld_win3 kp x0 x1, ld_win3 kp x0 x1, pay7_at, pay7_at, pay7_at]
  rfl

/-- Window 4's rows of the gradient. -/
theorem grad4 (r : Fin 256) (b : Fin 704) :
    k0_pay61 (k0_pay7 x3) (View.ld x0 (Rect.unit ![0, 0, 1024, 0] S1x1x272x704.size inb_S1x1x2048x704_S1x1x272x704_0_0_1024_0)) (ix2 r b) = grad kp x0 x1 x3 (1024 + r.val) b := by
  rw [pay61_at, ld_win4 kp x0 x1, ld_win4 kp x0 x1, ld_win4 kp x0 x1, pay7_at, pay7_at, pay7_at]
  rfl

/-- Window 5's rows of the gradient. -/
theorem grad5 (r : Fin 256) (b : Fin 704) :
    k0_pay73 (k0_pay7 x3) (View.ld x0 (Rect.unit ![0, 0, 1280, 0] S1x1x272x704.size inb_S1x1x2048x704_S1x1x272x704_0_0_1280_0)) (ix2 r b) = grad kp x0 x1 x3 (1280 + r.val) b := by
  rw [pay73_at, ld_win5 kp x0 x1, ld_win5 kp x0 x1, ld_win5 kp x0 x1, pay7_at, pay7_at, pay7_at]
  rfl

/-- Window 6's rows of the gradient. -/
theorem grad6 (r : Fin 256) (b : Fin 704) :
    k0_pay84 (k0_pay7 x3) (View.ld x0 (Rect.unit ![0, 0, 1536, 0] S1x1x272x704.size inb_S1x1x2048x704_S1x1x272x704_0_0_1536_0)) (ix2 r b) = grad kp x0 x1 x3 (1536 + r.val) b := by
  rw [pay84_at, ld_win6 kp x0 x1, ld_win6 kp x0 x1, ld_win6 kp x0 x1, pay7_at, pay7_at, pay7_at]
  rfl

/-- Window 7's rows of the gradient. -/
theorem grad7 (r : Fin 256) (b : Fin 704) :
    k0_pay96 (k0_pay7 x3) (k0_pay92 (kp : Ideal .f32) (View.ld x0 (Rect.unit ![0, 0, 1792, 0] S1x1x256x704.size inb_S1x1x2048x704_S1x1x256x704_0_0_1792_0)) x1) (k0_pay93 (kp : Ideal .f32) (View.ld x0 (Rect.unit ![0, 0, 1792, 0] S1x1x256x704.size inb_S1x1x2048x704_S1x1x256x704_0_0_1792_0)) x1) (k0_pay94 (kp : Ideal .f32) (View.ld x0 (Rect.unit ![0, 0, 1792, 0] S1x1x256x704.size inb_S1x1x2048x704_S1x1x256x704_0_0_1792_0)) x1) (k0_pay95 (k0_pay7 x3)) (ix2 r b) = grad kp x0 x1 x3 (1792 + r.val) b := by
  rw [pay96_at, tap7_2, tap7_1, tap7_0, pay7_at, pay7_at, pay7_at]
  rfl

/-- The store of window 0's rows of the gradient. -/
theorem store0 (r : Fin 256) (b : Fin 704) :
    k0_pay13 x3 (View.ld x0 (Rect.unit ![0, 0, 0, 0] S1x1x272x704.size inb_S1x1x2048x704_S1x1x272x704_0_0_0_0)) (ix3 0 r b) = grad kp x0 x1 x3 (0 + r.val) b :=
  (pay13_at _ _ _ _).trans (grad0 kp x0 x1 x3 r b)

/-- The store of window 1's rows of the gradient. -/
theorem store1 (r : Fin 256) (b : Fin 704) :
    k0_pay24 (k0_pay23 (k0_pay7 x3) (View.ld x0 (Rect.unit ![0, 0, 256, 0] S1x1x272x704.size inb_S1x1x2048x704_S1x1x272x704_0_0_256_0))) (ix3 0 r b) = grad kp x0 x1 x3 (256 + r.val) b :=
  (pay24_at _ _ _).trans (grad1 kp x0 x1 x3 r b)

/-- The store of window 2's rows of the gradient. -/
theorem store2 (r : Fin 256) (b : Fin 704) :
    k0_pay36 (k0_pay7 x3) (k0_pay31 (View.ld x0 (Rect.unit ![0, 0, 512, 0] S1x1x272x704.size inb_S1x1x2048x704_S1x1x272x704_0_0_512_0))) (k0_pay32 (View.ld x0 (Rect.unit ![0, 0, 512, 0] S1x1x272x704.size inb_S1x1x2048x704_S1x1x272x704_0_0_512_0))) (k0_pay33 (View.ld x0 (Rect.unit ![0, 0, 512, 0] S1x1x272x704.size inb_S1x1x2048x704_S1x1x272x704_0_0_512_0))) (k0_pay34 (k0_pay7 x3)) (ix3 0 r b) = grad kp x0 x1 x3 (512 + r.val) b :=
  (pay36_at _ _ _ _ _ _ _).trans (grad2 kp x0 x1 x3 r b)

/-- The store of window 3's rows of the gradient. -/
theorem store3 (r : Fin 256) (b : Fin 704) :
    k0_pay48 (k0_pay7 x3) (k0_pay42 (View.ld x0 (Rect.unit ![0, 0, 768, 0] S1x1x272x704.size inb_S1x1x2048x704_S1x1x272x704_0_0_768_0))) (ix3 0 r b) = grad kp x0 x1 x3 (768 + r.val) b :=
  (pay48_at _ _ _ _).trans (grad3 kp x0 x1 x3 r b)

/-- The store of window 4's rows of the gradient. -/
theorem store4 (r : Fin 256) (b : Fin 704) :
    k0_pay62 (k0_pay7 x3) (View.ld x0 (Rect.unit ![0, 0, 1024, 0] S1x1x272x704.size inb_S1x1x2048x704_S1x1x272x704_0_0_1024_0)) (ix3 0 r b) = grad kp x0 x1 x3 (1024 + r.val) b :=
  (pay62_at _ _ _ _).trans (grad4 kp x0 x1 x3 r b)

/-- The store of window 5's rows of the gradient. -/
theorem store5 (r : Fin 256) (b : Fin 704) :
    k0_pay74 (k0_pay7 x3) (View.ld x0 (Rect.unit ![0, 0, 1280, 0] S1x1x272x704.size inb_S1x1x2048x704_S1x1x272x704_0_0_1280_0)) (ix3 0 r b) = grad kp x0 x1 x3 (1280 + r.val) b :=
  (pay74_at _ _ _ _).trans (grad5 kp x0 x1 x3 r b)

/-- The store of window 6's rows of the gradient. -/
theorem store6 (r : Fin 256) (b : Fin 704) :
    k0_pay85 (k0_pay7 x3) (View.ld x0 (Rect.unit ![0, 0, 1536, 0] S1x1x272x704.size inb_S1x1x2048x704_S1x1x272x704_0_0_1536_0)) (ix3 0 r b) = grad kp x0 x1 x3 (1536 + r.val) b :=
  (pay85_at _ _ _ _).trans (grad6 kp x0 x1 x3 r b)

/-- The store of window 7's rows of the gradient. -/
theorem store7 (r : Fin 256) (b : Fin 704) :
    k0_pay97 (k0_pay7 x3) (k0_pay92 (kp : Ideal .f32) (View.ld x0 (Rect.unit ![0, 0, 1792, 0] S1x1x256x704.size inb_S1x1x2048x704_S1x1x256x704_0_0_1792_0)) x1) (k0_pay93 (kp : Ideal .f32) (View.ld x0 (Rect.unit ![0, 0, 1792, 0] S1x1x256x704.size inb_S1x1x2048x704_S1x1x256x704_0_0_1792_0)) x1) (k0_pay94 (kp : Ideal .f32) (View.ld x0 (Rect.unit ![0, 0, 1792, 0] S1x1x256x704.size inb_S1x1x2048x704_S1x1x256x704_0_0_1792_0)) x1) (k0_pay95 (k0_pay7 x3)) (ix3 0 r b) = grad kp x0 x1 x3 (1792 + r.val) b :=
  (pay97_at _ _ _ _ _ _ _).trans (grad7 kp x0 x1 x3 r b)

/-- The store of window 0's rows of the product, over the rows `p`. -/
theorem prod0 (p : Vec Ideal S256x1024 .f32) (r : Fin 256) (j : Fin 1024) :
    k0_pay14 (k0_pay12 x3 (View.ld x0 (Rect.unit ![0, 0, 0, 0] S1x1x272x704.size inb_S1x1x2048x704_S1x1x272x704_0_0_0_0))) p x4 (ix2 r j) = p (ix2 r j) + prodRow kp x0 x1 x3 x4 (0 + r.val) j :=
  (pay14_at _ _ _ _ _).trans (congrArg (p (ix2 r j) + ·) (Finset.sum_congr rfl fun b _ =>
    congrArg (fun z : EReal => z * x4 (ix3 0 j b)) (grad0 kp x0 x1 x3 r b)))

/-- The store of window 1's rows of the product, over the rows `p`. -/
theorem prod1 (p : Vec Ideal S256x1024 .f32) (r : Fin 256) (j : Fin 1024) :
    k0_pay25 (k0_pay23 (k0_pay7 x3) (View.ld x0 (Rect.unit ![0, 0, 256, 0] S1x1x272x704.size inb_S1x1x2048x704_S1x1x272x704_0_0_256_0))) p x4 (ix2 r j) = p (ix2 r j) + prodRow kp x0 x1 x3 x4 (256 + r.val) j :=
  (pay25_at _ _ _ _ _).trans (congrArg (p (ix2 r j) + ·) (Finset.sum_congr rfl fun b _ =>
    congrArg (fun z : EReal => z * x4 (ix3 0 j b)) (grad1 kp x0 x1 x3 r b)))

/-- The store of window 2's rows of the product, over the rows `p`. -/
theorem prod2 (p : Vec Ideal S256x1024 .f32) (r : Fin 256) (j : Fin 1024) :
    k0_pay37 (k0_pay7 x3) (k0_pay31 (View.ld x0 (Rect.unit ![0, 0, 512, 0] S1x1x272x704.size inb_S1x1x2048x704_S1x1x272x704_0_0_512_0))) (k0_pay32 (View.ld x0 (Rect.unit ![0, 0, 512, 0] S1x1x272x704.size inb_S1x1x2048x704_S1x1x272x704_0_0_512_0))) (k0_pay33 (View.ld x0 (Rect.unit ![0, 0, 512, 0] S1x1x272x704.size inb_S1x1x2048x704_S1x1x272x704_0_0_512_0))) (k0_pay34 (k0_pay7 x3)) p x4 (ix2 r j) = p (ix2 r j) + prodRow kp x0 x1 x3 x4 (512 + r.val) j :=
  (pay37_at _ _ _ _ _ _ _ _ _).trans (congrArg (p (ix2 r j) + ·) (Finset.sum_congr rfl fun b _ =>
    congrArg (fun z : EReal => z * x4 (ix3 0 j b)) (grad2 kp x0 x1 x3 r b)))

/-- The store of window 3's rows of the product, over the rows `p`. -/
theorem prod3 (p : Vec Ideal S256x1024 .f32) (r : Fin 256) (j : Fin 1024) :
    k0_pay49 (k0_pay7 x3) (k0_pay42 (View.ld x0 (Rect.unit ![0, 0, 768, 0] S1x1x272x704.size inb_S1x1x2048x704_S1x1x272x704_0_0_768_0))) p x4 (ix2 r j) = p (ix2 r j) + prodRow kp x0 x1 x3 x4 (768 + r.val) j :=
  (pay49_at _ _ _ _ _ _).trans (congrArg (p (ix2 r j) + ·) (Finset.sum_congr rfl fun b _ =>
    congrArg (fun z : EReal => z * x4 (ix3 0 j b)) (grad3 kp x0 x1 x3 r b)))

/-- The store of window 4's rows of the product, over the rows `p`. -/
theorem prod4 (p : Vec Ideal S256x1024 .f32) (r : Fin 256) (j : Fin 1024) :
    k0_pay63 (k0_pay7 x3) (View.ld x0 (Rect.unit ![0, 0, 1024, 0] S1x1x272x704.size inb_S1x1x2048x704_S1x1x272x704_0_0_1024_0)) p x4 (ix2 r j) = p (ix2 r j) + prodRow kp x0 x1 x3 x4 (1024 + r.val) j :=
  (pay63_at _ _ _ _ _ _).trans (congrArg (p (ix2 r j) + ·) (Finset.sum_congr rfl fun b _ =>
    congrArg (fun z : EReal => z * x4 (ix3 0 j b)) (grad4 kp x0 x1 x3 r b)))

/-- The store of window 5's rows of the product, over the rows `p`. -/
theorem prod5 (p : Vec Ideal S256x1024 .f32) (r : Fin 256) (j : Fin 1024) :
    k0_pay75 (k0_pay7 x3) (View.ld x0 (Rect.unit ![0, 0, 1280, 0] S1x1x272x704.size inb_S1x1x2048x704_S1x1x272x704_0_0_1280_0)) p x4 (ix2 r j) = p (ix2 r j) + prodRow kp x0 x1 x3 x4 (1280 + r.val) j :=
  (pay75_at _ _ _ _ _ _).trans (congrArg (p (ix2 r j) + ·) (Finset.sum_congr rfl fun b _ =>
    congrArg (fun z : EReal => z * x4 (ix3 0 j b)) (grad5 kp x0 x1 x3 r b)))

/-- The store of window 6's rows of the product, over the rows `p`. -/
theorem prod6 (p : Vec Ideal S256x1024 .f32) (r : Fin 256) (j : Fin 1024) :
    k0_pay86 (k0_pay84 (k0_pay7 x3) (View.ld x0 (Rect.unit ![0, 0, 1536, 0] S1x1x272x704.size inb_S1x1x2048x704_S1x1x272x704_0_0_1536_0))) p x4 (ix2 r j) = p (ix2 r j) + prodRow kp x0 x1 x3 x4 (1536 + r.val) j :=
  (pay86_at _ _ _ _ _).trans (congrArg (p (ix2 r j) + ·) (Finset.sum_congr rfl fun b _ =>
    congrArg (fun z : EReal => z * x4 (ix3 0 j b)) (grad6 kp x0 x1 x3 r b)))

/-- The store of window 7's rows of the product, over the rows `p`. -/
theorem prod7 (p : Vec Ideal S256x1024 .f32) (r : Fin 256) (j : Fin 1024) :
    k0_pay98 (k0_pay7 x3) (k0_pay92 (kp : Ideal .f32) (View.ld x0 (Rect.unit ![0, 0, 1792, 0] S1x1x256x704.size inb_S1x1x2048x704_S1x1x256x704_0_0_1792_0)) x1) (k0_pay93 (kp : Ideal .f32) (View.ld x0 (Rect.unit ![0, 0, 1792, 0] S1x1x256x704.size inb_S1x1x2048x704_S1x1x256x704_0_0_1792_0)) x1) (k0_pay94 (kp : Ideal .f32) (View.ld x0 (Rect.unit ![0, 0, 1792, 0] S1x1x256x704.size inb_S1x1x2048x704_S1x1x256x704_0_0_1792_0)) x1) (k0_pay95 (k0_pay7 x3)) p x4 (ix2 r j) = p (ix2 r j) + prodRow kp x0 x1 x3 x4 (1792 + r.val) j :=
  (pay98_at _ _ _ _ _ _ _ _ _).trans (congrArg (p (ix2 r j) + ·) (Finset.sum_congr rfl fun b _ =>
    congrArg (fun z : EReal => z * x4 (ix3 0 j b)) (grad7 kp x0 x1 x3 r b)))

/-- What window 0 adds at the tap that looks 2 rows further on. -/
theorem acc0_2 (b : Fin 704) :
    k0_pay16 (k0_pay9 (View.ld x0 (Rect.unit ![0, 0, 0, 0] S1x1x272x704.size inb_S1x1x2048x704_S1x1x272x704_0_0_0_0))) (View.ld x2 (Rect.unit ![0, 0, 0] S1x256x704.size inb_S1x2048x704_S1x256x704_0_0_0)) (ix2 0 b) = tapPart kp x0 x1 x2 2 0 b :=
  (pay16_at _ _ _).trans (Finset.sum_congr rfl fun r _ => congrArg₂ (fun y z : EReal => y * z) (tap0_2 kp x0 x1 r b) (ld_in0 x2 r b))

/-- The sum so far, with window 1's part. -/
theorem acc1_2 (s : FVec Ideal S1x704 .f32) (b : Fin 704) :
    k0_pay27 s (k0_pay20 (View.ld x0 (Rect.unit ![0, 0, 256, 0] S1x1x272x704.size inb_S1x1x2048x704_S1x1x272x704_0_0_256_0))) (View.ld x2 (Rect.unit ![0, 256, 0] S1x256x704.size inb_S1x2048x704_S1x256x704_0_256_0)) (ix2 0 b) = s (ix2 0 b) + tapPart kp x0 x1 x2 2 256 b :=
  (pay27_at _ _ _ _).trans (congrArg (s (ix2 0 b) + ·) (Finset.sum_congr rfl fun r _ => congrArg₂ (fun y z : EReal => y * z) (tap1_2 kp x0 x1 r b) (ld_in1 x2 r b)))

/-- The sum so far, with window 2's part. -/
theorem acc2_2 (s : FVec Ideal S1x704 .f32) (b : Fin 704) :
    k0_pay39 s (k0_pay31 (View.ld x0 (Rect.unit ![0, 0, 512, 0] S1x1x272x704.size inb_S1x1x2048x704_S1x1x272x704_0_0_512_0))) (View.ld x2 (Rect.unit ![0, 512, 0] S1x256x704.size inb_S1x2048x704_S1x256x704_0_512_0)) (ix2 0 b) = s (ix2 0 b) + tapPart kp x0 x1 x2 2 512 b :=
  (pay39_at _ _ _ _).trans (congrArg (s (ix2 0 b) + ·) (Finset.sum_congr rfl fun r _ => congrArg₂ (fun y z : EReal => y * z) (tap2_2 kp x0 x1 r b) (ld_in2 x2 r b)))

/-- What window 3 adds at the tap that looks 2 rows further on. -/
theorem part3_2 (b : Fin 704) :
    k0_pay51 (k0_pay42 (View.ld x0 (Rect.unit ![0, 0, 768, 0] S1x1x272x704.size inb_S1x1x2048x704_S1x1x272x704_0_0_768_0))) (View.ld x2 (Rect.unit ![0, 768, 0] S1x256x704.size inb_S1x2048x704_S1x256x704_0_768_0)) (ix2 0 b) = tapPart kp x0 x1 x2 2 768 b :=
  (pay51_at _ _ _).trans (Finset.sum_congr rfl fun r _ =>
    congrArg₂ (fun y z : EReal => y * z) (tap3_2 kp x0 x1 r b) (ld_in3 x2 r b))

/-- The sum so far, with window 3's part. -/
theorem acc3_2 (s : FVec Ideal S1x704 .f32) (b : Fin 704) :
    k0_pay54 s (k0_pay51 (k0_pay42 (View.ld x0 (Rect.unit ![0, 0, 768, 0] S1x1x272x704.size inb_S1x1x2048x704_S1x1x272x704_0_0_768_0))) (View.ld x2 (Rect.unit ![0, 768, 0] S1x256x704.size inb_S1x2048x704_S1x256x704_0_768_0))) (ix2 0 b) = s (ix2 0 b) + tapPart kp x0 x1 x2 2 768 b :=
  (pay54_at _ _ _).trans (congrArg (s (ix2 0 b) + ·) (part3_2 kp x0 x1 x2 b))

/-- The sum so far, with window 4's part. -/
theorem acc4_2 (s : FVec Ideal S1x704 .f32) (b : Fin 704) :
    k0_pay66 s (k0_pay65 (View.ld x0 (Rect.unit ![0, 0, 1024, 0] S1x1x272x704.size inb_S1x1x2048x704_S1x1x272x704_0_0_1024_0)) (View.ld x2 (Rect.unit ![0, 1024, 0] S1x256x704.size inb_S1x2048x704_S1x256x704_0_1024_0))) (ix2 0 b) = s (ix2 0 b) + tapPart kp x0 x1 x2 2 1024 b :=
  (pay66_at _ _ _).trans (congrArg (s (ix2 0 b) + ·) (Finset.sum_congr rfl fun r _ =>
    (pay65_at _ _ _ _).trans (congrArg₂ (fun y z : EReal => y * z) (tap4_2 kp x0 x1 r b) (ld_in4 x2 r b))))

/-- The sum so far, with window 5's part. -/
theorem acc5_2 (s : FVec Ideal S1x704 .f32) (b : Fin 704) :
    k0_pay77 s (k0_pay70 (View.ld x0 (Rect.unit ![0, 0, 1280, 0] S1x1x272x704.size inb_S1x1x2048x704_S1x1x272x704_0_0_1280_0))) (View.ld x2 (Rect.unit ![0, 1280, 0] S1x256x704.size inb_S1x2048x704_S1x256x704_0_1280_0)) (ix2 0 b) = s (ix2 0 b) + tapPart kp x0 x1 x2 2 1280 b :=
  (pay77_at _ _ _ _).trans (congrArg (s (ix2 0 b) + ·) (Finset.sum_congr rfl fun r _ => congrArg₂ (fun y z : EReal => y * z) (tap5_2 kp x0 x1 r b) (ld_in5 x2 r b)))

/-- The sum so far, with window 6's part. -/
theorem acc6_2 (s : FVec Ideal S1x704 .f32) (b : Fin 704) :
    k0_pay88 s (k0_pay81 (View.ld x0 (Rect.unit ![0, 0, 1536, 0] S1x1x272x704.size inb_S1x1x2048x704_S1x1x272x704_0_0_1536_0))) (View.ld x2 (Rect.unit ![0, 1536, 0] S1x256x704.size inb_S1x2048x704_S1x256x704_0_1536_0)) (ix2 0 b) = s (ix2 0 b) + tapPart kp x0 x1 x2 2 1536 b :=
  (pay88_at _ _ _ _).trans (congrArg (s (ix2 0 b) + ·) (Finset.sum_congr rfl fun r _ => congrArg₂ (fun y z : EReal => y * z) (tap6_2 kp x0 x1 r b) (ld_in6 x2 r b)))

/-- The sum so far, with window 7's part. -/
theorem acc7_2 (s : FVec Ideal S1x704 .f32) (b : Fin 704) :
    k0_pay103 s (k0_pay92 (kp : Ideal .f32) (View.ld x0 (Rect.unit ![0, 0, 1792, 0] S1x1x256x704.size inb_S1x1x2048x704_S1x1x256x704_0_0_1792_0)) x1) (View.ld x2 (Rect.unit ![0, 1792, 0] S1x256x704.size inb_S1x2048x704_S1x256x704_0_1792_0)) (ix3 0 0 b) = s (ix2 0 b) + tapPart kp x0 x1 x2 2 1792 b :=
  (pay103_at _ _ _ _).trans (congrArg (s (ix2 0 b) + ·) (Finset.sum_congr rfl fun r _ => congrArg₂ (fun y z : EReal => y * z) (tap7_2 kp x0 x1 r b) (ld_in7 x2 r b)))

/-- The body's whole sum at the tap that looks 2 rows further on. -/
theorem total2 (b : Fin 704) :
    (k0_pay103 (k0_pay88 (k0_pay77 (k0_pay66 (k0_pay54 (k0_pay39 (k0_pay27 (k0_pay16 (k0_pay9 (View.ld x0 (Rect.unit ![0, 0, 0, 0] S1x1x272x704.size inb_S1x1x2048x704_S1x1x272x704_0_0_0_0))) (View.ld x2 (Rect.unit ![0, 0, 0] S1x256x704.size inb_S1x2048x704_S1x256x704_0_0_0))) (k0_pay20 (View.ld x0 (Rect.unit ![0, 0, 256, 0] S1x1x272x704.size inb_S1x1x2048x704_S1x1x272x704_0_0_256_0))) (View.ld x2 (Rect.unit ![0, 256, 0] S1x256x704.size inb_S1x2048x704_S1x256x704_0_256_0))) (k0_pay31 (View.ld x0 (Rect.unit ![0, 0, 512, 0] S1x1x272x704.size inb_S1x1x2048x704_S1x1x272x704_0_0_512_0))) (View.ld x2 (Rect.unit ![0, 512, 0] S1x256x704.size inb_S1x2048x704_S1x256x704_0_512_0))) (k0_pay51 (k0_pay42 (View.ld x0 (Rect.unit ![0, 0, 768, 0] S1x1x272x704.size inb_S1x1x2048x704_S1x1x272x704_0_0_768_0))) (View.ld x2 (Rect.unit ![0, 768, 0] S1x256x704.size inb_S1x2048x704_S1x256x704_0_768_0)))) (k0_pay65 (View.ld x0 (Rect.unit ![0, 0, 1024, 0] S1x1x272x704.size inb_S1x1x2048x704_S1x1x272x704_0_0_1024_0)) (View.ld x2 (Rect.unit ![0, 1024, 0] S1x256x704.size inb_S1x2048x704_S1x256x704_0_1024_0)))) (k0_pay70 (View.ld x0 (Rect.unit ![0, 0, 1280, 0] S1x1x272x704.size inb_S1x1x2048x704_S1x1x272x704_0_0_1280_0))) (View.ld x2 (Rect.unit ![0, 1280, 0] S1x256x704.size inb_S1x2048x704_S1x256x704_0_1280_0))) (k0_pay81 (View.ld x0 (Rect.unit ![0, 0, 1536, 0] S1x1x272x704.size inb_S1x1x2048x704_S1x1x272x704_0_0_1536_0))) (View.ld x2 (Rect.unit ![0, 1536, 0] S1x256x704.size inb_S1x2048x704_S1x256x704_0_1536_0))) (k0_pay92 (kp : Ideal .f32) (View.ld x0 (Rect.unit ![0, 0, 1792, 0] S1x1x256x704.size inb_S1x1x2048x704_S1x1x256x704_0_0_1792_0)) x1) (View.ld x2 (Rect.unit ![0, 1792, 0] S1x256x704.size inb_S1x2048x704_S1x256x704_0_1792_0))) (ix3 0 0 b) = tapSum kp x0 x1 x2 2 b := by
  rw [tapSum_eq]
  exact ((acc7_2 kp x0 x1 x2 _ b).trans (congrArg (· + tapPart kp x0 x1 x2 2 1792 b) ((acc6_2 kp x0 x1 x2 _ b).trans (congrArg (· + tapPart kp x0 x1 x2 2 1536 b) ((acc5_2 kp x0 x1 x2 _ b).trans (congrArg (· + tapPart kp x0 x1 x2 2 1280 b) ((acc4_2 kp x0 x1 x2 _ b).trans (congrArg (· + tapPart kp x0 x1 x2 2 1024 b) ((acc3_2 kp x0 x1 x2 _ b).trans (congrArg (· + tapPart kp x0 x1 x2 2 768 b) ((acc2_2 kp x0 x1 x2 _ b).trans (congrArg (· + tapPart kp x0 x1 x2 2 512 b) ((acc1_2 kp x0 x1 x2 _ b).trans (congrArg (· + tapPart kp x0 x1 x2 2 256 b) (acc0_2 kp x0 x1 x2 b)))))))))))))))

/-- What window 0 adds at the tap that looks 1 rows further on. -/
theorem acc0_1 (b : Fin 704) :
    k0_pay17 (k0_pay10 (View.ld x0 (Rect.unit ![0, 0, 0, 0] S1x1x272x704.size inb_S1x1x2048x704_S1x1x272x704_0_0_0_0))) (View.ld x2 (Rect.unit ![0, 0, 0] S1x256x704.size inb_S1x2048x704_S1x256x704_0_0_0)) (ix2 0 b) = tapPart kp x0 x1 x2 1 0 b :=
  (pay17_at _ _ _).trans (Finset.sum_congr rfl fun r _ => congrArg₂ (fun y z : EReal => y * z) (tap0_1 kp x0 x1 r b) (ld_in0 x2 r b))

/-- The sum so far, with window 1's part. -/
theorem acc1_1 (s : FVec Ideal S1x704 .f32) (b : Fin 704) :
    k0_pay28 s (k0_pay21 (View.ld x0 (Rect.unit ![0, 0, 256, 0] S1x1x272x704.size inb_S1x1x2048x704_S1x1x272x704_0_0_256_0))) (View.ld x2 (Rect.unit ![0, 256, 0] S1x256x704.size inb_S1x2048x704_S1x256x704_0_256_0)) (ix2 0 b) = s (ix2 0 b) + tapPart kp x0 x1 x2 1 256 b :=
  (pay28_at _ _ _ _).trans (congrArg (s (ix2 0 b) + ·) (Finset.sum_congr rfl fun r _ => congrArg₂ (fun y z : EReal => y * z) (tap1_1 kp x0 x1 r b) (ld_in1 x2 r b)))

/-- The sum so far, with window 2's part. -/
theorem acc2_1 (s : FVec Ideal S1x704 .f32) (b : Fin 704) :
    k0_pay40 s (k0_pay32 (View.ld x0 (Rect.unit ![0, 0, 512, 0] S1x1x272x704.size inb_S1x1x2048x704_S1x1x272x704_0_0_512_0))) (View.ld x2 (Rect.unit ![0, 512, 0] S1x256x704.size inb_S1x2048x704_S1x256x704_0_512_0)) (ix2 0 b) = s (ix2 0 b) + tapPart kp x0 x1 x2 1 512 b :=
  (pay40_at _ _ _ _).trans (congrArg (s (ix2 0 b) + ·) (Finset.sum_congr rfl fun r _ => congrArg₂ (fun y z : EReal => y * z) (tap2_1 kp x0 x1 r b) (ld_in2 x2 r b)))

/-- What window 3 adds at the tap that looks 1 rows further on. -/
theorem part3_1 (b : Fin 704) :
    k0_pay52 (k0_pay42 (View.ld x0 (Rect.unit ![0, 0, 768, 0] S1x1x272x704.size inb_S1x1x2048x704_S1x1x272x704_0_0_768_0))) (View.ld x2 (Rect.unit ![0, 768, 0] S1x256x704.size inb_S1x2048x704_S1x256x704_0_768_0)) (ix2 0 b) = tapPart kp x0 x1 x2 1 768 b :=
  (pay52_at _ _ _).trans (Finset.sum_congr rfl fun r _ =>
    congrArg₂ (fun y z : EReal => y * z) (tap3_1 kp x0 x1 r b) (ld_in3 x2 r b))

/-- The sum so far, with window 3's part. -/
theorem acc3_1 (s : FVec Ideal S1x704 .f32) (b : Fin 704) :
    k0_pay55 s (k0_pay52 (k0_pay42 (View.ld x0 (Rect.unit ![0, 0, 768, 0] S1x1x272x704.size inb_S1x1x2048x704_S1x1x272x704_0_0_768_0))) (View.ld x2 (Rect.unit ![0, 768, 0] S1x256x704.size inb_S1x2048x704_S1x256x704_0_768_0))) (ix2 0 b) = s (ix2 0 b) + tapPart kp x0 x1 x2 1 768 b :=
  (pay55_at _ _ _).trans (congrArg (s (ix2 0 b) + ·) (part3_1 kp x0 x1 x2 b))

/-- The sum so far, with window 4's part. -/
theorem acc4_1 (s : FVec Ideal S1x704 .f32) (b : Fin 704) :
    k0_pay67 s (k0_pay59 (View.ld x0 (Rect.unit ![0, 0, 1024, 0] S1x1x272x704.size inb_S1x1x2048x704_S1x1x272x704_0_0_1024_0))) (k0_pay64 (View.ld x2 (Rect.unit ![0, 1024, 0] S1x256x704.size inb_S1x2048x704_S1x256x704_0_1024_0))) (ix2 0 b) = s (ix2 0 b) + tapPart kp x0 x1 x2 1 1024 b :=
  (pay67_at _ _ _ _).trans (congrArg (s (ix2 0 b) + ·) (Finset.sum_congr rfl fun r _ =>
    congrArg₂ (fun y z : EReal => y * z) (tap4_1 kp x0 x1 r b) ((pay64_at _ _ _).trans (ld_in4 x2 r b))))

/-- The sum so far, with window 5's part. -/
theorem acc5_1 (s : FVec Ideal S1x704 .f32) (b : Fin 704) :
    k0_pay78 s (k0_pay71 (View.ld x0 (Rect.unit ![0, 0, 1280, 0] S1x1x272x704.size inb_S1x1x2048x704_S1x1x272x704_0_0_1280_0))) (View.ld x2 (Rect.unit ![0, 1280, 0] S1x256x704.size inb_S1x2048x704_S1x256x704_0_1280_0)) (ix2 0 b) = s (ix2 0 b) + tapPart kp x0 x1 x2 1 1280 b :=
  (pay78_at _ _ _ _).trans (congrArg (s (ix2 0 b) + ·) (Finset.sum_congr rfl fun r _ => congrArg₂ (fun y z : EReal => y * z) (tap5_1 kp x0 x1 r b) (ld_in5 x2 r b)))

/-- The sum so far, with window 6's part. -/
theorem acc6_1 (s : FVec Ideal S1x704 .f32) (b : Fin 704) :
    k0_pay89 s (k0_pay82 (View.ld x0 (Rect.unit ![0, 0, 1536, 0] S1x1x272x704.size inb_S1x1x2048x704_S1x1x272x704_0_0_1536_0))) (View.ld x2 (Rect.unit ![0, 1536, 0] S1x256x704.size inb_S1x2048x704_S1x256x704_0_1536_0)) (ix2 0 b) = s (ix2 0 b) + tapPart kp x0 x1 x2 1 1536 b :=
  (pay89_at _ _ _ _).trans (congrArg (s (ix2 0 b) + ·) (Finset.sum_congr rfl fun r _ => congrArg₂ (fun y z : EReal => y * z) (tap6_1 kp x0 x1 r b) (ld_in6 x2 r b)))

/-- The sum so far, with window 7's part. -/
theorem acc7_1 (s : FVec Ideal S1x704 .f32) (b : Fin 704) :
    k0_pay100 s (k0_pay93 (kp : Ideal .f32) (View.ld x0 (Rect.unit ![0, 0, 1792, 0] S1x1x256x704.size inb_S1x1x2048x704_S1x1x256x704_0_0_1792_0)) x1) (View.ld x2 (Rect.unit ![0, 1792, 0] S1x256x704.size inb_S1x2048x704_S1x256x704_0_1792_0)) (ix2 0 b) = s (ix2 0 b) + tapPart kp x0 x1 x2 1 1792 b :=
  (pay100_at _ _ _ _).trans (congrArg (s (ix2 0 b) + ·) (Finset.sum_congr rfl fun r _ => congrArg₂ (fun y z : EReal => y * z) (tap7_1 kp x0 x1 r b) (ld_in7 x2 r b)))

/-- The body's whole sum at the tap that looks 1 rows further on. -/
theorem total1 (b : Fin 704) :
    (k0_pay100 (k0_pay89 (k0_pay78 (k0_pay67 (k0_pay55 (k0_pay40 (k0_pay28 (k0_pay17 (k0_pay10 (View.ld x0 (Rect.unit ![0, 0, 0, 0] S1x1x272x704.size inb_S1x1x2048x704_S1x1x272x704_0_0_0_0))) (View.ld x2 (Rect.unit ![0, 0, 0] S1x256x704.size inb_S1x2048x704_S1x256x704_0_0_0))) (k0_pay21 (View.ld x0 (Rect.unit ![0, 0, 256, 0] S1x1x272x704.size inb_S1x1x2048x704_S1x1x272x704_0_0_256_0))) (View.ld x2 (Rect.unit ![0, 256, 0] S1x256x704.size inb_S1x2048x704_S1x256x704_0_256_0))) (k0_pay32 (View.ld x0 (Rect.unit ![0, 0, 512, 0] S1x1x272x704.size inb_S1x1x2048x704_S1x1x272x704_0_0_512_0))) (View.ld x2 (Rect.unit ![0, 512, 0] S1x256x704.size inb_S1x2048x704_S1x256x704_0_512_0))) (k0_pay52 (k0_pay42 (View.ld x0 (Rect.unit ![0, 0, 768, 0] S1x1x272x704.size inb_S1x1x2048x704_S1x1x272x704_0_0_768_0))) (View.ld x2 (Rect.unit ![0, 768, 0] S1x256x704.size inb_S1x2048x704_S1x256x704_0_768_0)))) (k0_pay59 (View.ld x0 (Rect.unit ![0, 0, 1024, 0] S1x1x272x704.size inb_S1x1x2048x704_S1x1x272x704_0_0_1024_0))) (k0_pay64 (View.ld x2 (Rect.unit ![0, 1024, 0] S1x256x704.size inb_S1x2048x704_S1x256x704_0_1024_0)))) (k0_pay71 (View.ld x0 (Rect.unit ![0, 0, 1280, 0] S1x1x272x704.size inb_S1x1x2048x704_S1x1x272x704_0_0_1280_0))) (View.ld x2 (Rect.unit ![0, 1280, 0] S1x256x704.size inb_S1x2048x704_S1x256x704_0_1280_0))) (k0_pay82 (View.ld x0 (Rect.unit ![0, 0, 1536, 0] S1x1x272x704.size inb_S1x1x2048x704_S1x1x272x704_0_0_1536_0))) (View.ld x2 (Rect.unit ![0, 1536, 0] S1x256x704.size inb_S1x2048x704_S1x256x704_0_1536_0))) (k0_pay93 (kp : Ideal .f32) (View.ld x0 (Rect.unit ![0, 0, 1792, 0] S1x1x256x704.size inb_S1x1x2048x704_S1x1x256x704_0_0_1792_0)) x1) (View.ld x2 (Rect.unit ![0, 1792, 0] S1x256x704.size inb_S1x2048x704_S1x256x704_0_1792_0))) (ix2 0 b) = tapSum kp x0 x1 x2 1 b := by
  rw [tapSum_eq]
  exact ((acc7_1 kp x0 x1 x2 _ b).trans (congrArg (· + tapPart kp x0 x1 x2 1 1792 b) ((acc6_1 kp x0 x1 x2 _ b).trans (congrArg (· + tapPart kp x0 x1 x2 1 1536 b) ((acc5_1 kp x0 x1 x2 _ b).trans (congrArg (· + tapPart kp x0 x1 x2 1 1280 b) ((acc4_1 kp x0 x1 x2 _ b).trans (congrArg (· + tapPart kp x0 x1 x2 1 1024 b) ((acc3_1 kp x0 x1 x2 _ b).trans (congrArg (· + tapPart kp x0 x1 x2 1 768 b) ((acc2_1 kp x0 x1 x2 _ b).trans (congrArg (· + tapPart kp x0 x1 x2 1 512 b) ((acc1_1 kp x0 x1 x2 _ b).trans (congrArg (· + tapPart kp x0 x1 x2 1 256 b) (acc0_1 kp x0 x1 x2 b)))))))))))))))

/-- What window 0 adds at the tap that looks 0 rows further on. -/
theorem acc0_0 (b : Fin 704) :
    k0_pay18 (k0_pay11 (View.ld x0 (Rect.unit ![0, 0, 0, 0] S1x1x272x704.size inb_S1x1x2048x704_S1x1x272x704_0_0_0_0))) (View.ld x2 (Rect.unit ![0, 0, 0] S1x256x704.size inb_S1x2048x704_S1x256x704_0_0_0)) (ix2 0 b) = tapPart kp x0 x1 x2 0 0 b :=
  (pay18_at _ _ _).trans (Finset.sum_congr rfl fun r _ => congrArg₂ (fun y z : EReal => y * z) (tap0_0 kp x0 x1 r b) (ld_in0 x2 r b))

/-- The sum so far, with window 1's part. -/
theorem acc1_0 (s : FVec Ideal S1x704 .f32) (b : Fin 704) :
    k0_pay29 s (k0_pay22 (View.ld x0 (Rect.unit ![0, 0, 256, 0] S1x1x272x704.size inb_S1x1x2048x704_S1x1x272x704_0_0_256_0))) (View.ld x2 (Rect.unit ![0, 256, 0] S1x256x704.size inb_S1x2048x704_S1x256x704_0_256_0)) (ix2 0 b) = s (ix2 0 b) + tapPart kp x0 x1 x2 0 256 b :=
  (pay29_at _ _ _ _).trans (congrArg (s (ix2 0 b) + ·) (Finset.sum_congr rfl fun r _ => congrArg₂ (fun y z : EReal => y * z) (tap1_0 kp x0 x1 r b) (ld_in1 x2 r b)))

/-- The sum so far, with window 2's part. -/
theorem acc2_0 (s : FVec Ideal S1x704 .f32) (b : Fin 704) :
    k0_pay41 s (k0_pay33 (View.ld x0 (Rect.unit ![0, 0, 512, 0] S1x1x272x704.size inb_S1x1x2048x704_S1x1x272x704_0_0_512_0))) (View.ld x2 (Rect.unit ![0, 512, 0] S1x256x704.size inb_S1x2048x704_S1x256x704_0_512_0)) (ix2 0 b) = s (ix2 0 b) + tapPart kp x0 x1 x2 0 512 b :=
  (pay41_at _ _ _ _).trans (congrArg (s (ix2 0 b) + ·) (Finset.sum_congr rfl fun r _ => congrArg₂ (fun y z : EReal => y * z) (tap2_0 kp x0 x1 r b) (ld_in2 x2 r b)))

/-- What window 3 adds at the tap that looks 0 rows further on. -/
theorem part3_0 (b : Fin 704) :
    k0_pay53 (k0_pay42 (View.ld x0 (Rect.unit ![0, 0, 768, 0] S1x1x272x704.size inb_S1x1x2048x704_S1x1x272x704_0_0_768_0))) (View.ld x2 (Rect.unit ![0, 768, 0] S1x256x704.size inb_S1x2048x704_S1x256x704_0_768_0)) (ix1 b) = tapPart kp x0 x1 x2 0 768 b :=
  (pay53_at _ _ _).trans (Finset.sum_congr rfl fun r _ =>
    congrArg₂ (fun y z : EReal => y * z) (tap3_0 kp x0 x1 r b) (ld_in3 x2 r b))

/-- The sum so far, with window 3's part. -/
theorem acc3_0 (s : FVec Ideal S1x704 .f32) (b : Fin 704) :
    k0_pay56 s (k0_pay53 (k0_pay42 (View.ld x0 (Rect.unit ![0, 0, 768, 0] S1x1x272x704.size inb_S1x1x2048x704_S1x1x272x704_0_0_768_0))) (View.ld x2 (Rect.unit ![0, 768, 0] S1x256x704.size inb_S1x2048x704_S1x256x704_0_768_0))) (ix2 0 b) = s (ix2 0 b) + tapPart kp x0 x1 x2 0 768 b :=
  (pay56_at _ _ _).trans (congrArg (s (ix2 0 b) + ·) (part3_0 kp x0 x1 x2 b))

/-- The sum so far, with window 4's part. -/
theorem acc4_0 (s : FVec Ideal S1x704 .f32) (b : Fin 704) :
    k0_pay68 s (k0_pay60 (View.ld x0 (Rect.unit ![0, 0, 1024, 0] S1x1x272x704.size inb_S1x1x2048x704_S1x1x272x704_0_0_1024_0))) (k0_pay64 (View.ld x2 (Rect.unit ![0, 1024, 0] S1x256x704.size inb_S1x2048x704_S1x256x704_0_1024_0))) (ix2 0 b) = s (ix2 0 b) + tapPart kp x0 x1 x2 0 1024 b :=
  (pay68_at _ _ _ _).trans (congrArg (s (ix2 0 b) + ·) (Finset.sum_congr rfl fun r _ =>
    congrArg₂ (fun y z : EReal => y * z) (tap4_0 kp x0 x1 r b) ((pay64_at _ _ _).trans (ld_in4 x2 r b))))

/-- The sum so far, with window 5's part. -/
theorem acc5_0 (s : FVec Ideal S1x704 .f32) (b : Fin 704) :
    k0_pay79 s (k0_pay72 (View.ld x0 (Rect.unit ![0, 0, 1280, 0] S1x1x272x704.size inb_S1x1x2048x704_S1x1x272x704_0_0_1280_0))) (View.ld x2 (Rect.unit ![0, 1280, 0] S1x256x704.size inb_S1x2048x704_S1x256x704_0_1280_0)) (ix2 0 b) = s (ix2 0 b) + tapPart kp x0 x1 x2 0 1280 b :=
  (pay79_at _ _ _ _).trans (congrArg (s (ix2 0 b) + ·) (Finset.sum_congr rfl fun r _ => congrArg₂ (fun y z : EReal => y * z) (tap5_0 kp x0 x1 r b) (ld_in5 x2 r b)))

/-- The sum so far, with window 6's part. -/
theorem acc6_0 (s : FVec Ideal S1x704 .f32) (b : Fin 704) :
    k0_pay90 s (k0_pay83 (View.ld x0 (Rect.unit ![0, 0, 1536, 0] S1x1x272x704.size inb_S1x1x2048x704_S1x1x272x704_0_0_1536_0))) (View.ld x2 (Rect.unit ![0, 1536, 0] S1x256x704.size inb_S1x2048x704_S1x256x704_0_1536_0)) (ix2 0 b) = s (ix2 0 b) + tapPart kp x0 x1 x2 0 1536 b :=
  (pay90_at _ _ _ _).trans (congrArg (s (ix2 0 b) + ·) (Finset.sum_congr rfl fun r _ => congrArg₂ (fun y z : EReal => y * z) (tap6_0 kp x0 x1 r b) (ld_in6 x2 r b)))

/-- The sum so far, with window 7's part. -/
theorem acc7_0 (s : FVec Ideal S1x704 .f32) (b : Fin 704) :
    k0_pay101 s (k0_pay94 (kp : Ideal .f32) (View.ld x0 (Rect.unit ![0, 0, 1792, 0] S1x1x256x704.size inb_S1x1x2048x704_S1x1x256x704_0_0_1792_0)) x1) (View.ld x2 (Rect.unit ![0, 1792, 0] S1x256x704.size inb_S1x2048x704_S1x256x704_0_1792_0)) (ix2 0 b) = s (ix2 0 b) + tapPart kp x0 x1 x2 0 1792 b :=
  (pay101_at _ _ _ _).trans (congrArg (s (ix2 0 b) + ·) (Finset.sum_congr rfl fun r _ => congrArg₂ (fun y z : EReal => y * z) (tap7_0 kp x0 x1 r b) (ld_in7 x2 r b)))

/-- The body's whole sum at the tap that looks 0 rows further on. -/
theorem total0 (b : Fin 704) :
    (k0_pay101 (k0_pay90 (k0_pay79 (k0_pay68 (k0_pay56 (k0_pay41 (k0_pay29 (k0_pay18 (k0_pay11 (View.ld x0 (Rect.unit ![0, 0, 0, 0] S1x1x272x704.size inb_S1x1x2048x704_S1x1x272x704_0_0_0_0))) (View.ld x2 (Rect.unit ![0, 0, 0] S1x256x704.size inb_S1x2048x704_S1x256x704_0_0_0))) (k0_pay22 (View.ld x0 (Rect.unit ![0, 0, 256, 0] S1x1x272x704.size inb_S1x1x2048x704_S1x1x272x704_0_0_256_0))) (View.ld x2 (Rect.unit ![0, 256, 0] S1x256x704.size inb_S1x2048x704_S1x256x704_0_256_0))) (k0_pay33 (View.ld x0 (Rect.unit ![0, 0, 512, 0] S1x1x272x704.size inb_S1x1x2048x704_S1x1x272x704_0_0_512_0))) (View.ld x2 (Rect.unit ![0, 512, 0] S1x256x704.size inb_S1x2048x704_S1x256x704_0_512_0))) (k0_pay53 (k0_pay42 (View.ld x0 (Rect.unit ![0, 0, 768, 0] S1x1x272x704.size inb_S1x1x2048x704_S1x1x272x704_0_0_768_0))) (View.ld x2 (Rect.unit ![0, 768, 0] S1x256x704.size inb_S1x2048x704_S1x256x704_0_768_0)))) (k0_pay60 (View.ld x0 (Rect.unit ![0, 0, 1024, 0] S1x1x272x704.size inb_S1x1x2048x704_S1x1x272x704_0_0_1024_0))) (k0_pay64 (View.ld x2 (Rect.unit ![0, 1024, 0] S1x256x704.size inb_S1x2048x704_S1x256x704_0_1024_0)))) (k0_pay72 (View.ld x0 (Rect.unit ![0, 0, 1280, 0] S1x1x272x704.size inb_S1x1x2048x704_S1x1x272x704_0_0_1280_0))) (View.ld x2 (Rect.unit ![0, 1280, 0] S1x256x704.size inb_S1x2048x704_S1x256x704_0_1280_0))) (k0_pay83 (View.ld x0 (Rect.unit ![0, 0, 1536, 0] S1x1x272x704.size inb_S1x1x2048x704_S1x1x272x704_0_0_1536_0))) (View.ld x2 (Rect.unit ![0, 1536, 0] S1x256x704.size inb_S1x2048x704_S1x256x704_0_1536_0))) (k0_pay94 (kp : Ideal .f32) (View.ld x0 (Rect.unit ![0, 0, 1792, 0] S1x1x256x704.size inb_S1x1x2048x704_S1x1x256x704_0_0_1792_0)) x1) (View.ld x2 (Rect.unit ![0, 1792, 0] S1x256x704.size inb_S1x2048x704_S1x256x704_0_1792_0))) (ix2 0 b) = tapSum kp x0 x1 x2 0 b := by
  rw [tapSum_eq]
  exact ((acc7_0 kp x0 x1 x2 _ b).trans (congrArg (· + tapPart kp x0 x1 x2 0 1792 b) ((acc6_0 kp x0 x1 x2 _ b).trans (congrArg (· + tapPart kp x0 x1 x2 0 1536 b) ((acc5_0 kp x0 x1 x2 _ b).trans (congrArg (· + tapPart kp x0 x1 x2 0 1280 b) ((acc4_0 kp x0 x1 x2 _ b).trans (congrArg (· + tapPart kp x0 x1 x2 0 1024 b) ((acc3_0 kp x0 x1 x2 _ b).trans (congrArg (· + tapPart kp x0 x1 x2 0 768 b) ((acc2_0 kp x0 x1 x2 _ b).trans (congrArg (· + tapPart kp x0 x1 x2 0 512 b) ((acc1_0 kp x0 x1 x2 _ b).trans (congrArg (· + tapPart kp x0 x1 x2 0 256 b) (acc0_0 kp x0 x1 x2 b)))))))))))))))

end Blocks

end Cert.Kernel2Ideal.Conv

end
-- ==== Proof.ConvOut.lean ====
module

public import proofs.«01_k».proof.Proof.ConvBlocks
public import proofs.«01_k».proof.Proof.Stores

/-! The convolution's gradient: what each point leaves in the blocks of the results. -/

@[expose] public section

set_option maxRecDepth 16384

noncomputable section

namespace Cert.Kernel2Ideal.Conv

open Idealize.ShloMosaic Idealize.ShloMosaic.TcCoe Idealize.SL.Sem
open Idealize.ShloMosaic.Pipeline (Dat)
open Cert.Kernel2Ideal Cert.Kernel2Ideal.Gen Cert.Kernel2Ideal.Body Cert.Proof.Stores

variable (m : (ℓ : Loc nD τ sig) → Buf (Elt Ideal) ℓ)

/-- The factor of the halo rows at a point. -/
def kpt (t : Fin cfg0.N) : EReal := k0_pay6 (F := Ideal) (grid0.coords t)

/-- A row of a block as a row of one of its windows. -/
theorem in_chunk (n : ℕ) (hn : n + 256 ≤ 2048) (r : Fin 2048) (h : n ≤ r.val) (h' : r.val < n + 256) :
    ∃ s : Fin 256, r = ⟨n + s.val, Nat.lt_of_lt_of_le (Nat.add_lt_add_left s.isLt n) hn⟩ :=
  ⟨⟨r.val - n, by omega⟩, Fin.ext (by show _ = _; simp only []; omega)⟩

/-- A row of a block named by its window and its row there. -/
theorem of_chunk (n : ℕ) (hn : n + 256 ≤ 2048) (r : Fin 2048) (s : Fin 256) (h : r.val = n + s.val) :
    r = ⟨n + s.val, Nat.lt_of_lt_of_le (Nat.add_lt_add_left s.isLt n) hn⟩ := Fin.ext h

/-- The gradient block that a point leaves. -/
theorem out5 (c : Dev nD) (t : Fin cfg0.N) (r : Fin 2048) (b : Fin 704) :
    (outsAt0 m c t.val t.isLt).1 (ix3 0 r b) = grad (kpt t) (iblk m c 0 t) (iblk m c 1 t) (iblk m c 3 t) r.val b := by
  by_cases ht : t.val % 8 = 0
  · by_cases ht' : t.val % 16 = 0
    · rw [outsAt0_A m c t ht ht']; frame_out
      canon_tiles x e
      · obtain ⟨s, rfl⟩ : ∃ s : Fin 256, x = ix3 0 s b := ⟨x 1, by idx_ext⟩
        exact (store7 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store6 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store5 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store4 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store3 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store2 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store1 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store0 (kpt t) (iblk m c 0 t) (iblk m c 1 t) (iblk m c 3 t) s b).trans (congrArg (fun n => grad (kpt t) (iblk m c 0 t) (iblk m c 1 t) (iblk m c 3 t) n b) (by simpa using e1.symm))
    · rw [outsAt0_C m c t ht ht']; frame_out
      canon_tiles x e
      · obtain ⟨s, rfl⟩ : ∃ s : Fin 256, x = ix3 0 s b := ⟨x 1, by idx_ext⟩
        exact (store7 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store6 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store5 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store4 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store3 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store2 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store1 (kpt t) (iblk m c 0 t) (iblk m c 1 t) (iblk m c 3 t) s b).trans (congrArg (fun n => grad (kpt t) (iblk m c 0 t) (iblk m c 1 t) (iblk m c 3 t) n b) e1.symm)
      · obtain ⟨s, rfl⟩ : ∃ s : Fin 256, x = ix3 0 s b := ⟨x 1, by idx_ext⟩
        exact (store0 (kpt t) (iblk m c 0 t) (iblk m c 1 t) (iblk m c 3 t) s b).trans (congrArg (fun n => grad (kpt t) (iblk m c 0 t) (iblk m c 1 t) (iblk m c 3 t) n b) (by simpa using e1.symm))
  · rw [outsAt0_B m c t ht (fun h => ht (by omega))]; frame_out
    canon_tiles x e
    · obtain ⟨s, rfl⟩ : ∃ s : Fin 256, x = ix3 0 s b := ⟨x 1, by idx_ext⟩
      exact (store7 (kpt t) (iblk m c 0 t) (iblk m c 1 t) (iblk m c 3 t) s b).trans (congrArg (fun n => grad (kpt t) (iblk m c 0 t) (iblk m c 1 t) (iblk m c 3 t) n b) e1.symm)
    · obtain ⟨s, rfl⟩ : ∃ s : Fin 256, x = ix3 0 s b := ⟨x 1, by idx_ext⟩
      exact (store6 (kpt t) (iblk m c 0 t) (iblk m c 1 t) (iblk m c 3 t) s b).trans (congrArg (fun n => grad (kpt t) (iblk m c 0 t) (iblk m c 1 t) (iblk m c 3 t) n b) e1.symm)
    · obtain ⟨s, rfl⟩ : ∃ s : Fin 256, x = ix3 0 s b := ⟨x 1, by idx_ext⟩
      exact (store5 (kpt t) (iblk m c 0 t) (iblk m c 1 t) (iblk m c 3 t) s b).trans (congrArg (fun n => grad (kpt t) (iblk m c 0 t) (iblk m c 1 t) (iblk m c 3 t) n b) e1.symm)
    · obtain ⟨s, rfl⟩ : ∃ s : Fin 256, x = ix3 0 s b := ⟨x 1, by idx_ext⟩
      exact (store4 (kpt t) (iblk m c 0 t) (iblk m c 1 t) (iblk m c 3 t) s b).trans (congrArg (fun n => grad (kpt t) (iblk m c 0 t) (iblk m c 1 t) (iblk m c 3 t) n b) e1.symm)
    · obtain ⟨s, rfl⟩ : ∃ s : Fin 256, x = ix3 0 s b := ⟨x 1, by idx_ext⟩
      exact (store3 (kpt t) (iblk m c 0 t) (iblk m c 1 t) (iblk m c 3 t) s b).trans (congrArg (fun n => grad (kpt t) (iblk m c 0 t) (iblk m c 1 t) (iblk m c 3 t) n b) e1.symm)
    · obtain ⟨s, rfl⟩ : ∃ s : Fin 256, x = ix3 0 s b := ⟨x 1, by idx_ext⟩
      exact (store2 (kpt t) (iblk m c 0 t) (iblk m c 1 t) (iblk m c 3 t) s b).trans (congrArg (fun n => grad (kpt t) (iblk m c 0 t) (iblk m c 1 t) (iblk m c 3 t) n b) e1.symm)
    · obtain ⟨s, rfl⟩ : ∃ s : Fin 256, x = ix3 0 s b := ⟨x 1, by idx_ext⟩
      exact (store1 (kpt t) (iblk m c 0 t) (iblk m c 1 t) (iblk m c 3 t) s b).trans (congrArg (fun n => grad (kpt t) (iblk m c 0 t) (iblk m c 1 t) (iblk m c 3 t) n b) e1.symm)
    · obtain ⟨s, rfl⟩ : ∃ s : Fin 256, x = ix3 0 s b := ⟨x 1, by idx_ext⟩
      exact (store0 (kpt t) (iblk m c 0 t) (iblk m c 1 t) (iblk m c 3 t) s b).trans (congrArg (fun n => grad (kpt t) (iblk m c 0 t) (iblk m c 1 t) (iblk m c 3 t) n b) (by simpa using e1.symm))

/-- A later point of a run adds its rows to the product. -/
theorem out6_B (c : Dev nD) (t : Fin cfg0.N) (ht : ¬t.val % 8 = 0) (r : Fin 2048) (j : Fin 1024) :
    (outsAt0 m c t.val t.isLt).2.1 (ix2 r j)
      = (outsAt0 m c (t.val - 1) (Nat.lt_of_le_of_lt (Nat.sub_le _ _) t.isLt)).2.1 (ix2 r j) + prodRow (kpt t) (iblk m c 0 t) (iblk m c 1 t) (iblk m c 3 t) (iblk m c 4 t) r.val j := by
  rw [outsAt0_B m c t ht (fun h => ht (by omega))]; frame_out
  canon_tiles x e
  · obtain ⟨s, rfl⟩ : ∃ s : Fin 256, x = ix2 s j := ⟨x 0, by idx_ext⟩
    obtain rfl := of_chunk 1792 (by decide) r s e0
    refine (prod7 (kpt t) (iblk m c 0 t) (iblk m c 1 t) (iblk m c 3 t) (iblk m c 4 t) _ s j).trans (congrArg (· + _) ?_)
    exact View.ld_unit_apply_of _ _ _ _ _ _ fun a => by fin_cases a <;> simp
  · obtain ⟨s, rfl⟩ : ∃ s : Fin 256, x = ix2 s j := ⟨x 0, by idx_ext⟩
    obtain rfl := of_chunk 1536 (by decide) r s e0
    refine (prod6 (kpt t) (iblk m c 0 t) (iblk m c 1 t) (iblk m c 3 t) (iblk m c 4 t) _ s j).trans (congrArg (· + _) ?_)
    exact View.ld_unit_apply_of _ _ _ _ _ _ fun a => by fin_cases a <;> simp
  · obtain ⟨s, rfl⟩ : ∃ s : Fin 256, x = ix2 s j := ⟨x 0, by idx_ext⟩
    obtain rfl := of_chunk 1280 (by decide) r s e0
    refine (prod5 (kpt t) (iblk m c 0 t) (iblk m c 1 t) (iblk m c 3 t) (iblk m c 4 t) _ s j).trans (congrArg (· + _) ?_)
    exact View.ld_unit_apply_of _ _ _ _ _ _ fun a => by fin_cases a <;> simp
  · obtain ⟨s, rfl⟩ : ∃ s : Fin 256, x = ix2 s j := ⟨x 0, by idx_ext⟩
    obtain rfl := of_chunk 1024 (by decide) r s e0
    refine (prod4 (kpt t) (iblk m c 0 t) (iblk m c 1 t) (iblk m c 3 t) (iblk m c 4 t) _ s j).trans (congrArg (· + _) ?_)
    exact View.ld_unit_apply_of _ _ _ _ _ _ fun a => by fin_cases a <;> simp
  · obtain ⟨s, rfl⟩ : ∃ s : Fin 256, x = ix2 s j := ⟨x 0, by idx_ext⟩
    obtain rfl := of_chunk 768 (by decide) r s e0
    refine (prod3 (kpt t) (iblk m c 0 t) (iblk m c 1 t) (iblk m c 3 t) (iblk m c 4 t) _ s j).trans (congrArg (· + _) ?_)
    exact View.ld_unit_apply_of _ _ _ _ _ _ fun a => by fin_cases a <;> simp
  · obtain ⟨s, rfl⟩ : ∃ s : Fin 256, x = ix2 s j := ⟨x 0, by idx_ext⟩
    obtain rfl := of_chunk 512 (by decide) r s e0
    refine (prod2 (kpt t) (iblk m c 0 t) (iblk m c 1 t) (iblk m c 3 t) (iblk m c 4 t) _ s j).trans (congrArg (· + _) ?_)
    exact View.ld_unit_apply_of _ _ _ _ _ _ fun a => by fin_cases a <;> simp
  · obtain ⟨s, rfl⟩ : ∃ s : Fin 256, x = ix2 s j := ⟨x 0, by idx_ext⟩
    obtain rfl := of_chunk 256 (by decide) r s e0
    refine (prod1 (kpt t) (iblk m c 0 t) (iblk m c 1 t) (iblk m c 3 t) (iblk m c 4 t) _ s j).trans (congrArg (· + _) ?_)
    exact View.ld_unit_apply_of _ _ _ _ _ _ fun a => by fin_cases a <;> simp
  · obtain ⟨s, rfl⟩ : ∃ s : Fin 256, x = ix2 s j := ⟨x 0, by idx_ext⟩
    obtain rfl := of_chunk 0 (by decide) r s (by simpa using e0)
    refine (prod0 (kpt t) (iblk m c 0 t) (iblk m c 1 t) (iblk m c 3 t) (iblk m c 4 t) _ s j).trans (congrArg (· + _) ?_)
    exact View.ld_unit_apply_of _ _ _ _ _ _ fun a => by fin_cases a <;> simp

/-- The first point of a run stores its rows over zero. -/
theorem out6_A (c : Dev nD) (t : Fin cfg0.N) (ht : t.val % 8 = 0) (r : Fin 2048) (j : Fin 1024) :
    (outsAt0 m c t.val t.isLt).2.1 (ix2 r j) = 0 + prodRow (kpt t) (iblk m c 0 t) (iblk m c 1 t) (iblk m c 3 t) (iblk m c 4 t) r.val j := by
  by_cases ht' : t.val % 16 = 0
  · rw [outsAt0_A m c t ht ht']; frame_out
    rcases (by omega : (0 ≤ r.val ∧ r.val < 256) ∨ (256 ≤ r.val ∧ r.val < 512) ∨ (512 ≤ r.val ∧ r.val < 768) ∨ (768 ≤ r.val ∧ r.val < 1024) ∨ (1024 ≤ r.val ∧ r.val < 1280) ∨ (1280 ≤ r.val ∧ r.val < 1536) ∨ (1536 ≤ r.val ∧ r.val < 1792) ∨ (1792 ≤ r.val ∧ r.val < 2048)) with h | h | h | h | h | h | h | h
    · obtain ⟨s, rfl⟩ := in_chunk 0 (by decide) r h.1 h.2
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod0 (kpt t) (iblk m c 0 t) (iblk m c 1 t) (iblk m c 3 t) (iblk m c 4 t) _ s j).trans (congrArg (· + _) ?_)
      rw [View.readCov_eq_canon']
      exact (newest_of_mem _ _ _ _ (ix2 ⟨0 + s.val, by omega⟩ j) (by intro a; fin_cases a <;> simp)).trans (pay4_at _)
    · obtain ⟨s, rfl⟩ := in_chunk 256 (by decide) r h.1 h.2
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod1 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      exact (newest_of_mem _ _ _ _ (ix2 ⟨256 + s.val, by omega⟩ j) (by intro a; fin_cases a <;> simp)).trans (pay4_at _)
    · obtain ⟨s, rfl⟩ := in_chunk 512 (by decide) r h.1 h.2
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod2 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      exact (newest_of_mem _ _ _ _ (ix2 ⟨512 + s.val, by omega⟩ j) (by intro a; fin_cases a <;> simp)).trans (pay4_at _)
    · obtain ⟨s, rfl⟩ := in_chunk 768 (by decide) r h.1 h.2
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod3 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      refine (newest_of_not_mem _ _ _ _ 0 (by simp; try omega)).trans ?_
      exact (newest_of_mem _ _ _ _ (ix2 ⟨768 + s.val, by omega⟩ j) (by intro a; fin_cases a <;> simp)).trans (pay4_at _)
    · obtain ⟨s, rfl⟩ := in_chunk 1024 (by decide) r h.1 h.2
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod4 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      exact (newest_of_mem _ _ _ _ (ix2 ⟨1024 + s.val, by omega⟩ j) (by intro a; fin_cases a <;> simp)).trans (pay4_at _)
    · obtain ⟨s, rfl⟩ := in_chunk 1280 (by decide) r h.1 h.2
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod5 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      exact (newest_of_mem _ _ _ _ (ix2 ⟨1280 + s.val, by omega⟩ j) (by intro a; fin_cases a <;> simp)).trans (pay4_at _)
    · obtain ⟨s, rfl⟩ := in_chunk 1536 (by decide) r h.1 h.2
      refine (newest_of_not_mem _ _ _ _ 0 (by simp; try omega)).trans ?_
      refine (newest_of_mem _ _ _ _ (ix2 s j) (by intro a; fin_cases a <;> simp)).trans ?_
      refine (prod6 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      exact (newest_of_mem _ _ _ _ (ix2 ⟨1536 + s.val, by omega⟩ j) (by intro a; fin_cases a <;> simp)).trans (pay4_at _)
    · obtain ⟨s, rfl⟩ := in_chunk 1792 (by decide) r h.1 h.2
      refine (newest_of_mem _ _ _ _ (ix2 s j) (by intro a; fin_cases a <;> simp)).trans ?_
      refine (prod7 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      exact (newest_of_mem _ _ _ _ (ix2 ⟨1792 + s.val, by omega⟩ j) (by intro a; fin_cases a <;> simp)).trans (pay4_at _)
  · rw [outsAt0_C m c t ht ht']; frame_out
    rcases (by omega : (0 ≤ r.val ∧ r.val < 256) ∨ (256 ≤ r.val ∧ r.val < 512) ∨ (512 ≤ r.val ∧ r.val < 768) ∨ (768 ≤ r.val ∧ r.val < 1024) ∨ (1024 ≤ r.val ∧ r.val < 1280) ∨ (1280 ≤ r.val ∧ r.val < 1536) ∨ (1536 ≤ r.val ∧ r.val < 1792) ∨ (1792 ≤ r.val ∧ r.val < 2048)) with h | h | h | h | h | h | h | h
    · obtain ⟨s, rfl⟩ := in_chunk 0 (by decide) r h.1 h.2
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod0 (kpt t) (iblk m c 0 t) (iblk m c 1 t) (iblk m c 3 t) (iblk m c 4 t) _ s j).trans (congrArg (· + _) ?_)
      rw [View.readCov_eq_canon']
      exact (newest_of_mem _ _ _ _ (ix2 ⟨0 + s.val, by omega⟩ j) (by intro a; fin_cases a <;> simp)).trans (pay4_at _)
    · obtain ⟨s, rfl⟩ := in_chunk 256 (by decide) r h.1 h.2
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod1 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      exact (newest_of_mem _ _ _ _ (ix2 ⟨256 + s.val, by omega⟩ j) (by intro a; fin_cases a <;> simp)).trans (pay4_at _)
    · obtain ⟨s, rfl⟩ := in_chunk 512 (by decide) r h.1 h.2
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod2 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      exact (newest_of_mem _ _ _ _ (ix2 ⟨512 + s.val, by omega⟩ j) (by intro a; fin_cases a <;> simp)).trans (pay4_at _)
    · obtain ⟨s, rfl⟩ := in_chunk 768 (by decide) r h.1 h.2
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod3 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      refine (newest_of_not_mem _ _ _ _ 0 (by simp; try omega)).trans ?_
      exact (newest_of_mem _ _ _ _ (ix2 ⟨768 + s.val, by omega⟩ j) (by intro a; fin_cases a <;> simp)).trans (pay4_at _)
    · obtain ⟨s, rfl⟩ := in_chunk 1024 (by decide) r h.1 h.2
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod4 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      exact (newest_of_mem _ _ _ _ (ix2 ⟨1024 + s.val, by omega⟩ j) (by intro a; fin_cases a <;> simp)).trans (pay4_at _)
    · obtain ⟨s, rfl⟩ := in_chunk 1280 (by decide) r h.1 h.2
      refine (newest_of_not_mem _ _ _ _ 0 (by simp; try omega)).trans ?_
      refine (newest_of_not_mem _ _ _ _ 0 (by simp; try omega)).trans ?_
      refine (newest_of_mem _ _ _ _ (ix2 s j) (by intro a; fin_cases a <;> simp)).trans ?_
      refine (prod5 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      exact (newest_of_mem _ _ _ _ (ix2 ⟨1280 + s.val, by omega⟩ j) (by intro a; fin_cases a <;> simp)).trans (pay4_at _)
    · obtain ⟨s, rfl⟩ := in_chunk 1536 (by decide) r h.1 h.2
      refine (newest_of_not_mem _ _ _ _ 0 (by simp; try omega)).trans ?_
      refine (newest_of_mem _ _ _ _ (ix2 s j) (by intro a; fin_cases a <;> simp)).trans ?_
      refine (prod6 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      exact (newest_of_mem _ _ _ _ (ix2 ⟨1536 + s.val, by omega⟩ j) (by intro a; fin_cases a <;> simp)).trans (pay4_at _)
    · obtain ⟨s, rfl⟩ := in_chunk 1792 (by decide) r h.1 h.2
      refine (newest_of_mem _ _ _ _ (ix2 s j) (by intro a; fin_cases a <;> simp)).trans ?_
      refine (prod7 (kpt t) (iblk m c 0 t) (iblk m c 1 t) (iblk m c 3 t) (iblk m c 4 t) _ s j).trans (congrArg (· + _) ?_)
      rw [View.readCov_eq_canon']
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      refine (newest_of_not_mem _ _ _ _ 0 (by simp; try omega)).trans ?_
      exact (newest_of_mem _ _ _ _ (ix2 ⟨1792 + s.val, by omega⟩ j) (by intro a; fin_cases a <;> simp)).trans (pay4_at _)

end Cert.Kernel2Ideal.Conv

end
-- ==== Proof.ConvFilt.lean ====
module

public import proofs.«01_k».proof.Proof.ConvOut
public import proofs.«01_k».proof.Proof.Stores

/-! The convolution's gradient: what each point leaves in the filter gradient's block. -/

@[expose] public section

set_option maxRecDepth 16384

noncomputable section

namespace Cert.Kernel2Ideal.Conv

open Idealize.ShloMosaic Idealize.ShloMosaic.TcCoe Idealize.SL.Sem
open Idealize.ShloMosaic.Pipeline (Dat)
open Cert.Kernel2Ideal Cert.Kernel2Ideal.Gen Cert.Kernel2Ideal.Body Cert.Proof.Stores

variable (m : (ℓ : Loc nD τ sig) → Buf (Elt Ideal) ℓ)

/-- Where the first tap's row goes. -/
theorem off1 : ∀ t : Fin cfg0.N, k0_off1 (grid0.coords t) = ![t.val % 8, 0, 0] := by decide +kernel

/-- Where the second tap's row goes. -/
theorem off2 : ∀ t : Fin cfg0.N, k0_off2 (grid0.coords t) = ![t.val % 8, 1, 0] := by decide +kernel

/-- Where the third tap's row goes. -/
theorem off3 : ∀ t : Fin cfg0.N, k0_off3 (grid0.coords t) = ![t.val % 8, 2, 0] := by decide +kernel

/-- What a point adds to the filter's gradient at shard `s`, row `k`: the tap's sum in the first three rows of its own shard. -/
def filt (c : Dev nD) (t : Fin cfg0.N) (s k : Fin 8) (b : Fin 704) : EReal :=
  if s.val = t.val % 8 ∧ k.val < 3 then tapSum (kpt t) (iblk m c 0 t) (iblk m c 1 t) (iblk m c 2 t) (2 - k.val) b else 0

/-- The point's own rows. -/
theorem filt_row (c : Dev nD) (t : Fin cfg0.N) (s k : Fin 8) (b : Fin 704) (hs : s.val = t.val % 8) (hk : k.val < 3) :
    filt m c t s k b = tapSum (kpt t) (iblk m c 0 t) (iblk m c 1 t) (iblk m c 2 t) (2 - k.val) b := if_pos ⟨hs, hk⟩

/-- The other rows. -/
theorem filt_other (c : Dev nD) (t : Fin cfg0.N) (s k : Fin 8) (b : Fin 704) (h : s.val ≠ t.val % 8 ∨ 3 ≤ k.val) :
    filt m c t s k b = 0 := if_neg (by omega)

/-- The entry is in the first tap's row, the second's, the third's, or in none. -/
theorem four (t : Fin cfg0.N) (s k : Fin 8) :
    (s.val = t.val % 8 ∧ k = 0) ∨ (s.val = t.val % 8 ∧ k = 1) ∨ (s.val = t.val % 8 ∧ k = 2) ∨ (s.val ≠ t.val % 8 ∨ 3 ≤ k.val) := by
  omega

/-- The first point adds its sums to zero. -/
theorem out7_A (c : Dev nD) (t : Fin cfg0.N) (ht : t.val % 16 = 0) (s k : Fin 8) (b : Fin 704) :
    (outsAt0 m c t.val t.isLt).2.2 (ix3 s k b) = 0 + filt m c t s k b := by
  rw [outsAt0_A m c t (by omega) ht]; frame_out
  rcases four t s k with ⟨hs, rfl⟩ | ⟨hs, rfl⟩ | ⟨hs, rfl⟩ | h
  · rw [filt_row m c t s 0 b hs (by decide)]
    refine (newest_of_not_mem _ _ _ _ 1 (by simp [off3 t])).trans ?_
    refine (newest_of_not_mem _ _ _ _ 1 (by simp [off2 t])).trans ?_
    refine (newest_of_mem _ _ _ _ (ix3 0 0 b) (by intro a; fin_cases a <;> simp [off1 t, hs])).trans ?_
    refine (pay1_at _ _ b).trans (congrArg₂ (fun y z : EReal => y + z) ?_ (total2 (kpt t) (iblk m c 0 t) (iblk m c 1 t) (iblk m c 2 t) b))
    refine (View.ld_unit_apply_of _ _ _ _ _ (ix3 s 0 b) fun a => by fin_cases a <;> simp [off1 t, hs]).trans ?_
    exact pay5_at _
  · rw [filt_row m c t s 1 b hs (by decide)]
    refine (newest_of_not_mem _ _ _ _ 1 (by simp [off3 t])).trans ?_
    refine (newest_of_mem _ _ _ _ (ix3 0 0 b) (by intro a; fin_cases a <;> simp [off2 t, hs])).trans ?_
    refine (pay2_at _ _ b).trans (congrArg₂ (fun y z : EReal => y + z) ?_ (total1 (kpt t) (iblk m c 0 t) (iblk m c 1 t) (iblk m c 2 t) b))
    refine (View.ld_unit_apply_of _ _ _ _ _ (ix3 s 1 b) fun a => by fin_cases a <;> simp [off2 t, hs]).trans ?_
    refine (newest_of_not_mem _ _ _ _ 1 (by simp [off1 t])).trans ?_
    exact (newest_of_mem _ _ _ _ (ix3 s 1 b) (by intro a; fin_cases a <;> simp)).trans (pay5_at _)
  · rw [filt_row m c t s 2 b hs (by decide)]
    refine (newest_of_mem _ _ _ _ (ix3 0 0 b) (by intro a; fin_cases a <;> simp [off3 t, hs])).trans ?_
    refine (pay3_at _ _ b).trans (congrArg₂ (fun y z : EReal => y + z) ?_ (total0 (kpt t) (iblk m c 0 t) (iblk m c 1 t) (iblk m c 2 t) b))
    refine (View.ld_unit_apply_of _ _ _ _ _ (ix3 s 2 b) fun a => by fin_cases a <;> simp [off3 t, hs]).trans ?_
    refine (newest_of_not_mem _ _ _ _ 1 (by simp [off2 t])).trans ?_
    refine (newest_of_not_mem _ _ _ _ 1 (by simp [off1 t])).trans ?_
    exact (newest_of_mem _ _ _ _ (ix3 s 2 b) (by intro a; fin_cases a <;> simp)).trans (pay5_at _)
  · rw [filt_other m c t s k b h, add_zero]
    rcases h with h | h
    · refine (newest_of_not_mem _ _ _ _ 0 (by simp [off3 t]; omega)).trans ?_
      refine (newest_of_not_mem _ _ _ _ 0 (by simp [off2 t]; omega)).trans ?_
      refine (newest_of_not_mem _ _ _ _ 0 (by simp [off1 t]; omega)).trans ?_
      exact (newest_of_mem _ _ _ _ (ix3 s k b) (by intro a; fin_cases a <;> simp)).trans (pay5_at _)
    · refine (newest_of_not_mem _ _ _ _ 1 (by simp [off3 t]; omega)).trans ?_
      refine (newest_of_not_mem _ _ _ _ 1 (by simp [off2 t]; omega)).trans ?_
      refine (newest_of_not_mem _ _ _ _ 1 (by simp [off1 t]; omega)).trans ?_
      exact (newest_of_mem _ _ _ _ (ix3 s k b) (by intro a; fin_cases a <;> simp)).trans (pay5_at _)

/-- Every later point adds its sums. -/
theorem out7_B (c : Dev nD) (t : Fin cfg0.N) (ht : ¬t.val % 16 = 0) (s k : Fin 8) (b : Fin 704) :
    (outsAt0 m c t.val t.isLt).2.2 (ix3 s k b)
      = (outsAt0 m c (t.val - 1) (Nat.lt_of_le_of_lt (Nat.sub_le _ _) t.isLt)).2.2 (ix3 s k b) + filt m c t s k b := by
  by_cases h8 : t.val % 8 = 0
  · rw [outsAt0_C m c t h8 ht]; frame_out
    rcases four t s k with ⟨hs, rfl⟩ | ⟨hs, rfl⟩ | ⟨hs, rfl⟩ | h
    · rw [filt_row m c t s 0 b hs (by decide)]
      refine (View.read_writes_cons_unit_of_not_mem _ _ _ _ _ _ rfl 1 (by simp [off3 t])).trans ?_
      refine (View.read_writes_cons_unit_of_not_mem _ _ _ _ _ _ rfl 1 (by simp [off2 t])).trans ?_
      refine (View.read_writes_cons_unit_of_mem _ _ _ _ _ _ (ix3 0 0 b) rfl (by intro a; fin_cases a <;> simp [off1 t, hs])).trans ?_
      refine (pay1_at _ _ b).trans (congrArg₂ (fun y z : EReal => y + z) ?_ (total2 (kpt t) (iblk m c 0 t) (iblk m c 1 t) (iblk m c 2 t) b))
      exact View.ld_unit_apply_of _ _ _ _ _ _ fun a => by fin_cases a <;> simp [off1 t, hs]
    · rw [filt_row m c t s 1 b hs (by decide)]
      refine (View.read_writes_cons_unit_of_not_mem _ _ _ _ _ _ rfl 1 (by simp [off3 t])).trans ?_
      refine (View.read_writes_cons_unit_of_mem _ _ _ _ _ _ (ix3 0 0 b) rfl (by intro a; fin_cases a <;> simp [off2 t, hs])).trans ?_
      refine (pay2_at _ _ b).trans (congrArg₂ (fun y z : EReal => y + z) ?_ (total1 (kpt t) (iblk m c 0 t) (iblk m c 1 t) (iblk m c 2 t) b))
      exact View.ld_unit_apply_of _ _ _ _ _ _ fun a => by fin_cases a <;> simp [off2 t, hs]
    · rw [filt_row m c t s 2 b hs (by decide)]
      refine (View.read_writes_cons_unit_of_mem _ _ _ _ _ _ (ix3 0 0 b) rfl (by intro a; fin_cases a <;> simp [off3 t, hs])).trans ?_
      refine (pay3_at _ _ b).trans (congrArg₂ (fun y z : EReal => y + z) ?_ (total0 (kpt t) (iblk m c 0 t) (iblk m c 1 t) (iblk m c 2 t) b))
      exact View.ld_unit_apply_of _ _ _ _ _ _ fun a => by fin_cases a <;> simp [off3 t, hs]
    · rw [filt_other m c t s k b h, add_zero]
      rcases h with h | h
      · refine (View.read_writes_cons_unit_of_not_mem _ _ _ _ _ _ rfl 0 (by simp [off3 t]; omega)).trans ?_
        refine (View.read_writes_cons_unit_of_not_mem _ _ _ _ _ _ rfl 0 (by simp [off2 t]; omega)).trans ?_
        refine (View.read_writes_cons_unit_of_not_mem _ _ _ _ _ _ rfl 0 (by simp [off1 t]; omega)).trans ?_
        exact congrFun (Memref.IsWhole.read_unread _ _) _
      · refine (View.read_writes_cons_unit_of_not_mem _ _ _ _ _ _ rfl 1 (by simp [off3 t]; omega)).trans ?_
        refine (View.read_writes_cons_unit_of_not_mem _ _ _ _ _ _ rfl 1 (by simp [off2 t]; omega)).trans ?_
        refine (View.read_writes_cons_unit_of_not_mem _ _ _ _ _ _ rfl 1 (by simp [off1 t]; omega)).trans ?_
        exact congrFun (Memref.IsWhole.read_unread _ _) _
  · rw [outsAt0_B m c t h8 ht]; frame_out
    rcases four t s k with ⟨hs, rfl⟩ | ⟨hs, rfl⟩ | ⟨hs, rfl⟩ | h
    · rw [filt_row m c t s 0 b hs (by decide)]
      refine (View.read_writes_cons_unit_of_not_mem _ _ _ _ _ _ rfl 1 (by simp [off3 t])).trans ?_
      refine (View.read_writes_cons_unit_of_not_mem _ _ _ _ _ _ rfl 1 (by simp [off2 t])).trans ?_
      refine (View.read_writes_cons_unit_of_mem _ _ _ _ _ _ (ix3 0 0 b) rfl (by intro a; fin_cases a <;> simp [off1 t, hs])).trans ?_
      refine (pay1_at _ _ b).trans (congrArg₂ (fun y z : EReal => y + z) ?_ (total2 (kpt t) (iblk m c 0 t) (iblk m c 1 t) (iblk m c 2 t) b))
      exact View.ld_unit_apply_of _ _ _ _ _ _ fun a => by fin_cases a <;> simp [off1 t, hs]
    · rw [filt_row m c t s 1 b hs (by decide)]
      refine (View.read_writes_cons_unit_of_not_mem _ _ _ _ _ _ rfl 1 (by simp [off3 t])).trans ?_
      refine (View.read_writes_cons_unit_of_mem _ _ _ _ _ _ (ix3 0 0 b) rfl (by intro a; fin_cases a <;> simp [off2 t, hs])).trans ?_
      refine (pay2_at _ _ b).trans (congrArg₂ (fun y z : EReal => y + z) ?_ (total1 (kpt t) (iblk m c 0 t) (iblk m c 1 t) (iblk m c 2 t) b))
      exact View.ld_unit_apply_of _ _ _ _ _ _ fun a => by fin_cases a <;> simp [off2 t, hs]
    · rw [filt_row m c t s 2 b hs (by decide)]
      refine (View.read_writes_cons_unit_of_mem _ _ _ _ _ _ (ix3 0 0 b) rfl (by intro a; fin_cases a <;> simp [off3 t, hs])).trans ?_
      refine (pay3_at _ _ b).trans (congrArg₂ (fun y z : EReal => y + z) ?_ (total0 (kpt t) (iblk m c 0 t) (iblk m c 1 t) (iblk m c 2 t) b))
      exact View.ld_unit_apply_of _ _ _ _ _ _ fun a => by fin_cases a <;> simp [off3 t, hs]
    · rw [filt_other m c t s k b h, add_zero]
      rcases h with h | h
      · refine (View.read_writes_cons_unit_of_not_mem _ _ _ _ _ _ rfl 0 (by simp [off3 t]; omega)).trans ?_
        refine (View.read_writes_cons_unit_of_not_mem _ _ _ _ _ _ rfl 0 (by simp [off2 t]; omega)).trans ?_
        refine (View.read_writes_cons_unit_of_not_mem _ _ _ _ _ _ rfl 0 (by simp [off1 t]; omega)).trans ?_
        exact congrFun (Memref.IsWhole.read_unread _ _) _
      · refine (View.read_writes_cons_unit_of_not_mem _ _ _ _ _ _ rfl 1 (by simp [off3 t]; omega)).trans ?_
        refine (View.read_writes_cons_unit_of_not_mem _ _ _ _ _ _ rfl 1 (by simp [off2 t]; omega)).trans ?_
        refine (View.read_writes_cons_unit_of_not_mem _ _ _ _ _ _ rfl 1 (by simp [off1 t]; omega)).trans ?_
        exact congrFun (Memref.IsWhole.read_unread _ _) _

end Cert.Kernel2Ideal.Conv

end
-- ==== Proof.ConvArrays.lean ====
module

public import proofs.«01_k».proof.Proof.ConvFilt

/-! The convolution's gradient: the arrays that the call leaves. -/

@[expose] public section

set_option maxRecDepth 16384

noncomputable section

namespace Cert.Kernel2Ideal.Conv

open Idealize.ShloMosaic Idealize.ShloMosaic.TcCoe Idealize.SL.Sem
open Idealize.ShloMosaic.Pipeline (Dat)
open Cert.Kernel2Ideal Cert.Kernel2Ideal.Gen Cert.Kernel2Ideal.Body

/-- The block numbers of every window at a grid point: row block first, feature shard second. -/
theorem idx : ∀ t : Fin cfg0.N, win0_0.index t = ![t.val % 8 % 4, t.val % 8 / 4, t.val / 8, 0]
    ∧ win0_1.index t = ![t.val % 8 % 4, t.val % 8 / 4, min ((t.val / 8 + 1) * 128) 255, 0]
    ∧ win0_2.index t = ![t.val % 8, t.val / 8, 0] ∧ win0_3.index t = ![t.val % 8, 0, 0]
    ∧ win0_4.index t = ![t.val % 8, 0, 0] ∧ win0_5.index t = ![t.val % 8, t.val / 8, 0]
    ∧ win0_6.index t = ![t.val / 8, 0] ∧ win0_7.index t = ![0, 0, 0] :=
  (by decide +kernel : ∀ t : Fin grid0.N, _)

/-- The row block of every grid point. -/
theorem coord : ∀ t : Fin cfg0.N, (grid0.coords t 0).val = t.val / 8 :=
  (by decide +kernel : ∀ t : Fin grid0.N, _)

section Whole

variable (D : Vec Ideal S4x2x4096x704 .bf16) (A : Vec Ideal S8x4096x704 .bf16) (C : Vec Ideal S8x8x704 .f32) (W : Vec Ideal S8x1024x704 .bf16)

/-- Row `n` of the cotangent at shard `s`; past the last row, zero. -/
def rowA (s : Fin 8) (n : ℕ) (b : Fin 704) : EReal :=
  if h : n < 4096 then D (ix4 ⟨s.val % 4, by omega⟩ ⟨s.val / 4, by omega⟩ ⟨n, h⟩ b) else 0

/-- Row `n` of the gradient at shard `s`. -/
def gradA (s : Fin 8) (n : ℕ) (b : Fin 704) : EReal :=
  cv (C (ix3 s 0 b)) (C (ix3 s 1 b)) (C (ix3 s 2 b)) (rowA D s (n + 2) b) (rowA D s (n + 1) b) (rowA D s n b)

/-- Row `n` of the product's part at shard `s`. -/
def prodA (s : Fin 8) (n : ℕ) (j : Fin 1024) : EReal := ∑ b : Fin 704, gradA D C s n b * W (ix3 s j b)

/-- The gradient at an index. -/
def gradR (s : Fin 8) (r : Fin 4096) (b : Fin 704) : EReal := gradA D C s r.val b

/-- The product at an index: the sum of the shards' parts. -/
def prodR (r : Fin 4096) (j : Fin 1024) : EReal := ∑ s : Fin 8, prodA D C W s r.val j

/-- The filter's gradient at shard `s` and the tap which looks `d` rows further on. -/
def tapA (s : Fin 8) (d : ℕ) (b : Fin 704) : EReal := ∑ n : Fin 4096, rowA D s (n.val + d) b * A (ix3 s n b)

/-- The filter's gradient with its padding rows. -/
def filtA (s k : Fin 8) (b : Fin 704) : EReal := if k.val < 3 then tapA D A s (2 - k.val) b else 0

end Whole

variable (m : (ℓ : Loc nD τ sig) → Buf (Elt Ideal) ℓ)

/-- The shard of a grid point. -/
def shard (t : Fin cfg0.N) : Fin 8 := ⟨t.val % 8, by omega⟩

/-- The row block of a grid point is one of two. -/
theorem block_lt (t : Fin cfg0.N) : t.val / 8 < 2 := by have := lt_of_lt_of_eq t.isLt N_0; omega

/-- The row that a grid point's block holds at its row `r`. -/
def rowOf (t : Fin cfg0.N) (r : Fin 2048) : Fin 4096 := ⟨t.val / 8 * 2048 + r.val, by have := block_lt t; omega⟩

/-- The cotangent under a point's block. -/
theorem read0 (c : Dev nD) (t : Fin cfg0.N) (r : Fin 2048) (b : Fin 704) :
    iblk m c 0 t (ix4 0 0 r b) = V m c main_v6 (ix4 ⟨(shard t).val % 4, by omega⟩ ⟨(shard t).val / 4, by omega⟩ (rowOf t r) b) := by
  blk_ext [iblk, idx t, shard, rowOf]

/-- The halo under a point's block. -/
theorem read1 (c : Dev nD) (t : Fin cfg0.N) (r : Fin 16) (b : Fin 704) :
    iblk m c 1 t (ix4 0 0 r b) = V m c main_v6 (ix4 ⟨(shard t).val % 4, by omega⟩ ⟨(shard t).val / 4, by omega⟩
      ⟨min ((t.val / 8 + 1) * 128) 255 * 16 + r.val, by omega⟩ b) := by
  blk_ext [iblk, idx t, shard]

/-- The inputs under a point's block. -/
theorem read2 (c : Dev nD) (t : Fin cfg0.N) (r : Fin 2048) (b : Fin 704) :
    iblk m c 2 t (ix3 0 r b) = V m c main_v3 (ix3 (shard t) (rowOf t r) b) := by
  blk_ext [iblk, idx t, shard, rowOf]

/-- The filter under a point's block. -/
theorem read3 (c : Dev nD) (t : Fin cfg0.N) (k : Fin 8) (b : Fin 704) :
    iblk m c 3 t (ix3 0 k b) = V m c main_v9 (ix3 (shard t) k b) := by
  blk_ext [iblk, idx t, shard]

/-- The weight under a point's block. -/
theorem read4 (c : Dev nD) (t : Fin cfg0.N) (j : Fin 1024) (b : Fin 704) :
    iblk m c 4 t (ix3 0 j b) = V m c main_v12 (ix3 (shard t) j b) := by
  blk_ext [iblk, idx t, shard]

/-- The rows that a point sees are the array's, zero past its end. -/
theorem row_blk (c : Dev nD) (t : Fin cfg0.N) (n : ℕ) (hn : n < 2064) (b : Fin 704) :
    row (kpt t) (iblk m c 0 t) (iblk m c 1 t) n b = rowA (V m c main_v6) (shard t) (t.val / 8 * 2048 + n) b := by
  have hb := block_lt t
  have hk : kpt t = if t.val / 8 = 1 then 0 else 1 := by
    unfold kpt
    rw [pay6_at, coord]
  unfold row rowA
  by_cases h : n < 2048
  · rw [dif_pos h, dif_pos (by omega)]
    exact read0 m c t ⟨n, h⟩ b
  · rw [dif_neg h, dif_pos (by omega), hk]
    by_cases h1 : t.val / 8 = 1
    · rw [if_pos h1, dif_neg (by omega)]
      exact mul_zero (M₀ := EReal) _
    · rw [if_neg h1, dif_pos (by omega)]
      refine (mul_one (M := EReal) _).trans ((read1 m c t ⟨n - 2048, by omega⟩ b).trans ?_)
      exact congrArg (fun k => V m c main_v6 (ix4 ⟨(shard t).val % 4, by omega⟩ ⟨(shard t).val / 4, by omega⟩ k b))
        (Fin.ext (by show _ = _; simp only []; omega))

/-- The gradient's rows at a point are the array's. -/
theorem grad_blk (c : Dev nD) (t : Fin cfg0.N) (n : ℕ) (hn : n < 2048) (b : Fin 704) :
    grad (kpt t) (iblk m c 0 t) (iblk m c 1 t) (iblk m c 3 t) n b
      = gradA (V m c main_v6) (V m c main_v9) (shard t) (t.val / 8 * 2048 + n) b := by
  unfold grad gradA
  rw [row_blk m c t _ (by omega), row_blk m c t _ (by omega), row_blk m c t _ (by omega)]
  have e0 := read3 m c t 0 b
  have e1 := read3 m c t 1 b
  have e2 := read3 m c t 2 b
  rw [e0, e1, e2]
  rfl

/-- A point's part of the product is the array's. -/
theorem prod_blk (c : Dev nD) (t : Fin cfg0.N) (n : ℕ) (hn : n < 2048) (j : Fin 1024) :
    prodRow (kpt t) (iblk m c 0 t) (iblk m c 1 t) (iblk m c 3 t) (iblk m c 4 t) n j
      = prodA (V m c main_v6) (V m c main_v9) (V m c main_v12) (shard t) (t.val / 8 * 2048 + n) j :=
  Finset.sum_congr rfl fun b _ => congrArg₂ (fun x y : EReal => x * y) (grad_blk m c t n hn b) (read4 m c t j b)

/-- A point's part of the filter's gradient over the array's rows. -/
theorem tap_blk (c : Dev nD) (t : Fin cfg0.N) (d : ℕ) (hd : d < 3) (b : Fin 704) :
    tapSum (kpt t) (iblk m c 0 t) (iblk m c 1 t) (iblk m c 2 t) d b
      = ∑ r : Fin 2048, rowA (V m c main_v6) (shard t) ((rowOf t r).val + d) b
          * (show EReal from V m c main_v3 (ix3 (shard t) (rowOf t r) b)) := by
  unfold tapSum
  rw [Finset.sum_range]
  refine Finset.sum_congr rfl fun r _ => congrArg₂ (fun x y : EReal => x * y) ?_ ?_
  · rw [row_blk m c t _ (by omega)]
    exact congrArg (fun n => rowA (V m c main_v6) (shard t) n b) (by simp only [rowOf]; omega)
  · unfold inRow
    rw [dif_pos r.isLt]
    exact read2 m c t r b

/-- The gradient's row at a point. -/
theorem gradR_blk (c : Dev nD) (t : Fin cfg0.N) (r : Fin 2048) (b : Fin 704) :
    grad (kpt t) (iblk m c 0 t) (iblk m c 1 t) (iblk m c 3 t) r.val b
      = gradR (V m c main_v6) (V m c main_v9) (shard t) (rowOf t r) b :=
  grad_blk m c t r.val r.isLt b

/-- The product's row over a run of points. -/
theorem prodR_blk (c : Dev nD) (t : Fin cfg0.N) (r : Fin 2048) (j : Fin 1024) (u : Fin 8 → Fin cfg0.N)
    (hu : ∀ s, (u s).val = t.val / 8 * 8 + s.val) :
    ∑ s : Fin 8, prodRow (kpt (u s)) (iblk m c 0 (u s)) (iblk m c 1 (u s)) (iblk m c 3 (u s)) (iblk m c 4 (u s)) r.val j
      = prodR (V m c main_v6) (V m c main_v9) (V m c main_v12) (rowOf t r) j := by
  refine Finset.sum_congr rfl fun s _ => (prod_blk m c (u s) r.val r.isLt j).trans ?_
  have h1 : shard (u s) = s := Fin.ext (by have := hu s; simp only [shard]; omega)
  have h2 : (u s).val / 8 * 2048 + r.val = (rowOf t r).val := by have := hu s; simp only [rowOf]; omega
  rw [h1, h2]

/-- A sum over sixteen points of what two of them give. -/
theorem sum_two (s : Fin 8) (f : Fin 16 → EReal) (h : ∀ u, u.val % 8 ≠ s.val → f u = 0) :
    ∑ u : Fin 16, f u = f ⟨s.val, by omega⟩ + f ⟨8 + s.val, by omega⟩ := by
  have e : ∀ u : Fin 16, u.val % 8 = s.val → u.val = s.val ∨ u.val = 8 + s.val := fun u hu => by have := u.isLt; omega
  exact Finset.sum_eq_add (⟨s.val, by omega⟩ : Fin 16) ⟨8 + s.val, by omega⟩ (fun h => by have := congrArg Fin.val h; simp at this)
    (fun u _ hu => h u fun k => (e u k).elim (fun k => hu.1 (Fin.ext k)) fun k => hu.2 (Fin.ext k))
    (fun h => absurd (Finset.mem_univ _) h) (fun h => absurd (Finset.mem_univ _) h)

/-- A sum over all rows, by its two row blocks. -/
theorem sum_halves (g : Fin 4096 → EReal) : ∑ n : Fin 4096, g n
    = (∑ r : Fin 2048, g ⟨r.val, by omega⟩) + ∑ r : Fin 2048, g ⟨2048 + r.val, by omega⟩ :=
  Fin.sum_univ_add (a := 2048) (b := 2048) g

/-- The filter's gradient over the run of all points. -/
theorem filt_run (c : Dev nD) (s k : Fin 8) (b : Fin 704) (u : Fin 16 → Fin cfg0.N) (hu : ∀ n, (u n).val = n.val) :
    ∑ n : Fin 16, filt m c (u n) s k b = filtA (V m c main_v6) (V m c main_v3) s k b := by
  unfold filtA
  by_cases hk : k.val < 3
  · rw [if_pos hk]
    have part : ∀ n : Fin 16, n.val % 8 = s.val → filt m c (u n) s k b
        = ∑ r : Fin 2048, rowA (V m c main_v6) s ((rowOf (u n) r).val + (2 - k.val)) b
          * (show EReal from V m c main_v3 (ix3 s (rowOf (u n) r) b)) := fun n hn => by
      have h1 : shard (u n) = s := Fin.ext (by have := hu n; simp only [shard]; omega)
      unfold filt
      rw [if_pos ⟨by have := hu n; omega, hk⟩, tap_blk m c (u n) _ (by omega) b, h1]
    refine (sum_two s _ fun n hn => if_neg fun h => hn (by have := hu n; omega) : ∑ n : Fin 16, filt m c (u n) s k b = filt m c (u _) s k b + filt m c (u _) s k b).trans ?_
    rw [part ⟨s.val, by omega⟩ (Nat.mod_eq_of_lt s.isLt), part ⟨8 + s.val, by omega⟩ (by show (8 + s.val) % 8 = s.val; omega)]
    refine Eq.trans ?_ (sum_halves _).symm
    refine congrArg₂ (fun x y : EReal => x + y) (Finset.sum_congr rfl fun r _ => ?_) (Finset.sum_congr rfl fun r _ => ?_)
    · have e : rowOf (u ⟨s.val, by omega⟩) r = ⟨r.val, by omega⟩ :=
        Fin.ext (by have h : _ = s.val := hu ⟨s.val, by omega⟩; simp only [rowOf, h]; omega)
      rw [e]
    · have e : rowOf (u ⟨8 + s.val, by omega⟩) r = ⟨2048 + r.val, by omega⟩ :=
        Fin.ext (by have h : _ = 8 + s.val := hu ⟨8 + s.val, by omega⟩; simp only [rowOf, h]; omega)
      rw [e]
  · rw [if_neg hk]
    exact Finset.sum_eq_zero fun n _ => if_neg fun h => hk h.2

end Cert.Kernel2Ideal.Conv

end
-- ==== Proof.ConvFinal.lean ====
module

public import proofs.«01_k».proof.Proof.ConvArrays

/-! The convolution's gradient: the arrays that the call leaves. -/

@[expose] public section

set_option maxRecDepth 16384

noncomputable section

namespace Cert.Kernel2Ideal.Conv

open Idealize.ShloMosaic Idealize.ShloMosaic.TcCoe Idealize.SL.Sem
open Idealize.ShloMosaic.Pipeline (Dat)
open Cert.Kernel2Ideal Cert.Kernel2Ideal.Gen Cert.Kernel2Ideal.Body

variable (m : (ℓ : Loc nD τ sig) → Buf (Elt Ideal) ℓ)

/-- The gradient that the call leaves. -/
theorem final5 (c : Dev nD) : (dats m 0 c).arrAt 5 cfg0.N
    = fun i : S8x4096x704.Idx => gradR (V m c main_v6) (V m c main_v9) (i 0) (i 1) (i 2) := by
  refine (dats m 0 c).arrAt_eq_of_covers 5 _ (by decide +kernel) fun t hf y => ?_
  blk_simp
  rw [after0_5]
  idx_vars y
  obtain rfl : y0 = 0 := by omega
  refine (out5 m c t y1 y2).trans ((gradR_blk m c t y1 y2).trans ?_)
  have e : (win0_5.blk t).view.emb (ix3 0 y1 y2) = ix3 (shard t) (rowOf t y1) y2 := by
    blk_ext [idx t, shard, rowOf]
  rw [e]; rfl

/-- The product that the call leaves. -/
theorem final6 (c : Dev nD) : (dats m 0 c).arrAt 6 cfg0.N
    = fun i : S4096x1024.Idx => prodR (V m c main_v6) (V m c main_v9) (V m c main_v12) (i 0) (i 1) := by
  refine (dats m 0 c).arrAt_eq_of_covers 6 _ (by decide +kernel) fun t hf y => ?_
  blk_simp
  rw [after0_6]
  idx_vars y
  have hr := (flush0_6 t).mp hf
  refine (Pipeline.eq_sum_fin_of_reset_step_apply_of_flush (fun n h => (outsAt0 m c n h).2.1) 8 (fun _ => 0)
    (fun t j => prodRow (kpt t) (iblk m c 0 t) (iblk m c 1 t) (iblk m c 3 t) (iblk m c 4 t) (j 0).val (j 1))
    (fun t h j => by idx_vars j; exact out6_A m c t h j0 j1) (fun t h j => by idx_vars j; exact out6_B m c t h j0 j1)
    t hr _).trans ((zero_add _).trans ?_)
  refine (prodR_blk m c t y0 y1 (fun s => ⟨_, Pipeline.run_point_lt_of_flush t hr s⟩) (fun s => by simp only []; omega)).trans ?_
  have e : (win0_6.blk t).view.emb (ix2 y0 y1) = ix2 (rowOf t y0) y1 := by
    blk_ext [idx t, rowOf]
  rw [e]; rfl

/-- The filter's gradient that the call leaves. -/
theorem final7 (c : Dev nD) : (dats m 0 c).arrAt 7 cfg0.N
    = fun i : S8x8x704.Idx => filtA (V m c main_v6) (V m c main_v3) (i 0) (i 1) (i 2) := by
  refine (dats m 0 c).arrAt_eq_of_covers 7 _ (by decide +kernel) fun t hf y => ?_
  blk_simp
  rw [after0_7]
  idx_vars y
  have hr := (flush0_7 t).mp hf
  have ht := lt_of_lt_of_eq t.isLt N_0
  refine (Pipeline.eq_sum_fin_of_reset_step_apply_of_flush (fun n h => (outsAt0 m c n h).2.2) 16 (fun _ => 0)
    (fun t j => filt m c t (j 0) (j 1) (j 2))
    (fun t h j => by idx_vars j; exact out7_A m c t h j0 j1 j2) (fun t h j => by idx_vars j; exact out7_B m c t h j0 j1 j2)
    t hr _).trans ((zero_add _).trans ?_)
  refine (filt_run m c y0 y1 y2 (fun s => ⟨_, Pipeline.run_point_lt_of_flush t hr s⟩) (fun s => by simp only []; omega)).trans ?_
  have e : (win0_7.blk t).view.emb (ix3 y0 y1 y2) = ix3 y0 y1 y2 := by
    blk_ext [idx t]
  rw [e]; rfl

end Cert.Kernel2Ideal.Conv

end
-- ==== Proof.ConvRef.lean ====
module

public import proofs.«01_k».proof.Proof.Gen.Reference2Ideal
public import Idealize.ShloMosaic.Lib.Pipeline.ValueKit
public import Idealize.ShloMosaic.Lib.Pointwise
public import Idealize.ShloMosaic.Lib.Claim

@[expose] public section

set_option maxRecDepth 16384

noncomputable section

namespace Cert.Reference2Ideal.Conv

open Idealize.ShloMosaic Idealize.ShloMosaic.TcCoe Idealize.SL.Sem
open Cert.Reference2Ideal Cert.Reference2Ideal.Gen

variable (H : FVec Ideal S4096x1024 .f32) (W : FVec Ideal S1024x5632 .f32) (C : FVec Ideal S3x5632 .f32) (D : FVec Ideal S4096x5632 .f32)

/-- The hidden rows: the product of the inputs with the weight. -/
def hid : FVec Ideal S4096x5632 .f32 := Host.dotGeneral dot_S4096x1024_S1024x5632_S4096x5632_1_0_0_1_n_n none H W

/-- The gradient of the hidden rows. -/
def dhid : FVec Ideal S4096x5632 .f32 :=
  addf (addf (mulf (broadcastInDim S4096x5632 ![0, 1] bcast_S1x5632_S4096x5632_0_1 (broadcastInDim S1x5632 ![1] bcast_S5632_S1x5632_1 (shapeCast _ (extractStridedSlice S1x5632 ![2, 0] C slices_S3x5632_S1x5632_2_0) shapeCasts_S1x5632_S5632))) (shapeCast _ D shapeCasts_S4096x5632_S4096x5632)) (pad S4096x5632 ![0, 0] ![2, 0] ![0, 0] (extractStridedSlice S4094x5632 ![2, 0] (mulf (broadcastInDim S4096x5632 ![0, 1] bcast_S1x5632_S4096x5632_0_1 (broadcastInDim S1x5632 ![1] bcast_S5632_S1x5632_1 (shapeCast _ (extractStridedSlice S1x5632 ![0, 0] C slices_S3x5632_S1x5632_0_0) shapeCasts_S1x5632_S5632))) (shapeCast _ D shapeCasts_S4096x5632_S4096x5632)) slices_S4096x5632_S4094x5632_2_0) (constant S_ .f32 0x00000000#32) pads_S4094x5632_S4096x5632_020_000 h_S_)) (pad S4096x5632 ![0, 0] ![1, 0] ![0, 0] (extractStridedSlice S4095x5632 ![1, 0] (mulf (broadcastInDim S4096x5632 ![0, 1] bcast_S1x5632_S4096x5632_0_1 (broadcastInDim S1x5632 ![1] bcast_S5632_S1x5632_1 (shapeCast _ (extractStridedSlice S1x5632 ![1, 0] C slices_S3x5632_S1x5632_1_0) shapeCasts_S1x5632_S5632))) (shapeCast _ D shapeCasts_S4096x5632_S4096x5632)) slices_S4096x5632_S4095x5632_1_0) (constant S_ .f32 0x00000000#32) pads_S4095x5632_S4096x5632_010_000 h_S_)

/-- The gradient of the filter's row 2. -/
def tap2 : FVec Ideal S5632 .f32 :=
  Host.reduceAdd (shapeCast _ (Host.reduceAdd (mulf (shapeCast _ D shapeCasts_S4096x5632_S4096x5632) (hid H W)) (constant S_ .f32 0x00000000#32) reducesTo_S4096x5632_S5632_d0 h_S_) shapeCasts_S5632_S1x5632) (constant S_ .f32 0x00000000#32) reducesTo_S1x5632_S5632_d0 h_S_

/-- The gradient of the filter's row 1. -/
def tap1 : FVec Ideal S5632 .f32 :=
  Host.reduceAdd (shapeCast _ (Host.reduceAdd (mulf (shapeCast _ D shapeCasts_S4096x5632_S4096x5632) (concatenate S4096x5632 0 [⟨S1x5632, (broadcastInDim S1x5632 ![] bcast_S_S1x5632 (constant S_ .f32 0x00000000#32))⟩, ⟨S4095x5632, (extractStridedSlice S4095x5632 ![0, 0] (hid H W) slices_S4096x5632_S4095x5632_0_0)⟩] concatenates_S1x5632_S4095x5632_S4096x5632_d0)) (constant S_ .f32 0x00000000#32) reducesTo_S4096x5632_S5632_d0 h_S_) shapeCasts_S5632_S1x5632) (constant S_ .f32 0x00000000#32) reducesTo_S1x5632_S5632_d0 h_S_

/-- The gradient of the filter's row 0. -/
def tap0 : FVec Ideal S5632 .f32 :=
  Host.reduceAdd (shapeCast _ (Host.reduceAdd (mulf (shapeCast _ D shapeCasts_S4096x5632_S4096x5632) ((concatenate S4096x5632 0 [⟨S1x5632, ((broadcastInDim S1x5632 ![] bcast_S_S1x5632 (constant S_ .f32 0x00000000#32)) : FVec Ideal S1x5632 .f32)⟩, ⟨S1x5632, ((broadcastInDim S1x5632 ![] bcast_S_S1x5632 (constant S_ .f32 0x00000000#32)) : FVec Ideal S1x5632 .f32)⟩, ⟨S4094x5632, ((extractStridedSlice S4094x5632 ![0, 0] (hid H W) slices_S4096x5632_S4094x5632_0_0) : FVec Ideal S4094x5632 .f32)⟩] concatenates_S1x5632_S1x5632_S4094x5632_S4096x5632_d0 : FVec Ideal S4096x5632 .f32))) (constant S_ .f32 0x00000000#32) reducesTo_S4096x5632_S5632_d0 h_S_) shapeCasts_S5632_S1x5632) (constant S_ .f32 0x00000000#32) reducesTo_S1x5632_S5632_d0 h_S_

/-- The first result: the gradient in the kernel's layout. -/
def out0 : FVec Ideal S8x4096x704 .bf16 :=
  truncf .bf16 (transpose S8x4096x704 [1, 0, 2] (shapeCast _ (dhid C D) shapeCasts_S4096x5632_S4096x8x704) transposes_S4096x8x704_S8x4096x704_1_0_2) bitsLt_bf16_f32

/-- The second result: the gradient of the inputs. -/
def out1 : FVec Ideal S4096x1024 .f32 :=
  Host.dotGeneral dot_S4096x5632_S1024x5632_S4096x1024_1_1_0_0_n_n none (dhid C D) W

/-- The third result: the filter's gradient in the kernel's layout. -/
def out2 : FVec Ideal S8x8x704 .f32 :=
  pad S8x8x704 ![0, 0, 0] ![0, 5, 0] ![0, 0, 0] (transpose S8x3x704 [1, 0, 2] (shapeCast _ (addf (addf (pad S3x5632 ![2, 0] ![0, 0] ![0, 0] (broadcastInDim S1x5632 ![1] bcast_S5632_S1x5632_1 (tap2 H W D)) (constant S_ .f32 0x00000000#32) pads_S1x5632_S3x5632_200_000 h_S_) (pad S3x5632 ![1, 0] ![1, 0] ![0, 0] (broadcastInDim S1x5632 ![1] bcast_S5632_S1x5632_1 (tap1 H W D)) (constant S_ .f32 0x00000000#32) pads_S1x5632_S3x5632_110_000 h_S_)) (pad S3x5632 ![0, 0] ![2, 0] ![0, 0] (broadcastInDim S1x5632 ![1] bcast_S5632_S1x5632_1 (tap0 H W D)) (constant S_ .f32 0x00000000#32) pads_S1x5632_S3x5632_020_000 h_S_)) shapeCasts_S3x5632_S3x8x704) transposes_S3x8x704_S8x3x704_1_0_2) (sitofp .f32 (constantI S_ 32 0#32)) pads_S8x3x704_S8x8x704_000_050_000 h_S_

/-- The hidden rows at an index. -/
theorem hid_at (r : Fin 4096) (k : Fin 5632) : hid H W (ix2 r k) = ∑ j : Fin 1024, H (ix2 r j) * W (ix2 j k) := by
  pointwise [hid]

/-- The gradient of the hidden rows at an index. -/
theorem dhid_at (r : Fin 4096) (k : Fin 5632) : dhid C D (ix2 r k)
    = C (ix2 2 k) * D (ix2 r k) + (if h : r.val < 4094 then C (ix2 0 k) * D (ix2 ⟨2 + r.val, by omega⟩ k) else 0)
      + (if h : r.val < 4095 then C (ix2 1 k) * D (ix2 ⟨1 + r.val, by omega⟩ k) else 0) := by
  pointwise [dhid]

/-- The gradient of the filter's last row. -/
theorem tap2_at (k : Fin 5632) : tap2 H W D (ix1 k) = ∑ r : Fin 4096, D (ix2 r k) * hid H W (ix2 r k) := by
  pointwise [tap2]
  exact Fin.sum_univ_one _

/-- The gradient of the filter's middle row: each row's cotangent with the row before it. -/
theorem tap1_at (k : Fin 5632) : tap1 H W D (ix1 k)
    = ∑ r : Fin 4095, D (ix2 ⟨1 + r.val, by omega⟩ k) * hid H W (ix2 ⟨r.val, by omega⟩ k) := by
  pointwise [tap1]
  simp

/-- The gradient of the filter's first row: each row's cotangent with the row two before it. -/
theorem tap0_at (k : Fin 5632) : tap0 H W D (ix1 k)
    = ∑ r : Fin 4094, D (ix2 ⟨2 + r.val, by omega⟩ k) * hid H W (ix2 ⟨r.val, by omega⟩ k) := by
  pointwise [tap0]
  rw [Fin.sum_univ_one]
  refine (Fin.sum_univ_add (a := 2) (b := 4094) _).trans ?_
  rw [Fin.sum_univ_two]
  refine (congrArg₂ (fun x y : EReal => x + y) (?_ : _ = (0 : EReal)) (Finset.sum_congr rfl fun r _ => ?_)).trans (zero_add _)
  · simp
  · have h : (Fin.natAdd 2 r).val = 2 + r.val := rfl
    rw [dif_neg (by rw [h]; omega), dif_neg (by rw [h]; omega)]
    exact congrArg (fun i => D (ix2 ⟨2 + r.val, by omega⟩ k) * hid H W (ix2 i k)) (Fin.ext (by show (2 + r.val) - 1 - 1 = r.val; omega))

/-- The first result at an index. -/
theorem out0_at (s : Fin 8) (r : Fin 4096) (b : Fin 704) :
    out0 C D (ix3 s r b) = dhid C D (ix2 r ⟨s.val * 704 + b.val, by omega⟩) := by
  pointwise [out0]

/-- The second result at an index. -/
theorem out1_at (r : Fin 4096) (j : Fin 1024) :
    out1 W C D (ix2 r j) = ∑ k : Fin 5632, dhid C D (ix2 r k) * W (ix2 j k) := by
  pointwise [out1]

/-- The third result at an index. -/
theorem out2_at (s k : Fin 8) (b : Fin 704) : out2 H W D (ix3 s k b)
    = if k.val = 0 then tap0 H W D (ix1 ⟨s.val * 704 + b.val, by omega⟩)
      else if k.val = 1 then tap1 H W D (ix1 ⟨s.val * 704 + b.val, by omega⟩)
      else if k.val = 2 then tap2 H W D (ix1 ⟨s.val * 704 + b.val, by omega⟩) else 0 := by
  have hc : s.val * 704 + b.val < 5632 := by omega
  pointwise [out2]
  split_ifs <;> first | omega | (simp only [zero_add, add_zero]; done) | simp [FloatOps.sitofp]

end Cert.Reference2Ideal.Conv

end
-- ==== Proof.ConvClaim.lean ====
module

public import proofs.«01_k».proof.Defs
public import proofs.«01_k».proof.Proof.Gen.Kernel2
public import proofs.«01_k».proof.Proof.Gen.Kernel2.Skeleton
public import proofs.«01_k».proof.Proof.ConvIdealFrame
public import proofs.«01_k».proof.Proof.Gen.Kernel2Ideal
public import proofs.«01_k».proof.Proof.Gen.Reference2Ideal
public import proofs.«01_k».proof.Proof.Gen.Reference2Ideal.Run
public import proofs.«01_k».proof.Proof.ConvFinal
public import proofs.«01_k».proof.Proof.ConvRef

@[expose] public section

set_option maxRecDepth 16384

noncomputable section

namespace Cert.Proof.Conv

open Idealize.ShloMosaic Idealize.ShloMosaic.TcCoe Idealize.SL.Sem

/-- The program's body table is its idealization's. -/
theorem defs_eq : (Cert.Kernel2.defs₀ (F := Bits)) = (Cert.Kernel2Ideal.defs₀ (F := Bits)) := by
  funext l p
  cases l with
  | tc =>
    obtain ⟨p, hp⟩ := p
    obtain rfl : p = 0 := by omega
    rfl
  | _ => rfl

/-- The program runs, leaves its arguments and ends quiescent. -/
theorem quiescent_K : Cert.quiescent_Kernel2 := by
  intro m g _
  have h := Cert.Kernel2Ideal.Body.frame (F := Bits) m g
  unfold Cert.Kernel2.defs
  rw [defs_eq]
  exact h

/-- So does its idealization. -/
theorem quiescent_KI : Cert.quiescent_Kernel2Ideal := fun m g _ => Cert.Kernel2Ideal.Body.frame m g

/-- The reference runs, leaves its arguments and ends quiescent: it declares no semaphore. -/
theorem quiescent_R : Cert.quiescent_Reference2Ideal := by
  intro m g _
  exact (θ_run Cert.Reference2Ideal.defs _ _).mono (fun r h => ⟨fun c => (h c).2.2.2, sem_eq_zero_of_no_sems (by decide) r.2⟩)
    (Cert.Reference2Ideal.Value.run m g)

/-- The idealization rewrites nothing. -/
theorem preserves : Cert.preserves_Kernel2_Kernel2Ideal := trivial

/-- The column that shard `s`, place `b` names. -/
def col (s : Fin 8) (b : Fin 704) : Fin 5632 := ⟨s.val * 704 + b.val, by omega⟩

section Elementwise

open Cert.Kernel2Ideal.Conv
open Cert.Reference2Ideal.Conv (hid dhid tap0 tap1 tap2 dhid_at tap0_at tap1_at tap2_at out0_at out1_at out2_at)

variable (D : Vec Ideal Cert.Kernel2Ideal.S4x2x4096x704 .bf16) (A : Vec Ideal Cert.Kernel2Ideal.S8x4096x704 .bf16)
  (C : Vec Ideal Cert.Kernel2Ideal.S8x8x704 .f32) (W : Vec Ideal Cert.Kernel2Ideal.S8x1024x704 .bf16)
  (h' : FVec Ideal Cert.Reference2Ideal.S4096x1024 .f32) (W' : FVec Ideal Cert.Reference2Ideal.S1024x5632 .f32)
  (C' : FVec Ideal Cert.Reference2Ideal.S3x5632 .f32) (D' : FVec Ideal Cert.Reference2Ideal.S4096x5632 .f32)
  (hD : ∀ (s : Fin 8) n b, D (ix4 ⟨s.val % 4, by omega⟩ ⟨s.val / 4, by omega⟩ n b) = D' (ix2 n (col s b)))
  (hA : ∀ s n b, A (ix3 s n b) = hid h' W' (ix2 n (col s b)))
  (hC0 : ∀ s b, C (ix3 s 0 b) = C' (ix2 0 (col s b))) (hC1 : ∀ s b, C (ix3 s 1 b) = C' (ix2 1 (col s b)))
  (hC2 : ∀ s b, C (ix3 s 2 b) = C' (ix2 2 (col s b))) (hW : ∀ s j b, W (ix3 s j b) = W' (ix2 j (col s b)))

include hD in
/-- A row of the cotangent that the kernel reads is the reference's. -/
theorem rowA_lt (s : Fin 8) (n : ℕ) (hn : n < 4096) (b : Fin 704) : rowA D s n b = D' (ix2 ⟨n, hn⟩ (col s b)) := by
  unfold rowA
  rw [dif_pos hn]
  exact hD s ⟨n, hn⟩ b

/-- Past the end there are zeros. -/
theorem rowA_ge (s : Fin 8) (n : ℕ) (hn : ¬ n < 4096) (b : Fin 704) : rowA D s n b = 0 := dif_neg hn

include hD hC0 hC1 hC2 in
/-- The gradient of the hidden rows is the reference's. -/
theorem gradR_eq (s : Fin 8) (r : Fin 4096) (b : Fin 704) : gradR D C s r b = dhid C' D' (ix2 r (col s b)) := by
  have e2 : C' (ix2 0 (col s b)) * rowA D s (r.val + 2) b
      = if h : r.val < 4094 then C' (ix2 0 (col s b)) * D' (ix2 ⟨2 + r.val, by omega⟩ (col s b)) else 0 := by
    by_cases h : r.val < 4094
    · rw [dif_pos h, rowA_lt D D' hD s _ (by omega)]
      exact congrArg (fun i => C' (ix2 0 (col s b)) * D' (ix2 i (col s b))) (Fin.ext (Nat.add_comm _ _))
    · rw [dif_neg h, rowA_ge D s _ (by omega)]
      exact mul_zero (M₀ := EReal) _
  have e1 : C' (ix2 1 (col s b)) * rowA D s (r.val + 1) b
      = if h : r.val < 4095 then C' (ix2 1 (col s b)) * D' (ix2 ⟨1 + r.val, by omega⟩ (col s b)) else 0 := by
    by_cases h : r.val < 4095
    · rw [dif_pos h, rowA_lt D D' hD s _ (by omega)]
      exact congrArg (fun i => C' (ix2 1 (col s b)) * D' (ix2 i (col s b))) (Fin.ext (Nat.add_comm _ _))
    · rw [dif_neg h, rowA_ge D s _ (by omega)]
      exact mul_zero (M₀ := EReal) _
  have e0 := rowA_lt D D' hD s r.val r.isLt b
  rw [dhid_at]
  unfold gradR gradA cv
  rw [hC0, hC1, hC2, e2, e1, e0]
  exact (add_comm (G := EReal) _ _).trans (add_assoc (G := EReal) _ _ _).symm

include hD hC0 hC1 hC2 hW in
/-- The gradient of the inputs is the reference's. -/
theorem prodR_eq (r : Fin 4096) (j : Fin 1024) :
    prodR D C W r j = ∑ k : Fin 5632, dhid C' D' (ix2 r k) * W' (ix2 j k) :=
  Fin.sum_mul_add_congr fun s b hl => congrArg₂ (fun x y : EReal => x * y)
    (gradR_eq D C C' D' hD hC0 hC1 hC2 s r b) (hW s j b)

include hD hA in
/-- The gradient of the filter's last row is the reference's. -/
theorem tapA_0 (s : Fin 8) (b : Fin 704) : tapA D A s 0 b = tap2 h' W' D' (ix1 (col s b)) := by
  rw [tap2_at]
  exact Finset.sum_congr rfl fun r _ => congrArg₂ (fun x y : EReal => x * y) (rowA_lt D D' hD s r.val r.isLt b) (hA s r b)

include hD hA in
/-- The gradient of the filter's middle row is the reference's: the last row has no row after it. -/
theorem tapA_1 (s : Fin 8) (b : Fin 704) : tapA D A s 1 b = tap1 h' W' D' (ix1 (col s b)) := by
  rw [tap1_at]
  refine (Fin.sum_univ_add (a := 4095) (b := 1) _).trans ?_
  refine (congrArg₂ (fun x y : EReal => x + y) (Finset.sum_congr rfl fun r _ => ?_) (Finset.sum_eq_zero fun r _ => ?_)).trans (add_zero _)
  · refine congrArg₂ (fun x y : EReal => x * y) ?_ (hA s _ b)
    refine (rowA_lt D D' hD s (r.val + 1) (by omega) b).trans ?_
    exact congrArg (fun i => D' (ix2 i (col s b))) (Fin.ext (Nat.add_comm _ _))
  · rw [rowA_ge D s _ (by show ¬ 4095 + r.val + 1 < 4096; omega)]
    exact zero_mul (M₀ := EReal) _

include hD hA in
/-- The gradient of the filter's first row is the reference's: the last two rows have no row two after them. -/
theorem tapA_2 (s : Fin 8) (b : Fin 704) : tapA D A s 2 b = tap0 h' W' D' (ix1 (col s b)) := by
  rw [tap0_at]
  refine (Fin.sum_univ_add (a := 4094) (b := 2) _).trans ?_
  refine (congrArg₂ (fun x y : EReal => x + y) (Finset.sum_congr rfl fun r _ => ?_) (Finset.sum_eq_zero fun r _ => ?_)).trans (add_zero _)
  · refine congrArg₂ (fun x y : EReal => x * y) ?_ (hA s _ b)
    refine (rowA_lt D D' hD s (r.val + 2) (by omega) b).trans ?_
    exact congrArg (fun i => D' (ix2 i (col s b))) (Fin.ext (Nat.add_comm _ _))
  · rw [rowA_ge D s _ (by show ¬ 4094 + r.val + 2 < 4096; omega)]
    exact zero_mul (M₀ := EReal) _

include hD hA in
/-- The filter's gradient with its padding is the reference's. -/
theorem filtA_eq (s k : Fin 8) (b : Fin 704) : filtA D A s k b = Cert.Reference2Ideal.Conv.out2 h' W' D' (ix3 s k b) := by
  rw [out2_at]
  unfold filtA
  by_cases h0 : k.val = 0
  · rw [if_pos h0, if_pos (by omega), h0]; exact tapA_2 D A h' W' D' hD hA s b
  by_cases h1 : k.val = 1
  · rw [if_neg h0, if_pos h1, if_pos (by omega), h1]; exact tapA_1 D A h' W' D' hD hA s b
  by_cases h2 : k.val = 2
  · rw [if_neg h0, if_neg h1, if_pos h2, if_pos (by omega), h2]; exact tapA_0 D A h' W' D' hD hA s b
  rw [if_neg h0, if_neg h1, if_neg h2, if_neg (by omega)]

end Elementwise

section Arguments

open Cert.Kernel2Ideal

variable (m : (ℓ : Loc nD τ sig) → Buf (Elt Ideal) ℓ) (c : Dev nD)

/-- The cotangent that the call reads is the argument, re-laid out. -/
theorem operandD' (q : Fin 4) (h : Fin 2) (r : Fin 4096) (b : Fin 704) : Gen.V m c main_v6 (ix4 q h r b)
    = m ((c.tc : Thread nD τ).loc main_arg3) (ix2 r ⟨h.val * 2816 + q.val * 704 + b.val, by omega⟩) := by
  simp only [Gen.V, Gen.hostOps0, Gen.hostOps0_1, Gen.hostOps0_2, List.flatten_cons, List.flatten_nil, List.append_nil, List.cons_append, List.nil_append]
  entry_read
  pointwise

/-- The same by shards. -/
theorem operandD (s : Fin 8) (r : Fin 4096) (b : Fin 704) :
    Gen.V m c main_v6 (ix4 ⟨s.val % 4, by omega⟩ ⟨s.val / 4, by omega⟩ r b)
      = m ((c.tc : Thread nD τ).loc main_arg3) (ix2 r (col s b)) :=
  (operandD' m c _ _ r b).trans (congrArg (fun k => m ((c.tc : Thread nD τ).loc main_arg3) (ix2 r k))
    (Fin.ext (by show s.val / 4 * 2816 + s.val % 4 * 704 + b.val = s.val * 704 + b.val; omega)))

/-- The hidden rows that the call reads are the product of the arguments, re-laid out. -/
theorem operandA (s : Fin 8) (r : Fin 4096) (b : Fin 704) : Gen.V m c main_v3 (ix3 s r b)
    = Cert.Reference2Ideal.Conv.hid (m ((c.tc : Thread nD τ).loc main_arg0)) (m ((c.tc : Thread nD τ).loc main_arg1)) (ix2 r (col s b)) := by
  refine Eq.trans ?_ (Cert.Reference2Ideal.Conv.hid_at _ _ _ _).symm
  simp only [Gen.V, Gen.hostOps0, Gen.hostOps0_1, Gen.hostOps0_2, List.flatten_cons, List.flatten_nil, List.append_nil, List.cons_append, List.nil_append]
  entry_read
  pointwise
  rfl

/-- The filter's first row that the call reads. -/
theorem operandC0 (s : Fin 8) (b : Fin 704) :
    Gen.V m c main_v9 (ix3 s 0 b) = m ((c.tc : Thread nD τ).loc main_arg2) (ix2 0 (col s b)) := by
  simp only [Gen.V, Gen.hostOps0, Gen.hostOps0_1, Gen.hostOps0_2, List.flatten_cons, List.flatten_nil, List.append_nil, List.cons_append, List.nil_append]
  entry_read
  simp only [StableHlo.TRef.toBuf, StableHlo.TRef.ofBuf, cast_eq]
  pointwise
  rfl

/-- The filter's middle row that the call reads. -/
theorem operandC1 (s : Fin 8) (b : Fin 704) :
    Gen.V m c main_v9 (ix3 s 1 b) = m ((c.tc : Thread nD τ).loc main_arg2) (ix2 1 (col s b)) := by
  simp only [Gen.V, Gen.hostOps0, Gen.hostOps0_1, Gen.hostOps0_2, List.flatten_cons, List.flatten_nil, List.append_nil, List.cons_append, List.nil_append]
  entry_read
  simp only [StableHlo.TRef.toBuf, StableHlo.TRef.ofBuf, cast_eq]
  pointwise
  rfl

/-- The filter's last row that the call reads. -/
theorem operandC2 (s : Fin 8) (b : Fin 704) :
    Gen.V m c main_v9 (ix3 s 2 b) = m ((c.tc : Thread nD τ).loc main_arg2) (ix2 2 (col s b)) := by
  simp only [Gen.V, Gen.hostOps0, Gen.hostOps0_1, Gen.hostOps0_2, List.flatten_cons, List.flatten_nil, List.append_nil, List.cons_append, List.nil_append]
  entry_read
  simp only [StableHlo.TRef.toBuf, StableHlo.TRef.ofBuf, cast_eq]
  pointwise
  rfl

/-- The weight that the call reads is the argument, re-laid out. -/
theorem operandW (s : Fin 8) (j : Fin 1024) (b : Fin 704) :
    Gen.V m c main_v12 (ix3 s j b) = m ((c.tc : Thread nD τ).loc main_arg1) (ix2 j (col s b)) := by
  simp only [Gen.V, Gen.hostOps0, Gen.hostOps0_1, Gen.hostOps0_2, List.flatten_cons, List.flatten_nil, List.append_nil, List.cons_append, List.nil_append]
  entry_read
  pointwise
  rfl

/-- The call's first result over the arguments. -/
theorem result0 : Cert.Reference2Ideal.Conv.out0 (m ((c.tc : Thread nD τ).loc main_arg2)) (m ((c.tc : Thread nD τ).loc main_arg3))
    = (Body.dats m 0 c).arrAt 5 cfg0.N := by
  rw [Cert.Kernel2Ideal.Conv.final5]
  funext i
  idx_vars i
  rw [Cert.Reference2Ideal.Conv.out0_at]
  exact (gradR_eq _ _ _ _ (operandD m c) (operandC0 m c) (operandC1 m c) (operandC2 m c) i0 i1 i2).symm

/-- The call's second result over the arguments. -/
theorem result1 : Cert.Reference2Ideal.Conv.out1 (m ((c.tc : Thread nD τ).loc main_arg1)) (m ((c.tc : Thread nD τ).loc main_arg2))
    (m ((c.tc : Thread nD τ).loc main_arg3)) = (Body.dats m 0 c).arrAt 6 cfg0.N := by
  rw [Cert.Kernel2Ideal.Conv.final6]
  funext i
  idx_vars i
  rw [Cert.Reference2Ideal.Conv.out1_at]
  exact (prodR_eq _ _ _ _ _ _ (operandD m c) (operandC0 m c) (operandC1 m c) (operandC2 m c) (operandW m c) i0 i1).symm

/-- The call's third result over the arguments. -/
theorem result2 : Cert.Reference2Ideal.Conv.out2 (m ((c.tc : Thread nD τ).loc main_arg0)) (m ((c.tc : Thread nD τ).loc main_arg1))
    (m ((c.tc : Thread nD τ).loc main_arg3)) = (Body.dats m 0 c).arrAt 7 cfg0.N := by
  rw [Cert.Kernel2Ideal.Conv.final7]
  funext i
  idx_vars i
  exact (filtA_eq _ _ _ _ _ (operandD m c) (operandA m c) i0 i1 i2).symm

end Arguments

/-- The kernel and the reference end with equal results. -/
theorem algebraic : Cert.algebraic_Kernel2Ideal_Reference2Ideal := by
  pair_intro
  · run_from Cert.Kernel2Ideal.Body.run_main m g
    · exact Cert.Kernel2Ideal.Gen.V_main_arg0 m c
    · exact Cert.Kernel2Ideal.Gen.V_main_arg1 m c
    · exact Cert.Kernel2Ideal.Gen.V_main_arg2 m c
    · exact Cert.Kernel2Ideal.Gen.V_main_arg3 m c
  · run_from Cert.Reference2Ideal.Value.run m' g'
    · exact result0 m c
    · exact result1 m c
    · exact result2 m c

end Cert.Proof.Conv

end
-- ==== Proof.FfnWgrad.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Prod

open Idealize.ShloMosaic Idealize.ShloMosaic.TcCoe Idealize.SL.Sem
open Idealize.ShloMosaic.Pipeline (Dat)
open Cert.Kernel3Ideal Cert.Kernel3Ideal.Gen

/-- A block's product: the sum over the rows. -/
theorem pay_at (v0 : Vec Ideal S1x4096x704 .bf16) (v2 : Vec Ideal S4096x1024 .bf16) (a : Fin 704) (b : Fin 1024) :
    k0_pay1 v0 v2 (ix3 0 a b) = ∑ r : Fin 4096, v0 (ix3 0 r a) * v2 (ix2 r b) := by
  pointwise [k0_pay1]

/-- The block that the body stores. -/
theorem out_at (x0 : Vec Ideal S1x4096x704 .bf16) (x1 : Vec Ideal S4096x1024 .bf16) (a : Fin 704) (b : Fin 1024) :
    out0_2 x0 x1 (ix3 0 a b) = ∑ r : Fin 4096, x0 (ix3 0 r a) * x1 (ix2 r b) := by
  unfold out0_2
  canon_tiles x e
  obtain rfl : x = ix3 0 a b := by idx_ext
  refine (pay_at _ _ a b).trans (Finset.sum_congr rfl fun r _ => ?_)
  exact congrArg₂ (· * ·) (View.ld_unit_apply_of x0 _ _ _ _ _ fun a => by fin_cases a <;> simp)
    (View.ld_unit_apply_of x1 _ _ _ _ _ fun a => by fin_cases a <;> simp)

/-- The block numbers at a grid point. -/
theorem idx : ∀ t : Fin cfg0.N, win0_0.index t = ![t.val, 0, 0] ∧ win0_1.index t = ![0, 0] ∧ win0_2.index t = ![t.val, 0, 0] :=
  (by decide +kernel : ∀ t : Fin grid0.N, _)

variable (m : (ℓ : Loc nD τ sig) → Buf (Elt Ideal) ℓ)

/-- The shard of a grid point. -/
def shard (t : Fin cfg0.N) : Fin 8 := ⟨t.val, lt_of_lt_of_eq t.isLt N_0⟩

/-- A shard's gradient under a point's block. -/
theorem read0 (c : Dev nD) (t : Fin cfg0.N) (r : Fin 4096) (a : Fin 704) :
    iblk m c 0 t (ix3 0 r a) = V m c main_v3 (ix3 (shard t) r a) := by
  blk_ext [iblk, idx t, shard]

/-- The activations under a point's block. -/
theorem read1 (c : Dev nD) (t : Fin cfg0.N) (r : Fin 4096) (b : Fin 1024) :
    iblk m c 1 t (ix2 r b) = V m c main_v2 (ix2 r b) := by
  blk_ext [iblk, idx t]

/-- The weight's gradient over the operands. -/
def spec (D : Vec Ideal S8x4096x704 .bf16) (H : Vec Ideal S4096x1024 .bf16) (s : Fin 8) (a : Fin 704) (b : Fin 1024) : EReal :=
  ∑ r : Fin 4096, D (ix3 s r a) * H (ix2 r b)

/-- The array that the call leaves. -/
theorem final (c : Dev nD) : (dats m 0 c).arrAt 2 cfg0.N
    = fun i : S8x704x1024.Idx => spec (V m c main_v3) (V m c main_v2) (i 0) (i 1) (i 2) := by
  refine (dats m 0 c).arrAt_eq_of_covers 2 _ (by decide +kernel) fun t hf y => ?_
  blk_simp
  rw [after0_2]
  idx_vars y
  obtain rfl : y0 = 0 := by omega
  refine (out_at (iblk m c 0 t) (iblk m c 1 t) y1 y2).trans ?_
  have e : (win0_2.blk t).view.emb (ix3 0 y1 y2) = ix3 (shard t) y1 y2 := by blk_ext [idx t, shard]
  rw [e]
  exact Finset.sum_congr rfl fun r _ => congrArg₂ (· * ·) (read0 m c t r y1) (read1 m c t r y2)

/-- The gradient operand is the argument, split by shard. -/
theorem operand0 (c : Dev nD) (s : Fin 8) (r : Fin 4096) (a : Fin 704) :
    V m c main_v3 (ix3 s r a) = m ((c.tc : Thread nD τ).loc main_arg1) (ix2 r ⟨s.val * 704 + a.val, by omega⟩) := by
  entry_read
  pointwise

/-- The activation operand is the argument. -/
theorem operand1 (c : Dev nD) (r : Fin 4096) (b : Fin 1024) :
    V m c main_v2 (ix2 r b) = m ((c.tc : Thread nD τ).loc main_arg0) (ix2 r b) := by
  entry_read
  pointwise

/-- The weight's gradient over the arguments. -/
theorem spec_args (c : Dev nD) (s : Fin 8) (a : Fin 704) (b : Fin 1024) : spec (V m c main_v3) (V m c main_v2) s a b
    = ∑ r : Fin 4096, (show EReal from m ((c.tc : Thread nD τ).loc main_arg1) (ix2 r ⟨s.val * 704 + a.val, by omega⟩))
      * (show EReal from m ((c.tc : Thread nD τ).loc main_arg0) (ix2 r b)) :=
  Finset.sum_congr rfl fun r _ => congrArg₂ (fun x y : EReal => x * y) (operand0 m c s r a) (operand1 m c r b)

end Cert.Kernel3Ideal.Prod

namespace Cert.Reference3Ideal.Prod

open Idealize.ShloMosaic Idealize.ShloMosaic.TcCoe Idealize.SL.Sem
open Cert.Reference3Ideal Cert.Reference3Ideal.Gen

/-- The reference's result. -/
def out (H : FVec Ideal S4096x1024 .f32) (D : FVec Ideal S4096x5632 .f32) : FVec Ideal S8x704x1024 .f32 :=
  transpose S8x704x1024 [1, 2, 0] (shapeCast _ (transpose S1024x5632 [1, 0]
    (Host.dotGeneral dot_S4096x5632_S4096x1024_S5632x1024_0_0_1_1_n_n none D H) transposes_S5632x1024_S1024x5632_1_0)
    shapeCasts_S1024x5632_S1024x8x704) transposes_S1024x8x704_S8x704x1024_1_2_0

/-- The reference's result at an index. -/
theorem out_at (H : FVec Ideal S4096x1024 .f32) (D : FVec Ideal S4096x5632 .f32) (s : Fin 8) (a : Fin 704) (b : Fin 1024) :
    out H D (ix3 s a b) = ∑ r : Fin 4096, D (ix2 r ⟨s.val * 704 + a.val, by omega⟩) * H (ix2 r b) := by
  pointwise [out]

end Cert.Reference3Ideal.Prod

namespace Cert.Proof.FfnWgrad

open Idealize.ShloMosaic Idealize.ShloMosaic.TcCoe Idealize.SL.Sem

/-- The program runs, leaves its arguments and ends quiescent. -/
theorem quiescent_K : Cert.quiescent_Kernel3 := fun m g _ => Cert.Kernel3.Gen.frame m g

/-- So does its idealization. -/
theorem quiescent_KI : Cert.quiescent_Kernel3Ideal := fun m g _ => Cert.Kernel3Ideal.Gen.frame m g

/-- So does the reference: it declares no semaphore. -/
theorem quiescent_R : Cert.quiescent_Reference3Ideal := by
  intro m g _
  exact (θ_run Cert.Reference3Ideal.defs _ _).mono (fun r h => ⟨fun c => (h c).2, sem_eq_zero_of_no_sems (by decide) r.2⟩)
    (Cert.Reference3Ideal.Value.run m g)

/-- The idealization rewrites nothing. -/
theorem preserves : Cert.preserves_Kernel3_Kernel3Ideal := trivial

section
open Cert.Kernel3Ideal

/-- The result over the arguments. -/
theorem result (m : (ℓ : Loc nD τ sig) → Buf (Elt Ideal) ℓ) (c : Dev nD) :
    Cert.Reference3Ideal.Prod.out (m ((c.tc : Thread nD τ).loc main_arg0)) (m ((c.tc : Thread nD τ).loc main_arg1))
      = (Gen.dats m 0 c).arrAt 2 cfg0.N := by
  rw [Cert.Kernel3Ideal.Prod.final]
  funext i
  idx_vars i
  refine (Cert.Reference3Ideal.Prod.out_at _ _ i0 i1 i2).trans ?_
  exact (Prod.spec_args m c i0 i1 i2).symm

end

/-- The kernel and the reference end with equal results. -/
theorem algebraic : Cert.algebraic_Kernel3Ideal_Reference3Ideal := by
  pair_intro
  · run_from Cert.Kernel3Ideal.Gen.run_main m g
  · run_from Cert.Reference3Ideal.Value.run m' g'
    · exact result m c

end Cert.Proof.FfnWgrad
end
-- ==== Proof.OWgrad.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Prod

open Idealize.ShloMosaic Idealize.ShloMosaic.TcCoe Idealize.SL.Sem
open Idealize.ShloMosaic.Pipeline (Dat)
open Cert.Kernel4Ideal Cert.Kernel4Ideal.Gen

/-- A block's product. -/
theorem pay_at (v0 : Vec Ideal S4096x1024 .bf16) (v2 : Vec Ideal S4096x256 .f32) (a : Fin 1024) (b : Fin 256) :
    k0_pay1 v0 v2 (ix2 a b) = ∑ r : Fin 4096, v0 (ix2 r a) * v2 (ix2 r b) := by
  pointwise [k0_pay1]

/-- The block that the body stores. -/
theorem out_at (x0 : Vec Ideal S4096x1024 .bf16) (x1 : Vec Ideal S4096x256 .f32) (a : Fin 1024) (b : Fin 256) :
    out0_2 x0 x1 (ix2 a b) = ∑ r : Fin 4096, x0 (ix2 r a) * x1 (ix2 r b) := by
  unfold out0_2
  canon_tiles x e
  obtain rfl : x = ix2 a b := by idx_ext
  refine (pay_at _ _ _ _).trans ?_
  exact Finset.sum_congr rfl fun r _ => congrArg₂ (fun x y : EReal => x * y) (View.ld_unit_apply_of x0 _ _ _ _ _ fun a => by fin_cases a <;> simp)
    (View.ld_unit_apply_of x1 _ _ _ _ _ fun a => by fin_cases a <;> simp)

/-- The block numbers at a grid point. -/
theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ)

/-- The column that a point's block holds at its column `b`. -/
def colOf (t : Fin cfg0.N) (b : Fin 256) : Fin 1024 := ⟨t.val * 256 + b.val, by have := lt_of_lt_of_eq t.isLt N_0; omega⟩

/-- The activations under a point's block. -/
theorem read0 (c : Dev nD) (t : Fin cfg0.N) (r : Fin 4096) (a : Fin 1024) :
    iblk m c 0 t (ix2 r a) = V m c main_v0 (ix2 r a) := by
  blk_ext [iblk, idx t]

/-- The cotangent's columns under a point's block. -/
theorem read1 (c : Dev nD) (t : Fin cfg0.N) (r : Fin 4096) (b : Fin 256) :
    iblk m c 1 t (ix2 r b) = V m c main_arg1 (ix2 r (colOf t b)) := by
  blk_ext [iblk, idx t, colOf]

/-- The weight's gradient over the operands: the sum over the rows. -/
def spec (A : Vec Ideal S4096x1024 .bf16) (B : Vec Ideal S4096x1024 .f32) (a : Fin 1024) (b : Fin 1024) : EReal :=
  ∑ r : Fin 4096, A (ix2 r a) * B (ix2 r b)

/-- The array that the call leaves. -/
theorem final (c : Dev nD) : (dats m 0 c).arrAt 2 cfg0.N
    = fun i : S1024x1024.Idx => spec (V m c main_v0) (V m c main_arg1) (i 0) (i 1) := by
  refine (dats m 0 c).arrAt_eq_of_covers 2 _ (by decide +kernel) fun t hf y => ?_
  blk_simp
  rw [after0_2]
  idx_vars y
  refine (out_at (iblk m c 0 t) (iblk m c 1 t) y0 y1).trans ?_
  have e : (win0_2.blk t).view.emb (ix2 y0 y1) = ix2 y0 (colOf t y1) := by blk_ext [idx t, colOf]
  rw [e]
  exact Finset.sum_congr rfl fun r _ => congrArg₂ (fun x y : EReal => x * y) (read0 m c t r y0) (read1 m c t r y1)

/-- The activation operand is the argument. -/
theorem operand0 (c : Dev nD) (r : Fin 4096) (a : Fin 1024) : V m c main_v0 (ix2 r a) = m ((c.tc : Thread nD τ).loc main_arg0) (ix2 r a) := by
  entry_read
  pointwise

/-- The cotangent operand is the argument. -/
theorem operand1 (c : Dev nD) (r : Fin 4096) (b : Fin 1024) : V m c main_arg1 (ix2 r b) = m ((c.tc : Thread nD τ).loc main_arg1) (ix2 r b) := rfl

/-- The weight's gradient over the arguments. -/
theorem spec_args (c : Dev nD) (a : Fin 1024) (b : Fin 1024) : spec (V m c main_v0) (V m c main_arg1) a b
    = ∑ r : Fin 4096, (show EReal from m ((c.tc : Thread nD τ).loc main_arg0) (ix2 r a)) * (show EReal from m ((c.tc : Thread nD τ).loc main_arg1) (ix2 r b)) :=
  Finset.sum_congr rfl fun r _ => congrArg₂ (fun x y : EReal => x * y) (operand0 m c r a) (operand1 m c r _)

end Cert.Kernel4Ideal.Prod

namespace Cert.Reference4Ideal.Prod

open Idealize.ShloMosaic Idealize.ShloMosaic.TcCoe Idealize.SL.Sem
open Cert.Reference4Ideal Cert.Reference4Ideal.Gen

/-- The reference's result. -/
def out (A : FVec Ideal S4096x1024 .f32) (B : FVec Ideal S4096x1024 .f32) : FVec Ideal S1024x1024 .f32 :=
  transpose S1024x1024 [1, 0] (Host.dotGeneral dot_S4096x1024_S4096x1024_S1024x1024_0_0_1_1_n_n none B A) transposes_S1024x1024_S1024x1024_1_0

/-- The reference's result at an index. -/
theorem out_at (A : FVec Ideal S4096x1024 .f32) (B : FVec Ideal S4096x1024 .f32) (a : Fin 1024) (b : Fin 1024) :
    out A B (ix2 a b) = ∑ r : Fin 4096, A (ix2 r a) * B (ix2 r b) := by
  refine Eq.trans (b := ∑ r : Fin 4096, B (ix2 r b) * A (ix2 r a)) ?_ (Finset.sum_congr rfl fun r _ => mul_comm (G := EReal) _ _)
  pointwise [out]

end Cert.Reference4Ideal.Prod

namespace Cert.Proof.OWgrad

open Idealize.ShloMosaic Idealize.ShloMosaic.TcCoe Idealize.SL.Sem

/-- The program runs, leaves its arguments and ends quiescent. -/
theorem quiescent_K : Cert.quiescent_Kernel4 := fun m g _ => Cert.Kernel4.Gen.frame m g

/-- So does its idealization. -/
theorem quiescent_KI : Cert.quiescent_Kernel4Ideal := fun m g _ => Cert.Kernel4Ideal.Gen.frame m g

/-- So does the reference: it declares no semaphore. -/
theorem quiescent_R : Cert.quiescent_Reference4Ideal := by
  intro m g _
  exact (θ_run Cert.Reference4Ideal.defs _ _).mono (fun r h => ⟨fun c => (h c).2, sem_eq_zero_of_no_sems (by decide) r.2⟩)
    (Cert.Reference4Ideal.Value.run m g)

/-- The idealization rewrites nothing. -/
theorem preserves : Cert.preserves_Kernel4_Kernel4Ideal := trivial

section
open Cert.Kernel4Ideal

/-- The result over the arguments. -/
theorem result (m : (ℓ : Loc nD τ sig) → Buf (Elt Ideal) ℓ) (c : Dev nD) :
    Cert.Reference4Ideal.Prod.out (m ((c.tc : Thread nD τ).loc main_arg0)) (m ((c.tc : Thread nD τ).loc main_arg1))
      = (Gen.dats m 0 c).arrAt 2 cfg0.N := by
  rw [Cert.Kernel4Ideal.Prod.final]
  funext i
  idx_vars i
  refine (Cert.Reference4Ideal.Prod.out_at _ _ i0 i1).trans ?_
  exact (Prod.spec_args m c i0 i1).symm

end

/-- The kernel and the reference end with equal results. -/
theorem algebraic : Cert.algebraic_Kernel4Ideal_Reference4Ideal := by
  pair_intro
  · run_from Cert.Kernel4Ideal.Gen.run_main m g
  · run_from Cert.Reference4Ideal.Value.run m' g'
    · exact result m c

end Cert.Proof.OWgrad
end
-- ==== Proof.QWgrad.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Prod

open Idealize.ShloMosaic Idealize.ShloMosaic.TcCoe Idealize.SL.Sem
open Idealize.ShloMosaic.Pipeline (Dat)
open Cert.Kernel5Ideal Cert.Kernel5Ideal.Gen

/-- A block's product. -/
theorem pay_at (v0 : Vec Ideal S4096x1024 .bf16) (v2 : Vec Ideal S4096x512 .bf16) (a : Fin 1024) (b : Fin 512) :
    k0_pay1 v0 v2 (ix2 a b) = ∑ r : Fin 4096, v0 (ix2 r a) * v2 (ix2 r b) := by
  pointwise [k0_pay1]

/-- The block that the body stores. -/
theorem out_at (x0 : Vec Ideal S4096x1024 .bf16) (x1 : Vec Ideal S4096x512 .bf16) (a : Fin 1024) (b : Fin 512) :
    out0_2 x0 x1 (ix2 a b) = ∑ r : Fin 4096, x0 (ix2 r a) * x1 (ix2 r b) := by
  unfold out0_2
  canon_tiles x e
  obtain rfl : x = ix2 a b := by idx_ext
  refine (pay_at _ _ _ _).trans ?_
  exact Finset.sum_congr rfl fun r _ => congrArg₂ (fun x y : EReal => x * y) (View.ld_unit_apply_of x0 _ _ _ _ _ fun a => by fin_cases a <;> simp)
    (View.ld_unit_apply_of x1 _ _ _ _ _ fun a => by fin_cases a <;> simp)

/-- The block numbers at a grid point. -/
theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ)

/-- The column that a point's block holds at its column `b`. -/
def colOf (t : Fin cfg0.N) (b : Fin 512) : Fin 1024 := ⟨t.val * 512 + b.val, by have := lt_of_lt_of_eq t.isLt N_0; omega⟩

/-- The activations under a point's block. -/
theorem read0 (c : Dev nD) (t : Fin cfg0.N) (r : Fin 4096) (a : Fin 1024) :
    iblk m c 0 t (ix2 r a) = V m c main_v0 (ix2 r a) := by
  blk_ext [iblk, idx t]

/-- The cotangent's columns under a point's block. -/
theorem read1 (c : Dev nD) (t : Fin cfg0.N) (r : Fin 4096) (b : Fin 512) :
    iblk m c 1 t (ix2 r b) = V m c main_v1 (ix2 r (colOf t b)) := by
  blk_ext [iblk, idx t, colOf]

/-- The weight's gradient over the operands: the sum over the rows. -/
def spec (A : Vec Ideal S4096x1024 .bf16) (B : Vec Ideal S4096x1024 .bf16) (a : Fin 1024) (b : Fin 1024) : EReal :=
  ∑ r : Fin 4096, A (ix2 r a) * B (ix2 r b)

/-- The array that the call leaves. -/
theorem final (c : Dev nD) : (dats m 0 c).arrAt 2 cfg0.N
    = fun i : S1024x1024.Idx => spec (V m c main_v0) (V m c main_v1) (i 0) (i 1) := by
  refine (dats m 0 c).arrAt_eq_of_covers 2 _ (by decide +kernel) fun t hf y => ?_
  blk_simp
  rw [after0_2]
  idx_vars y
  refine (out_at (iblk m c 0 t) (iblk m c 1 t) y0 y1).trans ?_
  have e : (win0_2.blk t).view.emb (ix2 y0 y1) = ix2 y0 (colOf t y1) := by blk_ext [idx t, colOf]
  rw [e]
  exact Finset.sum_congr rfl fun r _ => congrArg₂ (fun x y : EReal => x * y) (read0 m c t r y0) (read1 m c t r y1)

/-- The activation operand is the argument. -/
theorem operand0 (c : Dev nD) (r : Fin 4096) (a : Fin 1024) : V m c main_v0 (ix2 r a) = m ((c.tc : Thread nD τ).loc main_arg0) (ix2 r a) := by
  entry_read
  pointwise

/-- The cotangent operand is the argument. -/
theorem operand1 (c : Dev nD) (r : Fin 4096) (b : Fin 1024) : V m c main_v1 (ix2 r b) = m ((c.tc : Thread nD τ).loc main_arg1) (ix2 r b) := by
  entry_read
  pointwise

/-- The weight's gradient over the arguments. -/
theorem spec_args (c : Dev nD) (a : Fin 1024) (b : Fin 1024) : spec (V m c main_v0) (V m c main_v1) a b
    = ∑ r : Fin 4096, (show EReal from m ((c.tc : Thread nD τ).loc main_arg0) (ix2 r a)) * (show EReal from m ((c.tc : Thread nD τ).loc main_arg1) (ix2 r b)) :=
  Finset.sum_congr rfl fun r _ => congrArg₂ (fun x y : EReal => x * y) (operand0 m c r a) (operand1 m c r _)

end Cert.Kernel5Ideal.Prod

namespace Cert.Reference5Ideal.Prod

open Idealize.ShloMosaic Idealize.ShloMosaic.TcCoe Idealize.SL.Sem
open Cert.Reference5Ideal Cert.Reference5Ideal.Gen

/-- The reference's result. -/
def out (A : FVec Ideal S4096x1024 .f32) (B : FVec Ideal S4096x1024 .f32) : FVec Ideal S1024x1024 .f32 :=
  transpose S1024x1024 [1, 0] (Host.dotGeneral dot_S4096x1024_S4096x1024_S1024x1024_0_0_1_1_n_n none B A) transposes_S1024x1024_S1024x1024_1_0

/-- The reference's result at an index. -/
theorem out_at (A : FVec Ideal S4096x1024 .f32) (B : FVec Ideal S4096x1024 .f32) (a : Fin 1024) (b : Fin 1024) :
    out A B (ix2 a b) = ∑ r : Fin 4096, A (ix2 r a) * B (ix2 r b) := by
  refine Eq.trans (b := ∑ r : Fin 4096, B (ix2 r b) * A (ix2 r a)) ?_ (Finset.sum_congr rfl fun r _ => mul_comm (G := EReal) _ _)
  pointwise [out]

end Cert.Reference5Ideal.Prod

namespace Cert.Proof.QWgrad

open Idealize.ShloMosaic Idealize.ShloMosaic.TcCoe Idealize.SL.Sem

/-- The program runs, leaves its arguments and ends quiescent. -/
theorem quiescent_K : Cert.quiescent_Kernel5 := fun m g _ => Cert.Kernel5.Gen.frame m g

/-- So does its idealization. -/
theorem quiescent_KI : Cert.quiescent_Kernel5Ideal := fun m g _ => Cert.Kernel5Ideal.Gen.frame m g

/-- So does the reference: it declares no semaphore. -/
theorem quiescent_R : Cert.quiescent_Reference5Ideal := by
  intro m g _
  exact (θ_run Cert.Reference5Ideal.defs _ _).mono (fun r h => ⟨fun c => (h c).2, sem_eq_zero_of_no_sems (by decide) r.2⟩)
    (Cert.Reference5Ideal.Value.run m g)

/-- The idealization rewrites nothing. -/
theorem preserves : Cert.preserves_Kernel5_Kernel5Ideal := trivial

section
open Cert.Kernel5Ideal

/-- The result over the arguments. -/
theorem result (m : (ℓ : Loc nD τ sig) → Buf (Elt Ideal) ℓ) (c : Dev nD) :
    Cert.Reference5Ideal.Prod.out (m ((c.tc : Thread nD τ).loc main_arg0)) (m ((c.tc : Thread nD τ).loc main_arg1))
      = (Gen.dats m 0 c).arrAt 2 cfg0.N := by
  rw [Cert.Kernel5Ideal.Prod.final]
  funext i
  idx_vars i
  refine (Cert.Reference5Ideal.Prod.out_at _ _ i0 i1).trans ?_
  exact (Prod.spec_args m c i0 i1).symm

end

/-- The kernel and the reference end with equal results. -/
theorem algebraic : Cert.algebraic_Kernel5Ideal_Reference5Ideal := by
  pair_intro
  · run_from Cert.Kernel5Ideal.Gen.run_main m g
  · run_from Cert.Reference5Ideal.Value.run m' g'
    · exact result m c

end Cert.Proof.QWgrad
end
-- ==== Proof.OProjBwd.lean ====
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.Prod

open Idealize.ShloMosaic Idealize.ShloMosaic.TcCoe Idealize.SL.Sem
open Idealize.ShloMosaic.Pipeline (Dat)
open Cert.Kernel6Ideal Cert.Kernel6Ideal.Gen

/-- A block's product. -/
theorem pay_at (v0 : Vec Ideal S1024x1024 .f32) (v2 : Vec Ideal S1024x1024 .bf16) (a : Fin 1024) (b : Fin 1024) :
    k0_pay1 v0 v2 (ix2 a b) = ∑ k : Fin 1024, v0 (ix2 a k) * v2 (ix2 b k) := by
  pointwise [k0_pay1]

/-- The block that the body stores. -/
theorem out_at (x0 : Vec Ideal S1024x1024 .f32) (x1 : Vec Ideal S1024x1024 .bf16) (a : Fin 1024) (b : Fin 1024) :
    out0_2 x0 x1 (ix2 a b) = ∑ k : Fin 1024, x0 (ix2 a k) * x1 (ix2 b k) := by
  unfold out0_2
  canon_tiles x e
  obtain rfl : x = ix2 a b := by idx_ext
  refine (pay_at _ _ _ _).trans ?_
  exact Finset.sum_congr rfl fun k _ => congrArg₂ (fun x y : EReal => x * y) (View.ld_unit_apply_of x0 _ _ _ _ _ fun a => by fin_cases a <;> simp)
    (View.ld_unit_apply_of x1 _ _ _ _ _ fun a => by fin_cases a <;> simp)

/-- The block numbers at a grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The row that a point's block holds at its row `a`. -/
def rowOf (t : Fin cfg0.N) (a : Fin 1024) : Fin 4096 := ⟨t.val * 1024 + a.val, by have := lt_of_lt_of_eq t.isLt N_0; omega⟩

/-- The left operand's rows under a point's block. -/
theorem read0 (c : Dev nD) (t : Fin cfg0.N) (a : Fin 1024) (k : Fin 1024) :
    iblk m c 0 t (ix2 a k) = V m c main_arg0 (ix2 (rowOf t a) k) := by
  blk_ext [iblk, idx t, rowOf]

/-- The weight under a point's block. -/
theorem read1 (c : Dev nD) (t : Fin cfg0.N) (i : Fin 1024) (k : Fin 1024) :
    iblk m c 1 t (ix2 i k) = V m c main_v0 (ix2 i k) := by
  blk_ext [iblk, idx t]

/-- The product over the operands. -/
def spec (A : Vec Ideal S4096x1024 .f32) (B : Vec Ideal S1024x1024 .bf16) (a : Fin 4096) (b : Fin 1024) : EReal :=
  ∑ k : Fin 1024, A (ix2 a k) * B (ix2 b k)

/-- The array that the call leaves. -/
theorem final (c : Dev nD) : (dats m 0 c).arrAt 2 cfg0.N
    = fun i : S4096x1024.Idx => spec (V m c main_arg0) (V m c main_v0) (i 0) (i 1) := by
  refine (dats m 0 c).arrAt_eq_of_covers 2 _ (by decide +kernel) fun t hf y => ?_
  blk_simp
  rw [after0_2]
  idx_vars y
  refine (out_at (iblk m c 0 t) (iblk m c 1 t) y0 y1).trans ?_
  have e : (win0_2.blk t).view.emb (ix2 y0 y1) = ix2 (rowOf t y0) y1 := by blk_ext [idx t, rowOf]
  rw [e]
  exact Finset.sum_congr rfl fun k _ => congrArg₂ (fun x y : EReal => x * y) (read0 m c t y0 k) (read1 m c t y1 k)

/-- The left operand is the argument. -/
theorem operand0 (c : Dev nD) (a : Fin 4096) (k : Fin 1024) : V m c main_arg0 (ix2 a k) = m ((c.tc : Thread nD τ).loc main_arg0) (ix2 a k) := rfl

/-- The weight operand is the argument. -/
theorem operand1 (c : Dev nD) (i : Fin 1024) (k : Fin 1024) : V m c main_v0 (ix2 i k) = m ((c.tc : Thread nD τ).loc main_arg1) (ix2 i k) := by
  entry_read
  pointwise

/-- The product over the arguments. -/
theorem spec_args (c : Dev nD) (a : Fin 4096) (b : Fin 1024) : spec (V m c main_arg0) (V m c main_v0) a b
    = ∑ k : Fin 1024, (show EReal from m ((c.tc : Thread nD τ).loc main_arg0) (ix2 a k)) * (show EReal from m ((c.tc : Thread nD τ).loc main_arg1) (ix2 b k)) :=
  Finset.sum_congr rfl fun k _ => congrArg₂ (fun x y : EReal => x * y) (operand0 m c a k) (operand1 m c b k)

end Cert.Kernel6Ideal.Prod

namespace Cert.Reference6Ideal.Prod

open Idealize.ShloMosaic Idealize.ShloMosaic.TcCoe Idealize.SL.Sem
open Cert.Reference6Ideal Cert.Reference6Ideal.Gen

/-- The reference's result. -/
def out (A : FVec Ideal S4096x1024 .f32) (B : FVec Ideal S1024x1024 .f32) : FVec Ideal S4096x1024 .bf16 :=
  truncf .bf16 (Host.dotGeneral dot_S4096x1024_S1024x1024_S4096x1024_1_1_0_0_n_n none A B) bitsLt_bf16_f32

/-- The reference's result at an index. -/
theorem out_at (A : FVec Ideal S4096x1024 .f32) (B : FVec Ideal S1024x1024 .f32) (a : Fin 4096) (b : Fin 1024) :
    out A B (ix2 a b) = ∑ k : Fin 1024, A (ix2 a k) * B (ix2 b k) := by
  pointwise [out]

end Cert.Reference6Ideal.Prod

namespace Cert.Proof.OProjBwd

open Idealize.ShloMosaic Idealize.ShloMosaic.TcCoe Idealize.SL.Sem

/-- The program runs, leaves its arguments and ends quiescent. -/
theorem quiescent_K : Cert.quiescent_Kernel6 := fun m g _ => Cert.Kernel6.Gen.frame m g

/-- So does its idealization. -/
theorem quiescent_KI : Cert.quiescent_Kernel6Ideal := fun m g _ => Cert.Kernel6Ideal.Gen.frame m g

/-- So does the reference: it declares no semaphore. -/
theorem quiescent_R : Cert.quiescent_Reference6Ideal := by
  intro m g _
  exact (θ_run Cert.Reference6Ideal.defs _ _).mono (fun r h => ⟨fun c => (h c).2, sem_eq_zero_of_no_sems (by decide) r.2⟩)
    (Cert.Reference6Ideal.Value.run m g)

/-- The idealization rewrites nothing. -/
theorem preserves : Cert.preserves_Kernel6_Kernel6Ideal := trivial

section
open Cert.Kernel6Ideal

/-- The result over the arguments. -/
theorem result (m : (ℓ : Loc nD τ sig) → Buf (Elt Ideal) ℓ) (c : Dev nD) :
    Cert.Reference6Ideal.Prod.out (m ((c.tc : Thread nD τ).loc main_arg0)) (m ((c.tc : Thread nD τ).loc main_arg1))
      = (Gen.dats m 0 c).arrAt 2 cfg0.N := by
  rw [Cert.Kernel6Ideal.Prod.final]
  funext i
  idx_vars i
  refine (Cert.Reference6Ideal.Prod.out_at _ _ i0 i1).trans ?_
  exact (Prod.spec_args m c i0 i1).symm

end

/-- The kernel and the reference end with equal results. -/
theorem algebraic : Cert.algebraic_Kernel6Ideal_Reference6Ideal := by
  pair_intro
  · run_from Cert.Kernel6Ideal.Gen.run_main m g
  · run_from Cert.Reference6Ideal.Value.run m' g'
    · exact result m c

end Cert.Proof.OProjBwd
end
-- ==== Proof.AInBwd.lean ====
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel7Ideal.Prod

open Idealize.ShloMosaic Idealize.ShloMosaic.TcCoe Idealize.SL.Sem
open Idealize.ShloMosaic.Pipeline (Dat)
open Cert.Kernel7Ideal Cert.Kernel7Ideal.Gen

/-- A block's product. -/
theorem pay_at (v0 : Vec Ideal S1024x2048 .bf16) (v2 : Vec Ideal S1024x2048 .bf16) (a : Fin 1024) (b : Fin 1024) :
    k0_pay1 v0 v2 (ix2 a b) = ∑ k : Fin 2048, v0 (ix2 a k) * v2 (ix2 b k) := by
  pointwise [k0_pay1]

/-- The block that the body stores. -/
theorem out_at (x0 : Vec Ideal S1024x2048 .bf16) (x1 : Vec Ideal S1024x2048 .bf16) (a : Fin 1024) (b : Fin 1024) :
    out0_2 x0 x1 (ix2 a b) = ∑ k : Fin 2048, x0 (ix2 a k) * x1 (ix2 b k) := by
  unfold out0_2
  canon_tiles x e
  obtain rfl : x = ix2 a b := by idx_ext
  refine (pay_at _ _ _ _).trans ?_
  exact Finset.sum_congr rfl fun k _ => congrArg₂ (fun x y : EReal => x * y) (View.ld_unit_apply_of x0 _ _ _ _ _ fun a => by fin_cases a <;> simp)
    (View.ld_unit_apply_of x1 _ _ _ _ _ fun a => by fin_cases a <;> simp)

/-- The block numbers at a grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The row that a point's block holds at its row `a`. -/
def rowOf (t : Fin cfg0.N) (a : Fin 1024) : Fin 4096 := ⟨t.val * 1024 + a.val, by have := lt_of_lt_of_eq t.isLt N_0; omega⟩

/-- The left operand's rows under a point's block. -/
theorem read0 (c : Dev nD) (t : Fin cfg0.N) (a : Fin 1024) (k : Fin 2048) :
    iblk m c 0 t (ix2 a k) = V m c main_v0 (ix2 (rowOf t a) k) := by
  blk_ext [iblk, idx t, rowOf]

/-- The weight under a point's block. -/
theorem read1 (c : Dev nD) (t : Fin cfg0.N) (i : Fin 1024) (k : Fin 2048) :
    iblk m c 1 t (ix2 i k) = V m c main_v1 (ix2 i k) := by
  blk_ext [iblk, idx t]

/-- The product over the operands. -/
def spec (A : Vec Ideal S4096x2048 .bf16) (B : Vec Ideal S1024x2048 .bf16) (a : Fin 4096) (b : Fin 1024) : EReal :=
  ∑ k : Fin 2048, A (ix2 a k) * B (ix2 b k)

/-- The array that the call leaves. -/
theorem final (c : Dev nD) : (dats m 0 c).arrAt 2 cfg0.N
    = fun i : S4096x1024.Idx => spec (V m c main_v0) (V m c main_v1) (i 0) (i 1) := by
  refine (dats m 0 c).arrAt_eq_of_covers 2 _ (by decide +kernel) fun t hf y => ?_
  blk_simp
  rw [after0_2]
  idx_vars y
  refine (out_at (iblk m c 0 t) (iblk m c 1 t) y0 y1).trans ?_
  have e : (win0_2.blk t).view.emb (ix2 y0 y1) = ix2 (rowOf t y0) y1 := by blk_ext [idx t, rowOf]
  rw [e]
  exact Finset.sum_congr rfl fun k _ => congrArg₂ (fun x y : EReal => x * y) (read0 m c t y0 k) (read1 m c t y1 k)

/-- The left operand is the argument. -/
theorem operand0 (c : Dev nD) (a : Fin 4096) (k : Fin 2048) : V m c main_v0 (ix2 a k) = m ((c.tc : Thread nD τ).loc main_arg0) (ix2 a k) := by
  entry_read
  pointwise

/-- The weight operand is the argument. -/
theorem operand1 (c : Dev nD) (i : Fin 1024) (k : Fin 2048) : V m c main_v1 (ix2 i k) = m ((c.tc : Thread nD τ).loc main_arg1) (ix2 i k) := by
  entry_read
  pointwise

/-- The product over the arguments. -/
theorem spec_args (c : Dev nD) (a : Fin 4096) (b : Fin 1024) : spec (V m c main_v0) (V m c main_v1) a b
    = ∑ k : Fin 2048, (show EReal from m ((c.tc : Thread nD τ).loc main_arg0) (ix2 a k)) * (show EReal from m ((c.tc : Thread nD τ).loc main_arg1) (ix2 b k)) :=
  Finset.sum_congr rfl fun k _ => congrArg₂ (fun x y : EReal => x * y) (operand0 m c a k) (operand1 m c b k)

end Cert.Kernel7Ideal.Prod

namespace Cert.Reference7Ideal.Prod

open Idealize.ShloMosaic Idealize.ShloMosaic.TcCoe Idealize.SL.Sem
open Cert.Reference7Ideal Cert.Reference7Ideal.Gen

/-- The reference's result. -/
def out (A : FVec Ideal S4096x2048 .f32) (B : FVec Ideal S1024x2048 .f32) : FVec Ideal S4096x1024 .f32 :=
  Host.dotGeneral dot_S4096x2048_S1024x2048_S4096x1024_1_1_0_0_n_n none A B

/-- The reference's result at an index. -/
theorem out_at (A : FVec Ideal S4096x2048 .f32) (B : FVec Ideal S1024x2048 .f32) (a : Fin 4096) (b : Fin 1024) :
    out A B (ix2 a b) = ∑ k : Fin 2048, A (ix2 a k) * B (ix2 b k) := by
  pointwise [out]

end Cert.Reference7Ideal.Prod

namespace Cert.Proof.AInBwd

open Idealize.ShloMosaic Idealize.ShloMosaic.TcCoe Idealize.SL.Sem

/-- The program runs, leaves its arguments and ends quiescent. -/
theorem quiescent_K : Cert.quiescent_Kernel7 := fun m g _ => Cert.Kernel7.Gen.frame m g

/-- So does its idealization. -/
theorem quiescent_KI : Cert.quiescent_Kernel7Ideal := fun m g _ => Cert.Kernel7Ideal.Gen.frame m g

/-- So does the reference: it declares no semaphore. -/
theorem quiescent_R : Cert.quiescent_Reference7Ideal := by
  intro m g _
  exact (θ_run Cert.Reference7Ideal.defs _ _).mono (fun r h => ⟨fun c => (h c).2, sem_eq_zero_of_no_sems (by decide) r.2⟩)
    (Cert.Reference7Ideal.Value.run m g)

/-- The idealization rewrites nothing. -/
theorem preserves : Cert.preserves_Kernel7_Kernel7Ideal := trivial

section
open Cert.Kernel7Ideal

/-- The result over the arguments. -/
theorem result (m : (ℓ : Loc nD τ sig) → Buf (Elt Ideal) ℓ) (c : Dev nD) :
    Cert.Reference7Ideal.Prod.out (m ((c.tc : Thread nD τ).loc main_arg0)) (m ((c.tc : Thread nD τ).loc main_arg1))
      = (Gen.dats m 0 c).arrAt 2 cfg0.N := by
  rw [Cert.Kernel7Ideal.Prod.final]
  funext i
  idx_vars i
  refine (Cert.Reference7Ideal.Prod.out_at _ _ i0 i1).trans ?_
  exact (Prod.spec_args m c i0 i1).symm

end

/-- The kernel and the reference end with equal results. -/
theorem algebraic : Cert.algebraic_Kernel7Ideal_Reference7Ideal := by
  pair_intro
  · run_from Cert.Kernel7Ideal.Gen.run_main m g
  · run_from Cert.Reference7Ideal.Value.run m' g'
    · exact result m c

end Cert.Proof.AInBwd
end
-- ==== Proof.AInWgrad.lean ====
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel8Ideal.Prod

open Idealize.ShloMosaic Idealize.ShloMosaic.TcCoe Idealize.SL.Sem
open Idealize.ShloMosaic.Pipeline (Dat)
open Cert.Kernel8Ideal Cert.Kernel8Ideal.Gen

/-- A block's product. -/
theorem pay_at (v0 : Vec Ideal S4096x1024 .bf16) (v2 : Vec Ideal S4096x256 .bf16) (a : Fin 1024) (b : Fin 256) :
    k0_pay1 v0 v2 (ix3 0 a b) = ∑ r : Fin 4096, v0 (ix2 r a) * v2 (ix2 r b) := by
  pointwise [k0_pay1]

/-- The block that the body stores. -/
theorem out_at (x0 : Vec Ideal S4096x1024 .bf16) (x1 : Vec Ideal S4096x256 .bf16) (a : Fin 1024) (b : Fin 256) :
    out0_2 x0 x1 (ix3 0 a b) = ∑ r : Fin 4096, x0 (ix2 r a) * x1 (ix2 r b) := by
  unfold out0_2
  canon_tiles x e
  obtain rfl : x = ix3 0 a b := by idx_ext
  refine (pay_at _ _ _ _).trans ?_
  exact Finset.sum_congr rfl fun r _ => congrArg₂ (fun x y : EReal => x * y) (View.ld_unit_apply_of x0 _ _ _ _ _ fun a => by fin_cases a <;> simp)
    (View.ld_unit_apply_of x1 _ _ _ _ _ fun a => by fin_cases a <;> simp)

/-- The block numbers at a grid point. -/
theorem idx : ∀ t : Fin cfg0.N, win0_0.index t = ![0, 0] ∧ win0_1.index t = ![0, t.val] ∧ win0_2.index t = ![t.val, 0, 0] :=
  (by decide +kernel : ∀ t : Fin grid0.N, _)

variable (m : (ℓ : Loc nD τ sig) → Buf (Elt Ideal) ℓ)

/-- The column that block `s` holds at its column `b`. -/
def colS (s : Fin 8) (b : Fin 256) : Fin 2048 := ⟨s.val * 256 + b.val, by omega⟩

/-- The column that a point's block holds at its column `b`. -/
def colOf (t : Fin cfg0.N) (b : Fin 256) : Fin 2048 := ⟨t.val * 256 + b.val, by have := lt_of_lt_of_eq t.isLt N_0; omega⟩

/-- The activations under a point's block. -/
theorem read0 (c : Dev nD) (t : Fin cfg0.N) (r : Fin 4096) (a : Fin 1024) :
    iblk m c 0 t (ix2 r a) = V m c main_v0 (ix2 r a) := by
  blk_ext [iblk, idx t]

/-- The cotangent's columns under a point's block. -/
theorem read1 (c : Dev nD) (t : Fin cfg0.N) (r : Fin 4096) (b : Fin 256) :
    iblk m c 1 t (ix2 r b) = V m c main_v1 (ix2 r (colOf t b)) := by
  blk_ext [iblk, idx t, colOf]

/-- The weight's gradient over the operands: the sum over the rows. -/
def spec (A : Vec Ideal S4096x1024 .bf16) (B : Vec Ideal S4096x2048 .bf16) (a : Fin 1024) (b : Fin 2048) : EReal :=
  ∑ r : Fin 4096, A (ix2 r a) * B (ix2 r b)

/-- The array that the call leaves. -/
theorem final (c : Dev nD) : (dats m 0 c).arrAt 2 cfg0.N
    = fun i : S8x1024x256.Idx => spec (V m c main_v0) (V m c main_v1) (i 1) (colS (i 0) (i 2)) := by
  refine (dats m 0 c).arrAt_eq_of_covers 2 _ (by decide +kernel) fun t hf y => ?_
  blk_simp
  rw [after0_2]
  idx_vars y
  obtain rfl : y0 = 0 := by omega
  refine (out_at (iblk m c 0 t) (iblk m c 1 t) y1 y2).trans ?_
  have e : (win0_2.blk t).view.emb (ix3 0 y1 y2) = ix3 ⟨t.val, lt_of_lt_of_eq t.isLt N_0⟩ y1 y2 := by blk_ext [idx t]
  rw [e]
  exact Finset.sum_congr rfl fun r _ => congrArg₂ (fun x y : EReal => x * y) (read0 m c t r y1) (read1 m c t r y2)

/-- The activation operand is the argument. -/
theorem operand0 (c : Dev nD) (r : Fin 4096) (a : Fin 1024) : V m c main_v0 (ix2 r a) = m ((c.tc : Thread nD τ).loc main_arg0) (ix2 r a) := by
  entry_read
  pointwise

/-- The cotangent operand is the argument. -/
theorem operand1 (c : Dev nD) (r : Fin 4096) (b : Fin 2048) : V m c main_v1 (ix2 r b) = m ((c.tc : Thread nD τ).loc main_arg1) (ix2 r b) := by
  entry_read
  pointwise

/-- The weight's gradient over the arguments. -/
theorem spec_args (c : Dev nD) (s : Fin 8) (a : Fin 1024) (b : Fin 256) : spec (V m c main_v0) (V m c main_v1) a ⟨s.val * 256 + b.val, by omega⟩
    = ∑ r : Fin 4096, (show EReal from m ((c.tc : Thread nD τ).loc main_arg0) (ix2 r a)) * (show EReal from m ((c.tc : Thread nD τ).loc main_arg1) (ix2 r ⟨s.val * 256 + b.val, by omega⟩)) :=
  Finset.sum_congr rfl fun r _ => congrArg₂ (fun x y : EReal => x * y) (operand0 m c r a) (operand1 m c r _)

end Cert.Kernel8Ideal.Prod

namespace Cert.Reference8Ideal.Prod

open Idealize.ShloMosaic Idealize.ShloMosaic.TcCoe Idealize.SL.Sem
open Cert.Reference8Ideal Cert.Reference8Ideal.Gen

/-- The reference's result. -/
def out (A : FVec Ideal S4096x1024 .f32) (B : FVec Ideal S4096x2048 .f32) : FVec Ideal S8x1024x256 .f32 :=
  transpose S8x1024x256 [1, 0, 2] (shapeCast _ (transpose S1024x2048 [1, 0] (Host.dotGeneral dot_S4096x2048_S4096x1024_S2048x1024_0_0_1_1_n_n none B A) transposes_S2048x1024_S1024x2048_1_0) shapeCasts_S1024x2048_S1024x8x256) transposes_S1024x8x256_S8x1024x256_1_0_2

/-- The reference's result at an index. -/
theorem out_at (A : FVec Ideal S4096x1024 .f32) (B : FVec Ideal S4096x2048 .f32) (s : Fin 8) (a : Fin 1024) (b : Fin 256) :
    out A B (ix3 s a b) = ∑ r : Fin 4096, A (ix2 r a) * B (ix2 r ⟨s.val * 256 + b.val, by omega⟩) := by
  refine Eq.trans (b := ∑ r : Fin 4096, B (ix2 r ⟨s.val * 256 + b.val, by omega⟩) * A (ix2 r a)) ?_ (Finset.sum_congr rfl fun r _ => mul_comm (G := EReal) _ _)
  pointwise [out]

end Cert.Reference8Ideal.Prod

namespace Cert.Proof.AInWgrad

open Idealize.ShloMosaic Idealize.ShloMosaic.TcCoe Idealize.SL.Sem

/-- The program runs, leaves its arguments and ends quiescent. -/
theorem quiescent_K : Cert.quiescent_Kernel8 := fun m g _ => Cert.Kernel8.Gen.frame m g

/-- So does its idealization. -/
theorem quiescent_KI : Cert.quiescent_Kernel8Ideal := fun m g _ => Cert.Kernel8Ideal.Gen.frame m g

/-- So does the reference: it declares no semaphore. -/
theorem quiescent_R : Cert.quiescent_Reference8Ideal := by
  intro m g _
  exact (θ_run Cert.Reference8Ideal.defs _ _).mono (fun r h => ⟨fun c => (h c).2, sem_eq_zero_of_no_sems (by decide) r.2⟩)
    (Cert.Reference8Ideal.Value.run m g)

/-- The idealization rewrites nothing. -/
theorem preserves : Cert.preserves_Kernel8_Kernel8Ideal := trivial

section
open Cert.Kernel8Ideal

/-- The result over the arguments. -/
theorem result (m : (ℓ : Loc nD τ sig) → Buf (Elt Ideal) ℓ) (c : Dev nD) :
    Cert.Reference8Ideal.Prod.out (m ((c.tc : Thread nD τ).loc main_arg0)) (m ((c.tc : Thread nD τ).loc main_arg1))
      = (Gen.dats m 0 c).arrAt 2 cfg0.N := by
  rw [Cert.Kernel8Ideal.Prod.final]
  funext i
  idx_vars i
  refine (Cert.Reference8Ideal.Prod.out_at _ _ i0 i1 i2).trans ?_
  exact (Prod.spec_args m c i0 i1 i2).symm

end

/-- The kernel and the reference end with equal results. -/
theorem algebraic : Cert.algebraic_Kernel8Ideal_Reference8Ideal := by
  pair_intro
  · run_from Cert.Kernel8Ideal.Gen.run_main m g
  · run_from Cert.Reference8Ideal.Value.run m' g'
    · exact result m c

end Cert.Proof.AInWgrad
end
-- ==== Proof.KvqProj.lean ====
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel9Ideal.Prod

open Idealize.ShloMosaic Idealize.ShloMosaic.TcCoe Idealize.SL.Sem
open Idealize.ShloMosaic.Pipeline (Dat)
open Cert.Kernel9Ideal Cert.Kernel9Ideal.Gen

/-- A block's first product. -/
theorem pay1_at (v0 v2 : Vec Ideal S1024x1024 .bf16) (a b : Fin 1024) :
    k0_pay1 v0 v2 (ix2 a b) = ∑ k : Fin 1024, v0 (ix2 a k) * v2 (ix2 k b) := by
  pointwise [k0_pay1]

/-- A block's second product. -/
theorem pay2_at (v0 v2 : Vec Ideal S1024x1024 .bf16) (a b : Fin 1024) :
    k0_pay2 v0 v2 (ix2 a b) = ∑ k : Fin 1024, v0 (ix2 a k) * v2 (ix2 k b) := by
  pointwise [k0_pay2]

/-- The block that the body stores first. -/
theorem out4_at (x0 x1 x2 x3 : Vec Ideal S1024x1024 .bf16) (a b : Fin 1024) :
    out0_4 x0 x1 x2 x3 (ix2 a b) = ∑ k : Fin 1024, x0 (ix2 a k) * x1 (ix2 k b) := by
  unfold out0_4
  canon_tiles x e
  obtain rfl : x = ix2 a b := by idx_ext
  refine (pay1_at _ _ _ _).trans ?_
  exact Finset.sum_congr rfl fun k _ => congrArg₂ (fun x y : EReal => x * y) (View.ld_unit_apply_of x0 _ _ _ _ _ fun a => by fin_cases a <;> simp)
    (View.ld_unit_apply_of x1 _ _ _ _ _ fun a => by fin_cases a <;> simp)

/-- The block that the body stores second. -/
theorem out5_at (x0 x1 x2 x3 : Vec Ideal S1024x1024 .bf16) (a b : Fin 1024) :
    out0_5 x0 x1 x2 x3 (ix2 a b) = ∑ k : Fin 1024, x2 (ix2 a k) * x3 (ix2 k b) := by
  unfold out0_5
  canon_tiles x e
  obtain rfl : x = ix2 a b := by idx_ext
  refine (pay2_at _ _ _ _).trans ?_
  exact Finset.sum_congr rfl fun k _ => congrArg₂ (fun x y : EReal => x * y) (View.ld_unit_apply_of x2 _ _ _ _ _ fun a => by fin_cases a <;> simp)
    (View.ld_unit_apply_of x3 _ _ _ _ _ fun a => by fin_cases a <;> simp)

/-- The block numbers at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ)

/-- The row that a point's block holds at its row `a`. -/
def rowOf (t : Fin cfg0.N) (a : Fin 1024) : Fin 4096 := ⟨t.val * 1024 + a.val, by have := lt_of_lt_of_eq t.isLt N_0; omega⟩

/-- The first operand's rows under a point's block. -/
theorem read0 (c : Dev nD) (t : Fin cfg0.N) (a k : Fin 1024) : iblk m c 0 t (ix2 a k) = V m c main_v10 (ix2 (rowOf t a) k) := by
  blk_ext [iblk, idx t, rowOf]

/-- The first weight under a point's block. -/
theorem read1 (c : Dev nD) (t : Fin cfg0.N) (a k : Fin 1024) : iblk m c 1 t (ix2 a k) = V m c main_v9 (ix2 a k) := by
  blk_ext [iblk, idx t]

/-- The second operand's rows under a point's block. -/
theorem read2 (c : Dev nD) (t : Fin cfg0.N) (a k : Fin 1024) : iblk m c 2 t (ix2 a k) = V m c main_v11 (ix2 (rowOf t a) k) := by
  blk_ext [iblk, idx t, rowOf]

/-- The second weight under a point's block. -/
theorem read3 (c : Dev nD) (t : Fin cfg0.N) (a k : Fin 1024) : iblk m c 3 t (ix2 a k) = V m c main_v12 (ix2 a k) := by
  blk_ext [iblk, idx t]

/-- A product over the operands. -/
def spec (A : Vec Ideal S4096x1024 .bf16) (B : Vec Ideal S1024x1024 .bf16) (a : Fin 4096) (b : Fin 1024) : EReal :=
  ∑ k : Fin 1024, A (ix2 a k) * B (ix2 k b)

/-- The first array that the call leaves. -/
theorem final4 (c : Dev nD) : (dats m 0 c).arrAt 4 cfg0.N
    = fun i : S4096x1024.Idx => spec (V m c main_v10) (V m c main_v9) (i 0) (i 1) := by
  refine (dats m 0 c).arrAt_eq_of_covers 4 _ (by decide +kernel) fun t hf y => ?_
  blk_simp
  rw [after0_4]
  idx_vars y
  refine (out4_at (iblk m c 0 t) (iblk m c 1 t) (iblk m c 2 t) (iblk m c 3 t) y0 y1).trans ?_
  have e : (win0_4.blk t).view.emb (ix2 y0 y1) = ix2 (rowOf t y0) y1 := by blk_ext [idx t, rowOf]
  rw [e]
  exact Finset.sum_congr rfl fun k _ => congrArg₂ (fun x y : EReal => x * y) (read0 m c t y0 k) (read1 m c t k y1)

/-- The second array that the call leaves. -/
theorem final5 (c : Dev nD) : (dats m 0 c).arrAt 5 cfg0.N
    = fun i : S4096x1024.Idx => spec (V m c main_v11) (V m c main_v12) (i 0) (i 1) := by
  refine (dats m 0 c).arrAt_eq_of_covers 5 _ (by decide +kernel) fun t hf y => ?_
  blk_simp
  rw [after0_5]
  idx_vars y
  refine (out5_at (iblk m c 0 t) (iblk m c 1 t) (iblk m c 2 t) (iblk m c 3 t) y0 y1).trans ?_
  have e : (win0_5.blk t).view.emb (ix2 y0 y1) = ix2 (rowOf t y0) y1 := by blk_ext [idx t, rowOf]
  rw [e]
  exact Finset.sum_congr rfl fun k _ => congrArg₂ (fun x y : EReal => x * y) (read2 m c t y0 k) (read3 m c t k y1)

/-- The weight column that column `n` of the widened weight copies. -/
def headCol (n : Fin 1024) : Fin 512 := ⟨n.val / 128 * 64 + n.val % 64, by omega⟩

/-- The first operand is the argument. -/
theorem operand0 (c : Dev nD) (a : Fin 4096) (k : Fin 1024) : V m c main_v10 (ix2 a k) = m ((c.tc : Thread nD τ).loc main_arg0) (ix2 a k) := by
  entry_read
  pointwise

/-- The first weight operand's first half is the argument's keys, each head twice. -/
theorem operand1_keys (c : Dev nD) (k : Fin 1024) (n : Fin 512) :
    V m c main_v9 (ix2 k ⟨n.val, by omega⟩) = m ((c.tc : Thread nD τ).loc main_arg1) (ix2 k ⟨n.val / 128 * 64 + n.val % 64, by omega⟩) := by
  entry_read
  pointwise

/-- The first weight operand's second half is the argument's values, each head twice. -/
theorem operand1_values (c : Dev nD) (k : Fin 1024) (n : Fin 512) :
    V m c main_v9 (ix2 k ⟨512 + n.val, by omega⟩) = m ((c.tc : Thread nD τ).loc main_arg1) (ix2 k ⟨256 + (n.val / 128 * 64 + n.val % 64), by omega⟩) := by
  entry_read
  pointwise

/-- The first weight operand is the argument, each head twice. -/
theorem operand1 (c : Dev nD) (k n : Fin 1024) :
    V m c main_v9 (ix2 k n) = m ((c.tc : Thread nD τ).loc main_arg1) (ix2 k (headCol n)) := by
  by_cases h : n.val < 512
  · exact (operand1_keys m c k ⟨n.val, h⟩).trans rfl
  · have e : n = ⟨512 + (⟨n.val - 512, by omega⟩ : Fin 512).val, by simp only; omega⟩ := Fin.ext (by simp only; omega)
    have e' : headCol n = ⟨256 + ((n.val - 512) / 128 * 64 + (n.val - 512) % 64), by omega⟩ := Fin.ext (by simp only [headCol]; omega)
    rw [e']
    exact (congrArg (fun x => V m c main_v9 (ix2 k x)) e).trans (operand1_values m c k ⟨n.val - 512, by omega⟩)

/-- The second operand is the argument. -/
theorem operand2 (c : Dev nD) (a : Fin 4096) (k : Fin 1024) : V m c main_v11 (ix2 a k) = m ((c.tc : Thread nD τ).loc main_arg2) (ix2 a k) := by
  entry_read
  pointwise

/-- The second weight operand is the argument. -/
theorem operand3 (c : Dev nD) (k n : Fin 1024) : V m c main_v12 (ix2 k n) = m ((c.tc : Thread nD τ).loc main_arg3) (ix2 k n) := by
  entry_read
  pointwise

/-- The first product over the arguments. -/
theorem spec4_args (c : Dev nD) (a : Fin 4096) (b : Fin 1024) : spec (V m c main_v10) (V m c main_v9) a b
    = ∑ k : Fin 1024, (show EReal from m ((c.tc : Thread nD τ).loc main_arg0) (ix2 a k))
      * (show EReal from m ((c.tc : Thread nD τ).loc main_arg1) (ix2 k (headCol b))) :=
  Finset.sum_congr rfl fun k _ => congrArg₂ (fun x y : EReal => x * y) (operand0 m c a k) (operand1 m c k b)

/-- The second product over the arguments. -/
theorem spec5_args (c : Dev nD) (a : Fin 4096) (b : Fin 1024) : spec (V m c main_v11) (V m c main_v12) a b
    = ∑ k : Fin 1024, (show EReal from m ((c.tc : Thread nD τ).loc main_arg2) (ix2 a k))
      * (show EReal from m ((c.tc : Thread nD τ).loc main_arg3) (ix2 k b)) :=
  Finset.sum_congr rfl fun k _ => congrArg₂ (fun x y : EReal => x * y) (operand2 m c a k) (operand3 m c k b)

end Cert.Kernel9Ideal.Prod

namespace Cert.Reference9Ideal.Prod

open Idealize.ShloMosaic Idealize.ShloMosaic.TcCoe Idealize.SL.Sem
open Cert.Reference9Ideal Cert.Reference9Ideal.Gen

/-- The reference's first result. -/
def out0 (A : FVec Ideal S4096x1024 .f32) (B : FVec Ideal S1024x512 .f32) : FVec Ideal S4096x1024 .f32 :=
  shapeCast _ (broadcastInDim S4096x8x2x64 ![0, 1, 2, 3] bcast_S4096x8x1x64_S4096x8x2x64_0_1_2_3
    (shapeCast _ (Host.dotGeneral dot_S4096x1024_S1024x512_S4096x512_1_0_0_1_n_n none A B) shapeCasts_S4096x512_S4096x8x1x64))
    shapeCasts_S4096x8x2x64_S4096x1024

/-- The reference's second result. -/
def out1 (A : FVec Ideal S4096x1024 .f32) (B : FVec Ideal S1024x1024 .f32) : FVec Ideal S4096x1024 .f32 :=
  Host.dotGeneral dot_S4096x1024_S1024x1024_S4096x1024_1_0_0_1_n_n none A B

/-- The reference's first result at an index. -/
theorem out0_at (A : FVec Ideal S4096x1024 .f32) (B : FVec Ideal S1024x512 .f32) (a : Fin 4096) (b : Fin 1024) :
    out0 A B (ix2 a b) = ∑ k : Fin 1024, A (ix2 a k) * B (ix2 k ⟨b.val / 128 * 64 + b.val % 64, by omega⟩) := by
  pointwise [out0]

/-- The reference's second result at an index. -/
theorem out1_at (A : FVec Ideal S4096x1024 .f32) (B : FVec Ideal S1024x1024 .f32) (a : Fin 4096) (b : Fin 1024) :
    out1 A B (ix2 a b) = ∑ k : Fin 1024, A (ix2 a k) * B (ix2 k b) := by
  pointwise [out1]

end Cert.Reference9Ideal.Prod

namespace Cert.Proof.KvqProj

open Idealize.ShloMosaic Idealize.ShloMosaic.TcCoe Idealize.SL.Sem

/-- The program runs, leaves its arguments and ends quiescent. -/
theorem quiescent_K : Cert.quiescent_Kernel9 := fun m g _ => Cert.Kernel9.Gen.frame m g

/-- So does its idealization. -/
theorem quiescent_KI : Cert.quiescent_Kernel9Ideal := fun m g _ => Cert.Kernel9Ideal.Gen.frame m g

/-- So does the reference: it declares no semaphore. -/
theorem quiescent_R : Cert.quiescent_Reference9Ideal := by
  intro m g _
  exact (θ_run Cert.Reference9Ideal.defs _ _).mono (fun r h => ⟨fun c => (h c).2.2, sem_eq_zero_of_no_sems (by decide) r.2⟩)
    (Cert.Reference9Ideal.Value.run m g)

/-- The idealization rewrites nothing. -/
theorem preserves : Cert.preserves_Kernel9_Kernel9Ideal := trivial

section
open Cert.Kernel9Ideal

/-- The first result over the arguments. -/
theorem result0 (m : (ℓ : Loc nD τ sig) → Buf (Elt Ideal) ℓ) (c : Dev nD) :
    Cert.Reference9Ideal.Prod.out0 (m ((c.tc : Thread nD τ).loc main_arg0)) (m ((c.tc : Thread nD τ).loc main_arg1))
      = (Gen.dats m 0 c).arrAt 4 cfg0.N := by
  rw [Cert.Kernel9Ideal.Prod.final4]
  funext i
  idx_vars i
  refine (Cert.Reference9Ideal.Prod.out0_at _ _ i0 i1).trans ?_
  exact (Prod.spec4_args m c i0 i1).symm

/-- The second result over the arguments. -/
theorem result1 (m : (ℓ : Loc nD τ sig) → Buf (Elt Ideal) ℓ) (c : Dev nD) :
    Cert.Reference9Ideal.Prod.out1 (m ((c.tc : Thread nD τ).loc main_arg2)) (m ((c.tc : Thread nD τ).loc main_arg3))
      = (Gen.dats m 0 c).arrAt 5 cfg0.N := by
  rw [Cert.Kernel9Ideal.Prod.final5]
  funext i
  idx_vars i
  refine (Cert.Reference9Ideal.Prod.out1_at _ _ i0 i1).trans ?_
  exact (Prod.spec5_args m c i0 i1).symm

end

/-- The kernel and the reference end with equal results. -/
theorem algebraic : Cert.algebraic_Kernel9Ideal_Reference9Ideal := by
  pair_intro
  · run_from Cert.Kernel9Ideal.Gen.run_main m g
  · run_from Cert.Reference9Ideal.Value.run m' g'
    · exact result0 m c
    · exact result1 m c

end Cert.Proof.KvqProj
end
-- ==== Proof.OProj.lean ====
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel10Ideal.Prod

open Idealize.ShloMosaic Idealize.ShloMosaic.TcCoe Idealize.SL.Sem
open Idealize.ShloMosaic.Pipeline (Dat)
open Cert.Kernel10Ideal Cert.Kernel10Ideal.Gen

/-- A block's product. -/
theorem pay_at (v0 : Vec Ideal S1024x1024 .bf16) (v2 : Vec Ideal S1024x1024 .bf16) (v5 : Vec Ideal S1024x1024 .f32) (a : Fin 1024) (b : Fin 1024) :
    k0_pay1 v0 v2 v5 (ix2 a b) = (∑ k : Fin 1024, v0 (ix2 a k) * v2 (ix2 k b)) + v5 (ix2 a b) := by
  pointwise [k0_pay1]

/-- The block that the body stores. -/
theorem out_at (x0 : Vec Ideal S1024x1024 .bf16) (x1 : Vec Ideal S1024x1024 .bf16) (x2 : Vec Ideal S1024x1024 .f32) (a : Fin 1024) (b : Fin 1024) :
    out0_3 x0 x1 x2 (ix2 a b) = (∑ k : Fin 1024, x0 (ix2 a k) * x1 (ix2 k b)) + x2 (ix2 a b) := by
  unfold out0_3
  canon_tiles x e
  obtain rfl : x = ix2 a b := by idx_ext
  refine (pay_at _ _ _ _ _).trans ?_
  exact congrArg₂ (fun x y : EReal => x + y) (Finset.sum_congr rfl fun k _ => congrArg₂ (fun x y : EReal => x * y) (View.ld_unit_apply_of x0 _ _ _ _ _ fun a => by fin_cases a <;> simp)
    (View.ld_unit_apply_of x1 _ _ _ _ _ fun a => by fin_cases a <;> simp)) (View.ld_unit_apply_of x2 _ _ _ _ _ fun a => by fin_cases a <;> simp)

/-- The block numbers at a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (m : (ℓ : Loc nD τ sig) → Buf (Elt Ideal) ℓ)

/-- The row that a point's block holds at its row `a`. -/
def rowOf (t : Fin cfg0.N) (a : Fin 1024) : Fin 4096 := ⟨t.val * 1024 + a.val, by have := lt_of_lt_of_eq t.isLt N_0; omega⟩

/-- The left operand's rows under a point's block. -/
theorem read0 (c : Dev nD) (t : Fin cfg0.N) (a : Fin 1024) (k : Fin 1024) :
    iblk m c 0 t (ix2 a k) = V m c main_v0 (ix2 (rowOf t a) k) := by
  blk_ext [iblk, idx t, rowOf]

/-- The weight under a point's block. -/
theorem read1 (c : Dev nD) (t : Fin cfg0.N) (i : Fin 1024) (k : Fin 1024) :
    iblk m c 1 t (ix2 i k) = V m c main_v1 (ix2 i k) := by
  blk_ext [iblk, idx t]

/-- The residual's rows under a point's block. -/
theorem read2 (c : Dev nD) (t : Fin cfg0.N) (a : Fin 1024) (k : Fin 1024) :
    iblk m c 2 t (ix2 a k) = V m c main_arg0 (ix2 (rowOf t a) k) := by
  blk_ext [iblk, idx t, rowOf]

/-- The product over the operands. -/
def spec (A : Vec Ideal S4096x1024 .bf16) (B : Vec Ideal S1024x1024 .bf16) (C : Vec Ideal S4096x1024 .f32) (a : Fin 4096) (b : Fin 1024) : EReal :=
  (∑ k : Fin 1024, A (ix2 a k) * B (ix2 k b)) + C (ix2 a b)

/-- The array that the call leaves. -/
theorem final (c : Dev nD) : (dats m 0 c).arrAt 3 cfg0.N
    = fun i : S4096x1024.Idx => spec (V m c main_v0) (V m c main_v1) (V m c main_arg0) (i 0) (i 1) := by
  refine (dats m 0 c).arrAt_eq_of_covers 3 _ (by decide +kernel) fun t hf y => ?_
  blk_simp
  rw [after0_3]
  idx_vars y
  refine (out_at (iblk m c 0 t) (iblk m c 1 t) (iblk m c 2 t) y0 y1).trans ?_
  have e : (win0_3.blk t).view.emb (ix2 y0 y1) = ix2 (rowOf t y0) y1 := by blk_ext [idx t, rowOf]
  rw [e]
  exact congrArg₂ (fun x y : EReal => x + y) (Finset.sum_congr rfl fun k _ => congrArg₂ (fun x y : EReal => x * y) (read0 m c t y0 k) (read1 m c t k y1)) (read2 m c t y0 y1)

/-- The left operand is the argument. -/
theorem operand0 (c : Dev nD) (a : Fin 4096) (k : Fin 1024) : V m c main_v0 (ix2 a k) = m ((c.tc : Thread nD τ).loc main_arg1) (ix2 a k) := by
  entry_read
  pointwise

/-- The weight operand is the argument. -/
theorem operand1 (c : Dev nD) (i : Fin 1024) (k : Fin 1024) : V m c main_v1 (ix2 i k) = m ((c.tc : Thread nD τ).loc main_arg2) (ix2 i k) := by
  entry_read
  pointwise

/-- The product over the arguments. -/
theorem spec_args (c : Dev nD) (a : Fin 4096) (b : Fin 1024) : spec (V m c main_v0) (V m c main_v1) (V m c main_arg0) a b
    = (∑ k : Fin 1024, (show EReal from m ((c.tc : Thread nD τ).loc main_arg1) (ix2 a k)) * (show EReal from m ((c.tc : Thread nD τ).loc main_arg2) (ix2 k b))) + (show EReal from m ((c.tc : Thread nD τ).loc main_arg0) (ix2 a b)) :=
  congrArg₂ (fun x y : EReal => x + y) (Finset.sum_congr rfl fun k _ => congrArg₂ (fun x y : EReal => x * y) (operand0 m c a k) (operand1 m c k b)) (rfl)

end Cert.Kernel10Ideal.Prod

namespace Cert.Reference10Ideal.Prod

open Idealize.ShloMosaic Idealize.ShloMosaic.TcCoe Idealize.SL.Sem
open Cert.Reference10Ideal Cert.Reference10Ideal.Gen

/-- The reference's result. -/
def out (C : FVec Ideal S4096x1024 .f32) (A : FVec Ideal S4096x1024 .f32) (B : FVec Ideal S1024x1024 .f32) : FVec Ideal S4096x1024 .f32 :=
  addf C (Host.dotGeneral dot_S4096x1024_S1024x1024_S4096x1024_1_0_0_1_n_n none A B)

/-- The reference's result at an index. -/
theorem out_at (C : FVec Ideal S4096x1024 .f32) (A : FVec Ideal S4096x1024 .f32) (B : FVec Ideal S1024x1024 .f32) (a : Fin 4096) (b : Fin 1024) :
    out C A B (ix2 a b) = (∑ k : Fin 1024, A (ix2 a k) * B (ix2 k b)) + C (ix2 a b) := by
  refine Eq.trans (b := C (ix2 a b) + ∑ k : Fin 1024, A (ix2 a k) * B (ix2 k b)) ?_ (add_comm (G := EReal) _ _)
  pointwise [out]

end Cert.Reference10Ideal.Prod

namespace Cert.Proof.OProj

open Idealize.ShloMosaic Idealize.ShloMosaic.TcCoe Idealize.SL.Sem

/-- The program runs, leaves its arguments and ends quiescent. -/
theorem quiescent_K : Cert.quiescent_Kernel10 := fun m g _ => Cert.Kernel10.Gen.frame m g

/-- So does its idealization. -/
theorem quiescent_KI : Cert.quiescent_Kernel10Ideal := fun m g _ => Cert.Kernel10Ideal.Gen.frame m g

/-- So does the reference: it declares no semaphore. -/
theorem quiescent_R : Cert.quiescent_Reference10Ideal := by
  intro m g _
  exact (θ_run Cert.Reference10Ideal.defs _ _).mono (fun r h => ⟨fun c => (h c).2, sem_eq_zero_of_no_sems (by decide) r.2⟩)
    (Cert.Reference10Ideal.Value.run m g)

/-- The idealization rewrites nothing. -/
theorem preserves : Cert.preserves_Kernel10_Kernel10Ideal := trivial

section
open Cert.Kernel10Ideal

/-- The result over the arguments. -/
theorem result (m : (ℓ : Loc nD τ sig) → Buf (Elt Ideal) ℓ) (c : Dev nD) :
    Cert.Reference10Ideal.Prod.out (m ((c.tc : Thread nD τ).loc main_arg0)) (m ((c.tc : Thread nD τ).loc main_arg1)) (m ((c.tc : Thread nD τ).loc main_arg2))
      = (Gen.dats m 0 c).arrAt 3 cfg0.N := by
  rw [Cert.Kernel10Ideal.Prod.final]
  funext i
  idx_vars i
  refine (Cert.Reference10Ideal.Prod.out_at _ _ _ i0 i1).trans ?_
  exact (Prod.spec_args m c i0 i1).symm

end

/-- The kernel and the reference end with equal results. -/
theorem algebraic : Cert.algebraic_Kernel10Ideal_Reference10Ideal := by
  pair_intro
  · run_from Cert.Kernel10Ideal.Gen.run_main m g
  · run_from Cert.Reference10Ideal.Value.run m' g'
    · exact result m c

end Cert.Proof.OProj
end
-- ==== Proof.FfnIdealSetup.lean ====
module

public import proofs.«01_k».proof.Proof.Gen.Kernel11Ideal.Frame
public import proofs.«01_k».proof.Proof.Gen.Kernel11Ideal.Skeleton
public import Idealize.ShloMosaic.Lib.Pipeline.TableIdle

/-! The feed-forward layer: branch conditions and buffers. -/

@[expose] public section

set_option maxRecDepth 16384

noncomputable section

namespace Cert.Kernel11Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Branch condition 0 of the body, from the grid coordinates. -/
abbrev cond0_0 (i : grid0.Coords) : Prop := k0_cond1 i = 1#1
/-- At which grid points branch condition 0 holds. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- Branch condition 1 of the body, from the grid coordinates. -/
abbrev cond0_1 (i : grid0.Coords) : Prop := k0_cond2 i = 1#1
/-- At which grid points branch condition 1 holds. -/
theorem hcond0_1 : ∀ t : Fin cfg0.N, cond0_1 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 3)

/-- Window 0 is in use at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl
/-- Window 5 is in use at every point. -/
theorem liveAt0_5 : ∀ t : Fin cfg0.N, cfg0.idle 5 (grid0.coords t) = false := fun _ => rfl
/-- Window 6 is in use at every point. -/
theorem liveAt0_6 : ∀ t : Fin cfg0.N, cfg0.idle 6 (grid0.coords t) = false := fun _ => rfl
/-- Window 7 is in use at every point. -/
theorem liveAt0_7 : ∀ t : Fin cfg0.N, cfg0.idle 7 (grid0.coords t) = false := fun _ => rfl
/-- Window 8 is in use at every point. -/
theorem liveAt0_8 : ∀ t : Fin cfg0.N, cfg0.idle 8 (grid0.coords t) = false := fun _ => rfl
/-- Window 9 is in use at every point. -/
theorem liveAt0_9 : ∀ t : Fin cfg0.N, cfg0.idle 9 (grid0.coords t) = false := fun _ => rfl
/-- Window 10 is in use at every point. -/
theorem liveAt0_10 : ∀ t : Fin cfg0.N, cfg0.idle 10 (grid0.coords t) = false := fun _ => rfl
/-- Window 11 is in use at every point. -/
theorem liveAt0_11 : ∀ t : Fin cfg0.N, cfg0.idle 11 (grid0.coords t) = false := fun _ => rfl
/-- Window 12 is in use at every point. -/
theorem liveAt0_12 : ∀ t : Fin cfg0.N, cfg0.idle 12 (grid0.coords t) = false := fun _ => rfl
/-- Window 14 is in use at every point. -/
theorem liveAt0_14 : ∀ t : Fin cfg0.N, cfg0.idle 14 (grid0.coords t) = false := fun _ => rfl
/-- Window 15 is in use at every point. -/
theorem liveAt0_15 : ∀ t : Fin cfg0.N, cfg0.idle 15 (grid0.coords t) = false := fun _ => rfl
/-- Whether output 13's buffer holds nothing yet at each position. -/
def freshTab0_13 : ℕ → Bool
  | 0 => true
  | n + 1 => (0x88888888 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- The body stores into output 13 at the points where a row block starts. -/
theorem liveAt0_13_A : ∀ t : Fin cfg0.N, cond0_0 (grid0.coords t) → ¬cond0_1 (grid0.coords t) → cfg0.idle 13 (grid0.coords t) = false := by decide +kernel
/-- The body leaves output 13 alone at the points inside a row block. -/
theorem idleAt0_13_B : ∀ t : Fin cfg0.N, ¬cond0_0 (grid0.coords t) → ¬cond0_1 (grid0.coords t) → cfg0.idle 13 (grid0.coords t) = true := by decide +kernel
/-- Output 13 is not written back at the points inside a row block. -/
theorem noFlush0_13_B : ∀ t : Fin cfg0.N, ¬cond0_0 (grid0.coords t) → ¬cond0_1 (grid0.coords t) → (cfg0.win 13).flush t = false := by decide +kernel
/-- The body leaves output 13 alone at the points where a row block ends. -/
theorem idleAt0_13_C : ∀ t : Fin cfg0.N, ¬cond0_0 (grid0.coords t) → cond0_1 (grid0.coords t) → cfg0.idle 13 (grid0.coords t) = true := by decide +kernel
/-- Output 13 is written back at the points where a row block ends. -/
theorem flush0_13_C : ∀ t : Fin cfg0.N, ¬cond0_0 (grid0.coords t) → cond0_1 (grid0.coords t) → (cfg0.win 13).flush t = true := by decide +kernel
/-- Where a row block ends, output 13's buffer holds what an earlier point stored. -/
theorem notFresh0_13_C : ∀ t : Fin cfg0.N, ¬cond0_0 (grid0.coords t) → cond0_1 (grid0.coords t) → cfg0.fresh 13 t.val = false := by
  intro t; rw [fresh0_13_eq t]; revert t; decide +kernel
/-- The body leaves output 16 alone at the points where a row block starts. -/
theorem idleAt0_16_A : ∀ t : Fin cfg0.N, cond0_0 (grid0.coords t) → ¬cond0_1 (grid0.coords t) → cfg0.idle 16 (grid0.coords t) = true := by decide +kernel
/-- Output 16 is not written back at the points where a row block starts. -/
theorem noFlush0_16_A : ∀ t : Fin cfg0.N, cond0_0 (grid0.coords t) → ¬cond0_1 (grid0.coords t) → (cfg0.win 16).flush t = false := by decide +kernel
/-- The body leaves output 16 alone at the points inside a row block. -/
theorem idleAt0_16_B : ∀ t : Fin cfg0.N, ¬cond0_0 (grid0.coords t) → ¬cond0_1 (grid0.coords t) → cfg0.idle 16 (grid0.coords t) = true := by decide +kernel
/-- Output 16 is not written back at the points inside a row block. -/
theorem noFlush0_16_B : ∀ t : Fin cfg0.N, ¬cond0_0 (grid0.coords t) → ¬cond0_1 (grid0.coords t) → (cfg0.win 16).flush t = false := by decide +kernel
/-- The body stores into output 16 at the points where a row block ends. -/
theorem liveAt0_16_C : ∀ t : Fin cfg0.N, ¬cond0_0 (grid0.coords t) → cond0_1 (grid0.coords t) → cfg0.idle 16 (grid0.coords t) = false := by decide +kernel
/-- The body leaves output 17 alone at the points where a row block starts. -/
theorem idleAt0_17_A : ∀ t : Fin cfg0.N, cond0_0 (grid0.coords t) → ¬cond0_1 (grid0.coords t) → cfg0.idle 17 (grid0.coords t) = true := by decide +kernel
/-- Output 17 is not written back at the points where a row block starts. -/
theorem noFlush0_17_A : ∀ t : Fin cfg0.N, cond0_0 (grid0.coords t) → ¬cond0_1 (grid0.coords t) → (cfg0.win 17).flush t = false := by decide +kernel
/-- The body leaves output 17 alone at the points inside a row block. -/
theorem idleAt0_17_B : ∀ t : Fin cfg0.N, ¬cond0_0 (grid0.coords t) → ¬cond0_1 (grid0.coords t) → cfg0.idle 17 (grid0.coords t) = true := by decide +kernel
/-- Output 17 is not written back at the points inside a row block. -/
theorem noFlush0_17_B : ∀ t : Fin cfg0.N, ¬cond0_0 (grid0.coords t) → ¬cond0_1 (grid0.coords t) → (cfg0.win 17).flush t = false := by decide +kernel
/-- The body stores into output 17 at the points where a row block ends. -/
theorem liveAt0_17_C : ∀ t : Fin cfg0.N, ¬cond0_0 (grid0.coords t) → cond0_1 (grid0.coords t) → cfg0.idle 17 (grid0.coords t) = false := by decide +kernel

/-- The view through which output 12's contents are stated. -/
abbrev VO0_12 : View sig .tc .vmem S512x1024 .f32 := (Memref.whole cc0_stg12_0 : Memref sig .tc .vmem S512x1024 .f32).view
/-- The view through which output 13's contents are stated. -/
abbrev VO0_13 : View sig .tc .vmem S512x1024 .bf16 := (Memref.whole cc0_stg13_0 : Memref sig .tc .vmem S512x1024 .bf16).view
/-- The view through which output 14's contents are stated. -/
abbrev VO0_14 : View sig .tc .vmem S2x1x512x704 .bf16 := (Memref.whole cc0_stg14_0 : Memref sig .tc .vmem S2x1x512x704 .bf16).view
/-- The view through which output 15's contents are stated. -/
abbrev VO0_15 : View sig .tc .vmem S2x1x512x704 .f32 := (Memref.whole cc0_stg15_0 : Memref sig .tc .vmem S2x1x512x704 .f32).view
/-- The view through which output 16's contents are stated. -/
abbrev VO0_16 : View sig .tc .vmem S512x1024 .bf16 := (Memref.whole cc0_stg16_0 : Memref sig .tc .vmem S512x1024 .bf16).view
/-- The view through which output 17's contents are stated. -/
abbrev VO0_17 : View sig .tc .vmem S512x1024 .bf16 := (Memref.whole cc0_stg17_0 : Memref sig .tc .vmem S512x1024 .bf16).view
/-- Window 0's staging buffer at a grid point. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x704 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x704 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x704 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x704 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x704 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x704 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S704x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x1x512x704 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2x1x512x704 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x1024 .bf16 := win0_17.stage (cfg0.slots t 17)
abbrev hs0_17 (t : Fin cfg0.N) : (ms0_17 t).IsWhole := hstage0_17 ((cfg0.slots t 17).cast nbuf0_17)
/-- The scratch buffer. -/
abbrev scM0_0 : Memref sig .tc .vmem S528x1024 .bf16 := Memref.whole cc0_scratch0
/-- The view through which the scratch's contents are stated. -/
abbrev VS0_0 : View sig .tc .vmem S528x1024 .bf16 := scM0_0.view

/-- What the launch hands the pipeline: the scratch at anything and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel11Ideal.Body

end
-- ==== Proof.FfnIdealRunA.lean ====
module

public import proofs.«01_k».proof.Proof.FfnIdealSetup

/-! The feed-forward layer: the body at the points where a row block starts. -/

@[expose] public section

set_option maxRecDepth 16384

noncomputable section

namespace Cert.Kernel11Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where a row block starts the body runs from the inputs' blocks to its end, leaves the inputs as they were, and writes the pieces found here into each output and the scratch. -/
noncomputable def kernelRun0_A (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1x8x704 .f32) (harg7 : arg7.IsWhole) (arg8 : Memref sig .tc .vmem S1x1x704 .f32) (harg8 : arg8.IsWhole) (arg9 : Memref sig .tc .vmem S1x8x704 .f32) (harg9 : arg9.IsWhole) (arg10 : Memref sig .tc .vmem S1x1x704 .f32) (harg10 : arg10.IsWhole) (arg11 : Memref sig .tc .vmem S704x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S2x1x512x704 .bf16) (harg16 : arg16.IsWhole) (arg17 : Memref sig .tc .vmem S2x1x512x704 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S528x1024 .bf16) (harg20 : arg20.IsWhole) (hc0 : cond0_0 i) (hc1 : ¬cond0_1 i)
    (x0 : Vec F S512x1024 .f32) (x1 : Vec F S16x1024 .f32) (x2 : Vec F S1x1024 .f32) (x3 : Vec F S1x1024x704 .bf16) (x4 : Vec F S1x1024x704 .bf16) (x5 : Vec F S1x8x704 .f32) (x6 : Vec F S1x1x704 .f32) (x7 : Vec F S1x8x704 .f32) (x8 : Vec F S1x1x704 .f32) (x9 : Vec F S704x1024 .bf16) (x10 : Vec F S1x1024 .f32) (x11 : Vec F S1x1024 .f32) :
    Σ' (L12 : List (View.Piece (Elt F) S512x1024 .f32)), Σ' (L13 : List (View.Piece (Elt F) S512x1024 .bf16)), Σ' (L14 : List (View.Piece (Elt F) S2x1x512x704 .bf16)), Σ' (L15 : List (View.Piece (Elt F) S2x1x512x704 .f32)), Σ' (L16 : List (View.Piece (Elt F) S512x1024 .bf16)), Σ' (L17 : List (View.Piece (Elt F) S512x1024 .bf16)), { LS0 : List (View.Piece (Elt F) S528x1024 .bf16) //
      ∀ (xi16 : Vec F S512x1024 .bf16) (xi17 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xi16 ∗ owns (c : Thread nD τ) arg19 fullShare xi17 ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ owns (c : Thread nD τ) arg18 fullShare xi16 ∗ owns (c : Thread nD τ) arg19 fullShare xi17 ∗ (∃ f, arg20.view.loc (c : Thread nD τ) ↦[arg20.view.set]{fullShare} arg20.view.writes (Elt F) f LS0)) -∗ K ⟨⟩))
          ⊢ wp frame (wpE (defs₀ (F := F)) Variants.none c none) E (cc0_ffn0_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, [], [], ?_, fun xi16 xi17 E K => ?run⟩
  case run =>
    simp only [cc0_ffn0_fwd_eq_skeleton]; unfold cc0_ffn0_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg18.eq_unread hf16; obtain rfl := harg19.eq_unread hf17
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]
    · iexists _; isplitr; · ipureintro; exact harg18.read_unread _
      iexact H16
    isplitl [H17]
    · iexists _; isplitr; · ipureintro; exact harg19.read_unread _
      iexact H17
    iexists _; iexact HS0

end Cert.Kernel11Ideal.Body

end
-- ==== Proof.FfnIdealRunB.lean ====
module

public import proofs.«01_k».proof.Proof.FfnIdealSetup

/-! The feed-forward layer: the body at the points inside a row block. -/

@[expose] public section

set_option maxRecDepth 16384

noncomputable section

namespace Cert.Kernel11Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point inside a row block the body runs from the inputs' blocks to its end, leaves the inputs as they were, and writes the pieces found here into each output and the scratch. -/
noncomputable def kernelRun0_B (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1x8x704 .f32) (harg7 : arg7.IsWhole) (arg8 : Memref sig .tc .vmem S1x1x704 .f32) (harg8 : arg8.IsWhole) (arg9 : Memref sig .tc .vmem S1x8x704 .f32) (harg9 : arg9.IsWhole) (arg10 : Memref sig .tc .vmem S1x1x704 .f32) (harg10 : arg10.IsWhole) (arg11 : Memref sig .tc .vmem S704x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S2x1x512x704 .bf16) (harg16 : arg16.IsWhole) (arg17 : Memref sig .tc .vmem S2x1x512x704 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S528x1024 .bf16) (harg20 : arg20.IsWhole) (hc0 : ¬cond0_0 i) (hc1 : ¬cond0_1 i)
    (x0 : Vec F S512x1024 .f32) (x1 : Vec F S16x1024 .f32) (x2 : Vec F S1x1024 .f32) (x3 : Vec F S1x1024x704 .bf16) (x4 : Vec F S1x1024x704 .bf16) (x5 : Vec F S1x8x704 .f32) (x6 : Vec F S1x1x704 .f32) (x7 : Vec F S1x8x704 .f32) (x8 : Vec F S1x1x704 .f32) (x9 : Vec F S704x1024 .bf16) (x10 : Vec F S1x1024 .f32) (x11 : Vec F S1x1024 .f32) (xo12 : Vec F S512x1024 .f32) (xs0 : Vec F S528x1024 .bf16) :
    Σ' (L12 : List (View.Piece (Elt F) S512x1024 .f32)), Σ' (L13 : List (View.Piece (Elt F) S512x1024 .bf16)), Σ' (L14 : List (View.Piece (Elt F) S2x1x512x704 .bf16)), Σ' (L15 : List (View.Piece (Elt F) S2x1x512x704 .f32)), Σ' (L16 : List (View.Piece (Elt F) S512x1024 .bf16)), Σ' (L17 : List (View.Piece (Elt F) S512x1024 .bf16)), { LS0 : List (View.Piece (Elt F) S528x1024 .bf16) //
      ∀ (xi13 : Vec F S512x1024 .bf16) (xi16 : Vec F S512x1024 .bf16) (xi17 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xi13 ∗ (∃ d, owns (c : Thread nD τ) arg16 fullShare d) ∗ (∃ d, owns (c : Thread nD τ) arg17 fullShare d) ∗ owns (c : Thread nD τ) arg18 fullShare xi16 ∗ owns (c : Thread nD τ) arg19 fullShare xi17 ∗ owns (c : Thread nD τ) arg20 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ owns (c : Thread nD τ) arg15 fullShare xi13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ owns (c : Thread nD τ) arg18 fullShare xi16 ∗ owns (c : Thread nD τ) arg19 fullShare xi17 ∗ owns (c : Thread nD τ) arg20 fullShare xs0) -∗ K ⟨⟩))
          ⊢ wp frame (wpE (defs₀ (F := F)) Variants.none c none) E (cc0_ffn0_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, [], ?_, ?_, [], [], [], fun xi13 xi16 xi17 E K => ?run⟩
  case run =>
    simp only [cc0_ffn0_fwd_eq_skeleton]; unfold cc0_ffn0_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hf16; obtain rfl := harg19.eq_unread hf17; obtain rfl := harg20.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]
    · iexists _; isplitr; · ipureintro; exact harg15.read_unread _
      iexact H13
    isplitl [H14]; · iexists _; iexact H14
    isplitl [H15]; · iexists _; iexact H15
    isplitl [H16]
    · iexists _; isplitr; · ipureintro; exact harg18.read_unread _
      iexact H16
    isplitl [H17]
    · iexists _; isplitr; · ipureintro; exact harg19.read_unread _
      iexact H17
    iexists _; isplitr; · ipureintro; exact harg20.read_unread _
    iexact HS0

end Cert.Kernel11Ideal.Body

end
-- ==== Proof.FfnIdealRunC.lean ====
module

public import proofs.«01_k».proof.Proof.FfnIdealSetup

/-! The feed-forward layer: the body at the points where a row block ends. -/

@[expose] public section

set_option maxRecDepth 16384

noncomputable section

namespace Cert.Kernel11Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where a row block ends the body runs from the inputs' blocks to its end, leaves the inputs as they were, and writes the pieces found here into each output and the scratch. -/
noncomputable def kernelRun0_C (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1x8x704 .f32) (harg7 : arg7.IsWhole) (arg8 : Memref sig .tc .vmem S1x1x704 .f32) (harg8 : arg8.IsWhole) (arg9 : Memref sig .tc .vmem S1x8x704 .f32) (harg9 : arg9.IsWhole) (arg10 : Memref sig .tc .vmem S1x1x704 .f32) (harg10 : arg10.IsWhole) (arg11 : Memref sig .tc .vmem S704x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S2x1x512x704 .bf16) (harg16 : arg16.IsWhole) (arg17 : Memref sig .tc .vmem S2x1x512x704 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S528x1024 .bf16) (harg20 : arg20.IsWhole) (hc0 : ¬cond0_0 i) (hc1 : cond0_1 i)
    (x0 : Vec F S512x1024 .f32) (x1 : Vec F S16x1024 .f32) (x2 : Vec F S1x1024 .f32) (x3 : Vec F S1x1024x704 .bf16) (x4 : Vec F S1x1024x704 .bf16) (x5 : Vec F S1x8x704 .f32) (x6 : Vec F S1x1x704 .f32) (x7 : Vec F S1x8x704 .f32) (x8 : Vec F S1x1x704 .f32) (x9 : Vec F S704x1024 .bf16) (x10 : Vec F S1x1024 .f32) (x11 : Vec F S1x1024 .f32) (xo12 : Vec F S512x1024 .f32) (xo13 : Vec F S512x1024 .bf16) (xs0 : Vec F S528x1024 .bf16) :
    Σ' (L12 : List (View.Piece (Elt F) S512x1024 .f32)), Σ' (L13 : List (View.Piece (Elt F) S512x1024 .bf16)), Σ' (L14 : List (View.Piece (Elt F) S2x1x512x704 .bf16)), Σ' (L15 : List (View.Piece (Elt F) S2x1x512x704 .f32)), Σ' (L16 : List (View.Piece (Elt F) S512x1024 .bf16)), Σ' (L17 : List (View.Piece (Elt F) S512x1024 .bf16)), { LS0 : List (View.Piece (Elt F) S528x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xo13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ owns (c : Thread nD τ) arg15 fullShare xo13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ owns (c : Thread nD τ) arg20 fullShare xs0) -∗ K ⟨⟩))
          ⊢ wp frame (wpE (defs₀ (F := F)) Variants.none c none) E (cc0_ffn0_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, [], ?_, ?_, ?_, ?_, [], fun E K => ?run⟩
  case run =>
    simp only [cc0_ffn0_fwd_eq_skeleton]; unfold cc0_ffn0_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg20.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    iexists _; isplitr; · ipureintro; exact harg20.read_unread _
    iexact HS0

end Cert.Kernel11Ideal.Body

end
-- ==== Proof.FfnIdealFrame.lean ====
module

public import proofs.«01_k».proof.Proof.FfnIdealRunA
public import proofs.«01_k».proof.Proof.FfnIdealRunB
public import proofs.«01_k».proof.Proof.FfnIdealRunC
public import Idealize.ShloMosaic.Lib.Claim

/-! The feed-forward layer: the run and the frame. -/

@[expose] public section

set_option maxRecDepth 16384

noncomputable section

namespace Cert.Kernel11Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1x8x704 .f32) (harg7 : arg7.IsWhole) (arg8 : Memref sig .tc .vmem S1x1x704 .f32) (harg8 : arg8.IsWhole) (arg9 : Memref sig .tc .vmem S1x8x704 .f32) (harg9 : arg9.IsWhole) (arg10 : Memref sig .tc .vmem S1x1x704 .f32) (harg10 : arg10.IsWhole) (arg11 : Memref sig .tc .vmem S704x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S2x1x512x704 .bf16) (harg16 : arg16.IsWhole) (arg17 : Memref sig .tc .vmem S2x1x512x704 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S528x1024 .bf16) (harg20 : arg20.IsWhole)
  (hc0 : cond0_0 i) (hc1 : ¬cond0_1 i)
  (x0 : Vec F S512x1024 .f32) (x1 : Vec F S16x1024 .f32) (x2 : Vec F S1x1024 .f32) (x3 : Vec F S1x1024x704 .bf16) (x4 : Vec F S1x1024x704 .bf16) (x5 : Vec F S1x8x704 .f32) (x6 : Vec F S1x1x704 .f32) (x7 : Vec F S1x8x704 .f32) (x8 : Vec F S1x1x704 .f32) (x9 : Vec F S704x1024 .bf16) (x10 : Vec F S1x1024 .f32) (x11 : Vec F S1x1024 .f32)

/-- The stores of a point where a row block starts cover output 12. -/
theorem cover0_A_12 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).1 S512x1024.size (by sl_kernel_rfl) y

/-- What a point where a row block starts leaves in output 12. -/
def out0_A_12 : Vec F S512x1024 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).1)

/-- The stores of a point where a row block starts cover output 13. -/
theorem cover0_A_13 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.1 S512x1024.size (by sl_kernel_rfl) y

/-- What a point where a row block starts leaves in output 13. -/
def out0_A_13 : Vec F S512x1024 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.1)

/-- The stores of a point where a row block starts cover output 14. -/
theorem cover0_A_14 (y : S2x1x512x704.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.1 S1x1x512x704.size (by sl_kernel_rfl) y

/-- What a point where a row block starts leaves in output 14. -/
def out0_A_14 : Vec F S2x1x512x704 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.1)

/-- The stores of a point where a row block starts cover output 15. -/
theorem cover0_A_15 (y : S2x1x512x704.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.1 S1x1x512x704.size (by sl_kernel_rfl) y

/-- What a point where a row block starts leaves in output 15. -/
def out0_A_15 : Vec F S2x1x512x704 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.1)

/-- The stores of a point where a row block starts cover the scratch. -/
theorem cover0_A_s (y : S528x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.2.2.1 S528x1024.size (by sl_kernel_rfl) y

/-- What a point where a row block starts leaves in the scratch. -/
def out0_A_s : Vec F S528x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.2.2.1)

end

section

variable (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1x8x704 .f32) (harg7 : arg7.IsWhole) (arg8 : Memref sig .tc .vmem S1x1x704 .f32) (harg8 : arg8.IsWhole) (arg9 : Memref sig .tc .vmem S1x8x704 .f32) (harg9 : arg9.IsWhole) (arg10 : Memref sig .tc .vmem S1x1x704 .f32) (harg10 : arg10.IsWhole) (arg11 : Memref sig .tc .vmem S704x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S2x1x512x704 .bf16) (harg16 : arg16.IsWhole) (arg17 : Memref sig .tc .vmem S2x1x512x704 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S528x1024 .bf16) (harg20 : arg20.IsWhole)
  (hc0 : ¬cond0_0 i) (hc1 : ¬cond0_1 i)
  (x0 : Vec F S512x1024 .f32) (x1 : Vec F S16x1024 .f32) (x2 : Vec F S1x1024 .f32) (x3 : Vec F S1x1024x704 .bf16) (x4 : Vec F S1x1024x704 .bf16) (x5 : Vec F S1x8x704 .f32) (x6 : Vec F S1x1x704 .f32) (x7 : Vec F S1x8x704 .f32) (x8 : Vec F S1x1x704 .f32) (x9 : Vec F S704x1024 .bf16) (x10 : Vec F S1x1024 .f32) (x11 : Vec F S1x1024 .f32) (xo12 : Vec F S512x1024 .f32) (xs0 : Vec F S528x1024 .bf16)

/-- The stores of a point inside a row block cover output 12. -/
theorem cover0_B_12 (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xs0).1 S512x1024.size (by sl_kernel_rfl) y

/-- What a point inside a row block leaves in output 12. -/
def out0_B_12 : Vec F S512x1024 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xs0).1)

/-- The stores of a point inside a row block cover output 14. -/
theorem cover0_B_14 (y : S2x1x512x704.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xs0).2.2.1 S1x1x512x704.size (by sl_kernel_rfl) y

/-- What a point inside a row block leaves in output 14. -/
def out0_B_14 : Vec F S2x1x512x704 .bf16 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xs0).2.2.1)

/-- The stores of a point inside a row block cover output 15. -/
theorem cover0_B_15 (y : S2x1x512x704.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xs0).2.2.2.1 S1x1x512x704.size (by sl_kernel_rfl) y

/-- What a point inside a row block leaves in output 15. -/
def out0_B_15 : Vec F S2x1x512x704 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xs0).2.2.2.1)

end

section

variable (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1x8x704 .f32) (harg7 : arg7.IsWhole) (arg8 : Memref sig .tc .vmem S1x1x704 .f32) (harg8 : arg8.IsWhole) (arg9 : Memref sig .tc .vmem S1x8x704 .f32) (harg9 : arg9.IsWhole) (arg10 : Memref sig .tc .vmem S1x1x704 .f32) (harg10 : arg10.IsWhole) (arg11 : Memref sig .tc .vmem S704x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S2x1x512x704 .bf16) (harg16 : arg16.IsWhole) (arg17 : Memref sig .tc .vmem S2x1x512x704 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S528x1024 .bf16) (harg20 : arg20.IsWhole)
  (hc0 : ¬cond0_0 i) (hc1 : cond0_1 i)
  (x0 : Vec F S512x1024 .f32) (x1 : Vec F S16x1024 .f32) (x2 : Vec F S1x1024 .f32) (x3 : Vec F S1x1024x704 .bf16) (x4 : Vec F S1x1024x704 .bf16) (x5 : Vec F S1x8x704 .f32) (x6 : Vec F S1x1x704 .f32) (x7 : Vec F S1x8x704 .f32) (x8 : Vec F S1x1x704 .f32) (x9 : Vec F S704x1024 .bf16) (x10 : Vec F S1x1024 .f32) (x11 : Vec F S1x1024 .f32) (xo12 : Vec F S512x1024 .f32) (xo13 : Vec F S512x1024 .bf16) (xs0 : Vec F S528x1024 .bf16)

/-- The stores of a point where a row block ends cover output 12. -/
theorem cover0_C_12 (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).1 S512x1024.size (by sl_kernel_rfl) y

/-- What a point where a row block ends leaves in output 12. -/
def out0_C_12 : Vec F S512x1024 .f32 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).1)

/-- The stores of a point where a row block ends cover output 14. -/
theorem cover0_C_14 (y : S2x1x512x704.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.1 S1x1x512x704.size (by sl_kernel_rfl) y

/-- What a point where a row block ends leaves in output 14. -/
def out0_C_14 : Vec F S2x1x512x704 .bf16 :=
  VO0_14.read (Elt F) (VO0_14.writes (Elt F) VO0_14.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.1)

/-- The stores of a point where a row block ends cover output 15. -/
theorem cover0_C_15 (y : S2x1x512x704.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.2.1 S1x1x512x704.size (by sl_kernel_rfl) y

/-- What a point where a row block ends leaves in output 15. -/
def out0_C_15 : Vec F S2x1x512x704 .f32 :=
  VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.2.1)

/-- The stores of a point where a row block ends cover output 16. -/
theorem cover0_C_16 (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.2.2.1 S512x1024.size (by sl_kernel_rfl) y

/-- What a point where a row block ends leaves in output 16. -/
def out0_C_16 : Vec F S512x1024 .bf16 :=
  VO0_16.read (Elt F) (VO0_16.writes (Elt F) VO0_16.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.2.2.1)

/-- The stores of a point where a row block ends cover output 17. -/
theorem cover0_C_17 (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.2.2.2.1 S512x1024.size (by sl_kernel_rfl) y

/-- What a point where a row block ends leaves in output 17. -/
def out0_C_17 : Vec F S512x1024 .bf16 :=
  VO0_17.read (Elt F) (VO0_17.writes (Elt F) VO0_17.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo12 xo13 xs0).2.2.2.2.2.1)

end

/-- What the outputs' buffers and the scratch hold together. -/
abbrev Outs (F : FTy → Type) [FloatOps F] : Type :=
  Vec F S512x1024 .f32 × Vec F S512x1024 .bf16 × Vec F S2x1x512x704 .bf16 × Vec F S2x1x512x704 .f32 × Vec F S512x1024 .bf16 × Vec F S512x1024 .bf16 × Vec F S528x1024 .bf16

/-- The contents of an output's buffer nothing has been stored into. -/
def none16 : Vec F S512x1024 .bf16 := VO0_16.read (Elt F) VO0_16.junk

/-- What the buffers hold after a point where a row block starts. -/
def atA (c : Dev nD) (t : Fin cfg0.N) (h0 : t.val % 4 = 0) (h1 : ¬t.val % 4 = 3) : Outs F :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
   out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
   out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
   out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
   none16,
   none16,
   out0_A_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- What the buffers hold after a point inside a row block, from what they held before. -/
def atB (c : Dev nD) (t : Fin cfg0.N) (h0 : ¬t.val % 4 = 0) (h1 : ¬t.val % 4 = 3) (p : Outs F) : Outs F :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.1 p.2.2.2.2.2.2,
   p.2.1,
   out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.1 p.2.2.2.2.2.2,
   out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.1 p.2.2.2.2.2.2,
   none16,
   none16,
   p.2.2.2.2.2.2)

/-- What the buffers hold after a point where a row block ends, from what they held before. -/
def atC (c : Dev nD) (t : Fin cfg0.N) (h0 : ¬t.val % 4 = 0) (h1 : t.val % 4 = 3) (p : Outs F) : Outs F :=
  (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.1 p.2.1 p.2.2.2.2.2.2,
   p.2.1,
   out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.1 p.2.1 p.2.2.2.2.2.2,
   out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.1 p.2.1 p.2.2.2.2.2.2,
   out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.1 p.2.1 p.2.2.2.2.2.2,
   out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.1 p.2.1 p.2.2.2.2.2.2,
   p.2.2.2.2.2.2)

/-- What the outputs' buffers and the scratch hold after the body at each grid point, by recursion on the point. -/
def outsAt0 (c : Dev nD) : (n : ℕ) → n < cfg0.N → Outs F
  | 0, hn => atA m c ⟨0, hn⟩ (Nat.zero_mod _) (fun h => by (try dsimp only at h); omega)
  | n + 1, hn =>
    if h0 : (n + 1) % 4 = 0 then
      if h1 : (n + 1) % 4 = 3 then
        False.elim (by have hN : n + 1 < 32 := lt_of_lt_of_eq hn (show cfg0.N = 32 from N_0); omega)
      else atA m c ⟨n + 1, hn⟩ h0 h1
    else
      if h1 : (n + 1) % 4 = 3 then atC m c ⟨n + 1, hn⟩ h0 h1 (outsAt0 c n (Nat.lt_of_succ_lt hn))
      else atB m c ⟨n + 1, hn⟩ h0 h1 (outsAt0 c n (Nat.lt_of_succ_lt hn))

/-- The contents after a point where a row block starts. -/
theorem outsAt0_A (c : Dev nD) (t : Fin cfg0.N) (h0 : t.val % 4 = 0) (h1 : ¬t.val % 4 = 3) :
    outsAt0 m c t.val t.isLt = atA m c t h0 h1 := by
  obtain ⟨n, hn⟩ := t
  cases n with
  | zero => exact rfl
  | succ n => exact (dif_pos h0).trans ((dif_neg h1).trans rfl)

/-- The contents after a point inside a row block. -/
theorem outsAt0_B (c : Dev nD) (t : Fin cfg0.N) (h0 : ¬t.val % 4 = 0) (h1 : ¬t.val % 4 = 3) :
    outsAt0 m c t.val t.isLt = atB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The contents after a point where a row block ends. -/
theorem outsAt0_C (c : Dev nD) (t : Fin cfg0.N) (h0 : ¬t.val % 4 = 0) (h1 : t.val % 4 = 3) :
    outsAt0 m c t.val t.isLt = atC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What is handed on between the points: before the first the scratch at anything, afterwards at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After a point: the scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2)) ∗ (∃ r, prngReg c r)) := rfl

/-- Before a later point: the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2)) ∗ (∃ r, prngReg c r)) := by
  cases n with
  | zero => exact absurd rfl hz
  | succ n => rfl

/-- The proof data: arrays as the call finds them, inputs at their blocks, outputs as `outsAt0` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨_ + 18, h⟩ => absurd h (Nat.not_lt.2 (Nat.le_add_left _ _))
  Φ t := PhiS m c t.val (Nat.le_of_lt_succ t.isLt)
  q w := Pipeline.shareOf spec0 w
  owed _ := 0

/-- The arrays of the proof data are those the call finds. -/
theorem A_eq (c : Dev nD) (w : Fin cfg0.W) : (dats m 0 c).A w = V m c (Pipeline.arrRef spec0 w) := by
  dsimp only [dats]

/-- What is handed to a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What each buffer holds after the body at a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]

/-- What each input's buffer holds before the body at a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Output 13's contents carry through the points that leave it alone. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 32 := lt_of_lt_of_eq t.isLt (show cfg0.N = 32 from N_0)
  rw [after0_13, after0_13]
  by_cases h0 : t.val % 4 = 0
  · by_cases h1 : t.val % 4 = 3
    · exfalso; omega
    · rw [liveAt0_13_A t ((hcond0_0 t).mpr h0) (fun h => h1 ((hcond0_1 t).mp h))] at hi
      exact absurd hi Bool.false_ne_true
  · by_cases h1 : t.val % 4 = 3
    · rw [outsAt0_C m c t h0 h1]
      unfold atC
      dsimp only
    · rw [outsAt0_B m c t h0 h1]
      unfold atB
      dsimp only

/-- Except where a row block starts, output 12's buffer holds what the point before left. -/
theorem before0_12 (c : Dev nD) (t : Fin cfg0.N) (h0 : ¬t.val % 4 = 0) (d) :
    (dats m 0 c).before 12 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
/-- Where a row block ends, output 13's buffer holds what the point before left. -/
theorem before0_13_C (c : Dev nD) (t : Fin cfg0.N) (h0 : ¬t.val % 4 = 0) (h1 : t.val % 4 = 3) (d) :
    (dats m 0 c).before 13 t d = (outsAt0 m c (t.val - 1) (Nat.lt_of_le_of_lt (Nat.sub_le _ _) t.isLt)).2.1 := by
  rw [Dat.before_out_traj _ 13 rfl (fun _ _ => rfl) (hcarry0_13 m c) t.val t rfl d,
    if_neg (by rw [notFresh0_13_C t (fun h => h0 ((hcond0_0 t).mp h)) ((hcond0_1 t).mpr h1)]; exact Bool.false_ne_true)]
  dsimp only [dats]

/-- What the body hands back of window 0. -/
theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
/-- What the body hands back of window 1. -/
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
/-- What the body hands back of window 2. -/
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
/-- What the body hands back of window 3. -/
theorem leaves0_3 (c : Dev nD) (t : Fin cfg0.N) : (dats m 0 c).leavesExact 3 t = owns (c : Thread nD τ) (ms0_3 t) fullShare ((dats m 0 c).after 3 t) := by
  unfold Dat.leavesExact; rw [liveAt0_3 t]
/-- What the body hands back of window 4. -/
theorem leaves0_4 (c : Dev nD) (t : Fin cfg0.N) : (dats m 0 c).leavesExact 4 t = owns (c : Thread nD τ) (ms0_4 t) fullShare ((dats m 0 c).after 4 t) := by
  unfold Dat.leavesExact; rw [liveAt0_4 t]
/-- What the body hands back of window 5. -/
theorem leaves0_5 (c : Dev nD) (t : Fin cfg0.N) : (dats m 0 c).leavesExact 5 t = owns (c : Thread nD τ) (ms0_5 t) fullShare ((dats m 0 c).after 5 t) := by
  unfold Dat.leavesExact; rw [liveAt0_5 t]
/-- What the body hands back of window 6. -/
theorem leaves0_6 (c : Dev nD) (t : Fin cfg0.N) : (dats m 0 c).leavesExact 6 t = owns (c : Thread nD τ) (ms0_6 t) fullShare ((dats m 0 c).after 6 t) := by
  unfold Dat.leavesExact; rw [liveAt0_6 t]
/-- What the body hands back of window 7. -/
theorem leaves0_7 (c : Dev nD) (t : Fin cfg0.N) : (dats m 0 c).leavesExact 7 t = owns (c : Thread nD τ) (ms0_7 t) fullShare ((dats m 0 c).after 7 t) := by
  unfold Dat.leavesExact; rw [liveAt0_7 t]
/-- What the body hands back of window 8. -/
theorem leaves0_8 (c : Dev nD) (t : Fin cfg0.N) : (dats m 0 c).leavesExact 8 t = owns (c : Thread nD τ) (ms0_8 t) fullShare ((dats m 0 c).after 8 t) := by
  unfold Dat.leavesExact; rw [liveAt0_8 t]
/-- What the body hands back of window 9. -/
theorem leaves0_9 (c : Dev nD) (t : Fin cfg0.N) : (dats m 0 c).leavesExact 9 t = owns (c : Thread nD τ) (ms0_9 t) fullShare ((dats m 0 c).after 9 t) := by
  unfold Dat.leavesExact; rw [liveAt0_9 t]
/-- What the body hands back of window 10. -/
theorem leaves0_10 (c : Dev nD) (t : Fin cfg0.N) : (dats m 0 c).leavesExact 10 t = owns (c : Thread nD τ) (ms0_10 t) fullShare ((dats m 0 c).after 10 t) := by
  unfold Dat.leavesExact; rw [liveAt0_10 t]
/-- What the body hands back of window 11. -/
theorem leaves0_11 (c : Dev nD) (t : Fin cfg0.N) : (dats m 0 c).leavesExact 11 t = owns (c : Thread nD τ) (ms0_11 t) fullShare ((dats m 0 c).after 11 t) := by
  unfold Dat.leavesExact; rw [liveAt0_11 t]
/-- What the body hands back of window 12. -/
theorem leaves0_12 (c : Dev nD) (t : Fin cfg0.N) : (dats m 0 c).leavesExact 12 t = owns (c : Thread nD τ) (ms0_12 t) fullShare ((dats m 0 c).after 12 t) := by
  unfold Dat.leavesExact; rw [liveAt0_12 t]
/-- What the body hands back of window 14. -/
theorem leaves0_14 (c : Dev nD) (t : Fin cfg0.N) : (dats m 0 c).leavesExact 14 t = owns (c : Thread nD τ) (ms0_14 t) fullShare ((dats m 0 c).after 14 t) := by
  unfold Dat.leavesExact; rw [liveAt0_14 t]
/-- What the body hands back of window 15. -/
theorem leaves0_15 (c : Dev nD) (t : Fin cfg0.N) : (dats m 0 c).leavesExact 15 t = owns (c : Thread nD τ) (ms0_15 t) fullShare ((dats m 0 c).after 15 t) := by
  unfold Dat.leavesExact; rw [liveAt0_15 t]
/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 19200000 in
/-- The body at any point takes its precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12]
      rw [show (dats m 0 c).leavesExact 13 t = owns (c : Thread nD τ) (ms0_13 t) fullShare ((dats m 0 c).after 13 t) from by
      unfold Dat.leavesExact; rw [liveAt0_13_A t ((hcond0_0 t).mpr h0) (fun h => h1 ((hcond0_1 t).mp h))], after0_13]
      rw [leaves0_14, after0_14, leaves0_15, after0_15]
      rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
      rw [Dat.leavesExact_idle (dats m 0 c) 17 t (idleAt0_17_A t ((hcond0_0 t).mpr h0) (fun h => h1 ((hcond0_1 t).mp h))) (noFlush0_17_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold atA out0_A_12 out0_A_13 out0_A_14 out0_A_15 out0_A_s; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexact H16
        isplitl [H17]; · iexact H17
        isplitl [HS0]; · iexact HS0
        iintro ⟨H0, H1, H2, H3, H4, H5, H6, H7, H8, H9, H10, H11, ⟨%e12, H12⟩, ⟨%e13, H13⟩, ⟨%e14, H14⟩, ⟨%e15, H15⟩, H16, H17, ⟨%es0, HS0⟩⟩
        isplitl [HS0 Hg]
        · isplitl [HS0]
          · unfold owns; iexists _; isplitr
            swap; · iexact HS0
            ipureintro; exact View.read_writes_of_cover _ _ _ _ _ (cover0_A_s c _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _)
        isplitl [H16]; · iexists _; iexact H16
        iexists _; iexact H17
      · rw [PhiS_castSucc m c t, PhiS_pos m c _ _ hz]
        rw [outsAt0_A m c t h0 h1]
        unfold atA out0_A_12 out0_A_13 out0_A_14 out0_A_15 out0_A_s; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexact H16
        isplitl [H17]; · iexact H17
        isplitl [HS0]; · iexists _; iexact HS0
        iintro ⟨H0, H1, H2, H3, H4, H5, H6, H7, H8, H9, H10, H11, ⟨%e12, H12⟩, ⟨%e13, H13⟩, ⟨%e14, H14⟩, ⟨%e15, H15⟩, H16, H17, ⟨%es0, HS0⟩⟩
        isplitl [HS0 Hg]
        · isplitl [HS0]
          · unfold owns; iexists _; isplitr
            swap; · iexact HS0
            ipureintro; exact View.read_writes_of_cover _ _ _ _ _ (cover0_A_s c _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _)
        isplitl [H16]; · iexists _; iexact H16
        iexists _; iexact H17
  · by_cases h1 : t.val % 4 = 3
    · rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12]
      rw [show (dats m 0 c).leavesExact 13 t = owns (c : Thread nD τ) (ms0_13 t) fullShare ((dats m 0 c).after 13 t) from by
        unfold Dat.leavesExact; rw [idleAt0_13_C t (fun h => h0 ((hcond0_0 t).mp h)) ((hcond0_1 t).mpr h1), flush0_13_C t (fun h => h0 ((hcond0_0 t).mp h)) ((hcond0_1 t).mpr h1)], after0_13]
      rw [leaves0_14, after0_14, leaves0_15, after0_15]
      rw [show (dats m 0 c).leavesExact 16 t = owns (c : Thread nD τ) (ms0_16 t) fullShare ((dats m 0 c).after 16 t) from by
      unfold Dat.leavesExact; rw [liveAt0_16_C t (fun h => h0 ((hcond0_0 t).mp h)) ((hcond0_1 t).mpr h1)], after0_16]
      rw [show (dats m 0 c).leavesExact 17 t = owns (c : Thread nD τ) (ms0_17 t) fullShare ((dats m 0 c).after 17 t) from by
      unfold Dat.leavesExact; rw [liveAt0_17_C t (fun h => h0 ((hcond0_0 t).mp h)) ((hcond0_1 t).mpr h1)], after0_17]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_12 m c t h0, before0_13_C m c t h0 h1]
        unfold atC out0_C_12 out0_C_14 out0_C_15 out0_C_16 out0_C_17; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_C c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [H17]; · iexists _; iexact H17
        isplitl [HS0]; · iexact HS0
        iintro ⟨H0, H1, H2, H3, H4, H5, H6, H7, H8, H9, H10, H11, ⟨%e12, H12⟩, H13, ⟨%e14, H14⟩, ⟨%e15, H15⟩, ⟨%e16, H16⟩, ⟨%e17, H17⟩, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _)
        isplitl [H13]; · iexact H13
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H17
        ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _)
    · rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12]
      rw [Dat.leavesExact_idle (dats m 0 c) 13 t (idleAt0_13_B t (fun h => h0 ((hcond0_0 t).mp h)) (fun h => h1 ((hcond0_1 t).mp h))) (noFlush0_13_B t (fun h => h0 ((hcond0_0 t).mp h)) (fun h => h1 ((hcond0_1 t).mp h)))]
      rw [leaves0_14, after0_14, leaves0_15, after0_15]
      rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
      rw [Dat.leavesExact_idle (dats m 0 c) 17 t (idleAt0_17_B t (fun h => h0 ((hcond0_0 t).mp h)) (fun h => h1 ((hcond0_1 t).mp h))) (noFlush0_17_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_12 m c t h0]
        unfold atB out0_B_12 out0_B_14 out0_B_15; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_B c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _).2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexact H16
        isplitl [H17]; · iexact H17
        isplitl [HS0]; · iexact HS0
        iintro ⟨H0, H1, H2, H3, H4, H5, H6, H7, H8, H9, H10, H11, ⟨%e12, H12⟩, H13, ⟨%e14, H14⟩, ⟨%e15, H15⟩, H16, H17, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _)
        isplitl [H13]; · iexists _; iexact H13
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _)
        isplitl [H16]; · iexists _; iexact H16
        iexists _; iexact H17

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what the first point starts from. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the scratch can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
set_option maxHeartbeats 800000 in
/-- Every execution ends with the arrays the proof data gives and with all counters at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every execution ends with the arrays the proof data gives. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every execution leaves the argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- Every execution leaves the argument arrays unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel11Ideal.Body

end
-- ==== Proof.FfnSame.lean ====
module

public import proofs.«01_k».proof.Defs
public import proofs.«01_k».proof.Proof.Gen.Kernel11
public import proofs.«01_k».proof.Proof.Gen.Kernel11.Skeleton
public import proofs.«01_k».proof.Proof.Gen.Kernel11Ideal
public import proofs.«01_k».proof.Proof.FfnIdealFrame

/-! The feed-forward layer's program and its idealization run one body table. -/

@[expose] public section

set_option maxRecDepth 16384

noncomputable section

namespace Cert.Proof.Ffn

open Idealize.ShloMosaic Idealize.ShloMosaic.TcCoe Idealize.SL.Sem

set_option maxHeartbeats 2000000 in
/-- The program's body table is its idealization's. -/
theorem defs_eq : (Cert.Kernel11.defs₀ (F := Bits)) = (Cert.Kernel11Ideal.defs₀ (F := Bits)) := by
  funext l p
  cases l with
  | tc =>
    obtain ⟨p, hp⟩ := p
    obtain rfl : p = 0 := by omega
    rfl
  | _ => rfl

/-- The program runs, leaves its arguments and ends quiescent. -/
theorem quiescent_K : Cert.quiescent_Kernel11 := by
  intro m g _
  have h := Cert.Kernel11Ideal.Body.frame (F := Bits) m g
  unfold Cert.Kernel11.defs
  rw [defs_eq]
  exact h

end Cert.Proof.Ffn

end
-- ==== Proof.FfnRun.lean ====
module

public import proofs.«01_k».proof.Proof.FfnIdealFrame

/-! The feed-forward layer's run, result by result: the host's reshape after the call read through. -/

@[expose] public section

set_option maxRecDepth 16384

noncomputable section

namespace Cert.Kernel11Ideal.Ffn

open Idealize.ShloMosaic Idealize.ShloMosaic.TcCoe Idealize.SL.Sem
open Cert.Kernel11Ideal Cert.Kernel11Ideal.Gen Cert.Kernel11Ideal.Body

variable {F : FTy → Type} [FloatOps F] (m : (ℓ : Loc nD τ sig) → Buf (Elt F) ℓ) (ρ : Dev nD → PrngReg)

/-- The third result's array at the region's end. -/
theorem exit14 (c : Dev nD) :
    Pipeline.withArrays cfg0.spec c (V0 m c) (fun w => (dats m 0 c).arrAt w cfg0.N) (Proc.devRef .tc main_v8_2)
      = (dats m 0 c).arrAt 14 cfg0.N :=
  Pipeline.Dat.withArrays_arrAt (dats m 0 c) sharedIn0 (V0 m c) (A_eq m c) 14

/-- The host lays the third result's two halves one after the other. -/
theorem tail (c : Dev nD) : Pipeline.afterTail₀ cfgs (dats m) 0 (V0 m) [hostOps1] c main_v9
    = shapeCast S8x4096x704 ((dats m 0 c).arrAt 14 cfg0.N : Vec F S2x4x4096x704 .bf16) Facts₀.shapeCasts_S2x4x4096x704_S8x4096x704 := by
  have h := exit14 m c
  unfold Pipeline.afterTail₀
  change StableHlo.after _ (Pipeline.withArrays cfg0.spec c (V0 m c) (fun w => (dats m 0 c).arrAt w cfg0.N)) _ = _
  generalize Pipeline.withArrays cfg0.spec c (V0 m c) (fun w => (dats m 0 c).arrAt w cfg0.N) = σ at h ⊢
  rw [← h]
  simp only [hostOps1, List.flatten_cons, List.flatten_nil, List.append_nil, List.cons_append, List.nil_append]
  after_results
  rfl

/-- Every execution leaves the results that the proof data gives, and the arguments unchanged. -/
theorem run : θ_run defs (onTc (τ := τ) (main (F := F))) ⟨m, fun _ => 0, ρ⟩ (fun r => ∀ c : Dev nD,
      r.2.mem ((c.tc : Thread nD τ).loc main_v8_0) = (dats m 0 c).arrAt 12 cfg0.N
      ∧ r.2.mem ((c.tc : Thread nD τ).loc main_v8_1) = (dats m 0 c).arrAt 13 cfg0.N
      ∧ r.2.mem ((c.tc : Thread nD τ).loc main_v9)
        = shapeCast S8x4096x704 ((dats m 0 c).arrAt 14 cfg0.N : Vec F S2x4x4096x704 .bf16) Facts₀.shapeCasts_S2x4x4096x704_S8x4096x704
      ∧ r.2.mem ((c.tc : Thread nD τ).loc main_v8_3) = (dats m 0 c).arrAt 15 cfg0.N
      ∧ r.2.mem ((c.tc : Thread nD τ).loc main_v8_4) = (dats m 0 c).arrAt 16 cfg0.N
      ∧ r.2.mem ((c.tc : Thread nD τ).loc main_v8_5) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1 c).1 12, (h.1 c).1 13,
      ((h.1 c).2 main_v9 (Pipeline.mem_restRefs_of main_v9 (by decide) (by decide))).trans (tail m c),
      (h.1 c).1 15, (h.1 c).1 16, (h.1 c).1 17, h.2 c⟩)
    (θ_run_and (run_main m ρ) (unchanged m ρ))

end Cert.Kernel11Ideal.Ffn

end
-- ==== Proof.FfnRow.lean ====
module

public import Idealize.ShloMosaic.Lib.Pipeline.ValueKit
public import Idealize.ShloMosaic.Lib.Pointwise

/-! The feed-forward layer's arithmetic at one entry. -/

@[expose] public section

noncomputable section

namespace Cert.Proof.FfnRow

open Idealize.ShloMosaic Idealize.ShloMosaic.TcCoe Idealize.SL.Sem

/-- A row over the root of its mean square: entry `j`. -/
def nrm (x : Fin 1024 → EReal) (j : Fin 1024) : EReal :=
  x j * Ideal.rsqrt (Ideal.div (∑ k : Fin 1024, x k * x k) (Ideal.ofBits FTy.f32 1149239296#32)
    + Ideal.ofBits FTy.f32 897988541#32)

/-- The three taps of the filter against three consecutive rows, the newest row first, and the bias. -/
def fil (c2 c1 c0 b a0 a1 a2 : EReal) : EReal := c2 * a0 + c1 * a1 + c0 * a2 + b

/-- The gated product at one entry. -/
def gated (g u : EReal) : EReal := g * Ideal.div 1 (1 + Ideal.exp (0 - g)) * u

/-- A row of zeros stays zero. -/
theorem nrm_zero (j : Fin 1024) : nrm (fun _ => 0) j = 0 := by
  unfold nrm
  exact zero_mul (M₀ := EReal) _

/-- The filter's sum in the order of the oldest row first. -/
theorem fil_comm (c2 c1 c0 b a0 a1 a2 : EReal) : fil c2 c1 c0 b a0 a1 a2 = c0 * a2 + c1 * a1 + c2 * a0 + b := by
  unfold fil
  refine congrArg (· + b) ?_
  rw [add_comm (G := EReal) (c2 * a0), add_comm (G := EReal) (c1 * a1 + c2 * a0), ← add_assoc (G := EReal)]

end Cert.Proof.FfnRow

end
-- ==== Proof.FfnPay.lean ====
module

public import proofs.«01_k».proof.Proof.Gen.Kernel11Ideal.Skeleton
public import proofs.«01_k».proof.Proof.FfnRow
public import Idealize.ShloMosaic.Lib.Pipeline.ValueKit
public import Idealize.ShloMosaic.Lib.Pointwise
public import Idealize.ShloMosaic.Lib.Claim
public import Idealize.ShloMosaic.Lib.WritesUnit

/-! The feed-forward layer: what each stored value of the body is, entry by entry. -/

@[expose] public section

set_option maxRecDepth 16384

noncomputable section

namespace Cert.Kernel11Ideal.Ffn

open Idealize.ShloMosaic Idealize.ShloMosaic.TcCoe Idealize.SL.Sem
open Idealize.ShloMosaic.Pipeline (Dat)
open Cert.Kernel11Ideal Cert.Kernel11Ideal.Gen Cert.Proof.FfnRow

/-- A hidden row: a normed row against the weight's columns. -/
def hrow (v3 : Vec Ideal S528x1024 .bf16) (w : Vec Ideal S1x1024x704 .bf16) (r : Fin 528) (b : Fin 704) : EReal :=
  ∑ x : Fin 1024, v3 (ix2 r x) * w (ix3 0 x b)

/-- The rows before the norm: the halo's, or zeros in the first row block, and then the block's. -/
def raw (i : grid0.Coords) (v94 : Vec Ideal S16x1024 .f32) (v97 : Vec Ideal S512x1024 .f32) (r : Fin 528) (j : Fin 1024) : EReal :=
  if h : r.val < 16 then (if (i 0).val = 0 then 0 else v94 (ix2 ⟨r.val, h⟩ j)) else v97 (ix2 ⟨r.val - 16, by omega⟩ j)

/-- The choice between zero and the halo. -/
theorem pick (i : grid0.Coords) (x : EReal) :
    (Scalar.select (Scalar.cmpi CmpIPredicate.eq (BitVec.ofNat 32 (i 0).val) 0#32) 0 x : EReal) = if (i 0).val = 0 then 0 else x := by
  have h : (i 0).val < 8 := (i 0).isLt
  interval_cases (i 0).val <;> simp [Scalar.cmpi, Scalar.select] <;> first | exact if_pos (by decide) | exact if_neg (by decide)

/-- The normed rows, entry by entry. -/
theorem pay6_at (i : grid0.Coords) (v94 : Vec Ideal S16x1024 .f32) (v97 : Vec Ideal S512x1024 .f32) (v109 : Vec Ideal S1x1024 .f32) (r : Fin 528) (j : Fin 1024) :
    k0_pay6 i v94 v97 v109 (ix2 r j) = nrm (raw i v94 v97 r) j * v109 (ix2 0 j) := by
  pointwise [k0_pay6]
  simp only [pick]
  rfl

/-- A gain times the normed rows of the layer's result. -/
theorem pay4_at (v : Vec Ideal S512x1024 .f32) (g : Vec Ideal S1x1024 .f32) (r : Fin 512) (j : Fin 1024) :
    k0_pay4 v g (ix2 r j) = nrm (fun k => v (ix2 r k)) j * g (ix2 0 j) := by
  pointwise [k0_pay4, k0_pay3]
  rfl

/-- The other gain times the normed rows of the layer's result. -/
theorem pay5_at (v : Vec Ideal S512x1024 .f32) (g : Vec Ideal S1x1024 .f32) (r : Fin 512) (j : Fin 1024) :
    k0_pay5 v g (ix2 r j) = nrm (fun k => v (ix2 r k)) j * g (ix2 0 j) := by
  pointwise [k0_pay5, k0_pay3]
  rfl

/-- The gate half's hidden rows, entry by entry. -/
theorem pay7_at (v3 : Vec Ideal S528x1024 .bf16) (w : Vec Ideal S1x1024x704 .bf16) (r : Fin 512) (b : Fin 704) :
    k0_pay8 v3 w (ix4 0 0 r b) = hrow v3 w ⟨16 + r.val, by omega⟩ b := by
  pointwise [k0_pay8, k0_pay7]
  rfl

/-- The gate half's filtered rows, entry by entry. -/
theorem pay9_at (v3 : Vec Ideal S528x1024 .bf16) (w : Vec Ideal S1x1024x704 .bf16) (f : Vec Ideal S1x8x704 .f32) (d : Vec Ideal S1x1x704 .f32)
    (r : Fin 512) (b : Fin 704) : k0_pay9 v3 w f d (ix2 r b)
      = fil (f (ix3 0 2 b)) (f (ix3 0 1 b)) (f (ix3 0 0 b)) (d (ix3 0 0 b)) (hrow v3 w ⟨16 + r.val, by omega⟩ b)
          (hrow v3 w ⟨15 + r.val, by omega⟩ b) (hrow v3 w ⟨14 + r.val, by omega⟩ b) := by
  have e1 : (⟨(16 + r.val + 528 - 1) % 528, Nat.mod_lt _ (by decide)⟩ : Fin 528) = ⟨15 + r.val, by omega⟩ := Fin.ext (by show _ = _; simp only []; omega)
  have e2 : (⟨(16 + r.val + 528 - 2) % 528, Nat.mod_lt _ (by decide)⟩ : Fin 528) = ⟨14 + r.val, by omega⟩ := Fin.ext (by show _ = _; simp only []; omega)
  pointwise [k0_pay9, k0_pay7]
  simp only [e1, e2]
  rfl

/-- The up half's hidden rows, entry by entry. -/
theorem pay11_at (v3 : Vec Ideal S528x1024 .bf16) (w : Vec Ideal S1x1024x704 .bf16) (r : Fin 512) (b : Fin 704) :
    k0_pay12 v3 w (ix4 0 0 r b) = hrow v3 w ⟨16 + r.val, by omega⟩ b := by
  pointwise [k0_pay12, k0_pay11]
  rfl

/-- The up half's filtered rows, entry by entry. -/
theorem pay13_at (v3 : Vec Ideal S528x1024 .bf16) (w : Vec Ideal S1x1024x704 .bf16) (f : Vec Ideal S1x8x704 .f32) (d : Vec Ideal S1x1x704 .f32)
    (r : Fin 512) (b : Fin 704) : k0_pay13 v3 w f d (ix2 r b)
      = fil (f (ix3 0 2 b)) (f (ix3 0 1 b)) (f (ix3 0 0 b)) (d (ix3 0 0 b)) (hrow v3 w ⟨16 + r.val, by omega⟩ b)
          (hrow v3 w ⟨15 + r.val, by omega⟩ b) (hrow v3 w ⟨14 + r.val, by omega⟩ b) := by
  have e1 : (⟨(16 + r.val + 528 - 1) % 528, Nat.mod_lt _ (by decide)⟩ : Fin 528) = ⟨15 + r.val, by omega⟩ := Fin.ext (by show _ = _; simp only []; omega)
  have e2 : (⟨(16 + r.val + 528 - 2) % 528, Nat.mod_lt _ (by decide)⟩ : Fin 528) = ⟨14 + r.val, by omega⟩ := Fin.ext (by show _ = _; simp only []; omega)
  pointwise [k0_pay13, k0_pay11]
  simp only [e1, e2]
  rfl

/-- The layer's rows after a shard's product is added. -/
theorem pay2_at (g u : FVec Ideal S512x704 .f32) (v : Vec Ideal S512x1024 .f32) (w : Vec Ideal S704x1024 .bf16) (r : Fin 512) (j : Fin 1024) :
    k0_pay2 g u v w (ix2 r j) = v (ix2 r j) + ∑ x : Fin 704, gated (g (ix2 r x)) (u (ix2 r x)) * w (ix2 x j) := by
  pointwise [k0_pay2]
  rfl

/-- The gate half's filtered rows as they are stored. -/
theorem pay10_at (v : FVec Ideal S512x704 .f32) (r : Fin 512) (b : Fin 704) : k0_pay10 v (ix4 0 0 r b) = v (ix2 r b) := by
  pointwise [k0_pay10]

/-- The up half's filtered rows as they are stored. -/
theorem pay1_at (v : FVec Ideal S512x704 .f32) (r : Fin 512) (b : Fin 704) : k0_pay1 v (ix4 0 0 r b) = v (ix2 r b) := by
  pointwise [k0_pay1]

end Cert.Kernel11Ideal.Ffn

end
-- ==== Proof.FfnOut.lean ====
module

public import proofs.«01_k».proof.Proof.FfnIdealFrame
public import proofs.«01_k».proof.Proof.Stores
public import proofs.«01_k».proof.Proof.FfnPay

/-! The feed-forward layer: what a point leaves in its blocks, from the blocks it reads and the rows it keeps. -/

@[expose] public section

set_option maxRecDepth 16384

noncomputable section

namespace Cert.Kernel11Ideal.Ffn

open Idealize.ShloMosaic Idealize.ShloMosaic.TcCoe Idealize.SL.Sem
open Idealize.ShloMosaic.Pipeline (Dat)
open Cert.Kernel11Ideal Cert.Kernel11Ideal.Gen Cert.Kernel11Ideal.Body Cert.Proof.Stores Cert.Proof.FfnRow

variable (m : (ℓ : Loc nD τ sig) → Buf (Elt Ideal) ℓ)

/-- What the buffers hold before a later point of a row block. -/
abbrev before (c : Dev nD) (t : Fin cfg0.N) : Outs Ideal := outsAt0 m c (t.val - 1) (Nat.lt_of_le_of_lt (Nat.sub_le _ _) t.isLt)

/-- The normed rows that the scratch holds after a point. -/
abbrev kept (c : Dev nD) (t : Fin cfg0.N) : Vec Ideal S528x1024 .bf16 := (outsAt0 m c t.val t.isLt).2.2.2.2.2.2

/-- The scratch read back whole. -/
theorem scratch_read (s : Vec Ideal S528x1024 .bf16) (h : (Memref.whole cc0_scratch0 : Memref sig .tc .vmem S528x1024 .bf16).IsWhole) :
    View.read (Elt Ideal) (View.whole cc0_scratch0) (h.unread s) = s := h.read_unread s

/-- A row block's first point fills the scratch. -/
theorem kept_first (c : Dev nD) (t : Fin cfg0.N) (ht : t.val % 4 = 0) :
    kept m c t = k0_pay6 (grid0.coords t) (iblk m c 1 t) (iblk m c 0 t) (iblk m c 2 t) := by
  unfold kept
  rw [outsAt0_A m c t ht (by omega)]
  unfold atA
  frame_out

/-- A point inside a row block leaves the scratch as before. -/
theorem keptB (c : Dev nD) (t : Fin cfg0.N) (h0 : ¬t.val % 4 = 0) (h1 : ¬t.val % 4 = 3) (p : Outs Ideal) : (atB m c t h0 h1 p).2.2.2.2.2.2 = p.2.2.2.2.2.2 := by dsimp only [atB]

/-- A point inside a row block leaves the normed rows as before. -/
theorem rowsB (c : Dev nD) (t : Fin cfg0.N) (h0 : ¬t.val % 4 = 0) (h1 : ¬t.val % 4 = 3) (p : Outs Ideal) : (atB m c t h0 h1 p).2.1 = p.2.1 := by dsimp only [atB]

/-- A point where a row block ends leaves the scratch as before. -/
theorem keptC (c : Dev nD) (t : Fin cfg0.N) (h0 : ¬t.val % 4 = 0) (h1 : t.val % 4 = 3) (p : Outs Ideal) : (atC m c t h0 h1 p).2.2.2.2.2.2 = p.2.2.2.2.2.2 := by dsimp only [atC]

/-- A point where a row block ends leaves the normed rows as before. -/
theorem rowsC (c : Dev nD) (t : Fin cfg0.N) (h0 : ¬t.val % 4 = 0) (h1 : t.val % 4 = 3) (p : Outs Ideal) : (atC m c t h0 h1 p).2.1 = p.2.1 := by dsimp only [atC]

/-- The later points keep it. -/
theorem kept_later (c : Dev nD) (t : Fin cfg0.N) (ht : ¬t.val % 4 = 0) : kept m c t = (before m c t).2.2.2.2.2.2 := by
  by_cases h : t.val % 4 = 3
  · exact (congrArg (fun o : Outs Ideal => o.2.2.2.2.2.2) (outsAt0_C m c t ht h)).trans (keptC m c t ht h _)
  · exact (congrArg (fun o : Outs Ideal => o.2.2.2.2.2.2) (outsAt0_B m c t ht h)).trans (keptB m c t ht h _)

/-- A row block's first point stores its normed rows. -/
theorem rows_first (c : Dev nD) (t : Fin cfg0.N) (ht : t.val % 4 = 0) (r : Fin 512) (j : Fin 1024) :
    (outsAt0 m c t.val t.isLt).2.1 (ix2 r j) = kept m c t (ix2 ⟨16 + r.val, by omega⟩ j) := by
  rw [kept_first m c t ht]
  refine (congrFun (congrArg (fun o : Outs Ideal => o.2.1) (outsAt0_A m c t ht (by omega))) _).trans ?_
  unfold atA
  frame_out
  rw [View.readCov_eq_canon']
  generalize k0_pay6 (grid0.coords t) (iblk m c 1 t) (iblk m c 0 t) (iblk m c 2 t) = q
  simp (disch := decide) only [View.canon_cons_unit_lit']
  exact congrArg q (funext fun a => Fin.ext ((Rect.idx_unit_val _ _ _ _ a).trans (by fin_cases a <;> simp)))

/-- The later points leave them. -/
theorem rows_later (c : Dev nD) (t : Fin cfg0.N) (ht : ¬t.val % 4 = 0) :
    (outsAt0 m c t.val t.isLt).2.1 = (before m c t).2.1 := by
  by_cases h : t.val % 4 = 3
  · exact (congrArg (fun o : Outs Ideal => o.2.1) (outsAt0_C m c t ht h)).trans (rowsC m c t ht h _)
  · exact (congrArg (fun o : Outs Ideal => o.2.1) (outsAt0_B m c t ht h)).trans (rowsB m c t ht h _)

/-- The gate half's filtered rows at a point. -/
abbrev gateB (c : Dev nD) (t : Fin cfg0.N) : FVec Ideal S512x704 .f32 := k0_pay9 (kept m c t) (iblk m c 3 t) (iblk m c 5 t) (iblk m c 6 t)

/-- The up half's filtered rows at a point. -/
abbrev upB (c : Dev nD) (t : Fin cfg0.N) : FVec Ideal S512x704 .f32 := k0_pay13 (kept m c t) (iblk m c 4 t) (iblk m c 7 t) (iblk m c 8 t)

/-- A row block's first point adds its product to the input rows. -/
theorem sum_first (c : Dev nD) (t : Fin cfg0.N) (ht : t.val % 4 = 0) :
    (outsAt0 m c t.val t.isLt).1 = k0_pay2 (gateB m c t) (upB m c t) (iblk m c 0 t) (iblk m c 9 t) := by
  unfold gateB upB
  rw [kept_first m c t ht, outsAt0_A m c t ht (by omega)]
  unfold atA
  frame_out

/-- A later point adds its product to what is there. -/
theorem sum_later (c : Dev nD) (t : Fin cfg0.N) (ht : ¬t.val % 4 = 0) :
    (outsAt0 m c t.val t.isLt).1 = k0_pay2 (gateB m c t) (upB m c t) (before m c t).1 (iblk m c 9 t) := by
  unfold gateB upB
  rw [kept_later m c t ht]
  by_cases h : t.val % 4 = 3
  · rw [outsAt0_C m c t ht h]; unfold atC; frame_out; simp only [scratch_read]
  · rw [outsAt0_B m c t ht h]; unfold atB; frame_out; simp only [scratch_read]

/-- The stores of the hidden rows: the gate half's and the up half's. -/
theorem hid_out (c : Dev nD) (t : Fin cfg0.N) : (outsAt0 m c t.val t.isLt).2.2.1
    = View.canon [⟨Rect.unit ![1, 0, 0, 0] ![1, 1, 512, 704] inb_S2x1x512x704_S1x1x512x704_1_0_0_0, k0_pay12 (kept m c t) (iblk m c 4 t)⟩,
        ⟨Rect.unit ![0, 0, 0, 0] ![1, 1, 512, 704] inb_S2x1x512x704_S1x1x512x704_0_0_0_0, k0_pay8 (kept m c t) (iblk m c 3 t)⟩] := by
  by_cases ht : t.val % 4 = 0
  · rw [kept_first m c t ht, outsAt0_A m c t ht (by omega)]
    unfold atA
    frame_out
  rw [kept_later m c t ht]
  by_cases h : t.val % 4 = 3
  · rw [outsAt0_C m c t ht h]; unfold atC; frame_out; simp only [scratch_read]
  · rw [outsAt0_B m c t ht h]; unfold atB; frame_out; simp only [scratch_read]

/-- The stores of the filtered rows: the gate half's and the up half's. -/
theorem fil_out (c : Dev nD) (t : Fin cfg0.N) : (outsAt0 m c t.val t.isLt).2.2.2.1
    = View.canon [⟨Rect.unit ![1, 0, 0, 0] ![1, 1, 512, 704] inb_S2x1x512x704_S1x1x512x704_1_0_0_0, k0_pay1 (upB m c t)⟩,
        ⟨Rect.unit ![0, 0, 0, 0] ![1, 1, 512, 704] inb_S2x1x512x704_S1x1x512x704_0_0_0_0, k0_pay10 (gateB m c t)⟩] := by
  unfold gateB upB
  by_cases ht : t.val % 4 = 0
  · rw [kept_first m c t ht, outsAt0_A m c t ht (by omega)]
    unfold atA
    frame_out
  rw [kept_later m c t ht]
  by_cases h : t.val % 4 = 3
  · rw [outsAt0_C m c t ht h]; unfold atC; frame_out; simp only [scratch_read]
  · rw [outsAt0_B m c t ht h]; unfold atB; frame_out; simp only [scratch_read]

/-- A row block's last point stores the next norm of the layer's result. -/
theorem next16 (c : Dev nD) (t : Fin cfg0.N) (h : t.val % 4 = 3) :
    (outsAt0 m c t.val t.isLt).2.2.2.2.1 = k0_pay4 (outsAt0 m c t.val t.isLt).1 (iblk m c 10 t) := by
  rw [sum_later m c t (by omega)]
  unfold gateB upB
  rw [kept_later m c t (by omega), outsAt0_C m c t (by omega) h]; unfold atC; frame_out; simp only [scratch_read]

/-- And the other next norm. -/
theorem next17 (c : Dev nD) (t : Fin cfg0.N) (h : t.val % 4 = 3) :
    (outsAt0 m c t.val t.isLt).2.2.2.2.2.1 = k0_pay5 (outsAt0 m c t.val t.isLt).1 (iblk m c 11 t) := by
  rw [sum_later m c t (by omega)]
  unfold gateB upB
  rw [kept_later m c t (by omega), outsAt0_C m c t (by omega) h]; unfold atC; frame_out; simp only [scratch_read]

/-- The gate half's entries of a two-part block. -/
theorem low_part {φ : EltTy} (q1 q0 : S1x1x512x704.Idx → Elt Ideal φ) (r : Fin 512) (b : Fin 704) :
    View.canon ([⟨Rect.unit ![1, 0, 0, 0] ![1, 1, 512, 704] inb_S2x1x512x704_S1x1x512x704_1_0_0_0, q1⟩,
        ⟨Rect.unit ![0, 0, 0, 0] ![1, 1, 512, 704] inb_S2x1x512x704_S1x1x512x704_0_0_0_0, q0⟩] : List (View.Piece (Elt Ideal) S2x1x512x704 φ)) (ix4 0 0 r b) = q0 (ix4 0 0 r b) :=
  (newest_of_not_mem (S := S2x1x512x704) (φ := φ) _ _ _ _ 0 (by simp)).trans
    (newest_of_mem (S := S2x1x512x704) (φ := φ) (off := ![0, 0, 0, 0]) (size := ![1, 1, 512, 704]) _ q0 [] (ix4 0 0 r b) (ix4 0 0 r b) (by intro a; fin_cases a <;> simp))

/-- The up half's entries of a two-part block. -/
theorem high_part {φ : EltTy} (q1 q0 : S1x1x512x704.Idx → Elt Ideal φ) (r : Fin 512) (b : Fin 704) :
    View.canon ([⟨Rect.unit ![1, 0, 0, 0] ![1, 1, 512, 704] inb_S2x1x512x704_S1x1x512x704_1_0_0_0, q1⟩,
        ⟨Rect.unit ![0, 0, 0, 0] ![1, 1, 512, 704] inb_S2x1x512x704_S1x1x512x704_0_0_0_0, q0⟩] : List (View.Piece (Elt Ideal) S2x1x512x704 φ)) (ix4 1 0 r b) = q1 (ix4 0 0 r b) :=
  newest_of_mem (S := S2x1x512x704) (φ := φ) (off := ![1, 0, 0, 0]) (size := ![1, 1, 512, 704]) _ q1 _ (ix4 1 0 r b) (ix4 0 0 r b) (by intro a; fin_cases a <;> simp)

end Cert.Kernel11Ideal.Ffn

end
-- ==== Proof.FfnArrays.lean ====
module

public import proofs.«01_k».proof.Proof.FfnOut

/-! The feed-forward layer: the points' blocks as parts of whole arrays. -/

@[expose] public section

set_option maxRecDepth 16384

noncomputable section

namespace Cert.Kernel11Ideal.Ffn

open Idealize.ShloMosaic Idealize.ShloMosaic.TcCoe Idealize.SL.Sem
open Idealize.ShloMosaic.Pipeline (Dat)
open Cert.Kernel11Ideal Cert.Kernel11Ideal.Gen Cert.Kernel11Ideal.Body Cert.Proof.FfnRow

/-- The block numbers of every window at a grid point: row block first, feature shard second. -/
theorem idx : ∀ t : Fin cfg0.N, win0_0.index t = ![t.val / 4, 0] ∧ win0_1.index t = ![t.val / 4 * 32 - 1, 0]
    ∧ win0_2.index t = ![0, 0] ∧ win0_3.index t = ![t.val % 4, 0, 0] ∧ win0_4.index t = ![t.val % 4 + 4, 0, 0]
    ∧ win0_5.index t = ![t.val % 4, 0, 0] ∧ win0_6.index t = ![t.val % 4, 0, 0]
    ∧ win0_7.index t = ![t.val % 4 + 4, 0, 0] ∧ win0_8.index t = ![t.val % 4 + 4, 0, 0] ∧ win0_9.index t = ![t.val % 4, 0]
    ∧ win0_10.index t = ![0, 0] ∧ win0_11.index t = ![0, 0] ∧ win0_12.index t = ![t.val / 4, 0] ∧ win0_13.index t = ![t.val / 4, 0]
    ∧ win0_14.index t = ![0, t.val % 4, t.val / 4, 0] ∧ win0_15.index t = ![0, t.val % 4, t.val / 4, 0]
    ∧ win0_16.index t = ![t.val / 4, 0] ∧ win0_17.index t = ![t.val / 4, 0] :=
  (by decide +kernel : ∀ t : Fin grid0.N, _)

/-- The row block of every grid point. -/
theorem coord : ∀ t : Fin cfg0.N, (grid0.coords t 0).val = t.val / 4 :=
  (by decide +kernel : ∀ t : Fin grid0.N, _)

section Whole

variable (X : Vec Ideal S4096x1024 .f32) (G : Vec Ideal S1x1024 .f32) (W : Vec Ideal S8x1024x704 .bf16) (C : Vec Ideal S8x8x704 .f32)
  (B : Vec Ideal S8x1x704 .f32) (O : Vec Ideal S2816x1024 .bf16)

/-- Normed row `n - 16`; before the first row, zero. -/
def rowA (n : ℕ) (j : Fin 1024) : EReal :=
  if h : 16 ≤ n ∧ n < 4112 then nrm (fun k => X (ix2 ⟨n - 16, by omega⟩ k)) j * G (ix2 0 j) else 0

/-- Hidden row `n - 16` at shard `s`. -/
def hidA (s : Fin 8) (n : ℕ) (b : Fin 704) : EReal := ∑ x : Fin 1024, rowA X G n x * W (ix3 s x b)

/-- Filtered row `n - 16` at shard `s`. -/
def filA (s : Fin 8) (n : ℕ) (b : Fin 704) : EReal :=
  fil (C (ix3 s 2 b)) (C (ix3 s 1 b)) (C (ix3 s 0 b)) (B (ix3 s 0 b)) (hidA X G W s n b) (hidA X G W s (n - 1) b) (hidA X G W s (n - 2) b)

/-- Shard `q`'s part of row `n - 16` of the layer's product. -/
def partA (q : Fin 4) (n : ℕ) (j : Fin 1024) : EReal :=
  ∑ b : Fin 704, gated (filA X G W C B ⟨q.val, by omega⟩ n b) (filA X G W C B ⟨q.val + 4, by omega⟩ n b) * O (ix2 ⟨q.val * 704 + b.val, by omega⟩ j)

/-- The input row plus the first `k` shards' parts. -/
def upTo (r : Fin 4096) (j : Fin 1024) (k : ℕ) : EReal :=
  X (ix2 r j) + ∑ q ∈ Finset.range k, if h : q < 4 then partA X G W C B O ⟨q, h⟩ (r.val + 16) j else 0

/-- No part yet. -/
theorem upTo_zero (r : Fin 4096) (j : Fin 1024) : upTo X G W C B O r j 0 = X (ix2 r j) := by
  unfold upTo
  rw [Finset.sum_range_zero]
  exact add_zero _

/-- One part more. -/
theorem upTo_succ (r : Fin 4096) (j : Fin 1024) (q : Fin 4) :
    upTo X G W C B O r j (q.val + 1) = upTo X G W C B O r j q.val + partA X G W C B O q (r.val + 16) j := by
  unfold upTo
  rw [Finset.sum_range_succ, dif_pos q.isLt]
  exact (add_assoc (G := EReal) _ _ _).symm

/-- All four parts. -/
theorem upTo_four (r : Fin 4096) (j : Fin 1024) :
    upTo X G W C B O r j 4 = X (ix2 r j) + ∑ q : Fin 4, partA X G W C B O q (r.val + 16) j := by
  unfold upTo
  refine congrArg (fun z : EReal => X (ix2 r j) + z) ((Finset.sum_range (n := 4) _).trans (Finset.sum_congr rfl fun q _ => ?_))
  rw [dif_pos q.isLt]

/-- A normed row at an index. -/
def rowR (r : Fin 4096) (j : Fin 1024) : EReal := rowA X G (r.val + 16) j

/-- A hidden row at an index. -/
def hidR (h : Fin 2) (q : Fin 4) (r : Fin 4096) (b : Fin 704) : EReal := hidA X G W ⟨h.val * 4 + q.val, by omega⟩ (r.val + 16) b

/-- A filtered row at an index. -/
def filR (h : Fin 2) (q : Fin 4) (r : Fin 4096) (b : Fin 704) : EReal := filA X G W C B ⟨h.val * 4 + q.val, by omega⟩ (r.val + 16) b

/-- The layer's result at an index: the input row plus the shards' parts. -/
def sumR (r : Fin 4096) (j : Fin 1024) : EReal := X (ix2 r j) + ∑ q : Fin 4, partA X G W C B O q (r.val + 16) j

/-- The layer's result at an index, normed. -/
def nextR (N : Vec Ideal S1x1024 .f32) (r : Fin 4096) (j : Fin 1024) : EReal := nrm (sumR X G W C B O r) j * N (ix2 0 j)

end Whole

variable (m : (ℓ : Loc nD τ sig) → Buf (Elt Ideal) ℓ)

/-- The shard of a grid point. -/
def shard (t : Fin cfg0.N) : Fin 4 := ⟨t.val % 4, by omega⟩

/-- The row block of a grid point is one of eight. -/
theorem block_lt (t : Fin cfg0.N) : t.val / 4 < 8 := by have := lt_of_lt_of_eq t.isLt N_0; omega

/-- The row that a grid point's block holds at its row `r`. -/
def rowOf (t : Fin cfg0.N) (r : Fin 512) : Fin 4096 := ⟨t.val / 4 * 512 + r.val, by have := block_lt t; omega⟩

/-- The input rows under a point's block. -/
theorem read0 (c : Dev nD) (t : Fin cfg0.N) (r : Fin 512) (j : Fin 1024) :
    iblk m c 0 t (ix2 r j) = V m c main_arg0 (ix2 (rowOf t r) j) := by
  blk_ext [iblk, idx t, rowOf]

/-- The rows before a point's block. -/
theorem read1 (c : Dev nD) (t : Fin cfg0.N) (r : Fin 16) (j : Fin 1024) :
    iblk m c 1 t (ix2 r j) = V m c main_arg0 (ix2 ⟨(t.val / 4 * 32 - 1) * 16 + r.val, by have := block_lt t; omega⟩ j) := by
  blk_ext [iblk, idx t]

/-- The gain under a point's block. -/
theorem read2 (c : Dev nD) (t : Fin cfg0.N) (j : Fin 1024) : iblk m c 2 t (ix2 0 j) = V m c main_arg1 (ix2 0 j) := by
  blk_ext [iblk, idx t]

/-- The gate half's weight under a point's block. -/
theorem read3 (c : Dev nD) (t : Fin cfg0.N) (x : Fin 1024) (b : Fin 704) :
    iblk m c 3 t (ix3 0 x b) = V m c main_v2 (ix3 ⟨(shard t).val, by omega⟩ x b) := by
  blk_ext [iblk, idx t, shard]

/-- The up half's weight under a point's block. -/
theorem read4 (c : Dev nD) (t : Fin cfg0.N) (x : Fin 1024) (b : Fin 704) :
    iblk m c 4 t (ix3 0 x b) = V m c main_v2 (ix3 ⟨(shard t).val + 4, by omega⟩ x b) := by
  blk_ext [iblk, idx t, shard]

/-- The gate half's filter under a point's block. -/
theorem read5 (c : Dev nD) (t : Fin cfg0.N) (k : Fin 8) (b : Fin 704) :
    iblk m c 5 t (ix3 0 k b) = V m c main_v5 (ix3 ⟨(shard t).val, by omega⟩ k b) := by
  blk_ext [iblk, idx t, shard]

/-- The gate half's bias under a point's block. -/
theorem read6 (c : Dev nD) (t : Fin cfg0.N) (b : Fin 704) :
    iblk m c 6 t (ix3 0 0 b) = V m c main_v6 (ix3 ⟨(shard t).val, by omega⟩ 0 b) := by
  blk_ext [iblk, idx t, shard]

/-- The up half's filter under a point's block. -/
theorem read7 (c : Dev nD) (t : Fin cfg0.N) (k : Fin 8) (b : Fin 704) :
    iblk m c 7 t (ix3 0 k b) = V m c main_v5 (ix3 ⟨(shard t).val + 4, by omega⟩ k b) := by
  blk_ext [iblk, idx t, shard]

/-- The up half's bias under a point's block. -/
theorem read8 (c : Dev nD) (t : Fin cfg0.N) (b : Fin 704) :
    iblk m c 8 t (ix3 0 0 b) = V m c main_v6 (ix3 ⟨(shard t).val + 4, by omega⟩ 0 b) := by
  blk_ext [iblk, idx t, shard]

/-- The output weight under a point's block. -/
theorem read9 (c : Dev nD) (t : Fin cfg0.N) (b : Fin 704) (j : Fin 1024) :
    iblk m c 9 t (ix2 b j) = V m c main_v7 (ix2 ⟨(shard t).val * 704 + b.val, by omega⟩ j) := by
  blk_ext [iblk, idx t, shard]

/-- The first next gain under a point's block. -/
theorem read10 (c : Dev nD) (t : Fin cfg0.N) (j : Fin 1024) : iblk m c 10 t (ix2 0 j) = V m c main_arg6 (ix2 0 j) := by
  blk_ext [iblk, idx t]

/-- The second next gain under a point's block. -/
theorem read11 (c : Dev nD) (t : Fin cfg0.N) (j : Fin 1024) : iblk m c 11 t (ix2 0 j) = V m c main_arg7 (ix2 0 j) := by
  blk_ext [iblk, idx t]

/-- A row block's first point fills the scratch with the array's rows. -/
theorem kept_base (c : Dev nD) (t : Fin cfg0.N) (ht : t.val % 4 = 0) (r : Fin 528) (j : Fin 1024) :
    kept m c t (ix2 r j) = rowA (V m c main_arg0) (V m c main_arg1) (t.val / 4 * 512 + r.val) j := by
  have hb := block_lt t
  rw [kept_first m c t ht, pay6_at, read2]
  unfold rowA
  by_cases h : 16 ≤ t.val / 4 * 512 + r.val ∧ t.val / 4 * 512 + r.val < 4112
  · rw [dif_pos h]
    refine congrArg (fun x => nrm x j * _) (funext fun k => ?_)
    unfold raw
    by_cases h16 : r.val < 16
    · rw [dif_pos h16, if_neg (by rw [coord]; omega), read1]
      exact congrArg (fun n => V m c main_arg0 (ix2 n k)) (Fin.ext (by show _ = _; simp only []; omega))
    · rw [dif_neg h16, read0]
      exact congrArg (fun n => V m c main_arg0 (ix2 n k)) (Fin.ext (by show _ = _; simp only [rowOf]; omega))
  · rw [dif_neg h]
    have e : raw (grid0.coords t) (iblk m c 1 t) (iblk m c 0 t) r = fun _ => 0 := funext fun k => by
      unfold raw
      rw [dif_pos (by omega), if_pos (by rw [coord]; omega)]
    rw [e, nrm_zero]
    exact zero_mul (M₀ := EReal) _

/-- The point before a later point of a row block. -/
def pred (t : Fin cfg0.N) : Fin cfg0.N := ⟨t.val - 1, Nat.lt_of_le_of_lt (Nat.sub_le _ _) t.isLt⟩

/-- What holds at a row block's first point and is handed on holds at every point. -/
theorem along (p : Fin cfg0.N → Prop) (first : ∀ t : Fin cfg0.N, t.val % 4 = 0 → p t)
    (later : ∀ t : Fin cfg0.N, ¬t.val % 4 = 0 → p (pred t) → p t) (t : Fin cfg0.N) : p t := by
  obtain ⟨n, hn⟩ := t
  induction n with
  | zero => exact first _ rfl
  | succ n ih =>
    by_cases h : (n + 1) % 4 = 0
    · exact first _ h
    · exact later _ h (ih _)

/-- The scratch holds the array's rows at every point. -/
theorem kept_at (c : Dev nD) (t : Fin cfg0.N) : ∀ (r : Fin 528) (j : Fin 1024),
    kept m c t (ix2 r j) = rowA (V m c main_arg0) (V m c main_arg1) (t.val / 4 * 512 + r.val) j := by
  refine along (fun t => ∀ (r : Fin 528) (j : Fin 1024), kept m c t (ix2 r j)
    = rowA (V m c main_arg0) (V m c main_arg1) (t.val / 4 * 512 + r.val) j) (kept_base m c) (fun t ht h r j => ?_) t
  rw [kept_later m c t ht]
  refine (h r j).trans (congrArg (fun n => rowA (V m c main_arg0) (V m c main_arg1) n j) ?_)
  have e : (pred t).val = t.val - 1 := rfl
  rw [e]; omega

/-- The normed rows that a row block leaves. -/
theorem rows_at (c : Dev nD) (t : Fin cfg0.N) : ∀ (r : Fin 512) (j : Fin 1024),
    (outsAt0 m c t.val t.isLt).2.1 (ix2 r j) = rowA (V m c main_arg0) (V m c main_arg1) (t.val / 4 * 512 + r.val + 16) j := by
  refine along (fun t => ∀ (r : Fin 512) (j : Fin 1024), (outsAt0 m c t.val t.isLt).2.1 (ix2 r j)
    = rowA (V m c main_arg0) (V m c main_arg1) (t.val / 4 * 512 + r.val + 16) j) (fun t ht r j => ?_) (fun t ht h r j => ?_) t
  · rw [rows_first m c t ht, kept_at]
    exact congrArg (fun n => rowA (V m c main_arg0) (V m c main_arg1) n j) (by show _ = _; simp only []; omega)
  · rw [rows_later m c t ht]
    refine (h r j).trans (congrArg (fun n => rowA (V m c main_arg0) (V m c main_arg1) n j) ?_)
    have e : (pred t).val = t.val - 1 := rfl
    rw [e]; omega

/-- A hidden row at a point is the array's. -/
theorem hrow_at (c : Dev nD) (t : Fin cfg0.N) (w : Vec Ideal S1x1024x704 .bf16) (s : Fin 8)
    (hw : ∀ x b, w (ix3 0 x b) = V m c main_v2 (ix3 s x b)) (r : Fin 528) (b : Fin 704) (n : ℕ) (hn : t.val / 4 * 512 + r.val = n) :
    hrow (kept m c t) w r b = hidA (V m c main_arg0) (V m c main_arg1) (V m c main_v2) s n b := by
  subst hn
  exact Finset.sum_congr rfl fun x _ => congrArg₂ (fun x y : EReal => x * y) (kept_at m c t r x) (hw x b)

/-- The gate half's filtered rows at a point are the array's. -/
theorem gate_at (c : Dev nD) (t : Fin cfg0.N) (r : Fin 512) (b : Fin 704) : gateB m c t (ix2 r b)
    = filA (V m c main_arg0) (V m c main_arg1) (V m c main_v2) (V m c main_v5) (V m c main_v6) ⟨(shard t).val, by omega⟩ (t.val / 4 * 512 + r.val + 16) b := by
  have h := hrow_at m c t (iblk m c 3 t) ⟨(shard t).val, by omega⟩ (read3 m c t)
  have e0 := read5 m c t 0 b
  have e1 := read5 m c t 1 b
  have e2 := read5 m c t 2 b
  have e3 := read6 m c t b
  unfold gateB filA
  rw [pay9_at, e0, e1, e2, e3, h _ b (t.val / 4 * 512 + r.val + 16) (by show _ = _; simp only []; omega),
    h _ b (t.val / 4 * 512 + r.val + 16 - 1) (by show _ = _; simp only []; omega),
    h _ b (t.val / 4 * 512 + r.val + 16 - 2) (by show _ = _; simp only []; omega)]

/-- The up half's filtered rows at a point are the array's. -/
theorem up_at (c : Dev nD) (t : Fin cfg0.N) (r : Fin 512) (b : Fin 704) : upB m c t (ix2 r b)
    = filA (V m c main_arg0) (V m c main_arg1) (V m c main_v2) (V m c main_v5) (V m c main_v6) ⟨(shard t).val + 4, by omega⟩ (t.val / 4 * 512 + r.val + 16) b := by
  have h := hrow_at m c t (iblk m c 4 t) ⟨(shard t).val + 4, by omega⟩ (read4 m c t)
  have e0 := read7 m c t 0 b
  have e1 := read7 m c t 1 b
  have e2 := read7 m c t 2 b
  have e3 := read8 m c t b
  unfold upB filA
  rw [pay13_at, e0, e1, e2, e3, h _ b (t.val / 4 * 512 + r.val + 16) (by show _ = _; simp only []; omega),
    h _ b (t.val / 4 * 512 + r.val + 16 - 1) (by show _ = _; simp only []; omega),
    h _ b (t.val / 4 * 512 + r.val + 16 - 2) (by show _ = _; simp only []; omega)]

/-- A point's part of the layer's product is the array's. -/
theorem part_at (c : Dev nD) (t : Fin cfg0.N) (v : Vec Ideal S512x1024 .f32) (r : Fin 512) (j : Fin 1024) :
    k0_pay2 (gateB m c t) (upB m c t) v (iblk m c 9 t) (ix2 r j) = v (ix2 r j)
      + partA (V m c main_arg0) (V m c main_arg1) (V m c main_v2) (V m c main_v5) (V m c main_v6) (V m c main_v7) (shard t) (t.val / 4 * 512 + r.val + 16) j := by
  rw [pay2_at]
  refine congrArg (v (ix2 r j) + ·) (Finset.sum_congr rfl fun b _ => ?_)
  exact congrArg₂ (fun x y : EReal => x * y) (congrArg₂ gated (gate_at m c t r b) (up_at m c t r b)) (read9 m c t b j)

/-- The sum after a point: the input row plus the parts of the row block's points so far. -/
theorem sum_at (c : Dev nD) (t : Fin cfg0.N) : ∀ (r : Fin 512) (j : Fin 1024), (outsAt0 m c t.val t.isLt).1 (ix2 r j)
    = upTo (V m c main_arg0) (V m c main_arg1) (V m c main_v2) (V m c main_v5) (V m c main_v6) (V m c main_v7) (rowOf t r) j (t.val % 4 + 1) := by
  refine along (fun t => ∀ (r : Fin 512) (j : Fin 1024), (outsAt0 m c t.val t.isLt).1 (ix2 r j)
    = upTo (V m c main_arg0) (V m c main_arg1) (V m c main_v2) (V m c main_v5) (V m c main_v6) (V m c main_v7) (rowOf t r) j (t.val % 4 + 1))
    (fun t ht r j => ?_) (fun t ht h r j => ?_) t
  · rw [sum_first m c t ht, part_at, read0]
    refine Eq.trans ?_ (upTo_succ (V m c main_arg0) (V m c main_arg1) (V m c main_v2) (V m c main_v5) (V m c main_v6) (V m c main_v7) (rowOf t r) j (shard t)).symm
    have e : (shard t).val = 0 := ht
    rw [e, upTo_zero]
    rfl
  · rw [sum_later m c t ht, part_at]
    refine Eq.trans ?_ (upTo_succ (V m c main_arg0) (V m c main_arg1) (V m c main_v2) (V m c main_v5) (V m c main_v6) (V m c main_v7) (rowOf t r) j (shard t)).symm
    refine congrArg₂ (fun x y : EReal => x + y) ((h r j).trans ?_) rfl
    have er : rowOf (pred t) r = rowOf t r := Fin.ext (by show (t.val - 1) / 4 * 512 + r.val = t.val / 4 * 512 + r.val; omega)
    have en : (pred t).val % 4 + 1 = (shard t).val := by show (t.val - 1) % 4 + 1 = t.val % 4; omega
    rw [er, en]

/-- At a row block's last point the sum is the layer's result. -/
theorem sum_last (c : Dev nD) (t : Fin cfg0.N) (ht : t.val % 4 = 3) (r : Fin 512) (j : Fin 1024) : (outsAt0 m c t.val t.isLt).1 (ix2 r j)
    = sumR (V m c main_arg0) (V m c main_arg1) (V m c main_v2) (V m c main_v5) (V m c main_v6) (V m c main_v7) (rowOf t r) j := by
  rw [sum_at, ht]
  exact upTo_four _ _ _ _ _ _ _ _

end Cert.Kernel11Ideal.Ffn

end
-- ==== Proof.FfnFinal.lean ====
module

public import proofs.«01_k».proof.Proof.FfnArrays

/-! The feed-forward layer: the arrays that the call leaves. -/

@[expose] public section

set_option maxRecDepth 16384

noncomputable section

namespace Cert.Kernel11Ideal.Ffn

open Idealize.ShloMosaic Idealize.ShloMosaic.TcCoe Idealize.SL.Sem
open Idealize.ShloMosaic.Pipeline (Dat)
open Cert.Kernel11Ideal Cert.Kernel11Ideal.Gen Cert.Kernel11Ideal.Body Cert.Proof.FfnRow

variable (m : (ℓ : Loc nD τ sig) → Buf (Elt Ideal) ℓ)

/-- The layer's result that the call leaves. -/
theorem final12 (c : Dev nD) : (dats m 0 c).arrAt 12 cfg0.N
    = fun i : S4096x1024.Idx => sumR (V m c main_arg0) (V m c main_arg1) (V m c main_v2) (V m c main_v5) (V m c main_v6) (V m c main_v7) (i 0) (i 1) := by
  refine (dats m 0 c).arrAt_eq_of_covers 12 _ (by decide +kernel) fun t hf y => ?_
  blk_simp
  rw [after0_12]
  idx_vars y
  have hr := (flush0_12 t).mp hf
  have e : (win0_12.blk t).view.emb (ix2 y0 y1) = ix2 (rowOf t y0) y1 := by
    blk_ext [idx t, rowOf]
  refine (sum_last m c t (by omega) y0 y1).trans ?_
  rw [e]; rfl

/-- The normed rows that the call leaves. -/
theorem final13 (c : Dev nD) : (dats m 0 c).arrAt 13 cfg0.N
    = fun i : S4096x1024.Idx => rowR (V m c main_arg0) (V m c main_arg1) (i 0) (i 1) := by
  refine (dats m 0 c).arrAt_eq_of_covers 13 _ (by decide +kernel) fun t hf y => ?_
  blk_simp
  rw [after0_13]
  idx_vars y
  have hr := (flush0_13 t).mp hf
  have e : (win0_13.blk t).view.emb (ix2 y0 y1) = ix2 (rowOf t y0) y1 := by
    blk_ext [idx t, rowOf]
  refine (rows_at m c t y0 y1).trans ?_
  rw [e]; rfl

/-- The layer's result, normed for the next layer, that the call leaves. -/
theorem final16 (c : Dev nD) : (dats m 0 c).arrAt 16 cfg0.N
    = fun i : S4096x1024.Idx => nextR (V m c main_arg0) (V m c main_arg1) (V m c main_v2) (V m c main_v5) (V m c main_v6) (V m c main_v7) (V m c main_arg6) (i 0) (i 1) := by
  refine (dats m 0 c).arrAt_eq_of_covers 16 _ (by decide +kernel) fun t hf y => ?_
  blk_simp
  rw [after0_16]
  idx_vars y
  have hr := (flush0_16 t).mp hf
  have e : (win0_16.blk t).view.emb (ix2 y0 y1) = ix2 (rowOf t y0) y1 := by
    blk_ext [idx t, rowOf]
  rw [next16 m c t (by omega), pay4_at, read10]
  rw [show (fun k => (outsAt0 m c t.val t.isLt).1 (ix2 y0 k)) = sumR (V m c main_arg0) (V m c main_arg1) (V m c main_v2) (V m c main_v5) (V m c main_v6) (V m c main_v7) (rowOf t y0) from
    funext fun k => sum_last m c t (by omega) y0 k]
  rw [e]; rfl

/-- The layer's result, normed for the next layer, that the call leaves. -/
theorem final17 (c : Dev nD) : (dats m 0 c).arrAt 17 cfg0.N
    = fun i : S4096x1024.Idx => nextR (V m c main_arg0) (V m c main_arg1) (V m c main_v2) (V m c main_v5) (V m c main_v6) (V m c main_v7) (V m c main_arg7) (i 0) (i 1) := by
  refine (dats m 0 c).arrAt_eq_of_covers 17 _ (by decide +kernel) fun t hf y => ?_
  blk_simp
  rw [after0_17]
  idx_vars y
  have hr := (flush0_17 t).mp hf
  have e : (win0_17.blk t).view.emb (ix2 y0 y1) = ix2 (rowOf t y0) y1 := by
    blk_ext [idx t, rowOf]
  rw [next17 m c t (by omega), pay5_at, read11]
  rw [show (fun k => (outsAt0 m c t.val t.isLt).1 (ix2 y0 k)) = sumR (V m c main_arg0) (V m c main_arg1) (V m c main_v2) (V m c main_v5) (V m c main_v6) (V m c main_v7) (rowOf t y0) from
    funext fun k => sum_last m c t (by omega) y0 k]
  rw [e]; rfl

section Halves

variable (X : Vec Ideal S4096x1024 .f32) (G : Vec Ideal S1x1024 .f32) (W : Vec Ideal S8x1024x704 .bf16) (C : Vec Ideal S8x8x704 .f32)
  (B : Vec Ideal S8x1x704 .f32)

/-- The gate half's hidden rows at an index. -/
theorem hidR_gate (t : Fin cfg0.N) (r : Fin 512) (b : Fin 704) :
    hidA X G W ⟨(shard t).val, by omega⟩ (t.val / 4 * 512 + r.val + 16) b = hidR X G W 0 (shard t) (rowOf t r) b :=
  congrArg (fun s : Fin 8 => hidA X G W s (t.val / 4 * 512 + r.val + 16) b)
    (show (⟨(shard t).val, by omega⟩ : Fin 8) = ⟨0 * 4 + (shard t).val, by omega⟩ from Fin.ext (by show (shard t).val = 0 * 4 + (shard t).val; omega))

/-- The up half's hidden rows at an index. -/
theorem hidR_up (t : Fin cfg0.N) (r : Fin 512) (b : Fin 704) :
    hidA X G W ⟨(shard t).val + 4, by omega⟩ (t.val / 4 * 512 + r.val + 16) b = hidR X G W 1 (shard t) (rowOf t r) b :=
  congrArg (fun s : Fin 8 => hidA X G W s (t.val / 4 * 512 + r.val + 16) b)
    (show (⟨(shard t).val + 4, by omega⟩ : Fin 8) = ⟨1 * 4 + (shard t).val, by omega⟩ from Fin.ext (by show (shard t).val + 4 = 1 * 4 + (shard t).val; omega))

/-- The gate half's filtered rows at an index. -/
theorem filR_gate (t : Fin cfg0.N) (r : Fin 512) (b : Fin 704) :
    filA X G W C B ⟨(shard t).val, by omega⟩ (t.val / 4 * 512 + r.val + 16) b = filR X G W C B 0 (shard t) (rowOf t r) b :=
  congrArg (fun s : Fin 8 => filA X G W C B s (t.val / 4 * 512 + r.val + 16) b)
    (show (⟨(shard t).val, by omega⟩ : Fin 8) = ⟨0 * 4 + (shard t).val, by omega⟩ from Fin.ext (by show (shard t).val = 0 * 4 + (shard t).val; omega))

/-- The up half's filtered rows at an index. -/
theorem filR_up (t : Fin cfg0.N) (r : Fin 512) (b : Fin 704) :
    filA X G W C B ⟨(shard t).val + 4, by omega⟩ (t.val / 4 * 512 + r.val + 16) b = filR X G W C B 1 (shard t) (rowOf t r) b :=
  congrArg (fun s : Fin 8 => filA X G W C B s (t.val / 4 * 512 + r.val + 16) b)
    (show (⟨(shard t).val + 4, by omega⟩ : Fin 8) = ⟨1 * 4 + (shard t).val, by omega⟩ from Fin.ext (by show (shard t).val + 4 = 1 * 4 + (shard t).val; omega))

end Halves

/-- The hidden rows that the call leaves. -/
theorem final14 (c : Dev nD) : (dats m 0 c).arrAt 14 cfg0.N
    = fun i : S2x4x4096x704.Idx => hidR (V m c main_arg0) (V m c main_arg1) (V m c main_v2) (i 0) (i 1) (i 2) (i 3) := by
  refine (dats m 0 c).arrAt_eq_of_covers 14 _ (by decide +kernel) fun t hf y => ?_
  blk_simp
  rw [after0_14]
  idx_vars y
  obtain rfl : y1 = 0 := by omega
  have e : (win0_14.blk t).view.emb (ix4 y0 0 y2 y3) = ix4 y0 (shard t) (rowOf t y2) y3 := by
    blk_ext [idx t, rowOf, shard]
  rw [hid_out]
  obtain rfl | rfl : y0 = 0 ∨ y0 = 1 := by omega
  · refine (low_part _ _ y2 y3).trans ((pay7_at _ _ y2 y3).trans
      ((hrow_at m c t (iblk m c 3 t) ⟨(shard t).val, by omega⟩ (read3 m c t) ⟨16 + y2.val, by omega⟩ y3 (t.val / 4 * 512 + y2.val + 16)
        (by show _ = _; simp only []; omega)).trans
      ((hidR_gate (V m c main_arg0) (V m c main_arg1) (V m c main_v2) t y2 y3).trans ?_)))
    rw [e]; rfl
  · refine (high_part _ _ y2 y3).trans ((pay11_at _ _ y2 y3).trans
      ((hrow_at m c t (iblk m c 4 t) ⟨(shard t).val + 4, by omega⟩ (read4 m c t) ⟨16 + y2.val, by omega⟩ y3 (t.val / 4 * 512 + y2.val + 16)
        (by show _ = _; simp only []; omega)).trans
      ((hidR_up (V m c main_arg0) (V m c main_arg1) (V m c main_v2) t y2 y3).trans ?_)))
    rw [e]; rfl

/-- The filtered rows that the call leaves. -/
theorem final15 (c : Dev nD) : (dats m 0 c).arrAt 15 cfg0.N
    = fun i : S2x4x4096x704.Idx => filR (V m c main_arg0) (V m c main_arg1) (V m c main_v2) (V m c main_v5) (V m c main_v6) (i 0) (i 1) (i 2) (i 3) := by
  refine (dats m 0 c).arrAt_eq_of_covers 15 _ (by decide +kernel) fun t hf y => ?_
  blk_simp
  rw [after0_15]
  idx_vars y
  obtain rfl : y1 = 0 := by omega
  have e : (win0_15.blk t).view.emb (ix4 y0 0 y2 y3) = ix4 y0 (shard t) (rowOf t y2) y3 := by
    blk_ext [idx t, rowOf, shard]
  rw [fil_out]
  obtain rfl | rfl : y0 = 0 ∨ y0 = 1 := by omega
  · refine (low_part _ _ y2 y3).trans ((pay10_at _ y2 y3).trans ((gate_at m c t y2 y3).trans
      ((filR_gate (V m c main_arg0) (V m c main_arg1) (V m c main_v2) (V m c main_v5) (V m c main_v6) t y2 y3).trans ?_)))
    rw [e]; rfl
  · refine (high_part _ _ y2 y3).trans ((pay1_at _ y2 y3).trans ((up_at m c t y2 y3).trans
      ((filR_up (V m c main_arg0) (V m c main_arg1) (V m c main_v2) (V m c main_v5) (V m c main_v6) t y2 y3).trans ?_)))
    rw [e]; rfl

end Cert.Kernel11Ideal.Ffn

end
-- ==== Proof.FfnRef.lean ====
module

public import proofs.«01_k».proof.Proof.Gen.Reference11Ideal
public import proofs.«01_k».proof.Proof.FfnRow
public import Idealize.ShloMosaic.Lib.Pipeline.ValueKit
public import Idealize.ShloMosaic.Lib.Pointwise
public import Idealize.ShloMosaic.Lib.Claim

/-! The feed-forward layer's mathematics: the reference's results, entry by entry. -/

@[expose] public section

set_option maxRecDepth 16384

noncomputable section

namespace Cert.Reference11Ideal.Ffn

open Idealize.ShloMosaic Idealize.ShloMosaic.TcCoe Idealize.SL.Sem
open Cert.Reference11Ideal Cert.Reference11Ideal.Gen Cert.Proof.FfnRow

variable (X : FVec Ideal S4096x1024 .f32) (G : FVec Ideal S1x1024 .f32) (W : FVec Ideal S1024x5632 .f32)
  (C : FVec Ideal S3x5632 .f32) (B : FVec Ideal S5632 .f32) (O : FVec Ideal S2816x1024 .f32)

/-- The normed rows times their gain. -/
def rms : FVec Ideal S4096x1024 .f32 :=
  mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)

/-- The hidden rows. -/
def hid : FVec Ideal S4096x5632 .f32 := Host.dotGeneral dot_S4096x1024_S1024x5632_S4096x5632_1_0_0_1_n_n none (rms X G) W

/-- The hidden rows after the filter and its bias. -/
def hu (A : FVec Ideal S4096x5632 .f32) : FVec Ideal S4096x5632 .f32 :=
  addf (addf (addf (mulf (broadcastInDim S4096x5632 ![0, 1] bcast_S1x5632_S4096x5632_0_1 (broadcastInDim S1x5632 ![1] bcast_S5632_S1x5632_1 (shapeCast _ (extractStridedSlice S1x5632 ![0, 0] C slices_S3x5632_S1x5632_0_0) shapeCasts_S1x5632_S5632))) ((concatenate S4096x5632 0 [⟨S1x5632, ((broadcastInDim S1x5632 ![] bcast_S_S1x5632 (constant S_ .f32 0x00000000#32)) : FVec Ideal S1x5632 .f32)⟩, ⟨S1x5632, ((broadcastInDim S1x5632 ![] bcast_S_S1x5632 (constant S_ .f32 0x00000000#32)) : FVec Ideal S1x5632 .f32)⟩, ⟨S4094x5632, ((extractStridedSlice S4094x5632 ![0, 0] A slices_S4096x5632_S4094x5632_0_0) : FVec Ideal S4094x5632 .f32)⟩] concatenates_S1x5632_S1x5632_S4094x5632_S4096x5632_d0 : FVec Ideal S4096x5632 .f32))) (mulf (broadcastInDim S4096x5632 ![0, 1] bcast_S1x5632_S4096x5632_0_1 (broadcastInDim S1x5632 ![1] bcast_S5632_S1x5632_1 (shapeCast _ (extractStridedSlice S1x5632 ![1, 0] C slices_S3x5632_S1x5632_1_0) shapeCasts_S1x5632_S5632))) (concatenate S4096x5632 0 [⟨S1x5632, (broadcastInDim S1x5632 ![] bcast_S_S1x5632 (constant S_ .f32 0x00000000#32))⟩, ⟨S4095x5632, (extractStridedSlice S4095x5632 ![0, 0] A slices_S4096x5632_S4095x5632_0_0)⟩] concatenates_S1x5632_S4095x5632_S4096x5632_d0))) (mulf (broadcastInDim S4096x5632 ![0, 1] bcast_S1x5632_S4096x5632_0_1 (broadcastInDim S1x5632 ![1] bcast_S5632_S1x5632_1 (shapeCast _ (extractStridedSlice S1x5632 ![2, 0] C slices_S3x5632_S1x5632_2_0) shapeCasts_S1x5632_S5632))) A)) (broadcastInDim S4096x5632 ![0, 1] bcast_S1x5632_S4096x5632_0_1 (broadcastInDim S1x5632 ![1] bcast_S5632_S1x5632_1 B))

/-- The gated product of the filtered rows' halves. -/
def act (H : FVec Ideal S4096x5632 .f32) : FVec Ideal S4096x2816 .f32 :=
  mulf (mulf (extractStridedSlice S4096x2816 ![0, 0] H slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] H slices_S4096x5632_S4096x2816_0_0)))))) (extractStridedSlice S4096x2816 ![0, 2816] H slices_S4096x5632_S4096x2816_0_2816)

/-- The first result: the input rows plus the layer's product. -/
def out0 : FVec Ideal S4096x1024 .f32 :=
  addf X (Host.dotGeneral dot_S4096x2816_S2816x1024_S4096x1024_1_0_0_1_n_n none (act (hu C B (hid X G W))) O)

/-- The second result: the normed rows. -/
def out1 : FVec Ideal S4096x1024 .bf16 := truncf .bf16 (rms X G) bitsLt_bf16_f32

/-- The third result: the hidden rows in the kernel's layout. -/
def out2 : FVec Ideal S8x4096x704 .bf16 :=
  truncf .bf16 (transpose S8x4096x704 [1, 0, 2] (shapeCast _ (hid X G W) shapeCasts_S4096x5632_S4096x8x704) transposes_S4096x8x704_S8x4096x704_1_0_2) bitsLt_bf16_f32

/-- The fourth result: the filtered rows in the kernel's layout. -/
def out3 : FVec Ideal S2x4x4096x704 .f32 :=
  transpose S2x4x4096x704 [1, 2, 0, 3] (shapeCast _ (hu C B (hid X G W)) shapeCasts_S4096x5632_S4096x2x4x704) transposes_S4096x2x4x704_S2x4x4096x704_1_2_0_3

/-- The last results: the first result's rows normed, times a gain. -/
def out4 (N : FVec Ideal S1x1024 .f32) : FVec Ideal S4096x1024 .bf16 := truncf .bf16 (rms (out0 X G W C B O) N) bitsLt_bf16_f32

/-- The normed rows at an index. -/
theorem rms_at (r : Fin 4096) (j : Fin 1024) : rms X G (ix2 r j) = nrm (fun k => X (ix2 r k)) j * G (ix2 0 j) := by
  pointwise [rms]
  rfl

/-- The hidden rows at an index. -/
theorem hid_at (r : Fin 4096) (k : Fin 5632) : hid X G W (ix2 r k) = ∑ j : Fin 1024, rms X G (ix2 r j) * W (ix2 j k) := by
  pointwise [hid]

/-- The filtered rows at an index. -/
theorem hu_at (A : FVec Ideal S4096x5632 .f32) (r : Fin 4096) (k : Fin 5632) : hu C B A (ix2 r k)
    = fil (C (ix2 2 k)) (C (ix2 1 k)) (C (ix2 0 k)) (B (ix1 k)) (A (ix2 r k))
        (if r.val < 1 then 0 else A (ix2 ⟨r.val - 1, by omega⟩ k)) (if r.val < 2 then 0 else A (ix2 ⟨r.val - 2, by omega⟩ k)) := by
  rw [fil_comm]
  pointwise [hu]
  have e2 : (if h : r.val < 1 then (0 : EReal) else if h : r.val - 1 < 1 then 0 else A (ix2 ⟨r.val - 1 - 1, by omega⟩ k))
      = if r.val < 2 then 0 else A (ix2 ⟨r.val - 2, by omega⟩ k) := by
    split_ifs <;> first | omega | rfl
  have e1 : (if h : r.val < 1 then (0 : EReal) else A (ix2 ⟨r.val - 1, by omega⟩ k))
      = if r.val < 1 then 0 else A (ix2 ⟨r.val - 1, by omega⟩ k) := by
    split_ifs <;> rfl
  rw [e2, e1]

/-- The gated product at an index. -/
theorem act_at (H : FVec Ideal S4096x5632 .f32) (r : Fin 4096) (k : Fin 2816) :
    act H (ix2 r k) = gated (H (ix2 r ⟨k.val, by omega⟩)) (H (ix2 r ⟨2816 + k.val, by omega⟩)) := by
  pointwise [act]
  unfold gated
  rw [zero_sub]

/-- The first result at an index. -/
theorem out0_at (r : Fin 4096) (j : Fin 1024) : out0 X G W C B O (ix2 r j)
    = X (ix2 r j) + ∑ k : Fin 2816, act (hu C B (hid X G W)) (ix2 r k) * O (ix2 k j) := by
  pointwise [out0]

/-- The second result at an index. -/
theorem out1_at (r : Fin 4096) (j : Fin 1024) : out1 X G (ix2 r j) = rms X G (ix2 r j) := by
  pointwise [out1]

/-- The third result at an index. -/
theorem out2_at (s : Fin 8) (r : Fin 4096) (b : Fin 704) :
    out2 X G W (ix3 s r b) = hid X G W (ix2 r ⟨s.val * 704 + b.val, by omega⟩) := by
  pointwise [out2]

/-- The fourth result at an index. -/
theorem out3_at (h : Fin 2) (q : Fin 4) (r : Fin 4096) (b : Fin 704) :
    out3 X G W C B (ix4 h q r b) = hu C B (hid X G W) (ix2 r ⟨h.val * 2816 + q.val * 704 + b.val, by omega⟩) := by
  pointwise [out3]

/-- The last results at an index. -/
theorem out4_at (N : FVec Ideal S1x1024 .f32) (r : Fin 4096) (j : Fin 1024) :
    out4 X G W C B O N (ix2 r j) = nrm (fun k => out0 X G W C B O (ix2 r k)) j * N (ix2 0 j) := by
  pointwise [out4]
  exact rms_at _ _ _ _

end Cert.Reference11Ideal.Ffn

end
-- ==== Proof.FfnClaim.lean ====
module

public import proofs.«01_k».proof.Defs
public import proofs.«01_k».proof.Proof.Gen.Kernel11Ideal
public import proofs.«01_k».proof.Proof.Gen.Reference11Ideal
public import proofs.«01_k».proof.Proof.Gen.Reference11Ideal.Run
public import proofs.«01_k».proof.Proof.FfnSame
public import proofs.«01_k».proof.Proof.FfnRun
public import proofs.«01_k».proof.Proof.FfnFinal
public import proofs.«01_k».proof.Proof.FfnRef

/-! The feed-forward layer's claims. -/

@[expose] public section

set_option maxRecDepth 16384

noncomputable section

namespace Cert.Proof.Ffn

open Idealize.ShloMosaic Idealize.ShloMosaic.TcCoe Idealize.SL.Sem

/-- So does its idealization. -/
theorem quiescent_KI : Cert.quiescent_Kernel11Ideal := fun m g _ => Cert.Kernel11Ideal.Body.frame m g

/-- The reference runs, leaves its arguments and ends quiescent: it declares no semaphore. -/
theorem quiescent_R : Cert.quiescent_Reference11Ideal := by
  intro m g _
  exact (θ_run Cert.Reference11Ideal.defs _ _).mono (fun r h => ⟨fun c => (h c).2.2.2.2.2.2, sem_eq_zero_of_no_sems (by decide) r.2⟩)
    (Cert.Reference11Ideal.Value.run m g)

/-- The idealization rewrites nothing. -/
theorem preserves : Cert.preserves_Kernel11_Kernel11Ideal := trivial

/-- The column that shard `s`, place `b` names. -/
def col (s : Fin 8) (b : Fin 704) : Fin 5632 := ⟨s.val * 704 + b.val, by omega⟩

section Elementwise

open Cert.Kernel11Ideal.Ffn Cert.Proof.FfnRow
open Cert.Reference11Ideal.Ffn (rms hid hu act out0 rms_at hid_at hu_at act_at out0_at)

variable (X : Vec Ideal Cert.Kernel11Ideal.S4096x1024 .f32) (G : Vec Ideal Cert.Kernel11Ideal.S1x1024 .f32)
  (W : Vec Ideal Cert.Kernel11Ideal.S8x1024x704 .bf16) (C : Vec Ideal Cert.Kernel11Ideal.S8x8x704 .f32)
  (B : Vec Ideal Cert.Kernel11Ideal.S8x1x704 .f32) (O : Vec Ideal Cert.Kernel11Ideal.S2816x1024 .bf16)
  (W' : FVec Ideal Cert.Reference11Ideal.S1024x5632 .f32) (C' : FVec Ideal Cert.Reference11Ideal.S3x5632 .f32)
  (B' : FVec Ideal Cert.Reference11Ideal.S5632 .f32) (O' : FVec Ideal Cert.Reference11Ideal.S2816x1024 .f32)
  (hW : ∀ s x b, W (ix3 s x b) = W' (ix2 x (col s b)))
  (hC0 : ∀ s b, C (ix3 s 0 b) = C' (ix2 0 (col s b))) (hC1 : ∀ s b, C (ix3 s 1 b) = C' (ix2 1 (col s b)))
  (hC2 : ∀ s b, C (ix3 s 2 b) = C' (ix2 2 (col s b))) (hB : ∀ s b, B (ix3 s 0 b) = B' (ix1 (col s b)))
  (hO : ∀ k j, O (ix2 k j) = O' (ix2 k j))

/-- A normed row inside the array is the reference's. -/
theorem rowA_in (n : ℕ) (r : Fin 4096) (hn : n = r.val + 16) (j : Fin 1024) : rowA X G n j = rms X G (ix2 r j) := by
  subst hn
  rw [rms_at]
  unfold rowA
  rw [dif_pos (by omega)]
  have e : (⟨r.val + 16 - 16, by omega⟩ : Fin 4096) = r := Fin.ext (Nat.add_sub_cancel _ _)
  rw [e]

/-- Before the first row there are zeros. -/
theorem rowA_out (n : ℕ) (hn : n < 16) (j : Fin 1024) : rowA X G n j = 0 := dif_neg (by omega)

include hW in
/-- A hidden row inside the array is the reference's. -/
theorem hidA_in (s : Fin 8) (n : ℕ) (r : Fin 4096) (hn : n = r.val + 16) (b : Fin 704) :
    hidA X G W s n b = hid X G W' (ix2 r (col s b)) := by
  rw [hid_at]
  exact Finset.sum_congr rfl fun x _ => congrArg₂ (fun x y : EReal => x * y) (rowA_in X G n r hn x) (hW s x b)

/-- Before the first row the hidden rows are zeros. -/
theorem hidA_out (s : Fin 8) (n : ℕ) (hn : n < 16) (b : Fin 704) : hidA X G W s n b = 0 :=
  Finset.sum_eq_zero fun x _ => by
    rw [rowA_out X G n hn]
    exact zero_mul (M₀ := EReal) _

/-- The hidden rows with their two halves one after the other. -/
theorem halves (s : Fin 8) (r : Fin 4096) (b : Fin 704) :
    shapeCast Cert.Kernel11Ideal.S8x4096x704
      ((fun i : Cert.Kernel11Ideal.S2x4x4096x704.Idx => hidR X G W (i 0) (i 1) (i 2) (i 3)) : Vec Ideal Cert.Kernel11Ideal.S2x4x4096x704 .bf16)
      Cert.Kernel11Ideal.Facts₀.shapeCasts_S2x4x4096x704_S8x4096x704 (ix3 s r b) = hidA X G W s (r.val + 16) b := by
  pointwise
  refine congrArg (fun s => hidA X G W s (r.val + 16) b) (Fin.ext ?_)
  show s.val / 4 * 4 + s.val % 4 = s.val
  omega

include hW hC0 hC1 hC2 hB in
/-- A filtered row is the reference's. -/
theorem filA_in (s : Fin 8) (r : Fin 4096) (b : Fin 704) :
    filA X G W C B s (r.val + 16) b = hu C' B' (hid X G W') (ix2 r (col s b)) := by
  have e1 : hidA X G W s (r.val + 16 - 1) b = if r.val < 1 then 0 else hid X G W' (ix2 ⟨r.val - 1, by omega⟩ (col s b)) := by
    by_cases h : r.val < 1
    · rw [if_pos h, hidA_out X G W s _ (by omega)]
    · rw [if_neg h, hidA_in X G W W' hW s _ ⟨r.val - 1, by omega⟩ (by show _ = r.val - 1 + 16; omega)]
  have e2 : hidA X G W s (r.val + 16 - 2) b = if r.val < 2 then 0 else hid X G W' (ix2 ⟨r.val - 2, by omega⟩ (col s b)) := by
    by_cases h : r.val < 2
    · rw [if_pos h, hidA_out X G W s _ (by omega)]
    · rw [if_neg h, hidA_in X G W W' hW s _ ⟨r.val - 2, by omega⟩ (by show _ = r.val - 2 + 16; omega)]
  have e0 := hidA_in X G W W' hW s (r.val + 16) r rfl b
  rw [hu_at]
  unfold filA
  rw [hC0, hC1, hC2, hB, e0, e1, e2]

include hW hC0 hC1 hC2 hB hO in
/-- The layer's result is the reference's. -/
theorem sumR_in (r : Fin 4096) (j : Fin 1024) : sumR X G W C B O r j = out0 X G W' C' B' O' (ix2 r j) := by
  rw [out0_at]
  refine congrArg (fun z : EReal => X (ix2 r j) + z) ?_
  refine Fin.sum_mul_add_congr fun q b hl => ?_
  rw [act_at]
  refine congrArg₂ (fun x y : EReal => x * y) (congrArg₂ gated ?_ ?_) (hO _ j)
  · exact filA_in X G W C B W' C' B' hW hC0 hC1 hC2 hB ⟨q.val, by omega⟩ r b
  · refine (filA_in X G W C B W' C' B' hW hC0 hC1 hC2 hB ⟨q.val + 4, by omega⟩ r b).trans ?_
    refine congrArg (fun k => hu C' B' (hid X G W') (ix2 r k)) (Fin.ext ?_)
    show (q.val + 4) * 704 + b.val = 2816 + (q.val * 704 + b.val)
    omega

end Elementwise

section Arguments

open Cert.Kernel11Ideal

variable (m : (ℓ : Loc nD τ sig) → Buf (Elt Ideal) ℓ) (c : Dev nD)

/-- The weight that the call reads is the argument, re-laid out. -/
theorem operandW (s : Fin 8) (x : Fin 1024) (b : Fin 704) : Gen.V m c main_v2 (ix3 s x b) = m ((c.tc : Thread nD τ).loc main_arg2) (ix2 x (col s b)) := by
  simp only [Gen.V, Gen.V0, Gen.hostOps0, Gen.hostOps0_1, Gen.hostOps0_2, List.flatten_cons, List.flatten_nil, List.append_nil, List.cons_append, List.nil_append]
  entry_read
  pointwise
  rfl

/-- The filter's first row that the call reads. -/
theorem operandC0 (s : Fin 8) (b : Fin 704) : Gen.V m c main_v5 (ix3 s 0 b) = m ((c.tc : Thread nD τ).loc main_arg3) (ix2 0 (col s b)) := by
  simp only [Gen.V, Gen.V0, Gen.hostOps0, Gen.hostOps0_1, Gen.hostOps0_2, List.flatten_cons, List.flatten_nil, List.append_nil, List.cons_append, List.nil_append]
  entry_read
  simp only [StableHlo.TRef.toBuf, StableHlo.TRef.ofBuf, cast_eq]
  pointwise
  rfl

/-- The filter's middle row that the call reads. -/
theorem operandC1 (s : Fin 8) (b : Fin 704) : Gen.V m c main_v5 (ix3 s 1 b) = m ((c.tc : Thread nD τ).loc main_arg3) (ix2 1 (col s b)) := by
  simp only [Gen.V, Gen.V0, Gen.hostOps0, Gen.hostOps0_1, Gen.hostOps0_2, List.flatten_cons, List.flatten_nil, List.append_nil, List.cons_append, List.nil_append]
  entry_read
  simp only [StableHlo.TRef.toBuf, StableHlo.TRef.ofBuf, cast_eq]
  pointwise
  rfl

/-- The filter's last row that the call reads. -/
theorem operandC2 (s : Fin 8) (b : Fin 704) : Gen.V m c main_v5 (ix3 s 2 b) = m ((c.tc : Thread nD τ).loc main_arg3) (ix2 2 (col s b)) := by
  simp only [Gen.V, Gen.V0, Gen.hostOps0, Gen.hostOps0_1, Gen.hostOps0_2, List.flatten_cons, List.flatten_nil, List.append_nil, List.cons_append, List.nil_append]
  entry_read
  simp only [StableHlo.TRef.toBuf, StableHlo.TRef.ofBuf, cast_eq]
  pointwise
  rfl

/-- The filter's bias that the call reads. -/
theorem operandB (s : Fin 8) (b : Fin 704) : Gen.V m c main_v6 (ix3 s 0 b) = m ((c.tc : Thread nD τ).loc main_arg4) (ix1 (col s b)) := by
  simp only [Gen.V, Gen.V0, Gen.hostOps0, Gen.hostOps0_1, Gen.hostOps0_2, List.flatten_cons, List.flatten_nil, List.append_nil, List.cons_append, List.nil_append]
  entry_read
  pointwise
  rfl

/-- The output weight that the call reads. -/
theorem operandO (k : Fin 2816) (j : Fin 1024) : Gen.V m c main_v7 (ix2 k j) = m ((c.tc : Thread nD τ).loc main_arg5) (ix2 k j) := by
  simp only [Gen.V, Gen.V0, Gen.hostOps0, Gen.hostOps0_1, Gen.hostOps0_2, List.flatten_cons, List.flatten_nil, List.append_nil, List.cons_append, List.nil_append]
  entry_read
  pointwise

/-- The filtered rows over the arguments. -/
theorem filtered (s : Fin 8) (r : Fin 4096) (b : Fin 704) :
    Ffn.filA (Gen.V m c main_arg0) (Gen.V m c main_arg1) (Gen.V m c main_v2) (Gen.V m c main_v5) (Gen.V m c main_v6) s (r.val + 16) b
      = Cert.Reference11Ideal.Ffn.hu (m ((c.tc : Thread nD τ).loc main_arg3)) (m ((c.tc : Thread nD τ).loc main_arg4)) (Cert.Reference11Ideal.Ffn.hid (m ((c.tc : Thread nD τ).loc main_arg0)) (m ((c.tc : Thread nD τ).loc main_arg1)) (m ((c.tc : Thread nD τ).loc main_arg2))) (ix2 r (col s b)) := by
  rw [Gen.V_main_arg0, Gen.V_main_arg1]
  exact filA_in _ _ _ _ _ _ _ _ (operandW m c) (operandC0 m c) (operandC1 m c) (operandC2 m c) (operandB m c) s r b

/-- The layer's result over the arguments. -/
theorem summed (r : Fin 4096) (j : Fin 1024) :
    Ffn.sumR (Gen.V m c main_arg0) (Gen.V m c main_arg1) (Gen.V m c main_v2) (Gen.V m c main_v5) (Gen.V m c main_v6) (Gen.V m c main_v7) r j
      = Cert.Reference11Ideal.Ffn.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 r j) := by
  rw [Gen.V_main_arg0, Gen.V_main_arg1]
  exact sumR_in _ _ _ _ _ _ _ _ _ _ (operandW m c) (operandC0 m c) (operandC1 m c) (operandC2 m c) (operandB m c) (operandO m c) r j

/-- The call's first result over the arguments. -/
theorem result0 : Cert.Reference11Ideal.Ffn.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (Body.dats m 0 c).arrAt 12 cfg0.N := by
  rw [Ffn.final12]
  funext i
  idx_vars i
  exact (summed m c i0 i1).symm

/-- The call's second result over the arguments. -/
theorem result1 : Cert.Reference11Ideal.Ffn.out1 (m ((c.tc : Thread nD τ).loc main_arg0)) (m ((c.tc : Thread nD τ).loc main_arg1)) = (Body.dats m 0 c).arrAt 13 cfg0.N := by
  rw [Ffn.final13]
  funext i
  idx_vars i
  rw [Cert.Reference11Ideal.Ffn.out1_at]
  refine (rowA_in _ _ _ i0 rfl i1).symm.trans ?_
  rw [← Gen.V_main_arg0 m c, ← Gen.V_main_arg1 m c]
  rfl

/-- The call's third result over the arguments, its two halves one after the other. -/
theorem result2 : Cert.Reference11Ideal.Ffn.out2 (m ((c.tc : Thread nD τ).loc main_arg0)) (m ((c.tc : Thread nD τ).loc main_arg1)) (m ((c.tc : Thread nD τ).loc main_arg2))
    = shapeCast S8x4096x704 ((Body.dats m 0 c).arrAt 14 cfg0.N : Vec Ideal S2x4x4096x704 .bf16) Facts₀.shapeCasts_S2x4x4096x704_S8x4096x704 := by
  rw [Ffn.final14]
  funext i
  idx_vars i
  rw [Cert.Reference11Ideal.Ffn.out2_at]
  rw [halves, Gen.V_main_arg0 m c, Gen.V_main_arg1 m c]
  exact (hidA_in _ _ _ _ (operandW m c) i0 (i1.val + 16) i1 rfl i2).symm

/-- The call's fourth result over the arguments. -/
theorem result3 : Cert.Reference11Ideal.Ffn.out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = (Body.dats m 0 c).arrAt 15 cfg0.N := by
  rw [Ffn.final15]
  funext i
  idx_vars i
  rw [Cert.Reference11Ideal.Ffn.out3_at]
  refine Eq.trans ?_ (filtered m c ⟨i0.val * 4 + i1.val, by omega⟩ i2 i3).symm
  refine congrArg (fun k => Cert.Reference11Ideal.Ffn.hu (m ((c.tc : Thread nD τ).loc main_arg3)) (m ((c.tc : Thread nD τ).loc main_arg4)) (Cert.Reference11Ideal.Ffn.hid (m ((c.tc : Thread nD τ).loc main_arg0)) (m ((c.tc : Thread nD τ).loc main_arg1)) (m ((c.tc : Thread nD τ).loc main_arg2))) (ix2 i2 k)) (Fin.ext ?_)
  show i0.val * 2816 + i1.val * 704 + i3.val = (i0.val * 4 + i1.val) * 704 + i3.val
  omega

/-- The call's fifth result over the arguments. -/
theorem result4 : Cert.Reference11Ideal.Ffn.out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (Body.dats m 0 c).arrAt 16 cfg0.N := by
  rw [Ffn.final16]
  funext i
  idx_vars i
  rw [Cert.Reference11Ideal.Ffn.out4_at, ← Gen.V_main_arg6 m c]
  exact congrArg (fun v => Cert.Proof.FfnRow.nrm v i1 * Gen.V m c main_arg6 (ix2 0 i1)) (funext fun k => (summed m c i0 k).symm)

/-- The call's last result over the arguments. -/
theorem result5 : Cert.Reference11Ideal.Ffn.out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) = (Body.dats m 0 c).arrAt 17 cfg0.N := by
  rw [Ffn.final17]
  funext i
  idx_vars i
  rw [Cert.Reference11Ideal.Ffn.out4_at, ← Gen.V_main_arg7 m c]
  exact congrArg (fun v => Cert.Proof.FfnRow.nrm v i1 * Gen.V m c main_arg7 (ix2 0 i1)) (funext fun k => (summed m c i0 k).symm)

end Arguments

section Reference

open Cert.Reference11Ideal

variable (m : (ℓ : Loc nD τ sig) → Buf (Elt Ideal) ℓ) (c : Dev nD)

/-- The reference's result `main_v43` by its own definition. -/
theorem ref43 : Value.res_main_v43 m c = Ffn.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v43
  rfl

/-- The reference's result `main_v49` by its own definition. -/
theorem ref49 : Value.res_main_v49 m c = Ffn.out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v49
  rfl

/-- The reference's result `main_v62` by its own definition. -/
theorem ref62 : Value.res_main_v62 m c = Ffn.out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_main_v62
  rfl

/-- The reference's result `main_v75` by its own definition. -/
theorem ref75 : Value.res_main_v75 m c = Ffn.out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) := by
  unfold Value.res_main_v75
  rfl

end Reference

/-- The kernel and the reference end with equal results. -/
theorem algebraic : Cert.algebraic_Kernel11Ideal_Reference11Ideal := by
  pair_intro
  · run_from Cert.Kernel11Ideal.Ffn.run m g
  · run_from Cert.Reference11Ideal.Value.run m' g'
    · rw [ref43]
      obtain ⟨h0, h1, h2, h3, h4, h5, h6, h7⟩ := hagree c
      simp only [h0, h1, h2, h3, h4, h5, h6, h7]
      exact result0 m c
    · exact result1 m c
    · exact result2 m c
    · rw [ref49]
      obtain ⟨h0, h1, h2, h3, h4, h5, h6, h7⟩ := hagree c
      simp only [h0, h1, h2, h3, h4, h5, h6, h7]
      exact result3 m c
    · rw [ref62]
      obtain ⟨h0, h1, h2, h3, h4, h5, h6, h7⟩ := hagree c
      simp only [h0, h1, h2, h3, h4, h5, h6, h7]
      exact result4 m c
    · rw [ref75]
      obtain ⟨h0, h1, h2, h3, h4, h5, h6, h7⟩ := hagree c
      simp only [h0, h1, h2, h3, h4, h5, h6, h7]
      exact result5 m c

end Cert.Proof.Ffn

end
-- ==== Proof.NormRow.lean ====
module

public import Idealize.ShloMosaic.Lib.Pipeline.ValueKit
public import Idealize.ShloMosaic.Lib.Pointwise

/-! The gradient of a row's norm at one entry, in the call's spelling and in the reference's. -/

@[expose] public section

noncomputable section

namespace Cert.Proof.NormRow

open Idealize.ShloMosaic Idealize.ShloMosaic.TcCoe Idealize.SL.Sem

/-- A row's mean square with the small constant added. -/
def ms (x : Fin 1024 → EReal) : EReal :=
  Ideal.div (∑ k : Fin 1024, x k * x k) (Ideal.ofBits FTy.f32 1149239296#32) + Ideal.ofBits FTy.f32 897988541#32

/-- A row's normed entry. -/
def hat (x : Fin 1024 → EReal) (j : Fin 1024) : EReal := x j * Ideal.rsqrt (ms x)

/-- The row's gradient at an entry as the call computes it: the residual's gradient `r`, the gain `g`, the cotangent `d`. -/
def dxK (r : EReal) (x g d : Fin 1024 → EReal) (j : Fin 1024) : EReal :=
  r + Ideal.rsqrt (ms x) * (d j * g j - hat x j * Ideal.div (∑ k : Fin 1024, d k * g k * hat x k) (Ideal.ofBits FTy.f32 1149239296#32))

/-- Half of what the mean square sends back to an entry, over the entry. -/
def back (x g d : Fin 1024 → EReal) : EReal :=
  Ideal.div ((∑ k : Fin 1024, x k * (d k * g k)) * (Ideal.ofBits FTy.f32 3204448256#32 * Ideal.div (Ideal.rsqrt (ms x)) (ms x)))
    (Ideal.ofBits FTy.f32 1149239296#32)

/-- The row's gradient at an entry as the reference computes it. -/
def dxR (r : EReal) (x g d : Fin 1024 → EReal) (j : Fin 1024) : EReal :=
  r + (d j * g j * Ideal.rsqrt (ms x) + x j * back x g d + back x g d * x j)

/-- A sum of reals. -/
theorem sum_coe {n : ℕ} (f : Fin n → ℝ) : (∑ i, (f i : EReal)) = ((∑ i, f i : ℝ) : EReal) := by
  classical
  have h : ∀ s : Finset (Fin n), (∑ i ∈ s, (f i : EReal)) = ((∑ i ∈ s, f i : ℝ) : EReal) := fun s => by
    induction s using Finset.induction_on with
    | empty => simp
    | insert a s ha ih => rw [Finset.sum_insert ha, Finset.sum_insert ha, ih, EReal.coe_add]
  exact h _

/-- The number of a row's entries. -/
theorem len : Ideal.ofBits FTy.f32 1149239296#32 = ((1024 : ℝ) : EReal) := by
  simp [Ideal.ofBits, Ideal.ieee]
  rw [← EReal.coe_mul]
  norm_num

/-- Minus a half. -/
theorem mhalf : Ideal.ofBits FTy.f32 3204448256#32 = ((-1 / 2 : ℝ) : EReal) := by
  simp [Ideal.ofBits, Ideal.ieee]
  rw [← EReal.coe_mul]
  norm_num

/-- The small constant is a positive real. -/
theorem eps : ∃ e : ℝ, 0 < e ∧ Ideal.ofBits FTy.f32 897988541#32 = (e : EReal) := by
  refine ⟨8796093 * (2 ^ 43)⁻¹, by positivity, ?_⟩
  simp [Ideal.ofBits, Ideal.ieee]

/-- The two spellings agree on reals, whatever the residual's gradient is. -/
theorem dx_eq (r : EReal) (x g d : Fin 1024 → EReal) (hx : ∀ k, ∃ s : ℝ, x k = s) (hg : ∀ k, ∃ s : ℝ, g k = s)
    (hd : ∀ k, ∃ s : ℝ, d k = s) (j : Fin 1024) : dxK r x g d j = dxR r x g d j := by
  choose x' hx using hx
  choose g' hg using hg
  choose d' hd using hd
  obtain rfl : x = fun k => (x' k : EReal) := funext hx
  obtain rfl : g = fun k => (g' k : EReal) := funext hg
  obtain rfl : d = fun k => (d' k : EReal) := funext hd
  obtain ⟨e, he, hE⟩ := eps
  have hV : ms (fun k => (x' k : EReal)) = (((∑ k, x' k * x' k) * (1 / 1024) + e : ℝ) : EReal) := by
    unfold ms
    simp only [← EReal.coe_mul]
    rw [hE, len, sum_coe, Ideal.div_coe (by norm_num), ← EReal.coe_mul, ← EReal.coe_add]
  have hpos : 0 < (∑ k, x' k * x' k) * (1 / 1024) + e := by
    have : 0 ≤ ∑ k, x' k * x' k := Finset.sum_nonneg fun k _ => mul_self_nonneg _
    positivity
  refine congrArg (r + ·) ?_
  unfold hat back
  rw [hV]
  generalize (∑ k, x' k * x' k) * (1 / 1024) + e = V at hpos
  have hr : Ideal.rsqrt (V : EReal) = (((Real.sqrt V)⁻¹ : ℝ) : EReal) := by
    rw [Ideal.rsqrt_coe, if_neg (not_lt.mpr hpos.le), if_neg hpos.ne']
  have hrr : (1 / V : ℝ) = (Real.sqrt V)⁻¹ * (Real.sqrt V)⁻¹ := by
    rw [← mul_inv, Real.mul_self_sqrt hpos.le, one_div]
  rw [hr, len, mhalf, Ideal.div_coe hpos.ne', hrr]
  generalize (Real.sqrt V)⁻¹ = q
  simp only [← EReal.coe_mul, sum_coe]
  rw [Ideal.div_coe (by norm_num), Ideal.div_coe (by norm_num)]
  have hS : (∑ k, d' k * g' k * (x' k * q)) = (∑ k, x' k * (d' k * g' k)) * q := by
    rw [Finset.sum_mul]
    exact Finset.sum_congr rfl fun k _ => by ring
  rw [hS]
  generalize (∑ k, x' k * (d' k * g' k)) = S
  simp only [← EReal.coe_mul, ← EReal.coe_sub, ← EReal.coe_add]
  exact congrArg _ (by ring)

end Cert.Proof.NormRow

end
-- ==== Proof.NormArrays.lean ====
module

public import proofs.«01_k».proof.Proof.Gen.Kernel12Ideal.Frame
public import proofs.«01_k».proof.Proof.Stores
public import proofs.«01_k».proof.Proof.NormRow
public import Idealize.ShloMosaic.Lib.Claim
public import Idealize.ShloMosaic.Lib.WritesUnit

@[expose] public section

set_option maxRecDepth 16384

noncomputable section

namespace Cert.Kernel12Ideal.Norm

open Idealize.ShloMosaic Idealize.ShloMosaic.TcCoe Idealize.SL.Sem
open Idealize.ShloMosaic.Pipeline (Dat)
open Cert.Kernel12Ideal Cert.Kernel12Ideal.Gen Cert.Proof.Stores Cert.Proof.NormRow

section Payloads

variable (x r d : Vec Ideal S512x1024 .f32) (g : Vec Ideal S1x1024 .f32)

/-- The stored gradient at an index. -/
theorem pay5_at (a : Fin 512) (b : Fin 1024) : k0_pay5 x r d g (ix2 a b)
    = dxK (r (ix2 a b)) (fun k => x (ix2 a k)) (fun k => g (ix2 0 k)) (fun k => d (ix2 a k)) b := by
  pointwise [k0_pay5, k0_pay3, k0_pay2]
  rfl

/-- What one block of rows adds to the gain's gradient at column `b`. -/
def term (b : Fin 1024) : EReal := ∑ a : Fin 512, d (ix2 a b) * hat (fun k => x (ix2 a k)) b

/-- The stored row of the gain's gradient at a column. -/
theorem pay4_at (p : Vec Ideal S1x1024 .f32) (b : Fin 1024) : k0_pay4 x d p (ix2 0 b) = p (ix2 0 b) + term x d b := by
  pointwise [k0_pay4, k0_pay3, k0_pay2]
  rfl

/-- What one block of rows adds at row `s`, column `b`: a column sum in row 0, nothing in the padding rows. -/
def rowterm (s : Fin 8) (b : Fin 1024) : EReal := if s = 0 then term x d b else 0

end Payloads

variable (m : (ℓ : Loc nD τ sig) → Buf (Elt Ideal) ℓ)

/-- The gradient block that a point leaves. -/
theorem out4 (c : Dev nD) (t : Fin cfg0.N) (a : Fin 512) (b : Fin 1024) : (outsAt0 m c t.val t.isLt).1 (ix2 a b)
    = dxK (iblk m c 1 t (ix2 a b)) (fun k => iblk m c 0 t (ix2 a k)) (fun k => iblk m c 2 t (ix2 0 k)) (fun k => iblk m c 3 t (ix2 a k)) b := by
  by_cases ht : t.val % 8 = 0
  · rw [outsAt0_A m c t ht]; frame_out
    exact pay5_at (iblk m c 0 t) (iblk m c 1 t) (iblk m c 3 t) (iblk m c 2 t) a b
  · rw [outsAt0_B m c t ht]; frame_out
    exact pay5_at (iblk m c 0 t) (iblk m c 1 t) (iblk m c 3 t) (iblk m c 2 t) a b

/-- The first point stores the first term of the gain's gradient. -/
theorem out5_A (c : Dev nD) (t : Fin cfg0.N) (ht : t.val % 8 = 0) (s : Fin 8) (b : Fin 1024) :
    (outsAt0 m c t.val t.isLt).2 (ix2 s b) = 0 + rowterm (iblk m c 0 t) (iblk m c 3 t) s b := by
  rw [outsAt0_A m c t ht]; frame_out
  by_cases hs : s = 0
  · subst hs
    refine (newest_of_mem _ _ _ _ (ix2 0 b) (by intro a; fin_cases a <;> simp)).trans ?_
    refine (pay4_at (iblk m c 0 t) (iblk m c 3 t) _ b).trans (congrArg₂ (· + ·) ?_ (if_pos rfl).symm)
    rw [View.readCov_eq_canon']
    refine (newest_of_mem _ _ _ _ (ix2 0 b) (by intro a; fin_cases a <;> simp)).trans ?_
    pointwise [k0_pay1]
  · have hs' : 1 ≤ s.val := by omega
    unfold rowterm
    rw [if_neg hs]
    refine (newest_of_not_mem _ _ _ _ 0 (by simpa using hs')).trans ?_
    refine (newest_of_mem _ _ _ _ (ix2 s b) (by intro a; fin_cases a <;> simp)).trans ?_
    pointwise [k0_pay1]

/-- Every later point adds its term. -/
theorem out5_B (c : Dev nD) (t : Fin cfg0.N) (ht : ¬t.val % 8 = 0) (s : Fin 8) (b : Fin 1024) :
    (outsAt0 m c t.val t.isLt).2 (ix2 s b)
      = (outsAt0 m c (t.val - 1) (Nat.lt_of_le_of_lt (Nat.sub_le _ _) t.isLt)).2 (ix2 s b)
        + rowterm (iblk m c 0 t) (iblk m c 3 t) s b := by
  rw [outsAt0_B m c t ht]; frame_out
  by_cases hs : s = 0
  · subst hs
    refine (View.read_writes_cons_unit_of_mem _ _ _ _ _ _ (ix2 0 b) rfl (by intro a; fin_cases a <;> simp)).trans ?_
    refine (pay4_at (iblk m c 0 t) (iblk m c 3 t) _ b).trans (congrArg₂ (· + ·) ?_ (if_pos rfl).symm)
    exact View.ld_unit_apply_of _ _ _ _ _ _ fun a => by fin_cases a <;> simp
  · have hs' : 1 ≤ s.val := by omega
    unfold rowterm
    rw [if_neg hs, add_zero]
    refine (View.read_writes_cons_unit_of_not_mem _ _ _ _ _ _ rfl 0 (by simpa using hs')).trans ?_
    exact congrFun (Memref.IsWhole.read_unread _ _) _

/-- The block numbers of every window at a grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- The row that a point's block holds at its row `a`. -/
def rowOf (t : Fin cfg0.N) (a : Fin 512) : Fin 4096 := ⟨t.val * 512 + a.val, by have := lt_of_lt_of_eq t.isLt N_0; omega⟩

/-- The rows under a point's block. -/
theorem read0 (c : Dev nD) (t : Fin cfg0.N) (a : Fin 512) (k : Fin 1024) :
    iblk m c 0 t (ix2 a k) = V m c main_arg0 (ix2 (rowOf t a) k) := by
  blk_ext [iblk, idx t, rowOf]

/-- The residual's gradient under a point's block. -/
theorem read1 (c : Dev nD) (t : Fin cfg0.N) (a : Fin 512) (k : Fin 1024) :
    iblk m c 1 t (ix2 a k) = V m c main_arg3 (ix2 (rowOf t a) k) := by
  blk_ext [iblk, idx t, rowOf]

/-- The gain under a point's block. -/
theorem read2 (c : Dev nD) (t : Fin cfg0.N) (k : Fin 1024) : iblk m c 2 t (ix2 0 k) = V m c main_arg1 (ix2 0 k) := by
  blk_ext [iblk, idx t]

/-- The cotangent under a point's block. -/
theorem read3 (c : Dev nD) (t : Fin cfg0.N) (a : Fin 512) (k : Fin 1024) :
    iblk m c 3 t (ix2 a k) = V m c main_arg2 (ix2 (rowOf t a) k) := by
  blk_ext [iblk, idx t, rowOf]

/-- The array of gradients that the call leaves. -/
theorem final4 (c : Dev nD) : (dats m 0 c).arrAt 4 cfg0.N
    = fun i : S4096x1024.Idx => dxK (V m c main_arg3 (ix2 (i 0) (i 1))) (fun k => V m c main_arg0 (ix2 (i 0) k))
        (fun k => V m c main_arg1 (ix2 0 k)) (fun k => V m c main_arg2 (ix2 (i 0) k)) (i 1) := by
  refine (dats m 0 c).arrAt_eq_of_covers 4 _ (by decide +kernel) fun t hf y => ?_
  blk_simp
  rw [after0_4]
  idx_vars y
  refine (out4 m c t y0 y1).trans ?_
  have e : (win0_4.blk t).view.emb (ix2 y0 y1) = ix2 (rowOf t y0) y1 := by blk_ext [idx t, rowOf]
  rw [e, read1 m c t y0 y1, funext (read0 m c t y0), funext (read2 m c t), funext (read3 m c t y0)]
  rfl

/-- What row `r` adds to the gain's gradient at column `b`. -/
def grow (x d : Vec Ideal S4096x1024 .f32) (b : Fin 1024) (r : Fin 4096) : EReal := d (ix2 r b) * hat (fun k => x (ix2 r k)) b

/-- The gain's gradient over the arrays: the column sums in row 0, nothing in the padding rows. -/
def gsum (x d : Vec Ideal S4096x1024 .f32) (s : Fin 8) (b : Fin 1024) : EReal := if s = 0 then ∑ r : Fin 4096, grow x d b r else 0

/-- A point's term over the arrays. -/
theorem term_blk (c : Dev nD) (t : Fin cfg0.N) (b : Fin 1024) :
    term (iblk m c 0 t) (iblk m c 3 t) b = ∑ a : Fin 512, grow (V m c main_arg0) (V m c main_arg2) b (rowOf t a) := by
  refine Finset.sum_congr rfl fun a _ => ?_
  rw [read3 m c t a b, funext (read0 m c t a)]
  rfl

/-- The row blocks make up all the rows. -/
theorem sum_rows (t : Fin cfg0.N) (hr : t.val % 8 = 7) (f : Fin 4096 → EReal) :
    (∑ s : Fin 8, ∑ a : Fin 512, f (rowOf ⟨_, Pipeline.run_point_lt_of_flush t hr s⟩ a)) = ∑ r : Fin 4096, f r := by
  refine Fin.sum_mul_add_congr fun s k hl => ?_
  refine congrArg f (Fin.ext ?_)
  have := lt_of_lt_of_eq t.isLt N_0
  simp only [rowOf]
  omega

/-- The gain's gradient that the call leaves. -/
theorem final5 (c : Dev nD) : (dats m 0 c).arrAt 5 cfg0.N
    = fun i : S8x1024.Idx => gsum (V m c main_arg0) (V m c main_arg2) (i 0) (i 1) := by
  refine (dats m 0 c).arrAt_eq_of_covers 5 _ (by decide +kernel) fun t hf y => ?_
  blk_simp
  rw [after0_5]
  idx_vars y
  have hr := (flush0_5 t).mp hf
  refine (Pipeline.eq_sum_fin_of_reset_step_apply_of_flush (fun n h => (outsAt0 m c n h).2) 8 (fun _ => 0)
    (fun t j => rowterm (iblk m c 0 t) (iblk m c 3 t) (j 0) (j 1))
    (fun t h j => by idx_vars j; exact out5_A m c t h j0 j1)
    (fun t h j => by idx_vars j; exact out5_B m c t h j0 j1)
    t hr _).trans ((zero_add _).trans ?_)
  have e : (win0_5.blk t).view.emb (ix2 y0 y1) = ix2 y0 y1 := by blk_ext [idx t]
  rw [e]
  show (∑ s : Fin 8, rowterm _ _ y0 y1) = gsum _ _ y0 y1
  unfold gsum
  by_cases hs : y0 = 0
  · subst hs
    refine (Finset.sum_congr rfl fun s _ => (if_pos rfl).trans (term_blk m c ⟨_, Pipeline.run_point_lt_of_flush t hr s⟩ y1)).trans ?_
    refine (sum_rows t hr fun r => grow (V m c main_arg0) (V m c main_arg2) y1 r).trans ?_
    exact (if_pos rfl).symm
  · exact (Finset.sum_eq_zero fun s _ => if_neg hs).trans (if_neg hs).symm

end Cert.Kernel12Ideal.Norm
end
-- ==== Proof.NormRef.lean ====
module

public import proofs.«01_k».proof.Proof.Gen.Reference12Ideal
public import proofs.«01_k».proof.Proof.NormRow

@[expose] public section

set_option maxRecDepth 16384

noncomputable section

namespace Cert.Reference12Ideal.Norm

open Idealize.ShloMosaic Idealize.ShloMosaic.TcCoe Idealize.SL.Sem
open Cert.Reference12Ideal Cert.Reference12Ideal.Gen Cert.Proof.NormRow

variable (X : FVec Ideal S4096x1024 .f32) (G : FVec Ideal S1x1024 .f32) (D R : FVec Ideal S4096x1024 .f32)

/-- The rows' mean squares with the small constant added. -/
def mean : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The cotangent times the gain. -/
def gain : FVec Ideal S4096x1024 .f32 := mulf D (broadcastInDim S4096x1024 ![0, 1] bcast_S1x1024_S4096x1024_0_1 G)

/-- What the mean square sends back, one number for a row. -/
def sent : FVec Ideal S4096 .f32 :=
  Host.reduceAdd (Host.divf (mulf (shapeCast _ (Host.reduceAdd (mulf X (gain G D)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (mean X)) (mean X)))) (broadcastInDim S4096x1 ![] bcast_S_S4096x1 (constant S_ .f32 0x44800000#32))) (constant S_ .f32 0x00000000#32) reducesTo_S4096x1_S4096_d1 h_S_

/-- The first result: the rows' gradient. -/
def out0 : FVec Ideal S4096x1024 .f32 :=
  addf R (addf (addf (mulf (gain G D) (broadcastInDim S4096x1024 ![0, 1] bcast_S4096x1_S4096x1024_0_1 (Host.rsqrt (mean X))))
    (mulf X (broadcastInDim S4096x1024 ![0] bcast_S4096_S4096x1024_0 (sent X G D))))
    (mulf (broadcastInDim S4096x1024 ![0] bcast_S4096_S4096x1024_0 (sent X G D)) X))

/-- The second result: the gain's gradient, padded. -/
def out1 : FVec Ideal S8x1024 .f32 :=
  pad S8x1024 ![0, 0] ![7, 0] ![0, 0] (shapeCast _ (Host.reduceAdd (mulf (mulf X (broadcastInDim S4096x1024 ![0, 1] bcast_S4096x1_S4096x1024_0_1 (Host.rsqrt (mean X)))) D) (constant S_ .f32 0x00000000#32) reducesTo_S4096x1024_S1024_d0 h_S_) shapeCasts_S1024_S1x1024) (sitofp .f32 (constantI S_ 32 0#32)) pads_S1x1024_S8x1024_070_000 h_S_

/-- A row's mean square. -/
theorem mean_at (r : Fin 4096) : mean X (ix2 r 0) = ms fun k => X (ix2 r k) := by
  pointwise [mean]
  rfl

/-- The cotangent times the gain at an index. -/
theorem gain_at (r : Fin 4096) (j : Fin 1024) : gain G D (ix2 r j) = D (ix2 r j) * G (ix2 0 j) := by
  pointwise [gain]

/-- What a row's mean square sends back. -/
theorem sent_at (r : Fin 4096) : sent X G D (ix1 r) = back (fun k => X (ix2 r k)) (fun k => G (ix2 0 k)) (fun k => D (ix2 r k)) := by
  pointwise [sent, gain_at]
  refine (Fin.sum_univ_one _).trans ?_
  rw [mean_at]
  rfl

/-- The first result at an index. -/
theorem out0_at (r : Fin 4096) (j : Fin 1024) : out0 X G D R (ix2 r j)
    = dxR (R (ix2 r j)) (fun k => X (ix2 r k)) (fun k => G (ix2 0 k)) (fun k => D (ix2 r k)) j := by
  pointwise [out0, mean_at, gain_at, sent_at]
  rfl

/-- The second result in row 0: the column sum. -/
theorem out1_row (j : Fin 1024) : out1 X D (ix2 0 j) = ∑ r : Fin 4096, hat (fun k => X (ix2 r k)) j * D (ix2 r j) := by
  pointwise [out1, mean_at]
  rfl

/-- The second result in the padding rows. -/
theorem out1_pad (s : Fin 8) (hs : s ≠ 0) (j : Fin 1024) : out1 X D (ix2 s j) = 0 := by
  pointwise [out1]
  rw [dif_neg (by omega)]
  simp [FloatOps.sitofp]

end Cert.Reference12Ideal.Norm
end
-- ==== Proof.NormBwd.lean ====
module

public import proofs.«01_k».proof.Defs
public import proofs.«01_k».proof.Proof.Gen.Kernel12
public import proofs.«01_k».proof.Proof.Gen.Kernel12.Frame
public import proofs.«01_k».proof.Proof.Gen.Kernel12Ideal
public import proofs.«01_k».proof.Proof.Gen.Reference12Ideal
public import proofs.«01_k».proof.Proof.Gen.Reference12Ideal.Run
public import proofs.«01_k».proof.Proof.NormArrays
public import proofs.«01_k».proof.Proof.NormRef
public import proofs.«01_k».proof.Proof.Reals

@[expose] public section

set_option maxRecDepth 16384

noncomputable section

namespace Cert.Proof.NormBwd

open Idealize.ShloMosaic Idealize.ShloMosaic.TcCoe Idealize.SL.Sem

/-- The broadcasts in the finiteness predicate have the shapes they state. -/
instance facts_pre : Cert.Pre_finite_norm_args.Facts where
  bcast_S_S4096x1024 := by decide
  bcast_S_S1x1024 := by decide

/-- The program runs, leaves its arguments and ends quiescent. -/
theorem quiescent_K : Cert.quiescent_Kernel12 := fun m g _ => Cert.Kernel12.Gen.frame m g

/-- So does its idealization. -/
theorem quiescent_KI : Cert.quiescent_Kernel12Ideal := fun m g _ => Cert.Kernel12Ideal.Gen.frame m g

/-- In particular on finite arguments. -/
theorem quiescent_KI_pre : Cert.quiescent_Kernel12Ideal_pre_finite_norm_args := fun m g _ => Cert.Kernel12Ideal.Gen.frame m g

/-- The reference runs, leaves its arguments and ends quiescent: it declares no semaphore. -/
theorem quiescent_R : Cert.quiescent_Reference12Ideal := by
  intro m g _
  exact (θ_run Cert.Reference12Ideal.defs _ _).mono (fun r h => ⟨fun c => (h c).2.2, sem_eq_zero_of_no_sems (by decide) r.2⟩)
    (Cert.Reference12Ideal.Value.run m g)

/-- In particular on finite arguments. -/
theorem quiescent_R_pre : Cert.quiescent_Reference12Ideal_pre_finite_norm_args := fun m g _ => quiescent_R m g trivial

/-- The idealization rewrites nothing. -/
theorem preserves : Cert.preserves_Kernel12_Kernel12Ideal := trivial

section Arguments

open Cert.Kernel12Ideal Cert.Proof.NormRow

variable (m : (ℓ : Loc nD τ sig) → Buf (Elt Ideal) ℓ) (c : Dev nD)

/-- The gain's gradient over the arguments. -/
theorem result1 : Cert.Reference12Ideal.Norm.out1 (m ((c.tc : Thread nD τ).loc main_arg0)) (m ((c.tc : Thread nD τ).loc main_arg2))
    = (Gen.dats m 0 c).arrAt 5 cfg0.N := by
  rw [Cert.Kernel12Ideal.Norm.final5]
  funext i
  idx_vars i
  by_cases hs : i0 = 0
  · subst hs
    rw [Cert.Reference12Ideal.Norm.out1_row]
    refine Eq.trans ?_ (if_pos rfl).symm
    exact Finset.sum_congr rfl fun r _ => mul_comm (G := EReal) _ _
  · rw [Cert.Reference12Ideal.Norm.out1_pad _ _ _ hs]
    exact (if_neg hs).symm

variable (h : Cert.Pre_Kernel12Ideal_finite_norm_args m)
include h

/-- Every element of the rows is a real. -/
theorem finite0 (i : Fin 4096) (j : Fin 1024) : ∃ r : ℝ, m ((c.tc : Thread nD τ).loc main_arg0) (ix2 i j) = (r : EReal) := by
  have h0 := congrFun (h c).1 (ix2 i j)
  pointwise [Cert.Pre_finite_norm_args.fn] at h0
  exact Cert.Reals.real_of_abs_lt _ h0

/-- Every element of the gain is a real. -/
theorem finite1 (j : Fin 1024) : ∃ r : ℝ, m ((c.tc : Thread nD τ).loc main_arg1) (ix2 0 j) = (r : EReal) := by
  have h0 := congrFun (h c).2.1 (ix2 0 j)
  pointwise [Cert.Pre_finite_norm_args.fn] at h0
  exact Cert.Reals.real_of_abs_lt _ h0

/-- Every element of the cotangent is a real. -/
theorem finite2 (i : Fin 4096) (j : Fin 1024) : ∃ r : ℝ, m ((c.tc : Thread nD τ).loc main_arg2) (ix2 i j) = (r : EReal) := by
  have h0 := congrFun (h c).2.2 (ix2 i j)
  pointwise [Cert.Pre_finite_norm_args.fn] at h0
  exact Cert.Reals.real_of_abs_lt _ h0

/-- The rows' gradient over the arguments. -/
theorem result0 : Cert.Reference12Ideal.Norm.out0 (m ((c.tc : Thread nD τ).loc main_arg0)) (m ((c.tc : Thread nD τ).loc main_arg1))
    (m ((c.tc : Thread nD τ).loc main_arg2)) (m ((c.tc : Thread nD τ).loc main_arg3)) = (Gen.dats m 0 c).arrAt 4 cfg0.N := by
  rw [Cert.Kernel12Ideal.Norm.final4]
  funext i
  idx_vars i
  refine (Cert.Reference12Ideal.Norm.out0_at _ _ _ _ i0 i1).trans ?_
  exact (dx_eq _ _ _ _ (finite0 m c h i0) (finite1 m c h) (finite2 m c h i0) i1).symm

end Arguments

/-- The kernel and the reference end with equal results where the rows, the gain and the cotangent are finite. -/
theorem algebraic : Cert.algebraic_Kernel12Ideal_Reference12Ideal_pre_finite_norm_args := by
  pair_intro
  · run_from Cert.Kernel12Ideal.Gen.run_main m g
  · run_from Cert.Reference12Ideal.Value.run m' g'
    · exact result0 m c hpre
    · exact result1 m c

end Cert.Proof.NormBwd
end
-- ==== Proof.TwoNormBlocks.lean ====
module

public import proofs.«01_k».proof.Proof.Gen.Kernel13Ideal.Frame
public import proofs.«01_k».proof.Proof.Stores
public import proofs.«01_k».proof.Proof.NormRow
public import Idealize.ShloMosaic.Lib.Claim
public import Idealize.ShloMosaic.Lib.WritesUnit

@[expose] public section

set_option maxRecDepth 16384

noncomputable section

namespace Cert.Kernel13Ideal.TwoNorm

open Idealize.ShloMosaic Idealize.ShloMosaic.TcCoe Idealize.SL.Sem
open Idealize.ShloMosaic.Pipeline (Dat)
open Cert.Kernel13Ideal Cert.Kernel13Ideal.Gen Cert.Proof.Stores Cert.Proof.NormRow

section Payloads

variable (x r : Vec Ideal S512x1024 .f32) (g₁ g₂ : Vec Ideal S1x1024 .f32) (d₁ d₂ : Vec Ideal S512x1024 .bf16)
  (w₁ w₂ : Vec Ideal S1024x1024 .bf16)

/-- A cotangent's row sent back through a projection, at an entry. -/
def thru (d : Vec Ideal S512x1024 .bf16) (w : Vec Ideal S1024x1024 .bf16) (a : Fin 512) (j : Fin 1024) : EReal :=
  ∑ k : Fin 1024, (show EReal from d (ix2 a k)) * (show EReal from w (ix2 j k))

/-- The first projection's block at an index. -/
theorem pay7_at (a : Fin 512) (b : Fin 1024) : k0_pay7 d₁ w₁ (ix2 a b) = thru d₁ w₁ a b := by
  unfold thru
  pointwise [k0_pay7]

/-- The second projection's block at an index. -/
theorem pay1_at (a : Fin 512) (b : Fin 1024) : k0_pay1 d₂ w₂ (ix2 a b) = thru d₂ w₂ a b := by
  unfold thru
  pointwise [k0_pay1]

/-- The inverse root of a row's mean square. -/
theorem pay5_at (a : Fin 512) : k0_pay5 x (ix2 a 0) = Ideal.rsqrt (ms fun k => x (ix2 a k)) := by
  pointwise [k0_pay5]
  rfl

/-- A normed entry. -/
theorem pay6_at (a : Fin 512) (b : Fin 1024) : k0_pay6 x (ix2 a b) = hat (fun k => x (ix2 a k)) b := by
  pointwise [k0_pay6, pay5_at]
  rfl

/-- The stored gradient at an index. -/
theorem pay3_at (a : Fin 512) (b : Fin 1024) :
    k0_pay3 (k0_pay5 x) (k0_pay6 x) r (k0_pay9 d₁ w₁ g₁) (k0_pay10 x d₁ w₁ g₁) (k0_pay11 (F := Ideal)) d₂ w₂ g₂ (ix2 a b)
      = dxK (dxK (r (ix2 a b)) (fun k => x (ix2 a k)) (fun k => g₁ (ix2 0 k)) (thru d₁ w₁ a) b)
          (fun k => x (ix2 a k)) (fun k => g₂ (ix2 0 k)) (thru d₂ w₂ a) b := by
  pointwise [k0_pay3, k0_pay9, k0_pay10, k0_pay11, pay1_at, pay7_at, pay5_at, pay6_at]
  rfl

/-- What one block of rows adds to a gain's gradient at column `b`. -/
def term (d : Vec Ideal S512x1024 .bf16) (w : Vec Ideal S1024x1024 .bf16) (b : Fin 1024) : EReal :=
  ∑ a : Fin 512, thru d w a b * hat (fun k => x (ix2 a k)) b

/-- The stored row of the first gain's gradient at a column. -/
theorem pay8_at (p : Vec Ideal S1x1024 .f32) (b : Fin 1024) : k0_pay8 x d₁ w₁ p (ix2 0 b) = p (ix2 0 b) + term x d₁ w₁ b := by
  pointwise [k0_pay8, pay7_at, pay6_at]
  rfl

/-- The stored row of the second gain's gradient at a column. -/
theorem pay2_at (p : Vec Ideal S1x1024 .f32) (b : Fin 1024) : k0_pay2 (k0_pay6 x) d₂ w₂ p (ix2 0 b) = p (ix2 0 b) + term x d₂ w₂ b := by
  pointwise [k0_pay2, pay1_at, pay6_at]
  rfl

/-- What one block of rows adds at row `s`, column `b`: the two gains' column sums in rows 0 and 1, nothing in the padding rows. -/
def rowterm (s : Fin 8) (b : Fin 1024) : EReal := if s = 0 then term x d₁ w₁ b else if s = 1 then term x d₂ w₂ b else 0

end Payloads

variable (m : (ℓ : Loc nD τ sig) → Buf (Elt Ideal) ℓ)

/-- The gradient block that a point leaves. -/
theorem out8 (c : Dev nD) (t : Fin cfg0.N) (a : Fin 512) (b : Fin 1024) : (outsAt0 m c t.val t.isLt).1 (ix2 a b)
    = dxK (dxK (iblk m c 1 t (ix2 a b)) (fun k => iblk m c 0 t (ix2 a k)) (fun k => iblk m c 2 t (ix2 0 k)) (thru (iblk m c 4 t) (iblk m c 6 t) a) b)
        (fun k => iblk m c 0 t (ix2 a k)) (fun k => iblk m c 3 t (ix2 0 k)) (thru (iblk m c 5 t) (iblk m c 7 t) a) b := by
  by_cases ht : t.val % 8 = 0
  · rw [outsAt0_A m c t ht]; frame_out
    exact pay3_at (iblk m c 0 t) (iblk m c 1 t) (iblk m c 2 t) (iblk m c 3 t) (iblk m c 4 t) (iblk m c 5 t) (iblk m c 6 t) (iblk m c 7 t) a b
  · rw [outsAt0_B m c t ht]; frame_out
    exact pay3_at (iblk m c 0 t) (iblk m c 1 t) (iblk m c 2 t) (iblk m c 3 t) (iblk m c 4 t) (iblk m c 5 t) (iblk m c 6 t) (iblk m c 7 t) a b

/-- The first point stores the first terms of the gains' gradients. -/
theorem out9_A (c : Dev nD) (t : Fin cfg0.N) (ht : t.val % 8 = 0) (s : Fin 8) (b : Fin 1024) :
    (outsAt0 m c t.val t.isLt).2 (ix2 s b) = 0 + rowterm (iblk m c 0 t) (iblk m c 4 t) (iblk m c 5 t) (iblk m c 6 t) (iblk m c 7 t) s b := by
  rw [outsAt0_A m c t ht]; frame_out
  by_cases h1 : s = 1
  · subst h1
    refine (newest_of_mem _ _ _ _ (ix2 0 b) (by intro a; fin_cases a <;> simp)).trans ?_
    refine (pay2_at (iblk m c 0 t) (iblk m c 5 t) (iblk m c 7 t) _ b).trans (congrArg₂ (· + ·) ?_ ((if_neg (by decide)).trans (if_pos rfl)).symm)
    rw [View.readCov_eq_canon']
    refine (newest_of_not_mem _ _ _ _ 0 (by simp)).trans ?_
    refine (newest_of_mem _ _ _ _ (ix2 1 b) (by intro a; fin_cases a <;> simp)).trans ?_
    pointwise [k0_pay4]
  by_cases hs : s = 0
  · subst hs
    refine (newest_of_not_mem _ _ _ _ 0 (by simp)).trans ?_
    refine (newest_of_mem _ _ _ _ (ix2 0 b) (by intro a; fin_cases a <;> simp)).trans ?_
    refine (pay8_at (iblk m c 0 t) (iblk m c 4 t) (iblk m c 6 t) _ b).trans (congrArg₂ (· + ·) ?_ (if_pos rfl).symm)
    rw [View.readCov_eq_canon']
    refine (newest_of_mem _ _ _ _ (ix2 0 b) (by intro a; fin_cases a <;> simp)).trans ?_
    pointwise [k0_pay4]
  · have hs' : 2 ≤ s.val := by omega
    unfold rowterm
    rw [if_neg hs, if_neg h1]
    refine (newest_of_not_mem _ _ _ _ 0 (by simpa using .inr hs')).trans ?_
    refine (newest_of_not_mem _ _ _ _ 0 (by right; simp; omega)).trans ?_
    refine (newest_of_mem _ _ _ _ (ix2 s b) (by intro a; fin_cases a <;> simp)).trans ?_
    pointwise [k0_pay4]

/-- Every later point adds its terms. -/
theorem out9_B (c : Dev nD) (t : Fin cfg0.N) (ht : ¬t.val % 8 = 0) (s : Fin 8) (b : Fin 1024) :
    (outsAt0 m c t.val t.isLt).2 (ix2 s b)
      = (outsAt0 m c (t.val - 1) (Nat.lt_of_le_of_lt (Nat.sub_le _ _) t.isLt)).2 (ix2 s b)
        + rowterm (iblk m c 0 t) (iblk m c 4 t) (iblk m c 5 t) (iblk m c 6 t) (iblk m c 7 t) s b := by
  rw [outsAt0_B m c t ht]; frame_out
  by_cases h1 : s = 1
  · subst h1
    refine (View.read_writes_cons_unit_of_mem _ _ _ _ _ _ (ix2 0 b) rfl (by intro a; fin_cases a <;> simp)).trans ?_
    refine (pay2_at (iblk m c 0 t) (iblk m c 5 t) (iblk m c 7 t) _ b).trans (congrArg₂ (· + ·) ?_ ((if_neg (by decide)).trans (if_pos rfl)).symm)
    exact View.ld_unit_apply_of _ _ _ _ _ _ fun a => by fin_cases a <;> simp
  by_cases hs : s = 0
  · subst hs
    refine (View.read_writes_cons_unit_of_not_mem _ _ _ _ _ _ rfl 0 (by simp)).trans ?_
    refine (View.read_writes_cons_unit_of_mem _ _ _ _ _ _ (ix2 0 b) rfl (by intro a; fin_cases a <;> simp)).trans ?_
    refine (pay8_at (iblk m c 0 t) (iblk m c 4 t) (iblk m c 6 t) _ b).trans (congrArg₂ (· + ·) ?_ (if_pos rfl).symm)
    exact View.ld_unit_apply_of _ _ _ _ _ _ fun a => by fin_cases a <;> simp
  · have hs' : 2 ≤ s.val := by omega
    unfold rowterm
    rw [if_neg hs, if_neg h1, add_zero]
    refine (View.read_writes_cons_unit_of_not_mem _ _ _ _ _ _ rfl 0 (by simpa using .inr hs')).trans ?_
    refine (View.read_writes_cons_unit_of_not_mem _ _ _ _ _ _ rfl 0 (by right; simp; omega)).trans ?_
    exact congrFun (Memref.IsWhole.read_unread _ _) _

end Cert.Kernel13Ideal.TwoNorm
end
-- ==== Proof.TwoNormArrays.lean ====
module

public import proofs.«01_k».proof.Proof.TwoNormBlocks

@[expose] public section

set_option maxRecDepth 16384

noncomputable section

namespace Cert.Kernel13Ideal.TwoNorm

open Idealize.ShloMosaic Idealize.ShloMosaic.TcCoe Idealize.SL.Sem
open Idealize.ShloMosaic.Pipeline (Dat)
open Cert.Kernel13Ideal Cert.Kernel13Ideal.Gen Cert.Proof.Stores Cert.Proof.NormRow

variable (m : (ℓ : Loc nD τ sig) → Buf (Elt Ideal) ℓ)

/-- The block numbers of every window at a grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] ∧ win0_8.index t = ![t.val, 0] ∧ win0_9.index t = ![0, 0] :=
  (by decide +kernel : ∀ t : Fin grid0.N, _)

/-- The row that a point's block holds at its row `a`. -/
def rowOf (t : Fin cfg0.N) (a : Fin 512) : Fin 4096 := ⟨t.val * 512 + a.val, by have := lt_of_lt_of_eq t.isLt N_0; omega⟩

/-- The rows under a point's block. -/
theorem read0 (c : Dev nD) (t : Fin cfg0.N) (a : Fin 512) (k : Fin 1024) :
    iblk m c 0 t (ix2 a k) = V m c main_arg0 (ix2 (rowOf t a) k) := by
  blk_ext [iblk, idx t, rowOf]

/-- The residual's gradient under a point's block. -/
theorem read1 (c : Dev nD) (t : Fin cfg0.N) (a : Fin 512) (k : Fin 1024) :
    iblk m c 1 t (ix2 a k) = V m c main_arg5 (ix2 (rowOf t a) k) := by
  blk_ext [iblk, idx t, rowOf]

/-- The first gain under a point's block. -/
theorem read2 (c : Dev nD) (t : Fin cfg0.N) (k : Fin 1024) : iblk m c 2 t (ix2 0 k) = V m c main_arg1 (ix2 0 k) := by
  blk_ext [iblk, idx t]

/-- The second gain under a point's block. -/
theorem read3 (c : Dev nD) (t : Fin cfg0.N) (k : Fin 1024) : iblk m c 3 t (ix2 0 k) = V m c main_arg2 (ix2 0 k) := by
  blk_ext [iblk, idx t]

/-- The first cotangent under a point's block. -/
theorem read4 (c : Dev nD) (t : Fin cfg0.N) (a : Fin 512) (k : Fin 1024) :
    iblk m c 4 t (ix2 a k) = V m c main_v0 (ix2 (rowOf t a) k) := by
  blk_ext [iblk, idx t, rowOf]

/-- The second cotangent under a point's block. -/
theorem read5 (c : Dev nD) (t : Fin cfg0.N) (a : Fin 512) (k : Fin 1024) :
    iblk m c 5 t (ix2 a k) = V m c main_v1 (ix2 (rowOf t a) k) := by
  blk_ext [iblk, idx t, rowOf]

/-- The first weight under a point's block. -/
theorem read6 (c : Dev nD) (t : Fin cfg0.N) (i k : Fin 1024) : iblk m c 6 t (ix2 i k) = V m c main_v2 (ix2 i k) := by
  blk_ext [iblk, idx t]

/-- The second weight under a point's block. -/
theorem read7 (c : Dev nD) (t : Fin cfg0.N) (i k : Fin 1024) : iblk m c 7 t (ix2 i k) = V m c main_v3 (ix2 i k) := by
  blk_ext [iblk, idx t]

/-- A cotangent's row sent back through a projection, over the arrays. -/
def thruA (d : Vec Ideal S4096x1024 .bf16) (w : Vec Ideal S1024x1024 .bf16) (r : Fin 4096) (j : Fin 1024) : EReal :=
  ∑ k : Fin 1024, (show EReal from d (ix2 r k)) * (show EReal from w (ix2 j k))

/-- The first cotangent's rows under a point's block, sent back. -/
theorem thru1 (c : Dev nD) (t : Fin cfg0.N) (a : Fin 512) :
    thru (iblk m c 4 t) (iblk m c 6 t) a = thruA (V m c main_v0) (V m c main_v2) (rowOf t a) :=
  funext fun j => Finset.sum_congr rfl fun k _ => congrArg₂ (fun x y : EReal => x * y) (read4 m c t a k) (read6 m c t j k)

/-- The second cotangent's rows under a point's block, sent back. -/
theorem thru2 (c : Dev nD) (t : Fin cfg0.N) (a : Fin 512) :
    thru (iblk m c 5 t) (iblk m c 7 t) a = thruA (V m c main_v1) (V m c main_v3) (rowOf t a) :=
  funext fun j => Finset.sum_congr rfl fun k _ => congrArg₂ (fun x y : EReal => x * y) (read5 m c t a k) (read7 m c t j k)

/-- The array of gradients that the call leaves. -/
theorem final8 (c : Dev nD) : (dats m 0 c).arrAt 8 cfg0.N
    = fun i : S4096x1024.Idx => dxK (dxK (V m c main_arg5 (ix2 (i 0) (i 1))) (fun k => V m c main_arg0 (ix2 (i 0) k))
          (fun k => V m c main_arg1 (ix2 0 k)) (thruA (V m c main_v0) (V m c main_v2) (i 0)) (i 1))
        (fun k => V m c main_arg0 (ix2 (i 0) k)) (fun k => V m c main_arg2 (ix2 0 k)) (thruA (V m c main_v1) (V m c main_v3) (i 0)) (i 1) := by
  refine (dats m 0 c).arrAt_eq_of_covers 8 _ (by decide +kernel) fun t hf y => ?_
  blk_simp
  rw [after0_8]
  idx_vars y
  refine (out8 m c t y0 y1).trans ?_
  have e : (win0_8.blk t).view.emb (ix2 y0 y1) = ix2 (rowOf t y0) y1 := by blk_ext [idx t, rowOf]
  rw [e, read1 m c t y0 y1, funext (read0 m c t y0), funext (read2 m c t), funext (read3 m c t), thru1 m c t y0, thru2 m c t y0]
  rfl

/-- What row `r` adds to a gain's gradient at column `b`. -/
def grow (x : Vec Ideal S4096x1024 .f32) (d : Vec Ideal S4096x1024 .bf16) (w : Vec Ideal S1024x1024 .bf16) (b : Fin 1024) (r : Fin 4096) : EReal :=
  thruA d w r b * hat (fun k => x (ix2 r k)) b

/-- The gains' gradients over the arrays: the column sums in rows 0 and 1, nothing in the padding rows. -/
def gsum (x : Vec Ideal S4096x1024 .f32) (d₁ d₂ : Vec Ideal S4096x1024 .bf16) (w₁ w₂ : Vec Ideal S1024x1024 .bf16) (s : Fin 8) (b : Fin 1024) : EReal :=
  if s = 0 then ∑ r : Fin 4096, grow x d₁ w₁ b r else if s = 1 then ∑ r : Fin 4096, grow x d₂ w₂ b r else 0

/-- A point's first term over the arrays. -/
theorem term1_blk (c : Dev nD) (t : Fin cfg0.N) (b : Fin 1024) : term (iblk m c 0 t) (iblk m c 4 t) (iblk m c 6 t) b
    = ∑ a : Fin 512, grow (V m c main_arg0) (V m c main_v0) (V m c main_v2) b (rowOf t a) := by
  refine Finset.sum_congr rfl fun a _ => ?_
  rw [thru1 m c t a, funext (read0 m c t a)]
  rfl

/-- A point's second term over the arrays. -/
theorem term2_blk (c : Dev nD) (t : Fin cfg0.N) (b : Fin 1024) : term (iblk m c 0 t) (iblk m c 5 t) (iblk m c 7 t) b
    = ∑ a : Fin 512, grow (V m c main_arg0) (V m c main_v1) (V m c main_v3) b (rowOf t a) := by
  refine Finset.sum_congr rfl fun a _ => ?_
  rw [thru2 m c t a, funext (read0 m c t a)]
  rfl

/-- The row blocks make up all the rows. -/
theorem sum_rows (t : Fin cfg0.N) (hr : t.val % 8 = 7) (f : Fin 4096 → EReal) :
    (∑ s : Fin 8, ∑ a : Fin 512, f (rowOf ⟨_, Pipeline.run_point_lt_of_flush t hr s⟩ a)) = ∑ r : Fin 4096, f r := by
  refine Fin.sum_mul_add_congr fun s k hl => ?_
  refine congrArg f (Fin.ext ?_)
  have := lt_of_lt_of_eq t.isLt N_0
  simp only [rowOf]
  omega

/-- The gains' gradients that the call leaves. -/
theorem final9 (c : Dev nD) : (dats m 0 c).arrAt 9 cfg0.N
    = fun i : S8x1024.Idx => gsum (V m c main_arg0) (V m c main_v0) (V m c main_v1) (V m c main_v2) (V m c main_v3) (i 0) (i 1) := by
  refine (dats m 0 c).arrAt_eq_of_covers 9 _ (by decide +kernel) fun t hf y => ?_
  blk_simp
  rw [after0_9]
  idx_vars y
  have hr := (flush0_9 t).mp hf
  refine (Pipeline.eq_sum_fin_of_reset_step_apply_of_flush (fun n h => (outsAt0 m c n h).2) 8 (fun _ => 0)
    (fun t j => rowterm (iblk m c 0 t) (iblk m c 4 t) (iblk m c 5 t) (iblk m c 6 t) (iblk m c 7 t) (j 0) (j 1))
    (fun t h j => by idx_vars j; exact out9_A m c t h j0 j1)
    (fun t h j => by idx_vars j; exact out9_B m c t h j0 j1)
    t hr _).trans ((zero_add _).trans ?_)
  have e : (win0_9.blk t).view.emb (ix2 y0 y1) = ix2 y0 y1 := by blk_ext [idx t]
  rw [e]
  show (∑ s : Fin 8, rowterm _ _ _ _ _ y0 y1) = gsum _ _ _ _ _ y0 y1
  unfold gsum
  by_cases hs : y0 = 0
  · subst hs
    refine (Finset.sum_congr rfl fun s _ => (if_pos rfl).trans (term1_blk m c ⟨_, Pipeline.run_point_lt_of_flush t hr s⟩ y1)).trans ?_
    refine (sum_rows t hr fun r => grow (V m c main_arg0) (V m c main_v0) (V m c main_v2) y1 r).trans ?_
    exact (if_pos rfl).symm
  by_cases h1 : y0 = 1
  · subst h1
    refine (Finset.sum_congr rfl fun s _ => ((if_neg hs).trans (if_pos rfl)).trans (term2_blk m c ⟨_, Pipeline.run_point_lt_of_flush t hr s⟩ y1)).trans ?_
    refine (sum_rows t hr fun r => grow (V m c main_arg0) (V m c main_v1) (V m c main_v3) y1 r).trans ?_
    exact ((if_neg hs).trans (if_pos rfl)).symm
  · exact (Finset.sum_eq_zero fun s _ => (if_neg hs).trans (if_neg h1)).trans ((if_neg hs).trans (if_neg h1)).symm

end Cert.Kernel13Ideal.TwoNorm
end
-- ==== Proof.TwoNormRef.lean ====
module

public import proofs.«01_k».proof.Proof.Gen.Reference13Ideal
public import proofs.«01_k».proof.Proof.Gen.Reference13Ideal.Run
public import proofs.«01_k».proof.Proof.NormRow

@[expose] public section

set_option maxRecDepth 16384

noncomputable section

namespace Cert.Reference13Ideal.TwoNorm

open Idealize.ShloMosaic Idealize.ShloMosaic.TcCoe Idealize.SL.Sem
open Cert.Reference13Ideal Cert.Reference13Ideal.Gen Cert.Proof.NormRow

section Parts

variable (X : FVec Ideal S4096x1024 .f32) (G : FVec Ideal S1x1024 .f32) (D : FVec Ideal S4096x1024 .f32)

/-- The rows' mean squares with the small constant added. -/
def mean : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The cotangent times the gain. -/
def gain : FVec Ideal S4096x1024 .f32 := mulf D (broadcastInDim S4096x1024 ![0, 1] bcast_S1x1024_S4096x1024_0_1 G)

/-- What the mean square sends back, one number for a row. -/
def sent : FVec Ideal S4096 .f32 :=
  Host.reduceAdd (Host.divf (mulf (shapeCast _ (Host.reduceAdd (mulf X (gain G D)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (mean X)) (mean X)))) (broadcastInDim S4096x1 ![] bcast_S_S4096x1 (constant S_ .f32 0x44800000#32))) (constant S_ .f32 0x00000000#32) reducesTo_S4096x1_S4096_d1 h_S_

/-- The rows' gradient through one norm, added to `R`. -/
def add (R : FVec Ideal S4096x1024 .f32) : FVec Ideal S4096x1024 .f32 :=
  addf R (addf (addf (mulf (gain G D) (broadcastInDim S4096x1024 ![0, 1] bcast_S4096x1_S4096x1024_0_1 (Host.rsqrt (mean X))))
    (mulf X (broadcastInDim S4096x1024 ![0] bcast_S4096_S4096x1024_0 (sent X G D))))
    (mulf (broadcastInDim S4096x1024 ![0] bcast_S4096_S4096x1024_0 (sent X G D)) X))

/-- One gain's gradient. -/
def col : FVec Ideal S1x1024 .f32 :=
  shapeCast _ (Host.reduceAdd (mulf (mulf X (broadcastInDim S4096x1024 ![0, 1] bcast_S4096x1_S4096x1024_0_1 (Host.rsqrt (mean X)))) D) (constant S_ .f32 0x00000000#32) reducesTo_S4096x1024_S1024_d0 h_S_) shapeCasts_S1024_S1x1024

/-- A cotangent sent back through a projection. -/
def prod (W : FVec Ideal S1024x1024 .f32) : FVec Ideal S4096x1024 .f32 :=
  Host.dotGeneral dot_S4096x1024_S1024x1024_S4096x1024_1_0_0_1_n_n none D (transpose S1024x1024 [1, 0] W transposes_S1024x1024_S1024x1024_1_0)

/-- A row's mean square. -/
theorem mean_at (r : Fin 4096) : mean X (ix2 r 0) = ms fun k => X (ix2 r k) := by
  pointwise [mean]
  rfl

/-- The cotangent times the gain at an index. -/
theorem gain_at (r : Fin 4096) (j : Fin 1024) : gain G D (ix2 r j) = D (ix2 r j) * G (ix2 0 j) := by
  pointwise [gain]

/-- What a row's mean square sends back. -/
theorem sent_at (r : Fin 4096) : sent X G D (ix1 r) = back (fun k => X (ix2 r k)) (fun k => G (ix2 0 k)) (fun k => D (ix2 r k)) := by
  pointwise [sent, gain_at]
  refine (Fin.sum_univ_one _).trans ?_
  rw [mean_at]
  rfl

/-- The rows' gradient through one norm at an index. -/
theorem add_at (R : FVec Ideal S4096x1024 .f32) (r : Fin 4096) (j : Fin 1024) : add X G D R (ix2 r j)
    = dxR (R (ix2 r j)) (fun k => X (ix2 r k)) (fun k => G (ix2 0 k)) (fun k => D (ix2 r k)) j := by
  pointwise [add, mean_at, gain_at, sent_at]
  rfl

/-- One gain's gradient at a column. -/
theorem col_at (j : Fin 1024) : col X D (ix2 0 j) = ∑ r : Fin 4096, hat (fun k => X (ix2 r k)) j * D (ix2 r j) := by
  pointwise [col, mean_at]
  rfl

/-- The cotangent sent back through a projection at an index. -/
theorem prod_at (W : FVec Ideal S1024x1024 .f32) (r : Fin 4096) (j : Fin 1024) :
    prod D W (ix2 r j) = ∑ k : Fin 1024, D (ix2 r k) * W (ix2 j k) := by
  pointwise [prod]

end Parts

variable (X : FVec Ideal S4096x1024 .f32) (G₁ G₂ : FVec Ideal S1x1024 .f32) (D₁ D₂ R : FVec Ideal S4096x1024 .f32)
  (W₁ W₂ : FVec Ideal S1024x1024 .f32)

/-- The first result: the rows' gradient. -/
def out0 : FVec Ideal S4096x1024 .f32 := add X G₂ (prod D₂ W₂) (add X G₁ (prod D₁ W₁) R)

/-- The second result: the two gains' gradients, padded. -/
def out1 : FVec Ideal S8x1024 .f32 :=
  pad S8x1024 ![0, 0] ![6, 0] ![0, 0] (concatenate S2x1024 0 [⟨S1x1024, col X (prod D₁ W₁)⟩, ⟨S1x1024, col X (prod D₂ W₂)⟩] concatenates_S1x1024_S1x1024_S2x1024_d0) (sitofp .f32 (constantI S_ 32 0#32)) pads_S2x1024_S8x1024_060_000 h_S_

/-- The first result is the one that the reference's run leaves. -/
theorem ref73 (m : (ℓ : Loc nD τ sig) → Buf (Elt Ideal) ℓ) (c : Dev nD) : Value.res_main_v73 m c
    = out0 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  unfold Value.res_main_v73
  rfl

/-- The first result at an index. -/
theorem out0_at (r : Fin 4096) (j : Fin 1024) : out0 X G₁ G₂ D₁ D₂ R W₁ W₂ (ix2 r j)
    = dxR (dxR (R (ix2 r j)) (fun k => X (ix2 r k)) (fun k => G₁ (ix2 0 k)) (fun k => ∑ l : Fin 1024, D₁ (ix2 r l) * W₁ (ix2 k l)) j)
        (fun k => X (ix2 r k)) (fun k => G₂ (ix2 0 k)) (fun k => ∑ l : Fin 1024, D₂ (ix2 r l) * W₂ (ix2 k l)) j := by
  unfold out0
  rw [add_at, add_at, funext (prod_at D₁ W₁ r), funext (prod_at D₂ W₂ r)]

/-- The second result in row 0: the first gain's column sum. -/
theorem out1_row0 (j : Fin 1024) : out1 X D₁ D₂ W₁ W₂ (ix2 0 j)
    = ∑ r : Fin 4096, hat (fun k => X (ix2 r k)) j * ∑ l : Fin 1024, D₁ (ix2 r l) * W₁ (ix2 j l) := by
  refine Eq.trans ?_ ((col_at X (prod D₁ W₁) j).trans (Finset.sum_congr rfl fun r _ => congrArg (hat (fun k => X (ix2 r k)) j * ·) (prod_at D₁ W₁ r j)))
  pointwise [out1]

/-- The second result in row 1: the second gain's column sum. -/
theorem out1_row1 (j : Fin 1024) : out1 X D₁ D₂ W₁ W₂ (ix2 1 j)
    = ∑ r : Fin 4096, hat (fun k => X (ix2 r k)) j * ∑ l : Fin 1024, D₂ (ix2 r l) * W₂ (ix2 j l) := by
  refine Eq.trans ?_ ((col_at X (prod D₂ W₂) j).trans (Finset.sum_congr rfl fun r _ => congrArg (hat (fun k => X (ix2 r k)) j * ·) (prod_at D₂ W₂ r j)))
  pointwise [out1]

/-- The second result in the padding rows. -/
theorem out1_pad (s : Fin 8) (h0 : s ≠ 0) (h1 : s ≠ 1) (j : Fin 1024) : out1 X D₁ D₂ W₁ W₂ (ix2 s j) = 0 := by
  pointwise [out1]
  rw [dif_neg (by omega)]
  simp [FloatOps.sitofp]

end Cert.Reference13Ideal.TwoNorm
end
-- ==== Proof.TwoNormBwd.lean ====
module

public import proofs.«01_k».proof.Defs
public import proofs.«01_k».proof.Proof.Gen.Kernel13
public import proofs.«01_k».proof.Proof.Gen.Kernel13.Frame
public import proofs.«01_k».proof.Proof.Gen.Kernel13Ideal
public import proofs.«01_k».proof.Proof.Gen.Reference13Ideal
public import proofs.«01_k».proof.Proof.Gen.Reference13Ideal.Run
public import proofs.«01_k».proof.Proof.TwoNormArrays
public import proofs.«01_k».proof.Proof.TwoNormRef
public import proofs.«01_k».proof.Proof.Reals

@[expose] public section

set_option maxRecDepth 16384

noncomputable section

namespace Cert.Proof.TwoNormBwd

open Idealize.ShloMosaic Idealize.ShloMosaic.TcCoe Idealize.SL.Sem

/-- The broadcasts in the finiteness predicate have the shapes they state. -/
instance facts_pre : Cert.Pre_finite_two_norm_args.Facts where
  bcast_S_S4096x1024 := by decide
  bcast_S_S1x1024 := by decide
  bcast_S_S1024x1024 := by decide

/-- The program runs, leaves its arguments and ends quiescent. -/
theorem quiescent_K : Cert.quiescent_Kernel13 := fun m g _ => Cert.Kernel13.Gen.frame m g

/-- So does its idealization. -/
theorem quiescent_KI : Cert.quiescent_Kernel13Ideal := fun m g _ => Cert.Kernel13Ideal.Gen.frame m g

/-- In particular on finite arguments. -/
theorem quiescent_KI_pre : Cert.quiescent_Kernel13Ideal_pre_finite_two_norm_args := fun m g _ => Cert.Kernel13Ideal.Gen.frame m g

/-- The reference runs, leaves its arguments and ends quiescent: it declares no semaphore. -/
theorem quiescent_R : Cert.quiescent_Reference13Ideal := by
  intro m g _
  exact (θ_run Cert.Reference13Ideal.defs _ _).mono (fun r h => ⟨fun c => (h c).2.2, sem_eq_zero_of_no_sems (by decide) r.2⟩)
    (Cert.Reference13Ideal.Value.run m g)

/-- In particular on finite arguments. -/
theorem quiescent_R_pre : Cert.quiescent_Reference13Ideal_pre_finite_two_norm_args := fun m g _ => quiescent_R m g trivial

/-- The idealization rewrites nothing. -/
theorem preserves : Cert.preserves_Kernel13_Kernel13Ideal := trivial

/-- A finite sum of products of reals is a real. -/
theorem sum_real {n : ℕ} (f g : Fin n → EReal) (hf : ∀ k, ∃ r : ℝ, f k = r) (hg : ∀ k, ∃ r : ℝ, g k = r) :
    ∃ r : ℝ, (∑ k, f k * g k) = (r : EReal) := by
  choose f' hf using hf
  choose g' hg using hg
  refine ⟨∑ k, f' k * g' k, ?_⟩
  rw [← Cert.Proof.NormRow.sum_coe]
  exact Finset.sum_congr rfl fun k _ => by rw [hf k, hg k, EReal.coe_mul]

section Arguments

open Cert.Kernel13Ideal Cert.Proof.NormRow Cert.Kernel13Ideal.TwoNorm
open Cert.Kernel13Ideal.Gen (V)

variable (m : (ℓ : Loc nD τ sig) → Buf (Elt Ideal) ℓ) (c : Dev nD)

/-- The first cotangent operand is the argument. -/
theorem operand0 (a : Fin 4096) (k : Fin 1024) : V m c main_v0 (ix2 a k) = m ((c.tc : Thread nD τ).loc main_arg3) (ix2 a k) := by
  entry_read
  pointwise

/-- The second cotangent operand is the argument. -/
theorem operand1 (a : Fin 4096) (k : Fin 1024) : V m c main_v1 (ix2 a k) = m ((c.tc : Thread nD τ).loc main_arg4) (ix2 a k) := by
  entry_read
  pointwise

/-- The first weight operand is the argument. -/
theorem operand2 (a : Fin 1024) (k : Fin 1024) : V m c main_v2 (ix2 a k) = m ((c.tc : Thread nD τ).loc main_arg6) (ix2 a k) := by
  entry_read
  pointwise

/-- The second weight operand is the argument. -/
theorem operand3 (a : Fin 1024) (k : Fin 1024) : V m c main_v3 (ix2 a k) = m ((c.tc : Thread nD τ).loc main_arg7) (ix2 a k) := by
  entry_read
  pointwise

/-- The first cotangent sent back, over the arguments. -/
theorem thruA1 (r : Fin 4096) (j : Fin 1024) : thruA (V m c main_v0) (V m c main_v2) r j
    = ∑ k : Fin 1024, (show EReal from m ((c.tc : Thread nD τ).loc main_arg3) (ix2 r k)) * (show EReal from m ((c.tc : Thread nD τ).loc main_arg6) (ix2 j k)) :=
  Finset.sum_congr rfl fun k _ => congrArg₂ (fun x y : EReal => x * y) (operand0 m c r k) (operand2 m c j k)

/-- The second cotangent sent back, over the arguments. -/
theorem thruA2 (r : Fin 4096) (j : Fin 1024) : thruA (V m c main_v1) (V m c main_v3) r j
    = ∑ k : Fin 1024, (show EReal from m ((c.tc : Thread nD τ).loc main_arg4) (ix2 r k)) * (show EReal from m ((c.tc : Thread nD τ).loc main_arg7) (ix2 j k)) :=
  Finset.sum_congr rfl fun k _ => congrArg₂ (fun x y : EReal => x * y) (operand1 m c r k) (operand3 m c j k)

/-- The gains' gradients over the arguments. -/
theorem result1 : Cert.Reference13Ideal.TwoNorm.out1 (m ((c.tc : Thread nD τ).loc main_arg0)) (m ((c.tc : Thread nD τ).loc main_arg3)) (m ((c.tc : Thread nD τ).loc main_arg4))
    (m ((c.tc : Thread nD τ).loc main_arg6)) (m ((c.tc : Thread nD τ).loc main_arg7)) = (Gen.dats m 0 c).arrAt 9 cfg0.N := by
  rw [final9]
  funext i
  idx_vars i
  by_cases hs : i0 = 0
  · subst hs
    rw [Cert.Reference13Ideal.TwoNorm.out1_row0]
    refine Eq.trans ?_ (if_pos rfl).symm
    exact Finset.sum_congr rfl fun r _ => (mul_comm (G := EReal) _ _).trans (congrArg₂ (fun x y : EReal => x * y) (thruA1 m c r i1).symm rfl)
  by_cases h1 : i0 = 1
  · subst h1
    rw [Cert.Reference13Ideal.TwoNorm.out1_row1]
    refine Eq.trans ?_ ((if_neg hs).trans (if_pos rfl)).symm
    exact Finset.sum_congr rfl fun r _ => (mul_comm (G := EReal) _ _).trans (congrArg₂ (fun x y : EReal => x * y) (thruA2 m c r i1).symm rfl)
  · rw [Cert.Reference13Ideal.TwoNorm.out1_pad _ _ _ _ _ _ hs h1]
    exact ((if_neg hs).trans (if_neg h1)).symm

variable (h : Cert.Pre_Kernel13Ideal_finite_two_norm_args m)
include h

/-- Every element of the rows is a real. -/
theorem finite0 (i : Fin 4096) (j : Fin 1024) : ∃ r : ℝ, m ((c.tc : Thread nD τ).loc main_arg0) (ix2 i j) = (r : EReal) := by
  have h0 := congrFun (h c).1 (ix2 i j)
  pointwise [Cert.Pre_finite_two_norm_args.fn, Cert.Pre_finite_two_norm_args.fn_part1] at h0
  exact Cert.Reals.real_of_abs_lt _ h0

/-- Every element of the first gain is a real. -/
theorem finite1 (i : Fin 1) (j : Fin 1024) : ∃ r : ℝ, m ((c.tc : Thread nD τ).loc main_arg1) (ix2 i j) = (r : EReal) := by
  have h0 := congrFun (h c).2.1 (ix2 i j)
  pointwise [Cert.Pre_finite_two_norm_args.fn, Cert.Pre_finite_two_norm_args.fn_part1] at h0
  exact Cert.Reals.real_of_abs_lt _ h0

/-- Every element of the second gain is a real. -/
theorem finite2 (i : Fin 1) (j : Fin 1024) : ∃ r : ℝ, m ((c.tc : Thread nD τ).loc main_arg2) (ix2 i j) = (r : EReal) := by
  have h0 := congrFun (h c).2.2.1 (ix2 i j)
  pointwise [Cert.Pre_finite_two_norm_args.fn, Cert.Pre_finite_two_norm_args.fn_part1] at h0
  exact Cert.Reals.real_of_abs_lt _ h0

/-- Every element of the first cotangent is a real. -/
theorem finite3 (i : Fin 4096) (j : Fin 1024) : ∃ r : ℝ, m ((c.tc : Thread nD τ).loc main_arg3) (ix2 i j) = (r : EReal) := by
  have h0 := congrFun (h c).2.2.2.1 (ix2 i j)
  pointwise [Cert.Pre_finite_two_norm_args.fn, Cert.Pre_finite_two_norm_args.fn_part1] at h0
  exact Cert.Reals.real_of_abs_lt _ h0

/-- Every element of the second cotangent is a real. -/
theorem finite4 (i : Fin 4096) (j : Fin 1024) : ∃ r : ℝ, m ((c.tc : Thread nD τ).loc main_arg4) (ix2 i j) = (r : EReal) := by
  have h0 := congrFun (h c).2.2.2.2.1 (ix2 i j)
  pointwise [Cert.Pre_finite_two_norm_args.fn, Cert.Pre_finite_two_norm_args.fn_part1] at h0
  exact Cert.Reals.real_of_abs_lt _ h0

/-- Every element of the first weight is a real. -/
theorem finite6 (i : Fin 1024) (j : Fin 1024) : ∃ r : ℝ, m ((c.tc : Thread nD τ).loc main_arg6) (ix2 i j) = (r : EReal) := by
  have h0 := congrFun (h c).2.2.2.2.2.1 (ix2 i j)
  pointwise [Cert.Pre_finite_two_norm_args.fn, Cert.Pre_finite_two_norm_args.fn_part1] at h0
  exact Cert.Reals.real_of_abs_lt _ h0

/-- Every element of the second weight is a real. -/
theorem finite7 (i : Fin 1024) (j : Fin 1024) : ∃ r : ℝ, m ((c.tc : Thread nD τ).loc main_arg7) (ix2 i j) = (r : EReal) := by
  have h0 := congrFun (h c).2.2.2.2.2.2 (ix2 i j)
  pointwise [Cert.Pre_finite_two_norm_args.fn, Cert.Pre_finite_two_norm_args.fn_part1] at h0
  exact Cert.Reals.real_of_abs_lt _ h0

/-- The rows' gradient over the arguments. -/
theorem result0 : Cert.Reference13Ideal.TwoNorm.out0 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = (Gen.dats m 0 c).arrAt 8 cfg0.N := by
  rw [final8]
  funext i
  idx_vars i
  refine (Cert.Reference13Ideal.TwoNorm.out0_at _ _ _ _ _ _ _ _ i0 i1).trans ?_
  have e1 := funext (thruA1 m c i0)
  have e2 := funext (thruA2 m c i0)
  refine Eq.trans ?_ (congrArg₂ (fun d₁ d₂ : Fin 1024 → EReal => dxK (dxK (V m c main_arg5 (ix2 i0 i1)) (fun k => V m c main_arg0 (ix2 i0 k))
    (fun k => V m c main_arg1 (ix2 0 k)) d₁ i1) (fun k => V m c main_arg0 (ix2 i0 k)) (fun k => V m c main_arg2 (ix2 0 k)) d₂ i1) e1 e2).symm
  refine Eq.symm ((dx_eq _ _ _ _ (finite0 m c h i0) (finite2 m c h 0)
    (fun j => sum_real _ _ (finite4 m c h i0) (finite7 m c h j)) i1).trans ?_)
  exact congrArg (fun r => dxR r _ _ _ i1) (dx_eq _ _ _ _ (finite0 m c h i0) (finite1 m c h 0)
    (fun j => sum_real _ _ (finite3 m c h i0) (finite6 m c h j)) i1)

end Arguments

/-- The kernel and the reference end with equal results where all but the residual's gradient is finite. -/
theorem algebraic : Cert.algebraic_Kernel13Ideal_Reference13Ideal_pre_finite_two_norm_args := by
  pair_intro
  · run_from Cert.Kernel13Ideal.Gen.run_main m g
  · run_from Cert.Reference13Ideal.Value.run m' g'
    · obtain ⟨h0, h1, h2, h3, h4, h5, h6, h7⟩ := hagree c
      rw [Cert.Reference13Ideal.TwoNorm.ref73, h0, h1, h2, h3, h4, h5, h6, h7]
      exact result0 m c hpre
    · obtain ⟨h0, h1, h2, h3, h4, h5, h6, h7⟩ := hagree c
      rw [h3, h4, h6, h7]
      exact result1 m c

end Cert.Proof.TwoNormBwd
end
-- ==== Proof.lean ====
/- The proof of the certificate's claims: one pair of programs per call of the training step, each proved in modules of its own. -/
module

public import proofs.«01_k».proof.Defs
public import proofs.«01_k».proof.Proof.ActClaim
public import proofs.«01_k».proof.Proof.ConvClaim
public import proofs.«01_k».proof.Proof.FfnWgrad
public import proofs.«01_k».proof.Proof.OWgrad
public import proofs.«01_k».proof.Proof.QWgrad
public import proofs.«01_k».proof.Proof.OProjBwd
public import proofs.«01_k».proof.Proof.AInBwd
public import proofs.«01_k».proof.Proof.AInWgrad
public import proofs.«01_k».proof.Proof.KvqProj
public import proofs.«01_k».proof.Proof.OProj
public import proofs.«01_k».proof.Proof.FfnClaim
public import proofs.«01_k».proof.Proof.NormBwd
public import proofs.«01_k».proof.Proof.TwoNormBwd

@[expose] public section

noncomputable section

namespace Cert.Proof

open Idealize.ShloMosaic Idealize.SL.Sem

/-- Every claim of the certificate. -/
theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Act.facts_pre, NormBwd.facts_pre,
  TwoNormBwd.facts_pre, Act.quiescent_K, Act.quiescent_KI, Act.quiescent_KI_pre, Act.quiescent_R, Act.quiescent_R_pre,
  Conv.quiescent_K, Conv.quiescent_KI, Conv.quiescent_R, FfnWgrad.quiescent_K, FfnWgrad.quiescent_KI, FfnWgrad.quiescent_R,
  OWgrad.quiescent_K, OWgrad.quiescent_KI, OWgrad.quiescent_R, QWgrad.quiescent_K, QWgrad.quiescent_KI, QWgrad.quiescent_R,
  OProjBwd.quiescent_K, OProjBwd.quiescent_KI, OProjBwd.quiescent_R, AInBwd.quiescent_K, AInBwd.quiescent_KI,
  AInBwd.quiescent_R, AInWgrad.quiescent_K, AInWgrad.quiescent_KI, AInWgrad.quiescent_R, KvqProj.quiescent_K,
  KvqProj.quiescent_KI, KvqProj.quiescent_R, OProj.quiescent_K, OProj.quiescent_KI, OProj.quiescent_R, Ffn.quiescent_K,
  Ffn.quiescent_KI, Ffn.quiescent_R, NormBwd.quiescent_K, NormBwd.quiescent_KI, NormBwd.quiescent_KI_pre, NormBwd.quiescent_R,
  NormBwd.quiescent_R_pre, TwoNormBwd.quiescent_K, TwoNormBwd.quiescent_KI, TwoNormBwd.quiescent_KI_pre,
  TwoNormBwd.quiescent_R, TwoNormBwd.quiescent_R_pre, Act.preserves, Act.algebraic, Conv.preserves, Conv.algebraic,
  FfnWgrad.preserves, FfnWgrad.algebraic, OWgrad.preserves, OWgrad.algebraic, QWgrad.preserves, QWgrad.algebraic,
  OProjBwd.preserves, OProjBwd.algebraic, AInBwd.preserves, AInBwd.algebraic, AInWgrad.preserves, AInWgrad.algebraic,
  KvqProj.preserves, KvqProj.algebraic, OProj.preserves, OProj.algebraic, Ffn.preserves, Ffn.algebraic, NormBwd.preserves,
  NormBwd.algebraic, TwoNormBwd.preserves, TwoNormBwd.algebraic⟩

end Cert.Proof

end
